-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_compress_finite [hPre_compress_finite : Cert.Pre_compress_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_compress_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_compress_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_compress_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_compress_finite [hPre_compress_finite : Cert.Pre_compress_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_compress_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_compress_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_compress_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_compress_finite [hKernel4Ideal : Cert.Kernel4Ideal.Facts] [hPre_compress_finite : Cert.Pre_compress_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_compress_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_compress_finite [hReference4Ideal : Cert.Reference4Ideal.Facts] [hPre_compress_finite : Cert.Pre_compress_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_compress_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v48_0)) (v1 : (c : Dev Cert.Kernel3Ideal.nD) → Buf (Elt Ideal) ((c.tc : Thread Cert.Kernel3Ideal.nD Cert.Kernel3Ideal.τ).loc Cert.Kernel3Ideal.main_v48_1)) (v2 : (c : Dev Cert.Kernel3Ideal.nD) → Buf (Elt Ideal) ((c.tc : Thread Cert.Kernel3Ideal.nD Cert.Kernel3Ideal.τ).loc Cert.Kernel3Ideal.main_v48_2)) (v3 : (c : Dev Cert.Kernel3Ideal.nD) → Buf (Elt Ideal) ((c.tc : Thread Cert.Kernel3Ideal.nD Cert.Kernel3Ideal.τ).loc Cert.Kernel3Ideal.main_v48_3)) (v4 : (c : Dev Cert.Kernel3Ideal.nD) → Buf (Elt Ideal) ((c.tc : Thread Cert.Kernel3Ideal.nD Cert.Kernel3Ideal.τ).loc Cert.Kernel3Ideal.main_v48_4)) (v5 : (c : Dev Cert.Kernel3Ideal.nD) → Buf (Elt Ideal) ((c.tc : Thread Cert.Kernel3Ideal.nD Cert.Kernel3Ideal.τ).loc Cert.Kernel3Ideal.main_v48_5)) (v6 : (c : Dev Cert.Kernel3Ideal.nD) → Buf (Elt Ideal) ((c.tc : Thread Cert.Kernel3Ideal.nD Cert.Kernel3Ideal.τ).loc Cert.Kernel3Ideal.main_v48_6)) (v7 : (c : Dev Cert.Kernel3Ideal.nD) → Buf (Elt Ideal) ((c.tc : Thread Cert.Kernel3Ideal.nD Cert.Kernel3Ideal.τ).loc Cert.Kernel3Ideal.main_v48_7)) (v8 : (c : Dev Cert.Kernel3Ideal.nD) → Buf (Elt Ideal) ((c.tc : Thread Cert.Kernel3Ideal.nD Cert.Kernel3Ideal.τ).loc Cert.Kernel3Ideal.main_v48_8)) (v9 : (c : Dev Cert.Kernel3Ideal.nD) → Buf (Elt Ideal) ((c.tc : Thread Cert.Kernel3Ideal.nD Cert.Kernel3Ideal.τ).loc Cert.Kernel3Ideal.main_v48_9)) (v10 : (c : Dev Cert.Kernel3Ideal.nD) → Buf (Elt Ideal) ((c.tc : Thread Cert.Kernel3Ideal.nD Cert.Kernel3Ideal.τ).loc Cert.Kernel3Ideal.main_v48_10)) (v11 : (c : Dev Cert.Kernel3Ideal.nD) → Buf (Elt Ideal) ((c.tc : Thread Cert.Kernel3Ideal.nD Cert.Kernel3Ideal.τ).loc Cert.Kernel3Ideal.main_v48_11)) (v12 : (c : Dev Cert.Kernel3Ideal.nD) → Buf (Elt Ideal) ((c.tc : Thread Cert.Kernel3Ideal.nD Cert.Kernel3Ideal.τ).loc Cert.Kernel3Ideal.main_v48_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v48_0) = v0 c
          ∧ r.2.mem ((c.tc : Thread Cert.Kernel3Ideal.nD Cert.Kernel3Ideal.τ).loc Cert.Kernel3Ideal.main_v48_1) = v1 c
          ∧ r.2.mem ((c.tc : Thread Cert.Kernel3Ideal.nD Cert.Kernel3Ideal.τ).loc Cert.Kernel3Ideal.main_v48_2) = v2 c
          ∧ r.2.mem ((c.tc : Thread Cert.Kernel3Ideal.nD Cert.Kernel3Ideal.τ).loc Cert.Kernel3Ideal.main_v48_3) = v3 c
          ∧ r.2.mem ((c.tc : Thread Cert.Kernel3Ideal.nD Cert.Kernel3Ideal.τ).loc Cert.Kernel3Ideal.main_v48_4) = v4 c
          ∧ r.2.mem ((c.tc : Thread Cert.Kernel3Ideal.nD Cert.Kernel3Ideal.τ).loc Cert.Kernel3Ideal.main_v48_5) = v5 c
          ∧ r.2.mem ((c.tc : Thread Cert.Kernel3Ideal.nD Cert.Kernel3Ideal.τ).loc Cert.Kernel3Ideal.main_v48_6) = v6 c
          ∧ r.2.mem ((c.tc : Thread Cert.Kernel3Ideal.nD Cert.Kernel3Ideal.τ).loc Cert.Kernel3Ideal.main_v48_7) = v7 c
          ∧ r.2.mem ((c.tc : Thread Cert.Kernel3Ideal.nD Cert.Kernel3Ideal.τ).loc Cert.Kernel3Ideal.main_v48_8) = v8 c
          ∧ r.2.mem ((c.tc : Thread Cert.Kernel3Ideal.nD Cert.Kernel3Ideal.τ).loc Cert.Kernel3Ideal.main_v48_9) = v9 c
          ∧ r.2.mem ((c.tc : Thread Cert.Kernel3Ideal.nD Cert.Kernel3Ideal.τ).loc Cert.Kernel3Ideal.main_v48_10) = v10 c
          ∧ r.2.mem ((c.tc : Thread Cert.Kernel3Ideal.nD Cert.Kernel3Ideal.τ).loc Cert.Kernel3Ideal.main_v48_11) = v11 c
          ∧ r.2.mem ((c.tc : Thread Cert.Kernel3Ideal.nD Cert.Kernel3Ideal.τ).loc Cert.Kernel3Ideal.main_v48_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v75) = v2 c
          ∧ r.2.mem ((c.tc : Thread Cert.Reference3Ideal.nD Cert.Reference3Ideal.τ).loc Cert.Reference3Ideal.main_v76) = v3 c
          ∧ r.2.mem ((c.tc : Thread Cert.Reference3Ideal.nD Cert.Reference3Ideal.τ).loc Cert.Reference3Ideal.main_v79) = v4 c
          ∧ r.2.mem ((c.tc : Thread Cert.Reference3Ideal.nD Cert.Reference3Ideal.τ).loc Cert.Reference3Ideal.main_v81) = v5 c
          ∧ r.2.mem ((c.tc : Thread Cert.Reference3Ideal.nD Cert.Reference3Ideal.τ).loc Cert.Reference3Ideal.main_v84) = v6 c
          ∧ r.2.mem ((c.tc : Thread Cert.Reference3Ideal.nD Cert.Reference3Ideal.τ).loc Cert.Reference3Ideal.main_v86) = v7 c
          ∧ r.2.mem ((c.tc : Thread Cert.Reference3Ideal.nD Cert.Reference3Ideal.τ).loc Cert.Reference3Ideal.main_v90) = v8 c
          ∧ r.2.mem ((c.tc : Thread Cert.Reference3Ideal.nD Cert.Reference3Ideal.τ).loc Cert.Reference3Ideal.main_v37) = v9 c
          ∧ r.2.mem ((c.tc : Thread Cert.Reference3Ideal.nD Cert.Reference3Ideal.τ).loc Cert.Reference3Ideal.main_v39) = v10 c
          ∧ r.2.mem ((c.tc : Thread Cert.Reference3Ideal.nD Cert.Reference3Ideal.τ).loc Cert.Reference3Ideal.main_v68) = v11 c
          ∧ r.2.mem ((c.tc : Thread Cert.Reference3Ideal.nD Cert.Reference3Ideal.τ).loc Cert.Reference3Ideal.main_v98) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_compress_finite [hKernel4Ideal : Cert.Kernel4Ideal.Facts] [hReference4Ideal : Cert.Reference4Ideal.Facts] [hPre_compress_finite : Cert.Pre_compress_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_compress_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v43_0)) (v1 : (c : Dev Cert.Kernel4Ideal.nD) → Buf (Elt Ideal) ((c.tc : Thread Cert.Kernel4Ideal.nD Cert.Kernel4Ideal.τ).loc Cert.Kernel4Ideal.main_v43_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v43_0) = v0 c
          ∧ r.2.mem ((c.tc : Thread Cert.Kernel4Ideal.nD Cert.Kernel4Ideal.τ).loc Cert.Kernel4Ideal.main_v43_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_gate_finite : Cert.Pre_gate_finite.Facts) (hPre_compress_finite : Cert.Pre_compress_finite.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_compress_finite (hKernel4Ideal := hKernel4Ideal) (hPre_compress_finite := hPre_compress_finite)
    ∧ quiescent_Reference4Ideal (hReference4Ideal := hReference4Ideal)
    ∧ quiescent_Reference4Ideal_pre_compress_finite (hReference4Ideal := hReference4Ideal) (hPre_compress_finite := hPre_compress_finite)
    ∧ preserves_Kernel_KernelIdeal
    ∧ algebraic_KernelIdeal_ReferenceIdeal_pre_gate_finite (hKernelIdeal := hKernelIdeal) (hReferenceIdeal := hReferenceIdeal) (hPre_gate_finite := hPre_gate_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_compress_finite (hKernel4Ideal := hKernel4Ideal) (hReference4Ideal := hReference4Ideal) (hPre_compress_finite := hPre_compress_finite)
-- ==== Pre_compress_finite.lean ====
abbrev S8x2x512x2048 : Shape := ⟨4, ![8, 2, 512, 2048]⟩
abbrev S1x32x64 : Shape := ⟨3, ![1, 32, 64]⟩
abbrev S1x2048x256 : Shape := ⟨3, ![1, 2048, 256]⟩
abbrev S1x256 : Shape := ⟨2, ![1, 256]⟩
abbrev S1x256x64 : Shape := ⟨3, ![1, 256, 64]⟩
abbrev S_ : Shape := ⟨0, ![]⟩

class Facts : Prop where
  bcast_S_S1x32x64 : S_.BroadcastsInDim S1x32x64 (![] : Fin 0 → Fin S1x32x64.rank)
  bcast_S_S1x2048x256 : S_.BroadcastsInDim S1x2048x256 (![] : Fin 0 → Fin S1x2048x256.rank)

variable [Facts]

def fn {F : FTy → Type} [FloatOps F] (main_arg0 : FVec F S8x2x512x2048 .bf16) (main_arg1 : FVec F S1x32x64 .f32) (main_arg2 : FVec F S1x2048x256 .f32) (main_arg3 : FVec F S1x256 .f32) (main_arg4 : FVec F S1x256x64 .f32) (main_arg5 : FVec F S1x2048x256 .f32) (main_arg6 : FVec F S1x256 .f32) (main_arg7 : FVec F S1x256x64 .f32) : IVec S1x32x64 1 × IVec S1x2048x256 1 × IVec S1x2048x256 1 :=
  let main_v0 : FVec F S1x32x64 .f32 := Host.absf main_arg1
  let main_cst : FVec F S_ .f32 := constant S_ .f32 0x7F800000#32
  let main_v1 : FVec F S1x32x64 .f32 := broadcastInDim S1x32x64 ![] bcast_S_S1x32x64 main_cst
  let main_v2 : IVec S1x32x64 1 := cmpf .olt main_v0 main_v1
  let main_v3 : FVec F S1x2048x256 .f32 := Host.absf main_arg2
  let main_cst_0 : FVec F S_ .f32 := constant S_ .f32 0x7F800000#32
  let main_v4 : FVec F S1x2048x256 .f32 := broadcastInDim S1x2048x256 ![] bcast_S_S1x2048x256 main_cst_0
  let main_v5 : IVec S1x2048x256 1 := cmpf .olt main_v3 main_v4
  let main_v6 : FVec F S1x2048x256 .f32 := Host.absf main_arg5
  let main_cst_1 : FVec F S_ .f32 := constant S_ .f32 0x7F800000#32
  let main_v7 : FVec F S1x2048x256 .f32 := broadcastInDim S1x2048x256 ![] bcast_S_S1x2048x256 main_cst_1
  let main_v8 : IVec S1x2048x256 1 := cmpf .olt main_v6 main_v7
  (main_v2, main_v5, main_v8)
-- ==== Pre_gate_finite.lean ====
abbrev S8x8192x512 : Shape := ⟨3, ![8, 8192, 512]⟩
abbrev S8x8192x128 : Shape := ⟨3, ![8, 8192, 128]⟩
abbrev S1x16x256 : Shape := ⟨3, ![1, 16, 256]⟩
abbrev S1x256 : Shape := ⟨2, ![1, 256]⟩
abbrev S1x128 : Shape := ⟨2, ![1, 128]⟩
abbrev S8x8192x16 : Shape := ⟨3, ![8, 8192, 16]⟩
abbrev S_ : Shape := ⟨0, ![]⟩

class Facts : Prop where
  slices_S8x8192x128_S8x8192x16_0_0_24 : S8x8192x128.Slices ![0, 0, 24] S8x8192x16
  bcast_S_S8x8192x16 : S_.BroadcastsInDim S8x8192x16 (![] : Fin 0 → Fin S8x8192x16.rank)
  bcast_S_S1x16x256 : S_.BroadcastsInDim S1x16x256 (![] : Fin 0 → Fin S1x16x256.rank)
  bcast_S_S1x256 : S_.BroadcastsInDim S1x256 (![] : Fin 0 → Fin S1x256.rank)

variable [Facts]

def fn {F : FTy → Type} [FloatOps F] (main_arg0 : FVec F S8x8192x512 .f32) (main_arg1 : FVec F S8x8192x512 .f32) (main_arg2 : FVec F S8x8192x512 .f32) (main_arg3 : FVec F S8x8192x128 .f32) (main_arg4 : FVec F S1x16x256 .f32) (main_arg5 : FVec F S1x256 .f32) (main_arg6 : FVec F S1x128 .f32) : IVec S8x8192x16 1 × IVec S1x16x256 1 × IVec S1x256 1 :=
  let main_v0 : FVec F S8x8192x16 .f32 := (extractStridedSlice S8x8192x16 ![0, 0, 24] · slices_S8x8192x128_S8x8192x16_0_0_24) main_arg3
  let main_v1 : FVec F S8x8192x16 .f32 := Host.absf main_v0
  let main_cst : FVec F S_ .f32 := constant S_ .f32 0x7F800000#32
  let main_v2 : FVec F S8x8192x16 .f32 := broadcastInDim S8x8192x16 ![] bcast_S_S8x8192x16 main_cst
  let main_v3 : IVec S8x8192x16 1 := cmpf .olt main_v1 main_v2
  let main_v4 : FVec F S1x16x256 .f32 := Host.absf main_arg4
  let main_cst_0 : FVec F S_ .f32 := constant S_ .f32 0x7F800000#32
  let main_v5 : FVec F S1x16x256 .f32 := broadcastInDim S1x16x256 ![] bcast_S_S1x16x256 main_cst_0
  let main_v6 : IVec S1x16x256 1 := cmpf .olt main_v4 main_v5
  let main_v7 : FVec F S1x256 .f32 := Host.absf main_arg5
  let main_cst_1 : FVec F S_ .f32 := constant S_ .f32 0x7F800000#32
  let main_v8 : FVec F S1x256 .f32 := broadcastInDim S1x256 ![] bcast_S_S1x256 main_cst_1
  let main_v9 : IVec S1x256 1 := cmpf .olt main_v7 main_v8
  (main_v3, main_v6, main_v9)
-- ==== Kernel.lean ====
abbrev S8x8192x512 : Shape := ⟨3, ![8, 8192, 512]⟩
abbrev S8x8192x128 : Shape := ⟨3, ![8, 8192, 128]⟩
abbrev S1x16x256 : Shape := ⟨3, ![1, 16, 256]⟩
abbrev S1x256 : Shape := ⟨2, ![1, 256]⟩
abbrev S1x128 : Shape := ⟨2, ![1, 128]⟩
abbrev S64x64 : Shape := ⟨2, ![64, 64]⟩
abbrev S16x256 : Shape := ⟨2, ![16, 256]⟩
abbrev S_ : Shape := ⟨0, ![]⟩
abbrev S4x128x128 : Shape := ⟨3, ![4, 128, 128]⟩
abbrev S16x64 : Shape := ⟨2, ![16, 64]⟩
abbrev S16x128 : Shape := ⟨2, ![16, 128]⟩
abbrev S1 : Shape := ⟨1, ![1]⟩
abbrev S2 : Shape := ⟨1, ![2]⟩
abbrev S256 : Shape := ⟨1, ![256]⟩
abbrev S4x1x64 : Shape := ⟨3, ![4, 1, 64]⟩
abbrev S4x1x128 : Shape := ⟨3, ![4, 1, 128]⟩
abbrev S128 : Shape := ⟨1, ![128]⟩
abbrev S1x4096x128 : Shape := ⟨3, ![1, 4096, 128]⟩
abbrev S1x128x128 : Shape := ⟨3, ![1, 128, 128]⟩
abbrev S1x1x128 : Shape := ⟨3, ![1, 1, 128]⟩
abbrev S128x64 : Shape := ⟨2, ![128, 64]⟩
abbrev S4096x128 : Shape := ⟨2, ![4096, 128]⟩
abbrev S128x128 : Shape := ⟨2, ![128, 128]⟩
abbrev S64x128 : Shape := ⟨2, ![64, 128]⟩
abbrev S4096x64 : Shape := ⟨2, ![4096, 64]⟩
abbrev S1x64 : Shape := ⟨2, ![1, 64]⟩
abbrev S4096 : Shape := ⟨1, ![4096]⟩
abbrev S4096x1 : Shape := ⟨2, ![4096, 1]⟩

abbrev nBuf : Space → Nat
  | .hbm => 51
  | .vmem => 17
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S8x8192x128, .f32⟩
  | .hbm, ⟨4, _⟩ => ⟨S1x16x256, .f32⟩
  | .hbm, ⟨5, _⟩ => ⟨S1x256, .f32⟩
  | .hbm, ⟨6, _⟩ => ⟨S1x128, .f32⟩
  | .hbm, ⟨7, _⟩ => ⟨S64x64, .f32⟩
  | .hbm, ⟨8, _⟩ => ⟨S16x256, .f32⟩
  | .hbm, ⟨9, _⟩ => ⟨S_, .f32⟩
  | .hbm, ⟨10, _⟩ => ⟨S4x128x128, .f32⟩
  | .hbm, ⟨11, _⟩ => ⟨S16x64, .f32⟩
  | .hbm, ⟨12, _⟩ => ⟨S16x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S4x128x128, .f32⟩
  | .hbm, ⟨19, _⟩ => ⟨S16x64, .f32⟩
  | .hbm, ⟨20, _⟩ => ⟨S16x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S4x128x128, .f32⟩
  | .hbm, ⟨27, _⟩ => ⟨S16x64, .f32⟩
  | .hbm, ⟨28, _⟩ => ⟨S16x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S4x128x128, .f32⟩
  | .hbm, ⟨35, _⟩ => ⟨S16x64, .f32⟩
  | .hbm, ⟨36, _⟩ => ⟨S16x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S4x128x128, .f32⟩
  | .hbm, ⟨43, _⟩ => ⟨S256, .f32⟩
  | .hbm, ⟨44, _⟩ => ⟨S4x1x64, .f32⟩
  | .hbm, ⟨45, _⟩ => ⟨S4x1x128, .f32⟩
  | .hbm, ⟨46, _⟩ => ⟨S64x64, .bf16⟩
  | .hbm, ⟨47, _⟩ => ⟨S4x128x128, .bf16⟩
  | .hbm, ⟨48, _⟩ => ⟨S128, .f32⟩
  | .hbm, ⟨49, _⟩ => ⟨S1x128, .f32⟩
  | .hbm, ⟨50, _⟩ => ⟨S8x8192x512, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x128x128, .bf16⟩
  | .local _ .vmem, ⟨9, _⟩ => ⟨S1x128x128, .bf16⟩
  | .local _ .vmem, ⟨10, _⟩ => ⟨S1x1x128, .f32⟩
  | .local _ .vmem, ⟨11, _⟩ => ⟨S1x1x128, .f32⟩
  | .local _ .vmem, ⟨12, _⟩ => ⟨S1x128, .f32⟩
  | .local _ .vmem, ⟨13, _⟩ => ⟨S64x64, .bf16⟩
  | .local _ .vmem, ⟨14, _⟩ => ⟨S1x4096x128, .bf16⟩
  | .local _ .vmem, ⟨15, _⟩ => ⟨S1x4096x128, .bf16⟩
  | .local _ .vmem, ⟨16, _⟩ => ⟨S128x64, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S8x8192x512 : Shape := ⟨3, ![8, 8192, 512]⟩
abbrev S8x8192x128 : Shape := ⟨3, ![8, 8192, 128]⟩
abbrev S1x16x256 : Shape := ⟨3, ![1, 16, 256]⟩
abbrev S1x256 : Shape := ⟨2, ![1, 256]⟩
abbrev S1x128 : Shape := ⟨2, ![1, 128]⟩
abbrev S8x8192x4x2x64 : Shape := ⟨5, ![8, 8192, 4, 2, 64]⟩
abbrev S8x8192x4x1x64 : Shape := ⟨5, ![8, 8192, 4, 1, 64]⟩
abbrev S8x8192x4x64 : Shape := ⟨4, ![8, 8192, 4, 64]⟩
abbrev S8x8192x16 : Shape := ⟨3, ![8, 8192, 16]⟩
abbrev S16x256 : Shape := ⟨2, ![16, 256]⟩
abbrev S8x8192x256 : Shape := ⟨3, ![8, 8192, 256]⟩
abbrev S256 : Shape := ⟨1, ![256]⟩
abbrev S1x1x256 : Shape := ⟨3, ![1, 1, 256]⟩
abbrev S_ : Shape := ⟨0, ![]⟩
abbrev S8x8192x4x128 : Shape := ⟨4, ![8, 8192, 4, 128]⟩
abbrev S8x128x64x4x64 : Shape := ⟨5, ![8, 128, 64, 4, 64]⟩
abbrev S8x4x128x64x64 : Shape := ⟨5, ![8, 4, 128, 64, 64]⟩
abbrev S8x128x64x4x128 : Shape := ⟨5, ![8, 128, 64, 4, 128]⟩
abbrev S8x4x128x64x128 : Shape := ⟨5, ![8, 4, 128, 64, 128]⟩
abbrev S8x4x128x1x64 : Shape := ⟨5, ![8, 4, 128, 1, 64]⟩
abbrev S64x64 : Shape := ⟨2, ![64, 64]⟩
abbrev S8x4x128x64 : Shape := ⟨4, ![8, 4, 128, 64]⟩
abbrev S8x4x64x128 : Shape := ⟨4, ![8, 4, 64, 128]⟩
abbrev S128x8x4x64x64 : Shape := ⟨5, ![128, 8, 4, 64, 64]⟩
abbrev S128x8x4x64x128 : Shape := ⟨5, ![128, 8, 4, 64, 128]⟩
abbrev S128x8x4x64 : Shape := ⟨4, ![128, 8, 4, 64]⟩
abbrev S1x8x4x64x64 : Shape := ⟨5, ![1, 8, 4, 64, 64]⟩
abbrev S8x4x64x64 : Shape := ⟨4, ![8, 4, 64, 64]⟩
abbrev S1x8x4x64x128 : Shape := ⟨5, ![1, 8, 4, 64, 128]⟩
abbrev S1x8x4x64 : Shape := ⟨4, ![1, 8, 4, 64]⟩
abbrev S8x4x64 : Shape := ⟨3, ![8, 4, 64]⟩
abbrev S8x4x64x1 : Shape := ⟨4, ![8, 4, 64, 1]⟩
abbrev S128 : Shape := ⟨1, ![128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩

abbrev nBuf : Space → Nat
  | .hbm => 164
  | .vmem => 0
  | .smem => 0
  | _ => 0

abbrev hbmTy0_0 (i : Nat) : BufTy := match i % 128 with
  | 0 => ⟨S8x8192x512, .f32⟩
  | 1 => ⟨S8x8192x512, .f32⟩
  | 2 => ⟨S8x8192x512, .f32⟩
  | 3 => ⟨S8x8192x128, .f32⟩
  | 4 => ⟨S1x16x256, .f32⟩
  | 5 => ⟨S1x256, .f32⟩
  | 6 => ⟨S1x128, .f32⟩
  | 7 => ⟨S8x8192x4x2x64, .f32⟩
  | 8 => ⟨S8x8192x4x1x64, .f32⟩
  | 9 => ⟨S8x8192x4x64, .f32⟩
  | 10 => ⟨S8x8192x4x1x64, .f32⟩
  | 11 => ⟨S8x8192x4x64, .f32⟩
  | 12 => ⟨S8x8192x16, .f32⟩
  | 13 => ⟨S16x256, .f32⟩
  | 14 => ⟨S8x8192x256, .f32⟩
  | 15 => ⟨S256, .f32⟩
  | 16 => ⟨S1x1x256, .f32⟩
  | 17 => ⟨S8x8192x256, .f32⟩
  | 18 => ⟨S8x8192x256, .f32⟩
  | 19 => ⟨S8x8192x256, .f32⟩
  | 20 => ⟨S_, .f32⟩
  | 21 => ⟨S8x8192x256, .f32⟩
  | 22 => ⟨S8x8192x256, .f32⟩
  | 23 => ⟨S8x8192x256, .f32⟩
  | 24 => ⟨S8x8192x256, .f32⟩
  | 25 => ⟨S8x8192x256, .i1⟩
  | 26 => ⟨S8x8192x256, .f32⟩
  | 27 => ⟨S8x8192x256, .f32⟩
  | 28 => ⟨S8x8192x256, .f32⟩
  | 29 => ⟨S8x8192x256, .f32⟩
  | 30 => ⟨S8x8192x256, .f32⟩
  | 31 => ⟨S8x8192x256, .f32⟩
  | 32 => ⟨S8x8192x256, .f32⟩
  | 33 => ⟨S8x8192x256, .f32⟩
  | 34 => ⟨S8x8192x256, .f32⟩
  | 35 => ⟨S_, .f32⟩
  | 36 => ⟨S8x8192x256, .f32⟩
  | 37 => ⟨S8x8192x256, .f32⟩
  | 38 => ⟨S8x8192x4x128, .f32⟩
  | 39 => ⟨S8x8192x4x64, .f32⟩
  | 40 => ⟨S8x128x64x4x64, .f32⟩
  | 41 => ⟨S8x4x128x64x64, .f32⟩
  | 42 => ⟨S8x128x64x4x64, .f32⟩
  | 43 => ⟨S8x4x128x64x64, .f32⟩
  | 44 => ⟨S8x128x64x4x128, .f32⟩
  | 45 => ⟨S8x4x128x64x128, .f32⟩
  | 46 => ⟨S8x128x64x4x64, .f32⟩
  | 47 => ⟨S8x4x128x64x64, .f32⟩
  | 48 => ⟨S_, .f32⟩
  | 49 => ⟨S_, .f32⟩
  | 50 => ⟨S8x4x128x64x64, .f32⟩
  | 51 => ⟨S8x4x128x1x64, .f32⟩
  | 52 => ⟨S_, .f32⟩
  | 53 => ⟨S8x4x128x64x64, .f32⟩
  | 54 => ⟨S8x4x128x64x64, .f32⟩
  | 55 => ⟨S8x4x128x64x64, .f32⟩
  | 56 => ⟨S8x4x128x64x64, .f32⟩
  | 57 => ⟨S8x4x128x64x64, .f32⟩
  | 58 => ⟨S8x4x128x64x64, .f32⟩
  | 59 => ⟨S8x4x128x64x64, .f32⟩
  | 60 => ⟨S8x4x128x64x64, .f32⟩
  | 61 => ⟨S8x4x128x64x64, .f32⟩
  | 62 => ⟨S8x4x128x64x64, .f32⟩
  | 63 => ⟨S8x4x128x64x64, .f32⟩
  | 64 => ⟨S_, .i1⟩
  | 65 => ⟨S64x64, .i1⟩
  | 66 => ⟨S64x64, .i32⟩
  | 67 => ⟨S_, .i32⟩
  | 68 => ⟨S64x64, .i32⟩
  | 69 => ⟨S64x64, .i32⟩
  | 70 => ⟨S64x64, .i32⟩
  | 71 => ⟨S64x64, .i1⟩
  | 72 => ⟨S_, .i1⟩
  | 73 => ⟨S64x64, .i1⟩
  | 74 => ⟨S64x64, .i1⟩
  | 75 => ⟨S8x4x128x64x64, .f32⟩
  | 76 => ⟨S_, .f32⟩
  | 77 => ⟨S_, .f32⟩
  | 78 => ⟨S8x4x128x64x64, .i1⟩
  | 79 => ⟨S8x4x128x64x64, .f32⟩
  | 80 => ⟨S8x4x128x64x64, .f32⟩
  | 81 => ⟨S8x4x128x64x128, .f32⟩
  | 82 => ⟨S8x4x128x64x128, .f32⟩
  | 83 => ⟨S8x4x128x64, .f32⟩
  | 84 => ⟨S8x4x128x64, .f32⟩
  | 85 => ⟨S_, .f32⟩
  | 86 => ⟨S8x4x64x128, .f32⟩
  | 87 => ⟨S128x8x4x64x64, .f32⟩
  | 88 => ⟨S128x8x4x64x128, .f32⟩
  | 89 => ⟨S128x8x4x64, .f32⟩
  | 90 => ⟨S_, .f32⟩
  | 91 => ⟨S128x8x4x64x128, .f32⟩
  | 92 => ⟨S_, .i32⟩
  | 93 => ⟨S128x8x4x64x64, .f32⟩
  | 94 => ⟨S128x8x4x64x128, .f32⟩
  | 95 => ⟨S128x8x4x64, .f32⟩
  | 96 => ⟨S_, .i32⟩
  | 97 => ⟨S8x4x64x128, .f32⟩
  | 98 => ⟨S128x8x4x64x128, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1x8x4x64x64, .f32⟩
  | 106 => ⟨S8x4x64x64, .f32⟩
  | 107 => ⟨S_, .i32⟩
  | 108 => ⟨S_, .i32⟩
  | 109 => ⟨S_, .i32⟩
  | 110 => ⟨S_, .i32⟩
  | 111 => ⟨S1x8x4x64x128, .f32⟩
  | 112 => ⟨S8x4x64x128, .f32⟩
  | 113 => ⟨S_, .i32⟩
  | 114 => ⟨S_, .i32⟩
  | 115 => ⟨S_, .i32⟩
  | 116 => ⟨S1x8x4x64, .f32⟩
  | 117 => ⟨S8x4x64, .f32⟩
  | 118 => ⟨S8x4x64x128, .f32⟩
  | 119 => ⟨S8x4x64x1, .f32⟩
  | 120 => ⟨S8x4x64x128, .f32⟩
  | 121 => ⟨S8x4x64x128, .f32⟩
  | 122 => ⟨S8x4x64x128, .f32⟩
  | 123 => ⟨S1x8x4x64x128, .f32⟩
  | 124 => ⟨S_, .i32⟩
  | 125 => ⟨S_, .i32⟩
  | 126 => ⟨S_, .i32⟩
  | 127 => ⟨S_, .i32⟩
  | _ => ⟨S8x8192x512, .f32⟩

abbrev hbmTy0_1 (i : Nat) : BufTy := match i % 128 with
  | 0 => ⟨S128x8x4x64x128, .f32⟩
  | 1 => ⟨S_, .i32⟩
  | 2 => ⟨S_, .i32⟩
  | 3 => ⟨S8x4x128x64x128, .f32⟩
  | 4 => ⟨S8x4x128x64x128, .f32⟩
  | 5 => ⟨S8x128x64x4x128, .f32⟩
  | 6 => ⟨S8x8192x4x128, .f32⟩
  | 7 => ⟨S128, .f32⟩
  | 8 => ⟨S8x8192x4x128, .f32⟩
  | 9 => ⟨S_, .f32⟩
  | 10 => ⟨S8x8192x4, .f32⟩
  | 11 => ⟨S8x8192x4x1, .f32⟩
  | 12 => ⟨S_, .f32⟩
  | 13 => ⟨S8x8192x4x1, .f32⟩
  | 14 => ⟨S8x8192x4x1, .f32⟩
  | 15 => ⟨S_, .f32⟩
  | 16 => ⟨S8x8192x4x1, .f32⟩
  | 17 => ⟨S8x8192x4x1, .f32⟩
  | 18 => ⟨S8x8192x4x1, .f32⟩
  | 19 => ⟨S8x8192x4x128, .f32⟩
  | 20 => ⟨S8x8192x4x128, .f32⟩
  | 21 => ⟨S1x1x1x128, .f32⟩
  | 22 => ⟨S8x8192x4x128, .f32⟩
  | 23 => ⟨S8x8192x4x128, .f32⟩
  | 24 => ⟨S8x8192x512, .f32⟩
  | 25 => ⟨S8x8192x512, .f32⟩
  | 26 => ⟨S8x8192x512, .f32⟩
  | 27 => ⟨S_, .f32⟩
  | 28 => ⟨S8x8192x512, .f32⟩
  | 29 => ⟨S8x8192x512, .f32⟩
  | 30 => ⟨S_, .f32⟩
  | 31 => ⟨S8x8192x512, .f32⟩
  | 32 => ⟨S8x8192x512, .f32⟩
  | 33 => ⟨S8x8192x512, .f32⟩
  | 34 => ⟨S8x8192x512, .f32⟩
  | 35 => ⟨S8x8192x512, .bf16⟩
  | _ => ⟨S8x8192x512, .f32⟩

abbrev hbmTy (i : Nat) : BufTy := match i / 128 with
  | 0 => hbmTy0_0 i
  | 1 => hbmTy0_1 i
  | _ => ⟨S8x8192x512, .f32⟩

abbrev bufTy : (tb : Table) → Fin (tcTables nBuf tb) → BufTy
  | .hbm, ⟨i, _⟩ => hbmTy i
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_call0_cst : Ref sig .tc := ⟨.hbm, 48, rfl⟩
abbrev main_call1_call0_v0 : Ref sig .tc := ⟨.hbm, 49, rfl⟩
abbrev main_v25 : Ref sig .tc := ⟨.hbm, 50, rfl⟩
abbrev main_v26 : Ref sig .tc := ⟨.hbm, 51, rfl⟩
abbrev main_cst_0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c : Ref sig .tc := ⟨.hbm, 64, rfl⟩
abbrev main_v38 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_0 : Ref sig .tc := ⟨.hbm, 72, rfl⟩
abbrev main_call2_v5 : Ref sig .tc := ⟨.hbm, 73, rfl⟩
abbrev main_v39 : Ref sig .tc := ⟨.hbm, 74, rfl⟩
abbrev main_v40 : Ref sig .tc := ⟨.hbm, 75, rfl⟩
abbrev main_cst_1 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_2 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_3 : Ref sig .tc := ⟨.hbm, 90, rfl⟩
abbrev main_v50 : Ref sig .tc := ⟨.hbm, 91, rfl⟩
abbrev main_c_4 : Ref sig .tc := ⟨.hbm, 92, rfl⟩
abbrev main_v51_0 : Ref sig .tc := ⟨.hbm, 93, rfl⟩
abbrev main_v51_1 : Ref sig .tc := ⟨.hbm, 94, rfl⟩
abbrev main_v51_2 : Ref sig .tc := ⟨.hbm, 95, rfl⟩
abbrev main_v51_3 : Ref sig .tc := ⟨.hbm, 96, rfl⟩
abbrev main_v51_4 : Ref sig .tc := ⟨.hbm, 97, rfl⟩
abbrev main_v51_5 : Ref sig .tc := ⟨.hbm, 98, rfl⟩
abbrev main_while0c_c_13 : Ref sig .tc := ⟨.hbm, 99, rfl⟩
abbrev main_while0c_v74 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_c_2 : Ref sig .tc := ⟨.hbm, 104, rfl⟩
abbrev main_while0b_call4_v0 : Ref sig .tc := ⟨.hbm, 105, rfl⟩
abbrev main_while0b_v74 : Ref sig .tc := ⟨.hbm, 106, rfl⟩
abbrev main_while0b_call5_c : Ref sig .tc := ⟨.hbm, 107, rfl⟩
abbrev main_while0b_call5_c_0 : Ref sig .tc := ⟨.hbm, 108, rfl⟩
abbrev main_while0b_call5_c_1 : Ref sig .tc := ⟨.hbm, 109, rfl⟩
abbrev main_while0b_call5_c_2 : Ref sig .tc := ⟨.hbm, 110, rfl⟩
abbrev main_while0b_call5_v0 : Ref sig .tc := ⟨.hbm, 111, rfl⟩
abbrev main_while0b_v75 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_c_1 : Ref sig .tc := ⟨.hbm, 115, rfl⟩
abbrev main_while0b_call6_v0 : Ref sig .tc := ⟨.hbm, 116, rfl⟩
abbrev main_while0b_v76 : Ref sig .tc := ⟨.hbm, 117, rfl⟩
abbrev main_while0b_v77 : Ref sig .tc := ⟨.hbm, 118, rfl⟩
abbrev main_while0b_v78 : Ref sig .tc := ⟨.hbm, 119, rfl⟩
abbrev main_while0b_v79 : Ref sig .tc := ⟨.hbm, 120, rfl⟩
abbrev main_while0b_v80 : Ref sig .tc := ⟨.hbm, 121, rfl⟩
abbrev main_while0b_v81 : Ref sig .tc := ⟨.hbm, 122, rfl⟩
abbrev main_while0b_call7_v0 : Ref sig .tc := ⟨.hbm, 123, rfl⟩
abbrev main_while0b_call7_c : Ref sig .tc := ⟨.hbm, 124, rfl⟩
abbrev main_while0b_call7_c_0 : Ref sig .tc := ⟨.hbm, 125, rfl⟩
abbrev main_while0b_call7_c_1 : Ref sig .tc := ⟨.hbm, 126, rfl⟩
abbrev main_while0b_call7_c_2 : Ref sig .tc := ⟨.hbm, 127, rfl⟩
abbrev main_while0b_v82 : Ref sig .tc := ⟨.hbm, 128, rfl⟩
abbrev main_while0b_c_13 : Ref sig .tc := ⟨.hbm, 129, rfl⟩
abbrev main_while0b_v83 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_cst_5 : Ref sig .tc := ⟨.hbm, 137, rfl⟩
abbrev main_v58 : Ref sig .tc := ⟨.hbm, 138, rfl⟩
abbrev main_v59 : Ref sig .tc := ⟨.hbm, 139, rfl⟩
abbrev main_cst_6 : Ref sig .tc := ⟨.hbm, 140, rfl⟩
abbrev main_v60 : Ref sig .tc := ⟨.hbm, 141, rfl⟩
abbrev main_v61 : Ref sig .tc := ⟨.hbm, 142, rfl⟩
abbrev main_cst_7 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_call8_v0 : Ref sig .tc := ⟨.hbm, 153, rfl⟩
abbrev main_call8_v1 : Ref sig .tc := ⟨.hbm, 154, rfl⟩
abbrev main_call8_cst : Ref sig .tc := ⟨.hbm, 155, rfl⟩
abbrev main_call8_v2 : Ref sig .tc := ⟨.hbm, 156, rfl⟩
abbrev main_call8_v3 : Ref sig .tc := ⟨.hbm, 157, rfl⟩
abbrev main_call8_cst_0 : Ref sig .tc := ⟨.hbm, 158, rfl⟩
abbrev main_call8_v4 : Ref sig .tc := ⟨.hbm, 159, rfl⟩
abbrev main_call8_v5 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8x8192x1024 : Shape := ⟨3, ![8, 8192, 1024]⟩
abbrev S8x512x8192 : Shape := ⟨3, ![8, 512, 8192]⟩
abbrev S8x8192x512 : Shape := ⟨3, ![8, 8192, 512]⟩
abbrev S1x8x8192x256 : Shape := ⟨4, ![1, 8, 8192, 256]⟩
abbrev S1x1024x1024 : Shape := ⟨3, ![1, 1024, 1024]⟩
abbrev S1x1024 : Shape := ⟨2, ![1, 1024]⟩
abbrev S1x256x1024 : Shape := ⟨3, ![1, 256, 1024]⟩
abbrev S8x8192x256 : Shape := ⟨3, ![8, 8192, 256]⟩
abbrev S1024x1024 : Shape := ⟨2, ![1024, 1024]⟩
abbrev S1024 : Shape := ⟨1, ![1024]⟩
abbrev S256x1024 : Shape := ⟨2, ![256, 1024]⟩
abbrev S1x512x1024 : Shape := ⟨3, ![1, 512, 1024]⟩
abbrev S1x512x512 : Shape := ⟨3, ![1, 512, 512]⟩
abbrev S1x512x256 : Shape := ⟨3, ![1, 512, 256]⟩
abbrev S512x256 : Shape := ⟨2, ![512, 256]⟩
abbrev S256x512 : Shape := ⟨2, ![256, 512]⟩
abbrev S1x256x512 : Shape := ⟨3, ![1, 256, 512]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 25
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S8x512x8192, .bf16⟩
  | .hbm, ⟨2, _⟩ => ⟨S8x8192x512, .bf16⟩
  | .hbm, ⟨3, _⟩ => ⟨S8x8192x512, .bf16⟩
  | .hbm, ⟨4, _⟩ => ⟨S1x8x8192x256, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x256x1024, .f32⟩
  | .hbm, ⟨9, _⟩ => ⟨S1x1024, .f32⟩
  | .hbm, ⟨10, _⟩ => ⟨S1x1024, .f32⟩
  | .hbm, ⟨11, _⟩ => ⟨S8x8192x256, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S256x1024, .f32⟩
  | .hbm, ⟨19, _⟩ => ⟨S256x1024, .bf16⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x256, .f32⟩
  | .local _ .vmem, ⟨9, _⟩ => ⟨S1x512x256, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x8192x1024 : Shape := ⟨3, ![8, 8192, 1024]⟩
abbrev S8x512x8192 : Shape := ⟨3, ![8, 512, 8192]⟩
abbrev S8x8192x512 : Shape := ⟨3, ![8, 8192, 512]⟩
abbrev S1x8x8192x256 : Shape := ⟨4, ![1, 8, 8192, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x8192x256 : Shape := ⟨3, ![8, 8192, 256]⟩
abbrev S256x1024 : Shape := ⟨2, ![256, 1024]⟩
abbrev S8x8192 : Shape := ⟨2, ![8, 8192]⟩
abbrev S8x8192x1 : Shape := ⟨3, ![8, 8192, 1]⟩

abbrev nBuf : Space → Nat
  | .hbm => 70
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x512x8192, .bf16⟩
  | .hbm, ⟨2, _⟩ => ⟨S8x8192x512, .bf16⟩
  | .hbm, ⟨3, _⟩ => ⟨S8x8192x512, .bf16⟩
  | .hbm, ⟨4, _⟩ => ⟨S1x8x8192x256, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x256x1024, .f32⟩
  | .hbm, ⟨9, _⟩ => ⟨S1x1024, .f32⟩
  | .hbm, ⟨10, _⟩ => ⟨S1x1024, .f32⟩
  | .hbm, ⟨11, _⟩ => ⟨S8x512x8192, .f32⟩
  | .hbm, ⟨12, _⟩ => ⟨S8x8192x512, .f32⟩
  | .hbm, ⟨13, _⟩ => ⟨S8x8192x512, .f32⟩
  | .hbm, ⟨14, _⟩ => ⟨S8x8192x512, .f32⟩
  | .hbm, ⟨15, _⟩ => ⟨S8x8192x512, .f32⟩
  | .hbm, ⟨16, _⟩ => ⟨S8x8192x1024, .f32⟩
  | .hbm, ⟨17, _⟩ => ⟨S1024x1024, .f32⟩
  | .hbm, ⟨18, _⟩ => ⟨S8x8192x1024, .f32⟩
  | .hbm, ⟨19, _⟩ => ⟨S8x8192x1024, .f32⟩
  | .hbm, ⟨20, _⟩ => ⟨S1024x1024, .f32⟩
  | .hbm, ⟨21, _⟩ => ⟨S8x8192x1024, .f32⟩
  | .hbm, ⟨22, _⟩ => ⟨S1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S_, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8x8192x1024, .f32⟩
  | .hbm, ⟨33, _⟩ => ⟨S8x8192x1024, .f32⟩
  | .hbm, ⟨34, _⟩ => ⟨S8x8192x256, .f32⟩
  | .hbm, ⟨35, _⟩ => ⟨S256x1024, .f32⟩
  | .hbm, ⟨36, _⟩ => ⟨S8x8192x1024, .f32⟩
  | .hbm, ⟨37, _⟩ => ⟨S8x8192x1024, .f32⟩
  | .hbm, ⟨38, _⟩ => ⟨S8x8192x1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S8x8192x1024, .f32⟩
  | .hbm, ⟨48, _⟩ => ⟨S8x8192x1024, .f32⟩
  | .hbm, ⟨49, _⟩ => ⟨S8x8192x1024, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S_, .f32⟩
  | .hbm, ⟨54, _⟩ => ⟨S8x8192x1, .f32⟩
  | .hbm, ⟨55, _⟩ => ⟨S8x8192x1, .f32⟩
  | .hbm, ⟨56, _⟩ => ⟨S8x8192x1024, .f32⟩
  | .hbm, ⟨57, _⟩ => ⟨S8x8192x1024, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x1, .f32⟩
  | .hbm, ⟨62, _⟩ => ⟨S8x8192x1024, .f32⟩
  | .hbm, ⟨63, _⟩ => ⟨S8x8192x1024, .f32⟩
  | .hbm, ⟨64, _⟩ => ⟨S1x1x1024, .f32⟩
  | .hbm, ⟨65, _⟩ => ⟨S8x8192x1024, .f32⟩
  | .hbm, ⟨66, _⟩ => ⟨S8x8192x1024, .f32⟩
  | .hbm, ⟨67, _⟩ => ⟨S1x1x1024, .f32⟩
  | .hbm, ⟨68, _⟩ => ⟨S8x8192x1024, .f32⟩
  | .hbm, ⟨69, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1x1024x3368 : Shape := ⟨3, ![1, 1024, 3368]⟩
abbrev S1024x3368 : Shape := ⟨2, ![1024, 3368]⟩
abbrev S1024x512 : Shape := ⟨2, ![1024, 512]⟩
abbrev S1024x128 : Shape := ⟨2, ![1024, 128]⟩
abbrev S1024x24 : Shape := ⟨2, ![1024, 24]⟩
abbrev S1024x256 : Shape := ⟨2, ![1024, 256]⟩
abbrev S1024x16 : Shape := ⟨2, ![1024, 16]⟩
abbrev S1024x64 : Shape := ⟨2, ![1024, 64]⟩
abbrev S_ : Shape := ⟨0, ![]⟩
abbrev S1024x88 : Shape := ⟨2, ![1024, 88]⟩
abbrev S1024x3456 : Shape := ⟨2, ![1024, 3456]⟩
abbrev S1x1024 : Shape := ⟨2, ![1, 1024]⟩
abbrev S8x512x8192 : Shape := ⟨3, ![8, 512, 8192]⟩
abbrev S8x2x512x2048 : Shape := ⟨4, ![8, 2, 512, 2048]⟩
abbrev S8x2x8192x128 : Shape := ⟨4, ![8, 2, 8192, 128]⟩
abbrev S8x2x80x8192 : Shape := ⟨4, ![8, 2, 80, 8192]⟩
abbrev S8x8192x512 : Shape := ⟨3, ![8, 8192, 512]⟩
abbrev S8x8192x128 : Shape := ⟨3, ![8, 8192, 128]⟩
abbrev S8x32x8192 : Shape := ⟨3, ![8, 32, 8192]⟩
abbrev S1x512x1024 : Shape := ⟨3, ![1, 512, 1024]⟩
abbrev S1x512x512 : Shape := ⟨3, ![1, 512, 512]⟩
abbrev S1x2x32x2048 : Shape := ⟨4, ![1, 2, 32, 2048]⟩
abbrev S1x2x512x128 : Shape := ⟨4, ![1, 2, 512, 128]⟩
abbrev S1x2x80x512 : Shape := ⟨4, ![1, 2, 80, 512]⟩
abbrev S1x512x128 : Shape := ⟨3, ![1, 512, 128]⟩
abbrev S1x32x512 : Shape := ⟨3, ![1, 32, 512]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S32x128 : Shape := ⟨2, ![32, 128]⟩
abbrev S1x1x32x128 : Shape := ⟨4, ![1, 1, 32, 128]⟩
abbrev S1x1x512x128 : Shape := ⟨4, ![1, 1, 512, 128]⟩
abbrev S128x512 : Shape := ⟨2, ![128, 512]⟩
abbrev S80x512 : Shape := ⟨2, ![80, 512]⟩
abbrev S1x1x80x512 : Shape := ⟨4, ![1, 1, 80, 512]⟩
abbrev S32x512 : Shape := ⟨2, ![32, 512]⟩

abbrev nBuf : Space → Nat
  | .hbm => 67
  | .vmem => 32
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S1x1024x3368, .f32⟩
  | .hbm, ⟨4, _⟩ => ⟨S1024x3368, .f32⟩
  | .hbm, ⟨5, _⟩ => ⟨S1024x512, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x24, .f32⟩
  | .hbm, ⟨13, _⟩ => ⟨S1024x512, .f32⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S1024x16, .f32⟩
  | .hbm, ⟨18, _⟩ => ⟨S1024x512, .f32⟩
  | .hbm, ⟨19, _⟩ => ⟨S1024x64, .f32⟩
  | .hbm, ⟨20, _⟩ => ⟨S1024x64, .f32⟩
  | .hbm, ⟨21, _⟩ => ⟨S1024x128, .f32⟩
  | .hbm, ⟨22, _⟩ => ⟨S1024x64, .f32⟩
  | .hbm, ⟨23, _⟩ => ⟨S1024x64, .f32⟩
  | .hbm, ⟨24, _⟩ => ⟨S1024x128, .f32⟩
  | .hbm, ⟨25, _⟩ => ⟨S1024x64, .f32⟩
  | .hbm, ⟨26, _⟩ => ⟨S1024x64, .f32⟩
  | .hbm, ⟨27, _⟩ => ⟨S1024x128, .f32⟩
  | .hbm, ⟨28, _⟩ => ⟨S1024x64, .f32⟩
  | .hbm, ⟨29, _⟩ => ⟨S1024x64, .f32⟩
  | .hbm, ⟨30, _⟩ => ⟨S1024x128, .f32⟩
  | .hbm, ⟨31, _⟩ => ⟨S1024x64, .f32⟩
  | .hbm, ⟨32, _⟩ => ⟨S1024x64, .f32⟩
  | .hbm, ⟨33, _⟩ => ⟨S1024x128, .f32⟩
  | .hbm, ⟨34, _⟩ => ⟨S1024x64, .f32⟩
  | .hbm, ⟨35, _⟩ => ⟨S1024x64, .f32⟩
  | .hbm, ⟨36, _⟩ => ⟨S1024x128, .f32⟩
  | .hbm, ⟨37, _⟩ => ⟨S1024x64, .f32⟩
  | .hbm, ⟨38, _⟩ => ⟨S1024x64, .f32⟩
  | .hbm, ⟨39, _⟩ => ⟨S1024x128, .f32⟩
  | .hbm, ⟨40, _⟩ => ⟨S1024x64, .f32⟩
  | .hbm, ⟨41, _⟩ => ⟨S1024x64, .f32⟩
  | .hbm, ⟨42, _⟩ => ⟨S1024x128, .f32⟩
  | .hbm, ⟨43, _⟩ => ⟨S1024x512, .f32⟩
  | .hbm, ⟨44, _⟩ => ⟨S_, .f32⟩
  | .hbm, ⟨45, _⟩ => ⟨S1024x88, .f32⟩
  | .hbm, ⟨46, _⟩ => ⟨S1024x128, .f32⟩
  | .hbm, ⟨47, _⟩ => ⟨S_, .f32⟩
  | .hbm, ⟨48, _⟩ => ⟨S1024x512, .f32⟩
  | .hbm, ⟨49, _⟩ => ⟨S1024x512, .f32⟩
  | .hbm, ⟨50, _⟩ => ⟨S1024x3456, .f32⟩
  | .hbm, ⟨51, _⟩ => ⟨S1024x3456, .bf16⟩
  | .hbm, ⟨52, _⟩ => ⟨S1x1024, .f32⟩
  | .hbm, ⟨53, _⟩ => ⟨S1x1024, .f32⟩
  | .hbm, ⟨54, _⟩ => ⟨S8x8192x1024, .f32⟩
  | .hbm, ⟨55, _⟩ => ⟨S8x512x8192, .bf16⟩
  | .hbm, ⟨56, _⟩ => ⟨S8x2x512x2048, .bf16⟩
  | .hbm, ⟨57, _⟩ => ⟨S8x2x8192x128, .bf16⟩
  | .hbm, ⟨58, _⟩ => ⟨S8x2x80x8192, .bf16⟩
  | .hbm, ⟨59, _⟩ => ⟨S8x2x8192x128, .bf16⟩
  | .hbm, ⟨60, _⟩ => ⟨S8x2x80x8192, .bf16⟩
  | .hbm, ⟨61, _⟩ => ⟨S8x8192x512, .bf16⟩
  | .hbm, ⟨62, _⟩ => ⟨S8x8192x512, .f32⟩
  | .hbm, ⟨63, _⟩ => ⟨S8x8192x512, .f32⟩
  | .hbm, ⟨64, _⟩ => ⟨S8x8192x512, .f32⟩
  | .hbm, ⟨65, _⟩ => ⟨S8x8192x128, .f32⟩
  | .hbm, ⟨66, _⟩ => ⟨S8x32x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x3456, .bf16⟩
  | .local _ .vmem, ⟨5, _⟩ => ⟨S1x512x1024, .f32⟩
  | .local _ .vmem, ⟨6, _⟩ => ⟨S1x512x1024, .f32⟩
  | .local _ .vmem, ⟨7, _⟩ => ⟨S1x512x512, .bf16⟩
  | .local _ .vmem, ⟨8, _⟩ => ⟨S1x512x512, .bf16⟩
  | .local _ .vmem, ⟨9, _⟩ => ⟨S1x2x32x2048, .bf16⟩
  | .local _ .vmem, ⟨10, _⟩ => ⟨S1x2x32x2048, .bf16⟩
  | .local _ .vmem, ⟨11, _⟩ => ⟨S1x2x512x128, .bf16⟩
  | .local _ .vmem, ⟨12, _⟩ => ⟨S1x2x512x128, .bf16⟩
  | .local _ .vmem, ⟨13, _⟩ => ⟨S1x2x80x512, .bf16⟩
  | .local _ .vmem, ⟨14, _⟩ => ⟨S1x2x80x512, .bf16⟩
  | .local _ .vmem, ⟨15, _⟩ => ⟨S1x2x512x128, .bf16⟩
  | .local _ .vmem, ⟨16, _⟩ => ⟨S1x2x512x128, .bf16⟩
  | .local _ .vmem, ⟨17, _⟩ => ⟨S1x2x80x512, .bf16⟩
  | .local _ .vmem, ⟨18, _⟩ => ⟨S1x2x80x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x128, .f32⟩
  | .local _ .vmem, ⟨28, _⟩ => ⟨S1x512x128, .f32⟩
  | .local _ .vmem, ⟨29, _⟩ => ⟨S1x32x512, .f32⟩
  | .local _ .vmem, ⟨30, _⟩ => ⟨S1x32x512, .f32⟩
  | .local _ .vmem, ⟨31, _⟩ => ⟨S512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst : Ref sig .tc := ⟨.hbm, 44, rfl⟩
abbrev main_v40 : Ref sig .tc := ⟨.hbm, 45, rfl⟩
abbrev main_v41 : Ref sig .tc := ⟨.hbm, 46, rfl⟩
abbrev main_cst_0 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48_0 : Ref sig .tc := ⟨.hbm, 54, rfl⟩
abbrev main_v48_1 : Ref sig .tc := ⟨.hbm, 55, rfl⟩
abbrev main_v48_2 : Ref sig .tc := ⟨.hbm, 56, rfl⟩
abbrev main_v48_3 : Ref sig .tc := ⟨.hbm, 57, rfl⟩
abbrev main_v48_4 : Ref sig .tc := ⟨.hbm, 58, rfl⟩
abbrev main_v48_5 : Ref sig .tc := ⟨.hbm, 59, rfl⟩
abbrev main_v48_6 : Ref sig .tc := ⟨.hbm, 60, rfl⟩
abbrev main_v48_7 : Ref sig .tc := ⟨.hbm, 61, rfl⟩
abbrev main_v48_8 : Ref sig .tc := ⟨.hbm, 62, rfl⟩
abbrev main_v48_9 : Ref sig .tc := ⟨.hbm, 63, rfl⟩
abbrev main_v48_10 : Ref sig .tc := ⟨.hbm, 64, rfl⟩
abbrev main_v48_11 : Ref sig .tc := ⟨.hbm, 65, rfl⟩
abbrev main_v48_12 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x80x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x80x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x32x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x8192x1024 : Shape := ⟨3, ![8, 8192, 1024]⟩
abbrev S1024 : Shape := ⟨1, ![1024]⟩
abbrev S1x1024x3368 : Shape := ⟨3, ![1, 1024, 3368]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x3368 : Shape := ⟨2, ![1024, 3368]⟩
abbrev S8x8192x3368 : Shape := ⟨3, ![8, 8192, 3368]⟩
abbrev S8x8192x512 : Shape := ⟨3, ![8, 8192, 512]⟩
abbrev S8x8192x128 : Shape := ⟨3, ![8, 8192, 128]⟩
abbrev S8x8192x24 : Shape := ⟨3, ![8, 8192, 24]⟩
abbrev S8x8192x256 : Shape := ⟨3, ![8, 8192, 256]⟩
abbrev S8x8192x16 : Shape := ⟨3, ![8, 8192, 16]⟩
abbrev S8x8192x2x64 : Shape := ⟨4, ![8, 8192, 2, 64]⟩
abbrev S8x2x8192x64 : Shape := ⟨4, ![8, 2, 8192, 64]⟩
abbrev S8x2x8192x128 : Shape := ⟨4, ![8, 2, 8192, 128]⟩
abbrev S8x2x512x2048 : Shape := ⟨4, ![8, 2, 512, 2048]⟩
abbrev S64x64 : Shape := ⟨2, ![64, 64]⟩
abbrev S64x1x64 : Shape := ⟨3, ![64, 1, 64]⟩
abbrev S2x64x64x64 : Shape := ⟨4, ![2, 64, 64, 64]⟩
abbrev S8192x64 : Shape := ⟨2, ![8192, 64]⟩
abbrev S8x2x8192x1 : Shape := ⟨4, ![8, 2, 8192, 1]⟩
abbrev S8x2x8192x15 : Shape := ⟨4, ![8, 2, 8192, 15]⟩
abbrev S8x8192x88 : Shape := ⟨3, ![8, 8192, 88]⟩
abbrev S8x512x8192 : Shape := ⟨3, ![8, 512, 8192]⟩
abbrev S8x2x8192x80 : Shape := ⟨4, ![8, 2, 8192, 80]⟩
abbrev S8x2x80x8192 : Shape := ⟨4, ![8, 2, 80, 8192]⟩
abbrev S8x8192x4x64 : Shape := ⟨4, ![8, 8192, 4, 64]⟩
abbrev S8x8192x4x128 : Shape := ⟨4, ![8, 8192, 4, 128]⟩
abbrev S8x8192x32 : Shape := ⟨3, ![8, 8192, 32]⟩
abbrev S8x32x8192 : Shape := ⟨3, ![8, 32, 8192]⟩

abbrev nBuf : Space → Nat
  | .hbm => 124
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S1x1024x3368, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x8192x1, .f32⟩
  | .hbm, ⟨23, _⟩ => ⟨S8x8192x1, .f32⟩
  | .hbm, ⟨24, _⟩ => ⟨S8x8192x1, .f32⟩
  | .hbm, ⟨25, _⟩ => ⟨S8x8192x1024, .f32⟩
  | .hbm, ⟨26, _⟩ => ⟨S8x8192x1024, .f32⟩
  | .hbm, ⟨27, _⟩ => ⟨S1x1x1024, .f32⟩
  | .hbm, ⟨28, _⟩ => ⟨S8x8192x1024, .f32⟩
  | .hbm, ⟨29, _⟩ => ⟨S8x8192x1024, .f32⟩
  | .hbm, ⟨30, _⟩ => ⟨S1x1x1024, .f32⟩
  | .hbm, ⟨31, _⟩ => ⟨S8x8192x1024, .f32⟩
  | .hbm, ⟨32, _⟩ => ⟨S8x8192x1024, .f32⟩
  | .hbm, ⟨33, _⟩ => ⟨S1024x3368, .f32⟩
  | .hbm, ⟨34, _⟩ => ⟨S8x8192x3368, .f32⟩
  | .hbm, ⟨35, _⟩ => ⟨S8x8192x512, .f32⟩
  | .hbm, ⟨36, _⟩ => ⟨S8x8192x128, .f32⟩
  | .hbm, ⟨37, _⟩ => ⟨S8x8192x128, .f32⟩
  | .hbm, ⟨38, _⟩ => ⟨S8x8192x128, .f32⟩
  | .hbm, ⟨39, _⟩ => ⟨S8x8192x128, .f32⟩
  | .hbm, ⟨40, _⟩ => ⟨S8x8192x128, .f32⟩
  | .hbm, ⟨41, _⟩ => ⟨S8x8192x128, .f32⟩
  | .hbm, ⟨42, _⟩ => ⟨S8x8192x24, .f32⟩
  | .hbm, ⟨43, _⟩ => ⟨S8x8192x512, .f32⟩
  | .hbm, ⟨44, _⟩ => ⟨S8x8192x256, .f32⟩
  | .hbm, ⟨45, _⟩ => ⟨S8x8192x256, .f32⟩
  | .hbm, ⟨46, _⟩ => ⟨S8x8192x512, .f32⟩
  | .hbm, ⟨47, _⟩ => ⟨S8x8192x16, .f32⟩
  | .hbm, ⟨48, _⟩ => ⟨S8x8192x512, .f32⟩
  | .hbm, ⟨49, _⟩ => ⟨S8x8192x2x64, .f32⟩
  | .hbm, ⟨50, _⟩ => ⟨S8x2x8192x64, .f32⟩
  | .hbm, ⟨51, _⟩ => ⟨S8x8192x2x64, .f32⟩
  | .hbm, ⟨52, _⟩ => ⟨S8x2x8192x64, .f32⟩
  | .hbm, ⟨53, _⟩ => ⟨S8x8192x2x64, .f32⟩
  | .hbm, ⟨54, _⟩ => ⟨S8x2x8192x64, .f32⟩
  | .hbm, ⟨55, _⟩ => ⟨S8x8192x2x64, .f32⟩
  | .hbm, ⟨56, _⟩ => ⟨S8x2x8192x64, .f32⟩
  | .hbm, ⟨57, _⟩ => ⟨S8x8192x2x64, .f32⟩
  | .hbm, ⟨58, _⟩ => ⟨S8x2x8192x64, .f32⟩
  | .hbm, ⟨59, _⟩ => ⟨S8x8192x2x64, .f32⟩
  | .hbm, ⟨60, _⟩ => ⟨S8x2x8192x64, .f32⟩
  | .hbm, ⟨61, _⟩ => ⟨S8x2x8192x128, .f32⟩
  | .hbm, ⟨62, _⟩ => ⟨S8x2x512x2048, .f32⟩
  | .hbm, ⟨63, _⟩ => ⟨S64x64, .i32⟩
  | .hbm, ⟨64, _⟩ => ⟨S64x64, .i32⟩
  | .hbm, ⟨65, _⟩ => ⟨S_, .i32⟩
  | .hbm, ⟨66, _⟩ => ⟨S64x64, .i32⟩
  | .hbm, ⟨67, _⟩ => ⟨S64x64, .i32⟩
  | .hbm, ⟨68, _⟩ => ⟨S64x64, .i1⟩
  | .hbm, ⟨69, _⟩ => ⟨S64x64, .f32⟩
  | .hbm, ⟨70, _⟩ => ⟨S64x1x64, .f32⟩
  | .hbm, ⟨71, _⟩ => ⟨S2x64x64x64, .f32⟩
  | .hbm, ⟨72, _⟩ => ⟨S8192x64, .f32⟩
  | .hbm, ⟨73, _⟩ => ⟨S8x2x8192x64, .f32⟩
  | .hbm, ⟨74, _⟩ => ⟨S8x2x8192x128, .f32⟩
  | .hbm, ⟨75, _⟩ => ⟨S_, .f32⟩
  | .hbm, ⟨76, _⟩ => ⟨S8x2x8192x1, .f32⟩
  | .hbm, ⟨77, _⟩ => ⟨S_, .f32⟩
  | .hbm, ⟨78, _⟩ => ⟨S8x2x8192x15, .f32⟩
  | .hbm, ⟨79, _⟩ => ⟨S_, .f32⟩
  | .hbm, ⟨80, _⟩ => ⟨S8x8192x88, .f32⟩
  | .hbm, ⟨81, _⟩ => ⟨S8x8192x128, .f32⟩
  | .hbm, ⟨82, _⟩ => ⟨S_, .f32⟩
  | .hbm, ⟨83, _⟩ => ⟨S8x8192x1024, .f32⟩
  | .hbm, ⟨84, _⟩ => ⟨S8x8192x1024, .f32⟩
  | .hbm, ⟨85, _⟩ => ⟨S_, .f32⟩
  | .hbm, ⟨86, _⟩ => ⟨S8x8192x512, .f32⟩
  | .hbm, ⟨87, _⟩ => ⟨S8x8192x512, .f32⟩
  | .hbm, ⟨88, _⟩ => ⟨S8x512x8192, .f32⟩
  | .hbm, ⟨89, _⟩ => ⟨S8x512x8192, .bf16⟩
  | .hbm, ⟨90, _⟩ => ⟨S8x2x512x2048, .bf16⟩
  | .hbm, ⟨91, _⟩ => ⟨S8x2x8192x128, .bf16⟩
  | .hbm, ⟨92, _⟩ => ⟨S8x2x8192x80, .f32⟩
  | .hbm, ⟨93, _⟩ => ⟨S8x2x80x8192, .f32⟩
  | .hbm, ⟨94, _⟩ => ⟨S8x2x80x8192, .bf16⟩
  | .hbm, ⟨95, _⟩ => ⟨S8x2x8192x128, .f32⟩
  | .hbm, ⟨96, _⟩ => ⟨S8x2x8192x128, .bf16⟩
  | .hbm, ⟨97, _⟩ => ⟨S8x2x8192x80, .f32⟩
  | .hbm, ⟨98, _⟩ => ⟨S8x2x80x8192, .f32⟩
  | .hbm, ⟨99, _⟩ => ⟨S8x2x80x8192, .bf16⟩
  | .hbm, ⟨100, _⟩ => ⟨S8x8192x512, .f32⟩
  | .hbm, ⟨101, _⟩ => ⟨S8x8192x512, .f32⟩
  | .hbm, ⟨102, _⟩ => ⟨S_, .f32⟩
  | .hbm, ⟨103, _⟩ => ⟨S8x8192x512, .f32⟩
  | .hbm, ⟨104, _⟩ => ⟨S8x8192x512, .f32⟩
  | .hbm, ⟨105, _⟩ => ⟨S_, .f32⟩
  | .hbm, ⟨106, _⟩ => ⟨S8x8192x512, .f32⟩
  | .hbm, ⟨107, _⟩ => ⟨S8x8192x512, .f32⟩
  | .hbm, ⟨108, _⟩ => ⟨S8x8192x512, .f32⟩
  | .hbm, ⟨109, _⟩ => ⟨S8x8192x512, .bf16⟩
  | .hbm, ⟨110, _⟩ => ⟨S8x8192x4x64, .f32⟩
  | .hbm, ⟨111, _⟩ => ⟨S8x8192x4x64, .f32⟩
  | .hbm, ⟨112, _⟩ => ⟨S8x8192x4x128, .f32⟩
  | .hbm, ⟨113, _⟩ => ⟨S8x8192x512, .f32⟩
  | .hbm, ⟨114, _⟩ => ⟨S8x8192x32, .f32⟩
  | .hbm, ⟨115, _⟩ => ⟨S8x8192x32, .f32⟩
  | .hbm, ⟨116, _⟩ => ⟨S8x8192x32, .f32⟩
  | .hbm, ⟨117, _⟩ => ⟨S_, .f32⟩
  | .hbm, ⟨118, _⟩ => ⟨S8x8192x32, .f32⟩
  | .hbm, ⟨119, _⟩ => ⟨S8x8192x32, .f32⟩
  | .hbm, ⟨120, _⟩ => ⟨S_, .f32⟩
  | .hbm, ⟨121, _⟩ => ⟨S8x8192x32, .f32⟩
  | .hbm, ⟨122, _⟩ => ⟨S8x8192x32, .f32⟩
  | .hbm, ⟨123, _⟩ => ⟨S8x32x8192, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_c : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_4 : Ref sig .tc := ⟨.hbm, 75, rfl⟩
abbrev main_v65 : Ref sig .tc := ⟨.hbm, 76, rfl⟩
abbrev main_cst_5 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_v70 : Ref sig .tc := ⟨.hbm, 84, rfl⟩
abbrev main_cst_8 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_call0_v0 : Ref sig .tc := ⟨.hbm, 100, rfl⟩
abbrev main_call0_v1 : Ref sig .tc := ⟨.hbm, 101, rfl⟩
abbrev main_call0_cst : Ref sig .tc := ⟨.hbm, 102, rfl⟩
abbrev main_call0_v2 : Ref sig .tc := ⟨.hbm, 103, rfl⟩
abbrev main_call0_v3 : Ref sig .tc := ⟨.hbm, 104, rfl⟩
abbrev main_call0_cst_0 : Ref sig .tc := ⟨.hbm, 105, rfl⟩
abbrev main_call0_v4 : Ref sig .tc := ⟨.hbm, 106, rfl⟩
abbrev main_call0_v5 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_9 : Ref sig .tc := ⟨.hbm, 117, rfl⟩
abbrev main_v94 : Ref sig .tc := ⟨.hbm, 118, rfl⟩
abbrev main_v95 : Ref sig .tc := ⟨.hbm, 119, rfl⟩
abbrev main_cst_10 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩

abbrev nD : Nat := 1
abbrev τ : Topo := Topo.v7x

variable {F : FTy → Type} [FloatOps F]
-- ==== Kernel4.lean ====
abbrev S8x2x512x2048 : Shape := ⟨4, ![8, 2, 512, 2048]⟩
abbrev S1x32x64 : Shape := ⟨3, ![1, 32, 64]⟩
abbrev S1x2048x256 : Shape := ⟨3, ![1, 2048, 256]⟩
abbrev S1x256 : Shape := ⟨2, ![1, 256]⟩
abbrev S1x256x64 : Shape := ⟨3, ![1, 256, 64]⟩
abbrev S32x64 : Shape := ⟨2, ![32, 64]⟩
abbrev S2048x256 : Shape := ⟨2, ![2048, 256]⟩
abbrev S256 : Shape := ⟨1, ![256]⟩
abbrev S256x64 : Shape := ⟨2, ![256, 64]⟩
abbrev S_ : Shape := ⟨0, ![]⟩
abbrev S16x64x256 : Shape := ⟨3, ![16, 64, 256]⟩
abbrev S256x128 : Shape := ⟨2, ![256, 128]⟩
abbrev S512x128 : Shape := ⟨2, ![512, 128]⟩
abbrev S512 : Shape := ⟨1, ![512]⟩
abbrev S1x512 : Shape := ⟨2, ![1, 512]⟩
abbrev S16x64 : Shape := ⟨2, ![16, 64]⟩
abbrev S16x128 : Shape := ⟨2, ![16, 128]⟩
abbrev S1x2048 : Shape := ⟨2, ![1, 2048]⟩
abbrev S8x2048 : Shape := ⟨2, ![8, 2048]⟩
abbrev S1024x256 : Shape := ⟨2, ![1024, 256]⟩
abbrev S16x64x512 : Shape := ⟨3, ![16, 64, 512]⟩
abbrev S16x128x512 : Shape := ⟨3, ![16, 128, 512]⟩
abbrev S2048x512 : Shape := ⟨2, ![2048, 512]⟩
abbrev S8x2x512x128 : Shape := ⟨4, ![8, 2, 512, 128]⟩
abbrev S8x2x128x512 : Shape := ⟨4, ![8, 2, 128, 512]⟩
abbrev S1x1x512x2048 : Shape := ⟨4, ![1, 1, 512, 2048]⟩
abbrev S1x1x512x128 : Shape := ⟨4, ![1, 1, 512, 128]⟩
abbrev S1x1x128x512 : Shape := ⟨4, ![1, 1, 128, 512]⟩
abbrev S512x2048 : Shape := ⟨2, ![512, 2048]⟩
abbrev S512x512 : Shape := ⟨2, ![512, 512]⟩
abbrev S8x512 : Shape := ⟨2, ![8, 512]⟩
abbrev S128x512 : Shape := ⟨2, ![128, 512]⟩

abbrev nBuf : Space → Nat
  | .hbm => 55
  | .vmem => 12
  | .smem => 0
  | _ => 0

abbrev bufTy : (tb : Table) → Fin (tcTables nBuf tb) → BufTy
  | .hbm, ⟨0, _⟩ => ⟨S8x2x512x2048, .bf16⟩
  | .hbm, ⟨1, _⟩ => ⟨S1x32x64, .f32⟩
  | .hbm, ⟨2, _⟩ => ⟨S1x2048x256, .f32⟩
  | .hbm, ⟨3, _⟩ => ⟨S1x256, .f32⟩
  | .hbm, ⟨4, _⟩ => ⟨S1x256x64, .f32⟩
  | .hbm, ⟨5, _⟩ => ⟨S1x2048x256, .f32⟩
  | .hbm, ⟨6, _⟩ => ⟨S1x256, .f32⟩
  | .hbm, ⟨7, _⟩ => ⟨S1x256x64, .f32⟩
  | .hbm, ⟨8, _⟩ => ⟨S32x64, .f32⟩
  | .hbm, ⟨9, _⟩ => ⟨S2048x256, .f32⟩
  | .hbm, ⟨10, _⟩ => ⟨S256, .f32⟩
  | .hbm, ⟨11, _⟩ => ⟨S256x64, .f32⟩
  | .hbm, ⟨12, _⟩ => ⟨S2048x256, .f32⟩
  | .hbm, ⟨13, _⟩ => ⟨S256, .f32⟩
  | .hbm, ⟨14, _⟩ => ⟨S256x64, .f32⟩
  | .hbm, ⟨15, _⟩ => ⟨S_, .f32⟩
  | .hbm, ⟨16, _⟩ => ⟨S16x64x256, .f32⟩
  | .hbm, ⟨17, _⟩ => ⟨S_, .f32⟩
  | .hbm, ⟨18, _⟩ => ⟨S256x64, .f32⟩
  | .hbm, ⟨19, _⟩ => ⟨S256x128, .f32⟩
  | .hbm, ⟨20, _⟩ => ⟨S256x128, .f32⟩
  | .hbm, ⟨21, _⟩ => ⟨S512x128, .f32⟩
  | .hbm, ⟨22, _⟩ => ⟨S512x128, .bf16⟩
  | .hbm, ⟨23, _⟩ => ⟨S512, .f32⟩
  | .hbm, ⟨24, _⟩ => ⟨S1x512, .f32⟩
  | .hbm, ⟨25, _⟩ => ⟨S16x64, .f32⟩
  | .hbm, ⟨26, _⟩ => ⟨S16x128, .f32⟩
  | .hbm, ⟨27, _⟩ => ⟨S1x2048, .f32⟩
  | .hbm, ⟨28, _⟩ => ⟨S8x2048, .f32⟩
  | .hbm, ⟨29, _⟩ => ⟨S8x2048, .bf16⟩
  | .hbm, ⟨30, _⟩ => ⟨S16x64, .f32⟩
  | .hbm, ⟨31, _⟩ => ⟨S16x128, .f32⟩
  | .hbm, ⟨32, _⟩ => ⟨S1x2048, .f32⟩
  | .hbm, ⟨33, _⟩ => ⟨S8x2048, .f32⟩
  | .hbm, ⟨34, _⟩ => ⟨S8x2048, .bf16⟩
  | .hbm, ⟨35, _⟩ => ⟨S1024x256, .f32⟩
  | .hbm, ⟨36, _⟩ => ⟨S1024x256, .f32⟩
  | .hbm, ⟨37, _⟩ => ⟨S16x64x256, .f32⟩
  | .hbm, ⟨38, _⟩ => ⟨S16x64x512, .f32⟩
  | .hbm, ⟨39, _⟩ => ⟨S16x64x256, .f32⟩
  | .hbm, ⟨40, _⟩ => ⟨S16x64x512, .f32⟩
  | .hbm, ⟨41, _⟩ => ⟨S16x128x512, .f32⟩
  | .hbm, ⟨42, _⟩ => ⟨S2048x512, .f32⟩
  | .hbm, ⟨43, _⟩ => ⟨S2048x512, .bf16⟩
  | .hbm, ⟨44, _⟩ => ⟨S1024x256, .f32⟩
  | .hbm, ⟨45, _⟩ => ⟨S1024x256, .f32⟩
  | .hbm, ⟨46, _⟩ => ⟨S16x64x256, .f32⟩
  | .hbm, ⟨47, _⟩ => ⟨S16x64x512, .f32⟩
  | .hbm, ⟨48, _⟩ => ⟨S16x64x256, .f32⟩
  | .hbm, ⟨49, _⟩ => ⟨S16x64x512, .f32⟩
  | .hbm, ⟨50, _⟩ => ⟨S16x128x512, .f32⟩
  | .hbm, ⟨51, _⟩ => ⟨S2048x512, .f32⟩
  | .hbm, ⟨52, _⟩ => ⟨S2048x512, .bf16⟩
  | .hbm, ⟨53, _⟩ => ⟨S8x2x512x128, .bf16⟩
  | .hbm, ⟨54, _⟩ => ⟨S8x2x128x512, .bf16⟩
  | .local _ .vmem, ⟨0, _⟩ => ⟨S1x1x512x2048, .bf16⟩
  | .local _ .vmem, ⟨1, _⟩ => ⟨S1x1x512x2048, .bf16⟩
  | .local _ .vmem, ⟨2, _⟩ => ⟨S8x2048, .bf16⟩
  | .local _ .vmem, ⟨3, _⟩ => ⟨S8x2048, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S512x128, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S1x1x128x512, .bf16⟩
  | .local _ .vmem, ⟨11, _⟩ => ⟨S1x1x128x512, .bf16⟩
  | _, _ => ⟨S8x2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43_0 : Ref sig .tc := ⟨.hbm, 53, rfl⟩
abbrev main_v43_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8x2x512x2048 : Shape := ⟨4, ![8, 2, 512, 2048]⟩
abbrev S1x32x64 : Shape := ⟨3, ![1, 32, 64]⟩
abbrev S1x2048x256 : Shape := ⟨3, ![1, 2048, 256]⟩
abbrev S1x256 : Shape := ⟨2, ![1, 256]⟩
abbrev S1x256x64 : Shape := ⟨3, ![1, 256, 64]⟩
abbrev S8x2x512x16x2x64 : Shape := ⟨6, ![8, 2, 512, 16, 2, 64]⟩
abbrev S8x2x512x16x1x64 : Shape := ⟨6, ![8, 2, 512, 16, 1, 64]⟩
abbrev S8x2x512x16x64 : Shape := ⟨5, ![8, 2, 512, 16, 64]⟩
abbrev S32x64 : Shape := ⟨2, ![32, 64]⟩
abbrev S2048x256 : Shape := ⟨2, ![2048, 256]⟩
abbrev S256 : Shape := ⟨1, ![256]⟩
abbrev S256x64 : Shape := ⟨2, ![256, 64]⟩
abbrev S8x2x511x16x64 : Shape := ⟨5, ![8, 2, 511, 16, 64]⟩
abbrev S8x2x1x16x64 : Shape := ⟨5, ![8, 2, 1, 16, 64]⟩
abbrev S8x2x512x32x64 : Shape := ⟨5, ![8, 2, 512, 32, 64]⟩
abbrev S1x1x1x32x64 : Shape := ⟨5, ![1, 1, 1, 32, 64]⟩
abbrev S8x2x512x256 : Shape := ⟨4, ![8, 2, 512, 256]⟩
abbrev S1x1x1x256 : Shape := ⟨4, ![1, 1, 1, 256]⟩
abbrev S_ : Shape := ⟨0, ![]⟩
abbrev S8x2x512x64 : Shape := ⟨4, ![8, 2, 512, 64]⟩
abbrev S8x2x512x128 : Shape := ⟨4, ![8, 2, 512, 128]⟩
abbrev S8x2x128x512 : Shape := ⟨4, ![8, 2, 128, 512]⟩

abbrev nBuf : Space → Nat
  | .hbm => 86
  | .vmem => 0
  | .smem => 0
  | _ => 0

abbrev bufTy : (tb : Table) → Fin (tcTables nBuf tb) → BufTy
  | .hbm, ⟨0, _⟩ => ⟨S8x2x512x2048, .bf16⟩
  | .hbm, ⟨1, _⟩ => ⟨S1x32x64, .f32⟩
  | .hbm, ⟨2, _⟩ => ⟨S1x2048x256, .f32⟩
  | .hbm, ⟨3, _⟩ => ⟨S1x256, .f32⟩
  | .hbm, ⟨4, _⟩ => ⟨S1x256x64, .f32⟩
  | .hbm, ⟨5, _⟩ => ⟨S1x2048x256, .f32⟩
  | .hbm, ⟨6, _⟩ => ⟨S1x256, .f32⟩
  | .hbm, ⟨7, _⟩ => ⟨S1x256x64, .f32⟩
  | .hbm, ⟨8, _⟩ => ⟨S8x2x512x2048, .f32⟩
  | .hbm, ⟨9, _⟩ => ⟨S8x2x512x16x2x64, .f32⟩
  | .hbm, ⟨10, _⟩ => ⟨S8x2x512x16x1x64, .f32⟩
  | .hbm, ⟨11, _⟩ => ⟨S8x2x512x16x64, .f32⟩
  | .hbm, ⟨12, _⟩ => ⟨S32x64, .f32⟩
  | .hbm, ⟨13, _⟩ => ⟨S2048x256, .f32⟩
  | .hbm, ⟨14, _⟩ => ⟨S256, .f32⟩
  | .hbm, ⟨15, _⟩ => ⟨S256x64, .f32⟩
  | .hbm, ⟨16, _⟩ => ⟨S8x2x511x16x64, .f32⟩
  | .hbm, ⟨17, _⟩ => ⟨S8x2x1x16x64, .f32⟩
  | .hbm, ⟨18, _⟩ => ⟨S8x2x512x16x64, .f32⟩
  | .hbm, ⟨19, _⟩ => ⟨S8x2x512x32x64, .f32⟩
  | .hbm, ⟨20, _⟩ => ⟨S1x1x1x32x64, .f32⟩
  | .hbm, ⟨21, _⟩ => ⟨S8x2x512x32x64, .f32⟩
  | .hbm, ⟨22, _⟩ => ⟨S8x2x512x32x64, .f32⟩
  | .hbm, ⟨23, _⟩ => ⟨S8x2x512x2048, .f32⟩
  | .hbm, ⟨24, _⟩ => ⟨S8x2x512x256, .f32⟩
  | .hbm, ⟨25, _⟩ => ⟨S1x1x1x256, .f32⟩
  | .hbm, ⟨26, _⟩ => ⟨S8x2x512x256, .f32⟩
  | .hbm, ⟨27, _⟩ => ⟨S8x2x512x256, .f32⟩
  | .hbm, ⟨28, _⟩ => ⟨S8x2x512x256, .f32⟩
  | .hbm, ⟨29, _⟩ => ⟨S8x2x512x256, .f32⟩
  | .hbm, ⟨30, _⟩ => ⟨S_, .f32⟩
  | .hbm, ⟨31, _⟩ => ⟨S8x2x512x256, .f32⟩
  | .hbm, ⟨32, _⟩ => ⟨S8x2x512x256, .f32⟩
  | .hbm, ⟨33, _⟩ => ⟨S8x2x512x256, .f32⟩
  | .hbm, ⟨34, _⟩ => ⟨S_, .f32⟩
  | .hbm, ⟨35, _⟩ => ⟨S8x2x512x256, .f32⟩
  | .hbm, ⟨36, _⟩ => ⟨S8x2x512x256, .f32⟩
  | .hbm, ⟨37, _⟩ => ⟨S8x2x512x256, .f32⟩
  | .hbm, ⟨38, _⟩ => ⟨S_, .f32⟩
  | .hbm, ⟨39, _⟩ => ⟨S8x2x512x256, .f32⟩
  | .hbm, ⟨40, _⟩ => ⟨S8x2x512x256, .f32⟩
  | .hbm, ⟨41, _⟩ => ⟨S_, .f32⟩
  | .hbm, ⟨42, _⟩ => ⟨S8x2x512x256, .f32⟩
  | .hbm, ⟨43, _⟩ => ⟨S8x2x512x256, .f32⟩
  | .hbm, ⟨44, _⟩ => ⟨S8x2x512x256, .f32⟩
  | .hbm, ⟨45, _⟩ => ⟨S8x2x512x64, .f32⟩
  | .hbm, ⟨46, _⟩ => ⟨S8x2x512x16x1x64, .f32⟩
  | .hbm, ⟨47, _⟩ => ⟨S8x2x512x16x64, .f32⟩
  | .hbm, ⟨48, _⟩ => ⟨S32x64, .f32⟩
  | .hbm, ⟨49, _⟩ => ⟨S2048x256, .f32⟩
  | .hbm, ⟨50, _⟩ => ⟨S256, .f32⟩
  | .hbm, ⟨51, _⟩ => ⟨S256x64, .f32⟩
  | .hbm, ⟨52, _⟩ => ⟨S8x2x511x16x64, .f32⟩
  | .hbm, ⟨53, _⟩ => ⟨S8x2x1x16x64, .f32⟩
  | .hbm, ⟨54, _⟩ => ⟨S8x2x512x16x64, .f32⟩
  | .hbm, ⟨55, _⟩ => ⟨S8x2x512x32x64, .f32⟩
  | .hbm, ⟨56, _⟩ => ⟨S1x1x1x32x64, .f32⟩
  | .hbm, ⟨57, _⟩ => ⟨S8x2x512x32x64, .f32⟩
  | .hbm, ⟨58, _⟩ => ⟨S8x2x512x32x64, .f32⟩
  | .hbm, ⟨59, _⟩ => ⟨S8x2x512x2048, .f32⟩
  | .hbm, ⟨60, _⟩ => ⟨S8x2x512x256, .f32⟩
  | .hbm, ⟨61, _⟩ => ⟨S1x1x1x256, .f32⟩
  | .hbm, ⟨62, _⟩ => ⟨S8x2x512x256, .f32⟩
  | .hbm, ⟨63, _⟩ => ⟨S8x2x512x256, .f32⟩
  | .hbm, ⟨64, _⟩ => ⟨S8x2x512x256, .f32⟩
  | .hbm, ⟨65, _⟩ => ⟨S8x2x512x256, .f32⟩
  | .hbm, ⟨66, _⟩ => ⟨S_, .f32⟩
  | .hbm, ⟨67, _⟩ => ⟨S8x2x512x256, .f32⟩
  | .hbm, ⟨68, _⟩ => ⟨S8x2x512x256, .f32⟩
  | .hbm, ⟨69, _⟩ => ⟨S8x2x512x256, .f32⟩
  | .hbm, ⟨70, _⟩ => ⟨S_, .f32⟩
  | .hbm, ⟨71, _⟩ => ⟨S8x2x512x256, .f32⟩
  | .hbm, ⟨72, _⟩ => ⟨S8x2x512x256, .f32⟩
  | .hbm, ⟨73, _⟩ => ⟨S8x2x512x256, .f32⟩
  | .hbm, ⟨74, _⟩ => ⟨S_, .f32⟩
  | .hbm, ⟨75, _⟩ => ⟨S8x2x512x256, .f32⟩
  | .hbm, ⟨76, _⟩ => ⟨S8x2x512x256, .f32⟩
  | .hbm, ⟨77, _⟩ => ⟨S_, .f32⟩
  | .hbm, ⟨78, _⟩ => ⟨S8x2x512x256, .f32⟩
  | .hbm, ⟨79, _⟩ => ⟨S8x2x512x256, .f32⟩
  | .hbm, ⟨80, _⟩ => ⟨S8x2x512x256, .f32⟩
  | .hbm, ⟨81, _⟩ => ⟨S8x2x512x64, .f32⟩
  | .hbm, ⟨82, _⟩ => ⟨S8x2x512x128, .f32⟩
  | .hbm, ⟨83, _⟩ => ⟨S8x2x512x128, .bf16⟩
  | .hbm, ⟨84, _⟩ => ⟨S8x2x128x512, .f32⟩
  | .hbm, ⟨85, _⟩ => ⟨S8x2x128x512, .bf16⟩
  | _, _ => ⟨S8x2x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_3 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_4 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Proof.Block.lean ====
/-
  What one grid point of the gated linear attention computes, written as functions of its input blocks: the
  decay logarithms, their running sums per chunk of 64 rows, the scaled queries and keys, the causal products
  inside a chunk, and the state carried from chunk to chunk.
-/
module

public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- Rows `64 n … 64 n + 63` of a tile of 4096 rows of 128 lanes. -/
theorem slices128 (n : Fin 64) : S4096x128.Slices ![64 * n.val, 0] S64x128 :=
  ⟨rfl, fun a => by have := n.isLt; fin_cases a <;> simp [Shape.size] <;> omega⟩

/-- Rows `64 n … 64 n + 63` of a tile of 4096 rows of 64 lanes. -/
theorem slices64 (n : Fin 64) : S4096x64.Slices ![64 * n.val, 0] S64x64 :=
  ⟨rfl, fun a => by have := n.isLt; fin_cases a <;> simp [Shape.size] <;> omega⟩

/-- The first 64 lanes of row `64 n + 63`. -/
theorem slicesRow (n : Fin 64) : S4096x128.Slices ![64 * n.val + 63, 0] S1x64 :=
  ⟨rfl, fun a => by have := n.isLt; fin_cases a <;> simp [Shape.size] <;> omega⟩

/-- The zero of a product's accumulator. -/
abbrev zeros (s : Shape) : FVec F s .f32 := constant s .f32 0x00000000#32

/-- The decay logarithms of the tile, positive in lanes below 64 and negated in the others. -/
def la (x3 : Vec F S1x4096x128 .f32) (x4 : Vec F S1x128x128 .bf16) (x5 : Vec F S1x1x128 .f32) : FVec F S4096x128 .f32 :=
  k0_pay3 x3 x4 x5

/-- The leading part of the decay logarithms. -/
def hi (a : FVec F S4096x128 .f32) : FVec F S4096x128 .bf16 := truncf .bf16 a bitsLt_bf16_f32
/-- What the leading part leaves. -/
def rem (a : FVec F S4096x128 .f32) : FVec F S4096x128 .f32 := subf a (extf .f32 (hi a) bitsLt_bf16_f32)
/-- The middle part. -/
def mid (a : FVec F S4096x128 .f32) : FVec F S4096x128 .bf16 := truncf .bf16 (rem a) bitsLt_bf16_f32
/-- The last part. -/
def lo (a : FVec F S4096x128 .f32) : FVec F S4096x128 .bf16 :=
  truncf .bf16 (subf (rem a) (extf .f32 (mid a) bitsLt_bf16_f32)) bitsLt_bf16_f32

/-- The running sums of chunk `n`: the triangle times each of the three parts. -/
def cum (tri : Vec F S64x64 .bf16) (a : FVec F S4096x128 .f32) (n : Fin 64) : FVec F S64x128 .f32 :=
  addf (addf
    (matmul dot_S64x64_S64x128_S64x128_1_0_0_1_n_n none (shapeCast S64x64 tri shapeCasts_S64x64_S64x64)
      (extractStridedSlice S64x128 ![64 * n.val, 0] (hi a) (slices128 n)) (zeros S64x128))
    (matmul dot_S64x64_S64x128_S64x128_1_0_0_1_n_n none (shapeCast S64x64 tri shapeCasts_S64x64_S64x64)
      (extractStridedSlice S64x128 ![64 * n.val, 0] (mid a) (slices128 n)) (zeros S64x128)))
    (matmul dot_S64x64_S64x128_S64x128_1_0_0_1_n_n none (shapeCast S64x64 tri shapeCasts_S64x64_S64x64)
      (extractStridedSlice S64x128 ![64 * n.val, 0] (lo a) (slices128 n)) (zeros S64x128))

/-- 64 chunks of 64 rows make the 4096 rows of a tile. -/
theorem concats : Shape.Concatenates (List.map (·.1) (List.ofFn fun _ : Fin 64 => (⟨S64x128, fun _ => ()⟩ : (s : Shape) × (s.Idx → Unit)))) S4096x128 0 := by
  simp only [List.map_ofFn]
  exact concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S4096x128_d0

/-- The tile whose chunk `n` is `f n`. -/
def rows (f : Fin 64 → FVec F S64x128 .f32) : FVec F S4096x128 .f32 :=
  concatenate S4096x128 0 (List.ofFn fun n => ⟨S64x128, f n⟩) concats

/-- The exponentials of the running sums. -/
def expo (tri : Vec F S64x64 .bf16) (a : FVec F S4096x128 .f32) : FVec F S4096x128 .f32 := exp (rows (cum tri a))

/-- Queries and keys, each times its lane's exponential. -/
def qke (x0 : Vec F S1x4096x128 .f32) (e : FVec F S4096x128 .f32) : FVec F S4096x128 .f32 :=
  mulf (shapeCast S4096x128 x0 shapeCasts_S1x4096x128_S4096x128) e

/-- The scaled queries. -/
def qe (w : FVec F S4096x128 .f32) : FVec F S4096x64 .bf16 :=
  truncf .bf16 (mulf (extractStridedSlice S4096x64 ![0, 0] w slices_S4096x128_o0_0_S4096x64)
    (broadcast S4096x64 (Scalar.ofBits .f32 0x3E000000#32))) bitsLt_bf16_f32

/-- The keys. -/
def ke (w : FVec F S4096x128 .f32) : FVec F S4096x64 .bf16 :=
  truncf .bf16 (extractStridedSlice S4096x64 ![0, 64] w slices_S4096x128_o0_64_S4096x64) bitsLt_bf16_f32

/-- The values. -/
def vv (x1 : Vec F S1x4096x128 .f32) : FVec F S4096x128 .bf16 :=
  truncf .bf16 (shapeCast S4096x128 x1 shapeCasts_S1x4096x128_S4096x128) bitsLt_bf16_f32

/-- The causal products of chunk `n`. -/
def attn (w : FVec F S4096x128 .f32) (n : Fin 64) : FVec F S64x64 .bf16 :=
  truncf .bf16 (select (k0_pay4)
    (matmul dot_S64x64_S64x64_S64x64_1_1_0_0_n_n none (extractStridedSlice S64x64 ![64 * n.val, 0] (qe w) (slices64 n))
      (extractStridedSlice S64x64 ![64 * n.val, 0] (ke w) (slices64 n)) (zeros S64x64))
    (broadcast S64x64 (Scalar.ofBits .f32 0x00000000#32))) bitsLt_bf16_f32

/-- Chunk `n`'s output from its own rows. -/
def intra (w : FVec F S4096x128 .f32) (v : FVec F S4096x128 .bf16) (n : Fin 64) : FVec F S64x128 .f32 :=
  matmul dot_S64x64_S64x128_S64x128_1_0_0_1_n_n none (attn w n) (extractStridedSlice S64x128 ![64 * n.val, 0] v (slices128 n)) (zeros S64x128)

/-- The products of chunk `n`'s values and keys. -/
def kv (w : FVec F S4096x128 .f32) (v : FVec F S4096x128 .bf16) (n : Fin 64) : FVec F S128x64 .f32 :=
  matmul dot_S64x128_S64x64_S128x64_0_0_1_1_n_n none (extractStridedSlice S64x128 ![64 * n.val, 0] v (slices128 n))
    (extractStridedSlice S64x64 ![64 * n.val, 0] (ke w) (slices64 n)) (zeros S128x64)

/-- One chunk's step of the carried state. -/
def stepState (e w : FVec F S4096x128 .f32) (v : FVec F S4096x128 .bf16) (n : Fin 64) (st : FVec F S128x64 .f32) : FVec F S128x64 .f32 :=
  mulf (addf st (kv w v n))
    (broadcastTo S128x64 (extractStridedSlice S1x64 ![64 * n.val + 63, 0] e (slicesRow n)) broadcasts_S1x64_S128x64)

/-- The state before chunk `n`. -/
def state (e w : FVec F S4096x128 .f32) (v : FVec F S4096x128 .bf16) (st : FVec F S128x64 .f32) (n : ℕ) : FVec F S128x64 .f32 :=
  Nat.rec st (fun k s => if h : k < 64 then stepState e w v ⟨k, h⟩ s else s) n

/-- Chunk `n`'s output: from its own rows and from the state before it. -/
def outChunk (e w : FVec F S4096x128 .f32) (v : FVec F S4096x128 .bf16) (st : FVec F S128x64 .f32) (n : Fin 64) : FVec F S64x128 .f32 :=
  addf (intra w v n)
    (matmul dot_S64x64_S128x64_S64x128_1_1_0_0_n_n none (extractStridedSlice S64x64 ![64 * n.val, 0] (qe w) (slices64 n))
      (truncf .bf16 (state e w v st n.val) bitsLt_bf16_f32) (zeros S64x128))

/-- The tile's output rows from its input blocks and the state it starts from. -/
def outTile (x0 x1 x2 x3 : Vec F S1x4096x128 .f32) (x4 : Vec F S1x128x128 .bf16) (x5 : Vec F S1x1x128 .f32)
    (x6 : Vec F S1x128 .f32) (x7 : Vec F S64x64 .bf16) (st : FVec F S128x64 .f32) : FVec F S1x4096x128 .bf16 :=
  let e := expo x7 (la x3 x4 x5)
  let w := qke x0 e
  let o := rows (outChunk e w (vv x1) st)
  k0_pay1 (k0_pay473 o (mulf o o) x6) x2

/-- The state the tile leaves. -/
def outState (x0 x1 x3 : Vec F S1x4096x128 .f32) (x4 : Vec F S1x128x128 .bf16) (x5 : Vec F S1x1x128 .f32)
    (x7 : Vec F S64x64 .bf16) (st : FVec F S128x64 .f32) : FVec F S128x64 .f32 :=
  let e := expo x7 (la x3 x4 x5)
  shapeCast S128x64 (state e (qke x0 e) (vv x1) st 64) shapeCasts_S128x64_S128x64

end Cert.KernelIdeal.Block
end
-- ==== Proof.BlockRun.lean ====
/-
  The pieces each grid point's run writes are the block functions of the point's input blocks: the tile's output
  and the state it leaves, from a zero state at a row's first tile and from the state left before at its second.
-/
module

public import proofs.«01_k».proof.Proof.Block

@[expose] public section

set_option maxRecDepth 65536

noncomputable section

namespace Cert.KernelIdeal.Block

open Cert.KernelIdeal Cert.KernelIdeal.Gen Idealize.ShloMosaic Idealize.ShloMosaic.TcCoe Idealize.SL.Sem

variable {F : FTy → Type} [FloatOps F]

/-- Offsets at the origin of two axes. -/
theorem hz2 : (![0, 0] : Fin 2 → Nat) = fun _ => 0 := funext fun a => by fin_cases a <;> rfl
/-- Offsets at the origin of three axes. -/
theorem hz3 : (![0, 0, 0] : Fin 3 → Nat) = fun _ => 0 := funext fun a => by fin_cases a <;> rfl

/-- A row's second tile leaves its output from the state before it. -/
theorem out_B (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x128x128 .bf16) (harg7 : arg7.IsWhole) (arg8 : Memref sig .tc .vmem S1x1x128 .f32) (harg8 : arg8.IsWhole) (arg9 : Memref sig .tc .vmem S1x128 .f32) (harg9 : arg9.IsWhole) (arg10 : Memref sig .tc .vmem S64x64 .bf16) (harg10 : arg10.IsWhole) (arg11 : Memref sig .tc .vmem S1x4096x128 .bf16) (harg11 : arg11.IsWhole) (arg12 : Memref sig .tc .vmem S128x64 .f32) (harg12 : arg12.IsWhole) (hc0 : ¬cond0_0 i)
    (x0 : Vec F S1x4096x128 .f32) (x1 : Vec F S1x4096x128 .f32) (x2 : Vec F S1x4096x128 .f32) (x3 : Vec F S1x4096x128 .f32) (x4 : Vec F S1x128x128 .bf16) (x5 : Vec F S1x1x128 .f32) (x6 : Vec F S1x128 .f32) (x7 : Vec F S64x64 .bf16) (xs0 : Vec F S128x64 .f32) :
    out0_B_8 c i arg3 harg3 arg4 harg4 arg5 harg5 arg6 harg6 arg7 harg7 arg8 harg8 arg9 harg9 arg10 harg10 arg11 harg11 arg12 harg12 hc0 x0 x1 x2 x3 x4 x5 x6 x7 xs0 = outTile x0 x1 x2 x3 x4 x5 x6 x7 xs0 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc0 x0 x1 x2 x3 x4 x5 x6 x7 xs0)]
  unfold kernelRun0_B
  dsimp only
  sl_unfold_words
  rw [View.canon_unit_zero (S := S1x4096x128) hz3]
  simp only [View.readAt_eq_ld, harg3.read_unread, harg4.read_unread, harg5.read_unread, harg6.read_unread, harg7.read_unread, harg8.read_unread, harg9.read_unread, harg10.read_unread, harg12.read_unread, View.ld_unit_zero (S := S1x4096x128) hz3, View.ld_unit_zero (S := S1x128x128) hz3, View.ld_unit_zero (S := S1x1x128) hz3, View.ld_unit_zero (S := S1x128) hz2, View.ld_unit_zero (S := S64x64) hz2, View.ld_unit_zero (S := S128x64) hz2]
  sl_kernel_rfl

/-- A row's second tile leaves the state stepped from the state before it. -/
theorem sout_B (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x128x128 .bf16) (harg7 : arg7.IsWhole) (arg8 : Memref sig .tc .vmem S1x1x128 .f32) (harg8 : arg8.IsWhole) (arg9 : Memref sig .tc .vmem S1x128 .f32) (harg9 : arg9.IsWhole) (arg10 : Memref sig .tc .vmem S64x64 .bf16) (harg10 : arg10.IsWhole) (arg11 : Memref sig .tc .vmem S1x4096x128 .bf16) (harg11 : arg11.IsWhole) (arg12 : Memref sig .tc .vmem S128x64 .f32) (harg12 : arg12.IsWhole) (hc0 : ¬cond0_0 i)
    (x0 : Vec F S1x4096x128 .f32) (x1 : Vec F S1x4096x128 .f32) (x2 : Vec F S1x4096x128 .f32) (x3 : Vec F S1x4096x128 .f32) (x4 : Vec F S1x128x128 .bf16) (x5 : Vec F S1x1x128 .f32) (x6 : Vec F S1x128 .f32) (x7 : Vec F S64x64 .bf16) (xs0 : Vec F S128x64 .f32) :
    sout0_B_0 c i arg3 harg3 arg4 harg4 arg5 harg5 arg6 harg6 arg7 harg7 arg8 harg8 arg9 harg9 arg10 harg10 arg11 harg11 arg12 harg12 hc0 x0 x1 x2 x3 x4 x5 x6 x7 xs0 = outState x0 x1 x3 x4 x5 x7 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 x0 x1 x2 x3 x4 x5 x6 x7 xs0)]
  unfold kernelRun0_B
  dsimp only
  sl_unfold_words
  rw [View.canon_unit_zero (S := S128x64) hz2]
  simp only [View.readAt_eq_ld, harg3.read_unread, harg4.read_unread, harg5.read_unread, harg6.read_unread, harg7.read_unread, harg8.read_unread, harg9.read_unread, harg10.read_unread, harg12.read_unread, View.ld_unit_zero (S := S1x4096x128) hz3, View.ld_unit_zero (S := S1x128x128) hz3, View.ld_unit_zero (S := S1x1x128) hz3, View.ld_unit_zero (S := S1x128) hz2, View.ld_unit_zero (S := S64x64) hz2, View.ld_unit_zero (S := S128x64) hz2]
  sl_kernel_rfl

/-- A row's first tile leaves its output from the zero state. -/
theorem out_A (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x128x128 .bf16) (harg7 : arg7.IsWhole) (arg8 : Memref sig .tc .vmem S1x1x128 .f32) (harg8 : arg8.IsWhole) (arg9 : Memref sig .tc .vmem S1x128 .f32) (harg9 : arg9.IsWhole) (arg10 : Memref sig .tc .vmem S64x64 .bf16) (harg10 : arg10.IsWhole) (arg11 : Memref sig .tc .vmem S1x4096x128 .bf16) (harg11 : arg11.IsWhole) (arg12 : Memref sig .tc .vmem S128x64 .f32) (harg12 : arg12.IsWhole) (hc0 : cond0_0 i)
    (x0 : Vec F S1x4096x128 .f32) (x1 : Vec F S1x4096x128 .f32) (x2 : Vec F S1x4096x128 .f32) (x3 : Vec F S1x4096x128 .f32) (x4 : Vec F S1x128x128 .bf16) (x5 : Vec F S1x1x128 .f32) (x6 : Vec F S1x128 .f32) (x7 : Vec F S64x64 .bf16) :
    out0_A_8 c i arg3 harg3 arg4 harg4 arg5 harg5 arg6 harg6 arg7 harg7 arg8 harg8 arg9 harg9 arg10 harg10 arg11 harg11 arg12 harg12 hc0 x0 x1 x2 x3 x4 x5 x6 x7 = outTile x0 x1 x2 x3 x4 x5 x6 x7 k0_pay2 := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero (S := S1x4096x128) hz3]
  have hcov : ∀ (v : View sig .tc .vmem S128x64 .f32) (w : S128x64.Idx → Elt F .f32), v.readCov [(⟨Rect.unit (s := S128x64) ![0, 0] S128x64.size inb_S128x64_S128x64_0_0, w⟩ : View.Piece (Elt F) S128x64 .f32)] (Rect.unit (s := S128x64) ![0, 0] S128x64.size inb_S128x64_S128x64_0_0).toLoadRect = w :=
    fun v w => View.readCov_unit_zero (S := S128x64) v hz2 _ w
  simp only [hcov, View.readAt_eq_ld, harg3.read_unread, harg4.read_unread, harg5.read_unread, harg6.read_unread, harg7.read_unread, harg8.read_unread, harg9.read_unread, harg10.read_unread, View.ld_unit_zero (S := S1x4096x128) hz3, View.ld_unit_zero (S := S1x128x128) hz3, View.ld_unit_zero (S := S1x1x128) hz3, View.ld_unit_zero (S := S1x128) hz2, View.ld_unit_zero (S := S64x64) hz2, View.ld_unit_zero (S := S128x64) hz2]
  sl_kernel_rfl

/-- A row's first tile leaves the state stepped from zero. -/
theorem sout_A (c : Dev nD) (i : grid0.Coords) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x128x128 .bf16) (harg7 : arg7.IsWhole) (arg8 : Memref sig .tc .vmem S1x1x128 .f32) (harg8 : arg8.IsWhole) (arg9 : Memref sig .tc .vmem S1x128 .f32) (harg9 : arg9.IsWhole) (arg10 : Memref sig .tc .vmem S64x64 .bf16) (harg10 : arg10.IsWhole) (arg11 : Memref sig .tc .vmem S1x4096x128 .bf16) (harg11 : arg11.IsWhole) (arg12 : Memref sig .tc .vmem S128x64 .f32) (harg12 : arg12.IsWhole) (hc0 : cond0_0 i)
    (x0 : Vec F S1x4096x128 .f32) (x1 : Vec F S1x4096x128 .f32) (x2 : Vec F S1x4096x128 .f32) (x3 : Vec F S1x4096x128 .f32) (x4 : Vec F S1x128x128 .bf16) (x5 : Vec F S1x1x128 .f32) (x6 : Vec F S1x128 .f32) (x7 : Vec F S64x64 .bf16) :
    sout0_A_0 c i arg3 harg3 arg4 harg4 arg5 harg5 arg6 harg6 arg7 harg7 arg8 harg8 arg9 harg9 arg10 harg10 arg11 harg11 arg12 harg12 hc0 x0 x1 x2 x3 x4 x5 x6 x7 = outState x0 x1 x3 x4 x5 x7 k0_pay2 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S128x64) hz2]
  rw [View.readCov_unit_zero (S := S128x64) _ hz2]
  simp only [View.readAt_eq_ld, harg3.read_unread, harg4.read_unread, harg5.read_unread, harg6.read_unread, harg7.read_unread, harg8.read_unread, harg9.read_unread, harg10.read_unread, View.ld_unit_zero (S := S1x4096x128) hz3, View.ld_unit_zero (S := S1x128x128) hz3, View.ld_unit_zero (S := S1x1x128) hz3, View.ld_unit_zero (S := S1x128) hz2, View.ld_unit_zero (S := S64x64) hz2, View.ld_unit_zero (S := S128x64) hz2]
  sl_kernel_rfl

end Cert.KernelIdeal.Block
end
-- ==== Proof.Arrays.lean ====
/-
  The blocks one grid point reads, at an index: entries of the launch arguments, of the gate's low-rank weights laid
  out by head, of its bias, of the norm's weights and of the triangle of ones.
-/
module

public import proofs.«01_k».proof.Proof.Gen.KernelIdeal.Value
public import Idealize.ShloMosaic.Lib.Pointwise
public import Idealize.ShloMosaic.Lib.StableHlo.ReadAt
public import Idealize.ShloMosaic.Lib.Routing.OpsSet
public import Idealize.ShloMosaic.Lib.Routing.OpsPair
public import Idealize.ShloMosaic.Lib.Pipeline.ValueKit
public import Idealize.ShloMosaic.Lib.Pipeline.ValueKit.Point
public import Idealize.ShloMosaic.Lib.Tactic

@[expose] public section

set_option maxRecDepth 16384

noncomputable section

namespace Cert.KernelIdeal.Arrays

open Cert.KernelIdeal Cert.KernelIdeal.Gen Idealize.ShloMosaic Idealize.ShloMosaic.TcCoe Idealize.SL.Sem

variable (m : (ℓ : Loc nD τ sig) → Buf (Elt Ideal) ℓ) (c : Dev nD)

theorem idx0 : ∀ t : Fin cfg0.N, win0_0.index t 0 = t.val / 8 ∧ win0_0.index t 1 = t.val % 2 ∧ win0_0.index t 2 = t.val / 2 % 4 :=
  (by decide +kernel : ∀ t : Fin grid0.N, win0_0.index t 0 = t.val / 8 ∧ win0_0.index t 1 = t.val % 2 ∧ win0_0.index t 2 = t.val / 2 % 4)
theorem idx1 : ∀ t : Fin cfg0.N, win0_1.index t 0 = t.val / 8 ∧ win0_1.index t 1 = t.val % 2 ∧ win0_1.index t 2 = t.val / 2 % 4 :=
  (by decide +kernel : ∀ t : Fin grid0.N, win0_1.index t 0 = t.val / 8 ∧ win0_1.index t 1 = t.val % 2 ∧ win0_1.index t 2 = t.val / 2 % 4)
theorem idx2 : ∀ t : Fin cfg0.N, win0_2.index t 0 = t.val / 8 ∧ win0_2.index t 1 = t.val % 2 ∧ win0_2.index t 2 = t.val / 2 % 4 :=
  (by decide +kernel : ∀ t : Fin grid0.N, win0_2.index t 0 = t.val / 8 ∧ win0_2.index t 1 = t.val % 2 ∧ win0_2.index t 2 = t.val / 2 % 4)
theorem idx3 : ∀ t : Fin cfg0.N, win0_3.index t 0 = t.val / 8 ∧ win0_3.index t 1 = t.val % 2 ∧ win0_3.index t 2 = 0 :=
  (by decide +kernel : ∀ t : Fin grid0.N, win0_3.index t 0 = t.val / 8 ∧ win0_3.index t 1 = t.val % 2 ∧ win0_3.index t 2 = 0)
theorem idx4 : ∀ t : Fin cfg0.N, win0_4.index t 0 = t.val / 2 % 4 ∧ win0_4.index t 1 = 0 ∧ win0_4.index t 2 = 0 :=
  (by decide +kernel : ∀ t : Fin grid0.N, win0_4.index t 0 = t.val / 2 % 4 ∧ win0_4.index t 1 = 0 ∧ win0_4.index t 2 = 0)
theorem idx5 : ∀ t : Fin cfg0.N, win0_5.index t 0 = t.val / 2 % 4 ∧ win0_5.index t 1 = 0 ∧ win0_5.index t 2 = 0 :=
  (by decide +kernel : ∀ t : Fin grid0.N, win0_5.index t 0 = t.val / 2 % 4 ∧ win0_5.index t 1 = 0 ∧ win0_5.index t 2 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val / 8 ∧ win0_8.index t 1 = t.val % 2 ∧ win0_8.index t 2 = t.val / 2 % 4 :=
  (by decide +kernel : ∀ t : Fin grid0.N, win0_8.index t 0 = t.val / 8 ∧ win0_8.index t 1 = t.val % 2 ∧ win0_8.index t 2 = t.val / 2 % 4)

/-- The batch row of a grid point. -/
def bOf (t : Fin cfg0.N) : Fin 8 := ⟨t.val / 8, by have := t.isLt; have : cfg0.N = 64 := N_0; omega⟩
/-- The head of a grid point. -/
def hOf (t : Fin cfg0.N) : Fin 4 := ⟨t.val / 2 % 4, by omega⟩
/-- Row `R` of the grid point's tile among the sequence's rows. -/
def rOf (t : Fin cfg0.N) (R : Fin 4096) : Fin 8192 := ⟨t.val % 2 * 4096 + R.val, by omega⟩
/-- Lane `l` of head `h`. -/
def lOf (h : Fin 4) (l : Fin 128) : Fin 512 := ⟨h.val * 128 + l.val, by omega⟩

theorem blk0 (t : Fin cfg0.N) (R : Fin 4096) (l : Fin 128) :
    (iblk m c 0 t : Vec Ideal S1x4096x128 .f32) (ix3 0 R l) = m ((c : Thread nD τ).loc main_arg0) (ix3 (bOf t) (rOf t R) (lOf (hOf t) l)) := by
  blk_point [iblk, V, idx0 t, bOf, hOf, rOf, lOf]
theorem blk1 (t : Fin cfg0.N) (R : Fin 4096) (l : Fin 128) :
    (iblk m c 1 t : Vec Ideal S1x4096x128 .f32) (ix3 0 R l) = m ((c : Thread nD τ).loc main_arg1) (ix3 (bOf t) (rOf t R) (lOf (hOf t) l)) := by
  blk_point [iblk, V, idx1 t, bOf, hOf, rOf, lOf]
theorem blk2 (t : Fin cfg0.N) (R : Fin 4096) (l : Fin 128) :
    (iblk m c 2 t : Vec Ideal S1x4096x128 .f32) (ix3 0 R l) = m ((c : Thread nD τ).loc main_arg2) (ix3 (bOf t) (rOf t R) (lOf (hOf t) l)) := by
  blk_point [iblk, V, idx2 t, bOf, hOf, rOf, lOf]
theorem blk3 (t : Fin cfg0.N) (R : Fin 4096) (l : Fin 128) :
    (iblk m c 3 t : Vec Ideal S1x4096x128 .f32) (ix3 0 R l) = m ((c : Thread nD τ).loc main_arg3) (ix3 (bOf t) (rOf t R) l) := by
  blk_point [iblk, V, idx3 t, bOf, hOf, rOf, lOf]
theorem blk4 (t : Fin cfg0.N) (R : Fin 128) (l : Fin 128) :
    (iblk m c 4 t : Vec Ideal S1x128x128 .bf16) (ix3 0 R l) = V m c main_v30 (ix3 (hOf t) R l) := by
  blk_point [iblk, idx4 t, bOf, hOf, rOf, lOf]
theorem blk5 (t : Fin cfg0.N) (l : Fin 128) :
    (iblk m c 5 t : Vec Ideal S1x1x128 .f32) (ix3 0 0 l) = V m c main_v28 (ix3 (hOf t) 0 l) := by
  blk_point [iblk, idx5 t, bOf, hOf, rOf, lOf]
theorem blk6 (t : Fin cfg0.N) (l : Fin 128) :
    (iblk m c 6 t : Vec Ideal S1x128 .f32) (ix2 0 l) = V m c main_v32 (ix2 0 l) := by
  blk_point [iblk, idx6 t, bOf, hOf, rOf, lOf]
theorem blk7 (t : Fin cfg0.N) (R l : Fin 64) :
    (iblk m c 7 t : Vec Ideal S64x64 .bf16) (ix2 R l) = V m c main_v29 (ix2 R l) := by
  blk_point [iblk, idx7 t, bOf, hOf, rOf, lOf]

theorem v32_at (l : Fin 128) : V m c main_v32 (ix2 0 l) = m ((c : Thread nD τ).loc main_arg6) (ix2 0 l) := by
  unfold V
  after_reads_at

/-- The triangle of ones. -/
theorem v29_at (R l : Fin 64) : V m c main_v29 (ix2 R l) = if l ≤ R then (1 : EReal) else 0 := by
  have h : ∀ R l : Fin 64, lit0 (S64x64.rowMajor (ix2 R l)) = if l ≤ R then 0x3F800000#32 else 0x00000000#32 := by decide +kernel
  unfold V
  after_reads_at
  rw [h R l]
  split
  · exact Ideal.ofBits_one_f32
  · exact Ideal.ofBits_zero_f32

/-- The gate's bias by head, in both halves of the lanes. -/
theorem v28_at (h : Fin 4) (l : Fin 128) : V m c main_v28 (ix3 h 0 l) =
    m ((c : Thread nD τ).loc main_arg5) (ix2 0 ⟨h.val * 64 + l.val % 64, by omega⟩) := by
  unfold V
  after_reads_at
  have hl := l.isLt
  split
  · next h1 => exact congrArg (fun q : Fin 256 => m (c, Proc.tc.devRef main_arg5) (ix2 (0 : Fin 1) q)) (Fin.ext (by show _ + _ = _ + _; omega))
  · next h1 => exact congrArg (fun q : Fin 256 => m (c, Proc.tc.devRef main_arg5) (ix2 (0 : Fin 1) q)) (Fin.ext (by show _ + _ = _ + _; omega))

/-- Where the scatter's window lands. -/
theorem lands (idx : IVec S2 32) (k : Fin 4) (h0 : (idx (ix1 0)).toInt = (k.val : Int)) (h1 : (idx (ix1 1)).toInt = 24) (r : Fin 16) (q : Fin 128) (h : Fin 4) (i l : Fin 128) :
    scatter_S4x128x128_S2_S16x128_01_0_01_0.resultIdx? (ix2 r q) idx = some (ix3 h i l) ↔ h = k ∧ i.val = 24 + r.val ∧ l = q := by
  have e0 : scatter_S4x128x128_S2_S16x128_01_0_01_0.start (ix2 r q) idx 0 = (k.val : Int) := h0 ▸ congrArg (fun t => (idx t).toInt) (by idx_ext)
  have e1 : scatter_S4x128x128_S2_S16x128_01_0_01_0.start (ix2 r q) idx 1 = 24 := h1 ▸ congrArg (fun t => (idx t).toInt) (by idx_ext)
  have e2 : scatter_S4x128x128_S2_S16x128_01_0_01_0.start (ix2 r q) idx 2 = 0 := rfl
  have w0 : scatter_S4x128x128_S2_S16x128_01_0_01_0.window (ix2 r q) 0 = 0 := rfl
  have w1 : scatter_S4x128x128_S2_S16x128_01_0_01_0.window (ix2 r q) 1 = r.val := rfl
  have w2 : scatter_S4x128x128_S2_S16x128_01_0_01_0.window (ix2 r q) 2 = q.val := rfl
  rw [Routing.resultIdx?_eq_some]
  constructor
  · intro H
    have a0 := H 0
    have a1 := H 1
    have a2 := H 2
    rw [e0, w0] at a0
    rw [e1, w1] at a1
    rw [e2, w2] at a2
    change _ = ((h.val : ℕ) : Int) at a0
    change _ = ((i.val : ℕ) : Int) at a1
    change _ = ((l.val : ℕ) : Int) at a2
    refine ⟨Fin.ext ?_, ?_, Fin.ext ?_⟩ <;> omega
  · rintro ⟨rfl, hi, rfl⟩ a
    fin_cases a
    · show scatter_S4x128x128_S2_S16x128_01_0_01_0.start (ix2 r l) idx 0 + (scatter_S4x128x128_S2_S16x128_01_0_01_0.window (ix2 r l) 0 : Int) = (h.val : Int)
      rw [e0, w0]; omega
    · show scatter_S4x128x128_S2_S16x128_01_0_01_0.start (ix2 r l) idx 1 + (scatter_S4x128x128_S2_S16x128_01_0_01_0.window (ix2 r l) 1 : Int) = (i.val : Int)
      rw [e1, w1]; omega
    · show scatter_S4x128x128_S2_S16x128_01_0_01_0.start (ix2 r l) idx 2 + (scatter_S4x128x128_S2_S16x128_01_0_01_0.window (ix2 r l) 2 : Int) = (l.val : Int)
      rw [e2, w2]; omega

/-- The scatter of one head's weights, read at an index. -/
theorem scat (x : S4x128x128.Idx → EReal) (idx : IVec S2 32) (k : Fin 4) (h0 : (idx (ix1 0)).toInt = (k.val : Int)) (h1 : (idx (ix1 1)).toInt = 24)
    (u : S16x128.Idx → EReal) (h : Fin 4) (i l : Fin 128) :
    Host.scatter scatter_S4x128x128_S2_S16x128_01_0_01_0 (fun _ b => b) x idx u (ix3 h i l) =
      if hk : h = k ∧ 24 ≤ i.val ∧ i.val < 40 then u (ix2 ⟨i.val - 24, by omega⟩ l) else x (ix3 h i l) := by
  have hl : ∀ t : S16x128.Idx, scatter_S4x128x128_S2_S16x128_01_0_01_0.resultIdx? t idx = some (ix3 h i l) ↔ h = k ∧ i.val = 24 + (t 0).val ∧ l = t 1 := by
    intro t
    idx_vars t
    exact lands idx k h0 h1 _ _ h i l
  by_cases hk : h = k ∧ 24 ≤ i.val ∧ i.val < 40
  · rw [dif_pos hk]
    refine Routing.scatter_set_hit _ x idx u _ _ (fun t ht => ?_) (ix2 ⟨i.val - 24, by omega⟩ l) ((lands idx k h0 h1 _ _ h i l).2 ⟨hk.1, by show i.val = 24 + (i.val - 24); omega, rfl⟩)
    have := (hl t).1 ht
    idx_vars t
    obtain ⟨_, h2, h3⟩ := this
    change i.val = 24 + _ at h2
    change l = _ at h3
    subst h3
    exact congrArg (fun q : Fin 16 => u (ix2 q l)) (Fin.ext (by show _ = i.val - 24; omega))
  · rw [dif_neg hk]
    refine Routing.scatter_set_miss _ x idx u _ fun t ht => hk ?_
    have := (hl t).1 ht
    have h16 : (t 0).val < 16 := (t 0).isLt
    exact ⟨this.1, by omega, by omega⟩

/-- The four scatters, read at an index. -/
theorem scats (x : S4x128x128.Idx → EReal) (i0 i1 i2 i3 : IVec S2 32)
    (h00 : (i0 (ix1 0)).toInt = 0) (h01 : (i0 (ix1 1)).toInt = 24) (h10 : (i1 (ix1 0)).toInt = 1) (h11 : (i1 (ix1 1)).toInt = 24)
    (h20 : (i2 (ix1 0)).toInt = 2) (h21 : (i2 (ix1 1)).toInt = 24) (h30 : (i3 (ix1 0)).toInt = 3) (h31 : (i3 (ix1 1)).toInt = 24)
    (u0 u1 u2 u3 : S16x128.Idx → EReal) (h : Fin 4) (i l : Fin 128) (y : Fin 16 → EReal)
    (e0 : h = 0 → ∀ r, u0 (ix2 r l) = y r) (e1 : h = 1 → ∀ r, u1 (ix2 r l) = y r) (e2 : h = 2 → ∀ r, u2 (ix2 r l) = y r) (e3 : h = 3 → ∀ r, u3 (ix2 r l) = y r) :
    Host.scatter scatter_S4x128x128_S2_S16x128_01_0_01_0 (fun _ b => b)
      (Host.scatter scatter_S4x128x128_S2_S16x128_01_0_01_0 (fun _ b => b)
      (Host.scatter scatter_S4x128x128_S2_S16x128_01_0_01_0 (fun _ b => b)
      (Host.scatter scatter_S4x128x128_S2_S16x128_01_0_01_0 (fun _ b => b) x i0 u0) i1 u1) i2 u2) i3 u3 (ix3 h i l) =
      if hi : 24 ≤ i.val ∧ i.val < 40 then y ⟨i.val - 24, by omega⟩ else x (ix3 h i l) := by
  rw [scat _ _ 3 h30 h31, scat _ _ 2 h20 h21, scat _ _ 1 h10 h11, scat _ _ 0 h00 h01]
  by_cases hi : 24 ≤ i.val ∧ i.val < 40
  · rw [dif_pos hi]
    by_cases g3 : h = 3
    · rw [dif_pos ⟨g3, hi⟩]; exact e3 g3 _
    · rw [dif_neg fun q => g3 q.1]
      by_cases g2 : h = 2
      · rw [dif_pos ⟨g2, hi⟩]; exact e2 g2 _
      · rw [dif_neg fun q => g2 q.1]
        by_cases g1 : h = 1
        · rw [dif_pos ⟨g1, hi⟩]; exact e1 g1 _
        · rw [dif_neg fun q => g1 q.1]
          have g0 : h = 0 := by have := h.isLt; simp only [Fin.ext_iff] at g1 g2 g3 ⊢; change ¬ h.val = 1 at g1; change ¬ h.val = 2 at g2; change ¬ h.val = 3 at g3; change h.val = 0; omega
          rw [dif_pos ⟨g0, hi⟩]; exact e0 g0 _
  · rw [dif_neg hi, dif_neg fun q => hi q.2, dif_neg fun q => hi q.2, dif_neg fun q => hi q.2, dif_neg fun q => hi q.2]

theorem v7_eq : V m c main_v7 = Host.scatter scatter_S4x128x128_S2_S16x128_01_0_01_0 (fun _ b => b) (V m c main_v1) (V m c main_v6) (V m c main_v3) := by
  unfold V
  after_reads_simp
  sl_kernel_rfl
theorem v6_0 : V m c main_v6 (ix1 0) = 0#32 := by
  unfold V
  after_reads_at
theorem v6_1 : V m c main_v6 (ix1 1) = 24#32 := by
  unfold V
  after_reads_at
theorem v3_at (r : Fin 16) (l : Fin 128) : V m c main_v3 (ix2 r l) = m ((c : Thread nD τ).loc main_arg4) (ix3 0 r ⟨0 * 64 + l.val % 64, by omega⟩) := by
  unfold V
  after_reads_at
  have hl := l.isLt
  split
  · next h1 => exact congrArg (fun q : Fin 256 => m (c, Proc.tc.devRef main_arg4) (ix3 (0 : Fin 1) r q)) (Fin.ext (by simp only; omega))
  · next h1 => exact congrArg (fun q : Fin 256 => m (c, Proc.tc.devRef main_arg4) (ix3 (0 : Fin 1) r q)) (Fin.ext (by simp only; omega))
theorem v13_eq : V m c main_v13 = Host.scatter scatter_S4x128x128_S2_S16x128_01_0_01_0 (fun _ b => b) (V m c main_v7) (V m c main_v12) (V m c main_v9) := by
  unfold V
  after_reads_simp
  sl_kernel_rfl
theorem v12_0 : V m c main_v12 (ix1 0) = 1#32 := by
  unfold V
  after_reads_at
theorem v12_1 : V m c main_v12 (ix1 1) = 24#32 := by
  unfold V
  after_reads_at
theorem v9_at (r : Fin 16) (l : Fin 128) : V m c main_v9 (ix2 r l) = m ((c : Thread nD τ).loc main_arg4) (ix3 0 r ⟨1 * 64 + l.val % 64, by omega⟩) := by
  unfold V
  after_reads_at
  have hl := l.isLt
  split
  · next h1 => exact congrArg (fun q : Fin 256 => m (c, Proc.tc.devRef main_arg4) (ix3 (0 : Fin 1) r q)) (Fin.ext (by simp only; omega))
  · next h1 => exact congrArg (fun q : Fin 256 => m (c, Proc.tc.devRef main_arg4) (ix3 (0 : Fin 1) r q)) (Fin.ext (by simp only; omega))
theorem v19_eq : V m c main_v19 = Host.scatter scatter_S4x128x128_S2_S16x128_01_0_01_0 (fun _ b => b) (V m c main_v13) (V m c main_v18) (V m c main_v15) := by
  unfold V
  after_reads_simp
  sl_kernel_rfl
theorem v18_0 : V m c main_v18 (ix1 0) = 2#32 := by
  unfold V
  after_reads_at
theorem v18_1 : V m c main_v18 (ix1 1) = 24#32 := by
  unfold V
  after_reads_at
theorem v15_at (r : Fin 16) (l : Fin 128) : V m c main_v15 (ix2 r l) = m ((c : Thread nD τ).loc main_arg4) (ix3 0 r ⟨2 * 64 + l.val % 64, by omega⟩) := by
  unfold V
  after_reads_at
  have hl := l.isLt
  split
  · next h1 => exact congrArg (fun q : Fin 256 => m (c, Proc.tc.devRef main_arg4) (ix3 (0 : Fin 1) r q)) (Fin.ext (by simp only; omega))
  · next h1 => exact congrArg (fun q : Fin 256 => m (c, Proc.tc.devRef main_arg4) (ix3 (0 : Fin 1) r q)) (Fin.ext (by simp only; omega))
theorem v25_eq : V m c main_v25 = Host.scatter scatter_S4x128x128_S2_S16x128_01_0_01_0 (fun _ b => b) (V m c main_v19) (V m c main_v24) (V m c main_v21) := by
  unfold V
  after_reads_simp
  sl_kernel_rfl
theorem v24_0 : V m c main_v24 (ix1 0) = 3#32 := by
  unfold V
  after_reads_at
theorem v24_1 : V m c main_v24 (ix1 1) = 24#32 := by
  unfold V
  after_reads_at
theorem v21_at (r : Fin 16) (l : Fin 128) : V m c main_v21 (ix2 r l) = m ((c : Thread nD τ).loc main_arg4) (ix3 0 r ⟨3 * 64 + l.val % 64, by omega⟩) := by
  unfold V
  after_reads_at
  have hl := l.isLt
  split
  · next h1 => exact congrArg (fun q : Fin 256 => m (c, Proc.tc.devRef main_arg4) (ix3 (0 : Fin 1) r q)) (Fin.ext (by simp only; omega))
  · next h1 => exact congrArg (fun q : Fin 256 => m (c, Proc.tc.devRef main_arg4) (ix3 (0 : Fin 1) r q)) (Fin.ext (by simp only; omega))
theorem v1_at (h : Fin 4) (i l : Fin 128) : V m c main_v1 (ix3 h i l) = (0 : EReal) := by
  unfold V
  after_reads_at
theorem v30_eq : V m c main_v30 = (truncf .bf16 (V m c main_v25 : FVec Ideal S4x128x128 .f32) bitsLt_bf16_f32 : FVec Ideal S4x128x128 .bf16) := by
  unfold V
  after_reads_simp

/-- The gate's low-rank weights by head, in rows 24 to 39 and in both halves of the lanes; zero in the other rows. -/
theorem v30_at (h : Fin 4) (i l : Fin 128) : V m c main_v30 (ix3 h i l) = if hi : 24 ≤ i.val ∧ i.val < 40 then
      m ((c : Thread nD τ).loc main_arg4) (ix3 0 ⟨i.val - 24, by omega⟩ ⟨h.val * 64 + l.val % 64, by omega⟩) else (0 : EReal) := by
  have e : V m c main_v30 (ix3 h i l) = V m c main_v25 (ix3 h i l) := by rw [v30_eq]; rfl
  rw [e, v25_eq, v19_eq, v13_eq, v7_eq]
  refine (scats (V m c main_v1) (V m c main_v6) (V m c main_v12) (V m c main_v18) (V m c main_v24) (by rw [v6_0]; rfl) (by rw [v6_1]; rfl)
    (by rw [v12_0]; rfl) (by rw [v12_1]; rfl) (by rw [v18_0]; rfl) (by rw [v18_1]; rfl) (by rw [v24_0]; rfl) (by rw [v24_1]; rfl)
    (V m c main_v3) (V m c main_v9) (V m c main_v15) (V m c main_v21) h i l
    (fun r => m ((c : Thread nD τ).loc main_arg4) (ix3 0 r ⟨h.val * 64 + l.val % 64, by omega⟩))
    (fun hh r => by rw [v3_at]; subst hh; rfl) (fun hh r => by rw [v9_at]; subst hh; rfl) (fun hh r => by rw [v15_at]; subst hh; rfl) (fun hh r => by rw [v21_at]; subst hh; rfl)).trans ?_
  rw [v1_at]
end Cert.KernelIdeal.Arrays
end
-- ==== Proof.Gla.lean ====
/-
  The gated linear attention of one batch row and one head, twice: as the kernel computes it (the carried state is
  decayed after the chunk's products are added, and is held transposed) and as the reference computes it (the
  chunk's products carry the remaining decay already). With positive real decays the two agree.
-/
module

public import Idealize.ShloMosaic.Lib.Pointwise

@[expose] public section

noncomputable section

namespace Cert.Gla

/-- What one chunk reads: queries, keys and values of its rows, the decays from the chunk's start to each row, their
    inverses, and the decays from each row to the chunk's end. -/
structure Head where
  q : ℕ → Fin 64 → Fin 64 → EReal
  k : ℕ → Fin 64 → Fin 64 → EReal
  v : ℕ → Fin 64 → Fin 128 → EReal
  e : ℕ → Fin 64 → Fin 64 → EReal
  ei : ℕ → Fin 64 → Fin 64 → EReal
  el : ℕ → Fin 64 → Fin 64 → EReal
  c : EReal

variable (H : Head)

/-- The decayed keys. -/
def ke (n : ℕ) (s d : Fin 64) : EReal := H.k n s d * H.ei n s d

/-- The kernel's scaled queries. -/
def qeK (n : ℕ) (r d : Fin 64) : EReal := H.q n r d * H.e n r d * H.c

/-- The kernel's causal products. -/
def attK (n : ℕ) (r s : Fin 64) : EReal := if s ≤ r then ∑ d, qeK H n r d * ke H n s d else 0

/-- The kernel's products of values and keys. -/
def kvK (n : ℕ) (j : Fin 128) (d : Fin 64) : EReal := ∑ s, H.v n s j * ke H n s d

/-- The kernel's state before chunk `n`. -/
def stK : ℕ → Fin 128 → Fin 64 → EReal
  | 0, _, _ => 0
  | n + 1, j, d => (stK n j d + kvK H n j d) * H.e n 63 d

/-- The kernel's output. -/
def oK (n : ℕ) (r : Fin 64) (j : Fin 128) : EReal :=
  (∑ s, attK H n r s * H.v n s j) + ∑ d, qeK H n r d * stK H n j d

/-- The reference's scaled queries. -/
def qeR (n : ℕ) (r d : Fin 64) : EReal := H.q n r d * H.c * H.e n r d

/-- The reference's causal products. -/
def attR (n : ℕ) (r s : Fin 64) : EReal := if s ≤ r then ∑ d, qeR H n r d * ke H n s d else 0

/-- The reference's products of keys, decayed to the chunk's end, and values. -/
def kvR (n : ℕ) (d : Fin 64) (j : Fin 128) : EReal := ∑ s, H.k n s d * H.el n s d * H.v n s j

/-- The reference's state before chunk `n`. -/
def stR : ℕ → Fin 64 → Fin 128 → EReal
  | 0, _, _ => 0
  | n + 1, d, j => H.e n 63 d * stR n d j + kvR H n d j

/-- The reference's output. -/
def oR (n : ℕ) (r : Fin 64) (j : Fin 128) : EReal :=
  (∑ s, attR H n r s * H.v n s j) + ∑ d, qeR H n r d * stR H n d j

/-- A nonnegative real factor goes into a sum. -/
theorem mul_sum_real {ι : Type} (s : Finset ι) (a : EReal) (h0 : 0 ≤ a) (ht : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- The decays are positive reals, and the decay from a row to the chunk's end is the quotient of the two. -/
structure Head.Decays : Prop where
  pos : ∀ n r d, 0 ≤ H.e n r d
  fin : ∀ n r d, H.e n r d ≠ ⊤
  last : ∀ n s d, H.el n s d = H.e n 63 d * H.ei n s d

/-- The reference's products are the kernel's, decayed to the chunk's end. -/
theorem kvR_eq (h : H.Decays) (n : ℕ) (d : Fin 64) (j : Fin 128) : kvR H n d j = H.e n 63 d * kvK H n j d := by
  unfold kvR kvK
  rw [mul_sum_real _ _ (h.pos n 63 d) (h.fin n 63 d)]
  refine Finset.sum_congr rfl fun s _ => ?_
  rw [h.last, ke]
  ac_rfl

/-- The two states agree before every chunk. -/
theorem stR_eq (h : H.Decays) : ∀ (n : ℕ) (d : Fin 64) (j : Fin 128), stR H n d j = stK H n j d
  | 0, _, _ => rfl
  | n + 1, d, j => by
    show H.e n 63 d * stR H n d j + kvR H n d j = (stK H n j d + kvK H n j d) * H.e n 63 d
    rw [stR_eq h n d j, kvR_eq H h, mul_comm _ (H.e n 63 d), EReal.left_distrib_of_nonneg_of_ne_top (h.pos n 63 d) (h.fin n 63 d)]

/-- The two scalings of the queries agree. -/
theorem qeR_eq (n : ℕ) (r d : Fin 64) : qeR H n r d = qeK H n r d := by
  unfold qeR qeK; ac_rfl

/-- The two outputs agree. -/
theorem oR_eq (h : H.Decays) (n : ℕ) (r : Fin 64) (j : Fin 128) : oR H n r j = oK H n r j := by
  unfold oR oK attR attK
  simp only [qeR_eq, stR_eq H h]

end Cert.Gla
end
-- ==== Proof.BlockIdeal.lean ====
/-
  The block functions of one grid point read at an index over the extended reals: the decay logarithms, their
  running sums, the decayed queries and keys, and the chunk's products as plain sums.
-/
module

public import proofs.«01_k».proof.Proof.Block
public import proofs.«01_k».proof.Proof.Gla
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem

/-- Row `r` of chunk `n`. -/
def row (n r : Fin 64) : Fin 4096 := ⟨64 * n.val + r.val, by omega⟩

/-- A tile made of chunks, read at row `r` of chunk `n`. -/
theorem rows_apply (f : Fin 64 → FVec Ideal S64x128 .f32) (n r : Fin 64) (l : Fin 128) :
    rows f (ix2 (row n r) l) = f n (ix2 r l) := by
  unfold rows
  refine concatenate_ofFn_apply (s₁ := S64x128) (t := S4096x128) 0 f _ rfl 64 rfl _ n ?_ _ ?_ ?_
  · show (64 * n.val + r.val) / 64 = n.val
    omega
  · show r.val = (64 * n.val + r.val) % 64
    omega
  · intro b hb
    fin_cases b
    · exact absurd rfl hb
    · rfl

/-- The lane of a key's dimension. -/
def hiLane (d : Fin 64) : Fin 128 := ⟨64 + d.val, by omega⟩
/-- The lane of a query's dimension. -/
def loLane (d : Fin 64) : Fin 128 := ⟨d.val, by omega⟩

/-- The gate's argument at a row and a lane. -/
def arg (x3 : Vec Ideal S1x4096x128 .f32) (x4 : Vec Ideal S1x128x128 .bf16) (x5 : Vec Ideal S1x1x128 .f32) (R : Fin 4096) (l : Fin 128) : EReal :=
  ∑ x, x3 (ix3 0 R x) * x4 (ix3 0 x l) + x5 (ix3 0 0 l)

/-- The logarithm of the logistic function as the kernel writes it. -/
def logSig (z : EReal) : EReal := min z 0 - Ideal.log (1 + Ideal.exp (0 - max z (-z)))

theorem la_lo (x3 : Vec Ideal S1x4096x128 .f32) (x4 : Vec Ideal S1x128x128 .bf16) (x5 : Vec Ideal S1x1x128 .f32) (R : Fin 4096) (d : Fin 64) :
    la x3 x4 x5 (ix2 R (loLane d)) = logSig (arg x3 x4 x5 R (loLane d)) * Ideal.ofBits FTy.f32 0x3D800000#32 := by
  have h : IntOp.cmpi CmpIPredicate.slt (BitVec.ofNat 32 (loLane d).val) 64#32 = 1#1 := by revert d; decide +kernel
  unfold la
  pointwise [k0_pay3]
  rw [h]
  rfl

theorem la_hi (x3 : Vec Ideal S1x4096x128 .f32) (x4 : Vec Ideal S1x128x128 .bf16) (x5 : Vec Ideal S1x1x128 .f32) (R : Fin 4096) (d : Fin 64) :
    la x3 x4 x5 (ix2 R (hiLane d)) = logSig (arg x3 x4 x5 R (hiLane d)) * Ideal.ofBits FTy.f32 0xBD800000#32 := by
  have h : IntOp.cmpi CmpIPredicate.slt (BitVec.ofNat 32 (hiLane d).val) 64#32 = 0#1 := by revert d; decide +kernel
  unfold la
  pointwise [k0_pay3]
  rw [h]
  rfl

/-- A sum of reals among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Where the decay logarithms are real the middle and last parts vanish, and the triangle sums the rows so far. -/
theorem cum_apply (tri : Vec Ideal S64x64 .bf16) (htri : ∀ r s, tri (ix2 r s) = if s ≤ r then 1 else 0)
    (a : FVec Ideal S4096x128 .f32) (L : Fin 4096 → Fin 128 → ℝ) (ha : ∀ R l, a (ix2 R l) = (L R l : EReal)) (n r : Fin 64) (l : Fin 128) :
    cum tri a n (ix2 r l) = ((∑ s, if s ≤ r then L (row n s) l else 0 : ℝ) : EReal) := by
  have h0 : ∀ x : ℝ, (x : EReal) - (x : EReal) = 0 := fun x => by
    rw [← EReal.coe_sub, sub_self, EReal.coe_zero]
  unfold cum
  pointwise [hi, mid, lo, rem]
  simp only [ha, h0, sub_zero, mul_zero, Finset.sum_const_zero, add_zero, htri]
  rw [coe_sum]
  refine Finset.sum_congr rfl fun s _ => ?_
  by_cases hs : s ≤ r
  · rw [if_pos hs, if_pos hs, one_mul]; rfl
  · rw [if_neg hs, if_neg hs, zero_mul, EReal.coe_zero]

/-- The exponentials of the running sums. -/
theorem expo_apply (tri : Vec Ideal S64x64 .bf16) (htri : ∀ r s, tri (ix2 r s) = if s ≤ r then 1 else 0)
    (a : FVec Ideal S4096x128 .f32) (L : Fin 4096 → Fin 128 → ℝ) (ha : ∀ R l, a (ix2 R l) = (L R l : EReal)) (n r : Fin 64) (l : Fin 128) :
    expo tri a (ix2 (row n r) l) = Ideal.exp ((∑ s, if s ≤ r then L (row n s) l else 0 : ℝ) : EReal) := by
  unfold expo
  pointwise []
  rw [rows_apply, cum_apply tri htri a L ha]

section Chunks

variable (H : Cert.Gla.Head) (N0 : ℕ) (x0 x1 : Vec Ideal S1x4096x128 .f32) (e : FVec Ideal S4096x128 .f32)

/-- The tile's blocks hold what the head reads at chunks `N0 … N0 + 63`. -/
structure Holds : Prop where
  hq : ∀ n r d, x0 (ix3 0 (row n r) (loLane d)) = H.q (N0 + n.val) r d
  hk : ∀ n r d, x0 (ix3 0 (row n r) (hiLane d)) = H.k (N0 + n.val) r d
  hv : ∀ n r j, x1 (ix3 0 (row n r) j) = H.v (N0 + n.val) r j
  he : ∀ n r d, e (ix2 (row n r) (loLane d)) = H.e (N0 + n.val) r d
  hei : ∀ n r d, e (ix2 (row n r) (hiLane d)) = H.ei (N0 + n.val) r d
  hc : Ideal.ofBits FTy.f32 0x3E000000#32 = H.c

variable {H N0 x0 x1 e}

theorem qe_apply (h : Holds H N0 x0 x1 e) (n r d : Fin 64) : qe (qke x0 e) (ix2 (row n r) d) = Cert.Gla.qeK H (N0 + n.val) r d := by
  unfold qe qke
  pointwise []
  exact congrArg₂ (· * ·) (congrArg₂ (· * ·) (h.hq n r d) (h.he n r d)) h.hc

theorem ke_apply (h : Holds H N0 x0 x1 e) (n r d : Fin 64) : ke (qke x0 e) (ix2 (row n r) d) = Cert.Gla.ke H (N0 + n.val) r d := by
  unfold ke qke
  pointwise []
  exact congrArg₂ (· * ·) (h.hk n r d) (h.hei n r d)

theorem vv_apply (h : Holds H N0 x0 x1 e) (n r : Fin 64) (j : Fin 128) : vv x1 (ix2 (row n r) j) = H.v (N0 + n.val) r j := by
  unfold vv
  pointwise []
  exact h.hv n r j

theorem mask_apply (r s : Fin 64) : IntOp.cmpi CmpIPredicate.sge (BitVec.ofNat 32 r.val) (BitVec.ofNat 32 s.val) = if s ≤ r then 1#1 else 0#1 := by
  revert r s; decide +kernel

theorem attn_apply (h : Holds H N0 x0 x1 e) (n r s : Fin 64) : attn (qke x0 e) n (ix2 r s) = Cert.Gla.attK H (N0 + n.val) r s := by
  unfold attn
  pointwise [k0_pay4]
  rw [mask_apply, Cert.Gla.attK]
  have hs : ∑ x, qe (qke x0 e) (ix2 (row n r) x) * ke (qke x0 e) (ix2 (row n s) x) = ∑ d, Cert.Gla.qeK H (N0 + n.val) r d * Cert.Gla.ke H (N0 + n.val) s d :=
    Finset.sum_congr rfl fun d _ => by rw [qe_apply h, ke_apply h]
  split
  · exact hs
  · rfl

theorem intra_apply (h : Holds H N0 x0 x1 e) (n r : Fin 64) (j : Fin 128) :
    intra (qke x0 e) (vv x1) n (ix2 r j) = ∑ s, Cert.Gla.attK H (N0 + n.val) r s * H.v (N0 + n.val) s j := by
  unfold intra
  pointwise []
  exact Finset.sum_congr rfl fun s _ => congrArg₂ (· * ·) (attn_apply h n r s) (vv_apply h n s j)

theorem kv_apply (h : Holds H N0 x0 x1 e) (n d : Fin 64) (j : Fin 128) :
    kv (qke x0 e) (vv x1) n (ix2 j d) = Cert.Gla.kvK H (N0 + n.val) j d := by
  unfold kv
  pointwise []
  exact Finset.sum_congr rfl fun s _ => congrArg₂ (· * ·) (vv_apply h n s j) (ke_apply h n s d)

theorem stepState_apply (h : Holds H N0 x0 x1 e) (n : Fin 64) (st : FVec Ideal S128x64 .f32)
    (hst : ∀ j d, st (ix2 j d) = Cert.Gla.stK H (N0 + n.val) j d) (j : Fin 128) (d : Fin 64) :
    stepState e (qke x0 e) (vv x1) n st (ix2 j d) = Cert.Gla.stK H (N0 + n.val + 1) j d := by
  unfold stepState
  pointwise []
  exact congrArg₂ (· * ·) (congrArg₂ (· + ·) (hst j d) (kv_apply h n d j)) (h.he n 63 d)

/-- The state before each chunk of the tile. -/
theorem state_apply (h : Holds H N0 x0 x1 e) (st : FVec Ideal S128x64 .f32)
    (hst : ∀ j d, st (ix2 j d) = Cert.Gla.stK H N0 j d) (n : ℕ) (hn : n ≤ 64) (j : Fin 128) (d : Fin 64) :
    state e (qke x0 e) (vv x1) st n (ix2 j d) = Cert.Gla.stK H (N0 + n) j d := by
  induction n generalizing j d with
  | zero => exact hst j d
  | succ k ih =>
    have hk : k < 64 := hn
    have hs : state e (qke x0 e) (vv x1) st (k + 1) = stepState e (qke x0 e) (vv x1) ⟨k, hk⟩ (state e (qke x0 e) (vv x1) st k) := by
      show (if h : k < 64 then _ else _) = _
      rw [dif_pos hk]
      rfl
    rw [hs]
    exact stepState_apply h ⟨k, hk⟩ _ (fun j d => ih (by omega) j d) j d

theorem outChunk_apply (h : Holds H N0 x0 x1 e) (st : FVec Ideal S128x64 .f32)
    (hst : ∀ j d, st (ix2 j d) = Cert.Gla.stK H N0 j d) (n r : Fin 64) (j : Fin 128) :
    outChunk e (qke x0 e) (vv x1) st n (ix2 r j) = Cert.Gla.oK H (N0 + n.val) r j := by
  unfold outChunk
  pointwise []
  refine congrArg₂ (· + ·) (intra_apply h n r j) (Finset.sum_congr rfl fun d _ => ?_)
  exact congrArg₂ (· * ·) (qe_apply h n r d) (state_apply h st hst n.val (by omega) j d)

end Chunks

/-- The normed and gated output from the attention's row, the norm's weight and the gate's entry. -/
def finish (o : Fin 128 → EReal) (w z : EReal) (j : Fin 128) : EReal :=
  o j * Ideal.rsqrt (Ideal.div (∑ x, o x * o x) (Ideal.ofBits FTy.f32 1124073472#32) + Ideal.ofBits FTy.f32 925353388#32) * w *
    (z * Ideal.div 1 (1 + Ideal.exp (0 - z)))

/-- The tile's output at a row and a lane. -/
theorem outTile_apply (H : Cert.Gla.Head) (N0 : ℕ) (x0 x1 x2 x3 : Vec Ideal S1x4096x128 .f32) (x4 : Vec Ideal S1x128x128 .bf16) (x5 : Vec Ideal S1x1x128 .f32)
    (x6 : Vec Ideal S1x128 .f32) (x7 : Vec Ideal S64x64 .bf16) (st : FVec Ideal S128x64 .f32)
    (h : Holds H N0 x0 x1 (expo x7 (la x3 x4 x5))) (hst : ∀ j d, st (ix2 j d) = Cert.Gla.stK H N0 j d) (n r : Fin 64) (j : Fin 128) :
    outTile x0 x1 x2 x3 x4 x5 x6 x7 st (ix3 0 (row n r) j) =
      finish (Cert.Gla.oK H (N0 + n.val) r) (x6 (ix2 0 j)) (x2 (ix3 0 (row n r) j)) j := by
  have ho : ∀ j, rows (outChunk (expo x7 (la x3 x4 x5)) (qke x0 (expo x7 (la x3 x4 x5))) (vv x1) st) (ix2 (row n r) j) = Cert.Gla.oK H (N0 + n.val) r j :=
    fun j => by rw [rows_apply, outChunk_apply h st hst]
  unfold outTile
  generalize rows (outChunk (expo x7 (la x3 x4 x5)) (qke x0 (expo x7 (la x3 x4 x5))) (vv x1) st) = o at ho ⊢
  show k0_pay1 (k0_pay473 o (mulf o o) x6) x2 (ix3 0 (row n r) j) = _
  pointwise [k0_pay1, k0_pay473]
  simp only [ho]
  rfl

/-- The state the tile leaves. -/
theorem outState_apply (H : Cert.Gla.Head) (N0 : ℕ) (x0 x1 x3 : Vec Ideal S1x4096x128 .f32) (x4 : Vec Ideal S1x128x128 .bf16) (x5 : Vec Ideal S1x1x128 .f32)
    (x7 : Vec Ideal S64x64 .bf16) (st : FVec Ideal S128x64 .f32)
    (h : Holds H N0 x0 x1 (expo x7 (la x3 x4 x5))) (hst : ∀ j d, st (ix2 j d) = Cert.Gla.stK H N0 j d) (j : Fin 128) (d : Fin 64) :
    outState x0 x1 x3 x4 x5 x7 st (ix2 j d) = Cert.Gla.stK H (N0 + 64) j d := by
  unfold outState
  pointwise []
  exact state_apply h st hst 64 le_rfl j d

end Cert.KernelIdeal.Block
end
-- ==== Proof.Gate.lean ====
/-
  The decay gate over the reals: with a real argument the kernel's and the reference's logarithm of the logistic
  function are one real number, and one head of the layer reads its queries, keys, values and decays from the arrays.
-/
module

public import proofs.«01_k».proof.Proof.BlockIdeal

@[expose] public section

set_option maxRecDepth 16384

noncomputable section

namespace Cert.Gla

open Idealize.ShloMosaic

theorem ofBits_sixteenth : Ideal.ofBits .f32 0x3D800000#32 = (((1 : ℝ) / 16 : ℝ) : EReal) := by
  simp [Ideal.ofBits, Ideal.ieee, -EReal.coe_mul]; norm_num

theorem ofBits_neg_sixteenth : Ideal.ofBits .f32 0xBD800000#32 = ((-((1 : ℝ) / 16) : ℝ) : EReal) := by
  simp [Ideal.ofBits, Ideal.ieee, -EReal.coe_mul, -EReal.coe_neg]; norm_num

theorem ofBits_sixteen : Ideal.ofBits .f32 0x41800000#32 = ((16 : ℝ) : EReal) := by
  simp [Ideal.ofBits, Ideal.ieee, -EReal.coe_mul]; norm_num

/-- The logarithm of the logistic function. -/
def ls (z : ℝ) : ℝ := min z 0 - Real.log (1 + Real.exp (-|z|))

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

theorem exp_coe (r : ℝ) : Ideal.exp (r : EReal) = (Real.exp r : EReal) := rfl

theorem log_coe (r : ℝ) (h : 0 < r) : Ideal.log (r : EReal) = (Real.log r : EReal) := by
  show (if r ≤ 0 then ⊥ else _) = _
  rw [if_neg (not_le.2 h)]

theorem abs_coe (r : ℝ) : max (r : EReal) (-(r : EReal)) = ((|r| : ℝ) : EReal) := by
  rw [← EReal.coe_neg, ← coe_max]; rfl

theorem one_exp_pos (r : ℝ) : 0 < 1 + Real.exp r := by have := Real.exp_pos r; linarith

/-- The kernel's form at a real. -/
theorem logSig_coe (z : ℝ) : Cert.KernelIdeal.Block.logSig (z : EReal) = (ls z : EReal) := by
  unfold Cert.KernelIdeal.Block.logSig ls
  rw [abs_coe, ← EReal.coe_zero, ← EReal.coe_sub, exp_coe, ← EReal.coe_one, ← EReal.coe_add, log_coe _ (one_exp_pos _), ← coe_min, ← EReal.coe_sub, zero_sub]

/-- The reference's form at a real: minus the logarithm of one plus the exponential of minus the argument. -/
theorem softplus_coe (z : ℝ) : -(max (-(z : EReal)) 0 + Ideal.log1p (Ideal.exp (-max (-(z : EReal) - 0) (-(-(z : EReal) - 0))))) = (ls z : EReal) := by
  have e : (-(z : EReal) - 0) = ((-z : ℝ) : EReal) := by rw [sub_zero, EReal.coe_neg]
  rw [e, abs_coe, ← EReal.coe_neg, ← EReal.coe_neg, exp_coe, Ideal.log1p, ← EReal.coe_one, ← EReal.coe_add, log_coe _ (one_exp_pos _), ← EReal.coe_zero, ← coe_max,
    ← EReal.coe_add, ← EReal.coe_neg, abs_neg]
  unfold ls
  congr 1
  rcases le_total z 0 with h | h
  · rw [max_eq_left (by linarith), min_eq_left h]; ring
  · rw [max_eq_right (by linarith), min_eq_right h]; ring

/-- A sixteenth by division. -/
theorem div_sixteen (z : ℝ) : Ideal.div (z : EReal) (Ideal.ofBits .f32 0x41800000#32) = ((z / 16 : ℝ) : EReal) := by
  rw [ofBits_sixteen]
  unfold Ideal.div
  rw [if_neg (by norm_cast), ← EReal.coe_inv, ← EReal.coe_mul, div_eq_mul_inv]

theorem mul_sixteenth (z : ℝ) : (z : EReal) * Ideal.ofBits .f32 0x3D800000#32 = ((z / 16 : ℝ) : EReal) := by
  rw [ofBits_sixteenth, ← EReal.coe_mul]; congr 1; ring

theorem mul_neg_sixteenth (z : ℝ) : (z : EReal) * Ideal.ofBits .f32 0xBD800000#32 = ((-(z / 16) : ℝ) : EReal) := by
  rw [ofBits_neg_sixteenth, ← EReal.coe_mul]; congr 1; ring

/-! ## One head of the layer -/

/-- Row `r` of chunk `n` of the sequence. -/
def seq (n : ℕ) (r : Fin 64) : Fin 8192 := ⟨(n * 64 + r.val) % 8192, by omega⟩
/-- The lane of a head's query. -/
def qLane (h : Fin 4) (d : Fin 64) : Fin 512 := ⟨h.val * 128 + d.val, by omega⟩
/-- The lane of a head's key. -/
def kLane (h : Fin 4) (d : Fin 64) : Fin 512 := ⟨h.val * 128 + 64 + d.val, by omega⟩
/-- The lane of a head's value. -/
def vLane (h : Fin 4) (j : Fin 128) : Fin 512 := ⟨h.val * 128 + j.val, by omega⟩
/-- The lane of a head's gate. -/
def gLane (h : Fin 4) (d : Fin 64) : Fin 256 := ⟨h.val * 64 + d.val, by omega⟩
/-- The lane of the gate's low-rank features. -/
def mLane (i : Fin 16) : Fin 128 := ⟨24 + i.val, by omega⟩

/-- The arrays of the layer. -/
structure Args where
  QK : Fin 8 → Fin 8192 → Fin 512 → EReal
  V : Fin 8 → Fin 8192 → Fin 512 → EReal
  Z : Fin 8 → Fin 8192 → Fin 512 → EReal
  M : Fin 8 → Fin 8192 → Fin 128 → EReal
  W : Fin 16 → Fin 256 → EReal
  B : Fin 256 → EReal
  N : Fin 128 → EReal

variable (A : Args) (b : Fin 8) (h : Fin 4)

/-- The gate's argument. -/
def zz (S : Fin 8192) (g : Fin 256) : EReal := (∑ i, A.M b S (mLane i) * A.W i g) + A.B g

/-- The gate's arguments are real. -/
def Args.Real : Prop := ∀ b S g, zz A b S g = ((zz A b S g).toReal : EReal)

/-- The decay's logarithm, at a row of a chunk. -/
def lg (n : ℕ) (r d : Fin 64) : ℝ := ls (zz A b (seq n r) (gLane h d)).toReal / 16

/-- Its sum from the chunk's start. -/
def cs (n : ℕ) (r d : Fin 64) : ℝ := ∑ s, if s ≤ r then lg A b h n s d else 0

/-- The head `h` of batch row `b`. -/
def head : Head where
  q n r d := A.QK b (seq n r) (qLane h d)
  k n r d := A.QK b (seq n r) (kLane h d)
  v n r j := A.V b (seq n r) (vLane h j)
  e n r d := Ideal.exp (cs A b h n r d : EReal)
  ei n r d := Ideal.exp ((-cs A b h n r d : ℝ) : EReal)
  el n r d := Ideal.exp ((cs A b h n 63 d - cs A b h n r d : ℝ) : EReal)
  c := Ideal.ofBits .f32 0x3E000000#32

theorem head_decays : (head A b h).Decays where
  pos n r d := by
    show (0 : EReal) ≤ (Real.exp _ : EReal)
    exact_mod_cast (Real.exp_pos _).le
  fin n r d := EReal.coe_ne_top _
  last n s d := by
    show (Real.exp _ : EReal) = (Real.exp _ : EReal) * (Real.exp _ : EReal)
    rw [← EReal.coe_mul, ← Real.exp_add, sub_eq_add_neg]

/-- The layer's result at a row of a chunk and a lane of a head, from the head's attention row. -/
def result (o : Fin 128 → EReal) (n : ℕ) (r : Fin 64) (j : Fin 128) : EReal :=
  Cert.KernelIdeal.Block.finish o (A.N j) (A.Z b (seq n r) (vLane h j)) j

/-- A sum over 128 lanes that vanishes outside lanes 24 to 39. -/
theorem sum_window (f : Fin 128 → EReal) (g : Fin 16 → EReal) (h1 : ∀ i, f (mLane i) = g i) (h0 : ∀ x : Fin 128, ¬(24 ≤ x.val ∧ x.val < 40) → f x = 0) :
    ∑ x, f x = ∑ i, g i := by
  refine (Fintype.sum_of_injective mLane (fun i j hij => ?_) g f (fun x hx => h0 x fun hr => hx ⟨⟨x.val - 24, by omega⟩, Fin.ext ?_⟩) fun i => (h1 i).symm).symm
  · have := congrArg Fin.val hij
    simp only [mLane] at this
    exact Fin.ext (by omega)
  · show 24 + (x.val - 24) = x.val
    omega

/-- Real features, weights and bias give real arguments. -/
theorem real_of (hM : ∀ b S i, A.M b S (mLane i) ≠ ⊤ ∧ A.M b S (mLane i) ≠ ⊥) (hW : ∀ i g, A.W i g ≠ ⊤ ∧ A.W i g ≠ ⊥) (hB : ∀ g, A.B g ≠ ⊤ ∧ A.B g ≠ ⊥) :
    A.Real := by
  intro b S g
  have : ∃ r : ℝ, zz A b S g = (r : EReal) := by
    refine ⟨(∑ i, (A.M b S (mLane i)).toReal * (A.W i g).toReal) + (A.B g).toReal, ?_⟩
    unfold zz
    rw [EReal.coe_add, Cert.KernelIdeal.Block.coe_sum, EReal.coe_toReal (hB g).1 (hB g).2]
    congr 1
    refine Finset.sum_congr rfl fun i _ => ?_
    rw [EReal.coe_mul, EReal.coe_toReal (hM b S i).1 (hM b S i).2, EReal.coe_toReal (hW i g).1 (hW i g).2]
  obtain ⟨r, hr⟩ := this
  rw [hr, EReal.toReal_coe]

end Cert.Gla
end
-- ==== Proof.KernelValue.lean ====
/-
  What the kernel's result array holds after the run: at every row and lane the layer's result, from the head's
  attention in the kernel's form.
-/
module

public import proofs.«01_k».proof.Proof.BlockRun
public import proofs.«01_k».proof.Proof.Arrays
public import proofs.«01_k».proof.Proof.Gate

@[expose] public section

set_option maxRecDepth 16384

noncomputable section

namespace Cert.KernelIdeal.Final

open Cert.KernelIdeal Cert.KernelIdeal.Gen Idealize.ShloMosaic Idealize.ShloMosaic.TcCoe Idealize.SL.Sem
open Cert.KernelIdeal.Block Cert.KernelIdeal.Arrays Cert.Gla
open Idealize.ShloMosaic.Pipeline (Dat)

variable (m : (ℓ : Loc nD τ sig) → Buf (Elt Ideal) ℓ) (c : Dev nD)

/-- The layer's arrays as the launch holds them. -/
def args : Args where
  QK b s l := m ((c : Thread nD τ).loc main_arg0) (ix3 b s l)
  V b s l := m ((c : Thread nD τ).loc main_arg1) (ix3 b s l)
  Z b s l := m ((c : Thread nD τ).loc main_arg2) (ix3 b s l)
  M b s l := m ((c : Thread nD τ).loc main_arg3) (ix3 b s l)
  W i g := m ((c : Thread nD τ).loc main_arg4) (ix3 0 i g)
  B g := m ((c : Thread nD τ).loc main_arg5) (ix2 0 g)
  N j := m ((c : Thread nD τ).loc main_arg6) (ix2 0 j)

/-- The first chunk of a grid point's tile. -/
def n0 (t : Fin cfg0.N) : ℕ := 64 * (t.val % 2)

theorem rOf_row (t : Fin cfg0.N) (n r : Fin 64) : rOf t (row n r) = seq (n0 t + n.val) r :=
  Fin.ext (by show t.val % 2 * 4096 + (64 * n.val + r.val) = ((64 * (t.val % 2) + n.val) * 64 + r.val) % 8192; omega)

theorem lOf_lo (h : Fin 4) (d : Fin 64) : lOf h (loLane d) = qLane h d := rfl
theorem lOf_hi (h : Fin 4) (d : Fin 64) : lOf h (hiLane d) = kLane h d :=
  Fin.ext (by show h.val * 128 + (64 + d.val) = h.val * 128 + 64 + d.val; omega)

/-- The gate's argument as the tile forms it. -/
theorem arg_eq (t : Fin cfg0.N) (R : Fin 4096) (l : Fin 128) (d : Fin 64) (hd : l.val % 64 = d.val) :
    arg (iblk m c 3 t) (iblk m c 4 t) (iblk m c 5 t) R l = zz (args m c) (bOf t) (rOf t R) (gLane (hOf t) d) := by
  have hg : (⟨(hOf t).val * 64 + l.val % 64, by have := (hOf t).isLt; omega⟩ : Fin 256) = gLane (hOf t) d := Fin.ext (by show _ + _ = _ + _; omega)
  unfold arg zz
  congr 1
  · refine sum_window _ _ (fun i => ?_) fun x hx => ?_
    · rw [blk3 m c t, blk4 m c t, v30_at m c, dif_pos ⟨by simp [mLane], by have := i.isLt; simp only [mLane]; omega⟩, hg]
      exact congrArg (fun q : Fin 16 => (_ : EReal) * m ((c : Thread nD τ).loc main_arg4) (ix3 0 q (gLane (hOf t) d))) (Fin.ext (by show 24 + i.val - 24 = i.val; omega))
    · rw [blk4 m c t, v30_at m c, dif_neg hx]
      exact mul_zero _
  · rw [blk5 m c t, v28_at m c, hg]
    rfl

/-- The decay logarithms of the tile. -/
def L (t : Fin cfg0.N) (R : Fin 4096) (l : Fin 128) : ℝ :=
  if l.val < 64 then ls (zz (args m c) (bOf t) (rOf t R) (gLane (hOf t) ⟨l.val % 64, by omega⟩)).toReal / 16
  else -(ls (zz (args m c) (bOf t) (rOf t R) (gLane (hOf t) ⟨l.val % 64, by omega⟩)).toReal / 16)

theorem la_eq (hz : (args m c).Real) (t : Fin cfg0.N) (R : Fin 4096) (l : Fin 128) :
    la (iblk m c 3 t) (iblk m c 4 t) (iblk m c 5 t) (ix2 R l) = (L m c t R l : EReal) := by
  unfold L
  by_cases hl : l.val < 64
  · rw [if_pos hl]
    have h := la_lo (iblk m c 3 t) (iblk m c 4 t) (iblk m c 5 t) R ⟨l.val, hl⟩
    rw [show loLane ⟨l.val, hl⟩ = l from rfl] at h
    rw [h, arg_eq m c t R _ ⟨l.val % 64, by omega⟩ rfl, hz, logSig_coe, mul_sixteenth, EReal.toReal_coe]
  · rw [if_neg hl]
    have e : l = hiLane ⟨l.val - 64, by omega⟩ := Fin.ext (by show l.val = 64 + (l.val - 64); omega)
    have h := la_hi (iblk m c 3 t) (iblk m c 4 t) (iblk m c 5 t) R ⟨l.val - 64, by omega⟩
    rw [← e] at h
    rw [h, arg_eq m c t R _ ⟨l.val % 64, by omega⟩ rfl, hz, logSig_coe, mul_neg_sixteenth, EReal.toReal_coe]

theorem tri_eq (t : Fin cfg0.N) (r s : Fin 64) : (iblk m c 7 t : Vec Ideal S64x64 .bf16) (ix2 r s) = (if s ≤ r then 1 else 0 : EReal) := by
  rw [blk7 m c t, v29_at]

/-- The tile's exponentials. -/
abbrev ex (t : Fin cfg0.N) : FVec Ideal S4096x128 .f32 := expo (iblk m c 7 t) (la (iblk m c 3 t) (iblk m c 4 t) (iblk m c 5 t))

/-- The tile holds what its head reads. -/
theorem holds (hz : (args m c).Real) (t : Fin cfg0.N) :
    Holds (head (args m c) (bOf t) (hOf t)) (n0 t) (iblk m c 0 t) (iblk m c 1 t) (ex m c t) where
  hq n r d := by rw [blk0 m c t, rOf_row, lOf_lo]; rfl
  hk n r d := by rw [blk0 m c t, rOf_row, lOf_hi]; rfl
  hv n r j := by rw [blk1 m c t, rOf_row]; rfl
  he n r d := by
    unfold ex
    rw [expo_apply _ (tri_eq m c t) _ (L m c t) (la_eq m c hz t)]
    refine congrArg (fun x : ℝ => Ideal.exp (x : EReal)) ?_
    refine Finset.sum_congr rfl fun s _ => ?_
    split
    · unfold L
      rw [if_pos (show (loLane d).val < 64 from d.isLt), rOf_row]
      have : (⟨(loLane d).val % 64, by omega⟩ : Fin 64) = d := Fin.ext (by show d.val % 64 = d.val; omega)
      rw [this]
      rfl
    · rfl
  hei n r d := by
    unfold ex
    rw [expo_apply _ (tri_eq m c t) _ (L m c t) (la_eq m c hz t)]
    refine congrArg (fun x : ℝ => Ideal.exp (x : EReal)) (?_ : _ = -cs (args m c) (bOf t) (hOf t) (n0 t + n.val) r d)
    unfold cs
    rw [← Finset.sum_neg_distrib]
    refine Finset.sum_congr rfl fun s _ => ?_
    split
    · unfold L
      rw [if_neg (show ¬ (hiLane d).val < 64 by show ¬ 64 + d.val < 64; omega), rOf_row]
      have : (⟨(hiLane d).val % 64, by omega⟩ : Fin 64) = d := Fin.ext (by show (64 + d.val) % 64 = d.val; omega)
      rw [this]
      rfl
    · rw [neg_zero]
  hc := rfl

theorem zero_state (j : Fin 128) (d : Fin 64) : (k0_pay2 : FVec Ideal S128x64 .f32) (ix2 j d) = 0 := by
  pointwise [k0_pay2]

/-- The state a tile starts from. -/
theorem start (hz : (args m c).Real) (t : Fin cfg0.N) (h0 : ¬t.val % 2 = 0) (j : Fin 128) (d : Fin 64) :
    (outsAt0 m c (t.val - 1) (Nat.lt_of_le_of_lt (Nat.sub_le _ _) t.isLt)).2 (ix2 j d) = stK (head (args m c) (bOf t) (hOf t)) (n0 t) j d := by
  have ht := t.isLt
  have hN : cfg0.N = 64 := N_0
  have hA := outsAt0_A m c ⟨t.val - 1, Nat.lt_of_le_of_lt (Nat.sub_le _ _) t.isLt⟩ (by show (t.val - 1) % 2 = 0; omega)
  have hb : bOf ⟨t.val - 1, Nat.lt_of_le_of_lt (Nat.sub_le _ _) t.isLt⟩ = bOf t := Fin.ext (by show (t.val - 1) / 8 = t.val / 8; omega)
  have hh : hOf ⟨t.val - 1, Nat.lt_of_le_of_lt (Nat.sub_le _ _) t.isLt⟩ = hOf t := Fin.ext (by show (t.val - 1) / 2 % 4 = t.val / 2 % 4; omega)
  have hn : n0 ⟨t.val - 1, Nat.lt_of_le_of_lt (Nat.sub_le _ _) t.isLt⟩ = 0 := by show 64 * ((t.val - 1) % 2) = 0; omega
  have hn' : n0 t = 0 + 64 := by show 64 * (t.val % 2) = _; omega
  have H := holds m c hz ⟨t.val - 1, Nat.lt_of_le_of_lt (Nat.sub_le _ _) t.isLt⟩
  rw [hb, hh, hn] at H
  rw [hA, hn', sout_A]
  exact outState_apply _ 0 _ _ _ _ _ _ _ H (fun j d => (zero_state j d).trans rfl) j d

/-- The result array. -/
def res : S8x8192x512.Idx → EReal := fun i =>
  result (args m c) (i 0) ⟨(i 2).val / 128, by have : (i 2).val < 512 := (i 2).isLt; omega⟩
    (oK (head (args m c) (i 0) ⟨(i 2).val / 128, by have : (i 2).val < 512 := (i 2).isLt; omega⟩) ((i 1).val / 64) ⟨(i 1).val % 64, by omega⟩)
    ((i 1).val / 64) ⟨(i 1).val % 64, by omega⟩ ⟨(i 2).val % 128, by omega⟩

/-- The tile's output block from any state that is the head's. -/
theorem tile (hz : (args m c).Real) (t : Fin cfg0.N) (st : FVec Ideal S128x64 .f32)
    (hst : ∀ j d, st (ix2 j d) = stK (head (args m c) (bOf t) (hOf t)) (n0 t) j d) (R : Fin 4096) (j : Fin 128) :
    outTile (iblk m c 0 t) (iblk m c 1 t) (iblk m c 2 t) (iblk m c 3 t) (iblk m c 4 t) (iblk m c 5 t) (iblk m c 6 t) (iblk m c 7 t) st (ix3 0 R j) =
      res m c (ix3 (bOf t) (rOf t R) (lOf (hOf t) j)) := by
  obtain ⟨n, r, rfl⟩ : ∃ n r : Fin 64, R = row n r := ⟨⟨R.val / 64, by omega⟩, ⟨R.val % 64, by omega⟩, Fin.ext (by show R.val = 64 * (R.val / 64) + R.val % 64; omega)⟩
  rw [outTile_apply _ _ _ _ _ _ _ _ _ _ st (holds m c hz t) hst n r j]
  have e1 : (rOf t (row n r)).val / 64 = n0 t + n.val := by show (t.val % 2 * 4096 + (64 * n.val + r.val)) / 64 = 64 * (t.val % 2) + n.val; omega
  have e2 : (⟨(rOf t (row n r)).val % 64, by omega⟩ : Fin 64) = r := Fin.ext (by show (t.val % 2 * 4096 + (64 * n.val + r.val)) % 64 = r.val; omega)
  have e3 : (⟨(lOf (hOf t) j).val / 128, by have := (lOf (hOf t) j).isLt; omega⟩ : Fin 4) = hOf t := Fin.ext (by show ((hOf t).val * 128 + j.val) / 128 = (hOf t).val; omega)
  have e4 : (⟨(lOf (hOf t) j).val % 128, by omega⟩ : Fin 128) = j := Fin.ext (by show ((hOf t).val * 128 + j.val) % 128 = j.val; omega)
  have e : res m c (ix3 (bOf t) (rOf t (row n r)) (lOf (hOf t) j)) =
      result (args m c) (bOf t) ⟨(lOf (hOf t) j).val / 128, by have := (lOf (hOf t) j).isLt; omega⟩ (oK (head (args m c) (bOf t) ⟨(lOf (hOf t) j).val / 128, by have := (lOf (hOf t) j).isLt; omega⟩) ((rOf t (row n r)).val / 64) ⟨(rOf t (row n r)).val % 64, by omega⟩)
        ((rOf t (row n r)).val / 64) ⟨(rOf t (row n r)).val % 64, by omega⟩ ⟨(lOf (hOf t) j).val % 128, by omega⟩ := rfl
  rw [e, e1, e2, e3, e4]
  unfold result
  rw [blk6 m c t, v32_at, blk2 m c t, rOf_row]
  rfl

/-- What each grid point writes back is the result array's block. -/
theorem flushed (hz : (args m c).Real) (t : Fin cfg0.N) (hf : (cfg0.win 8).flush t = true) :
    (dats m 0 c).flushed 8 t = ((cfg0.win 8).blk t).view.read (Elt Ideal) (res m c) := by
  have emb : ∀ (u : Fin 1) (R : Fin 4096) (j : Fin 128), ((cfg0.win 8).blk t).view.emb (ix3 u R j) = ix3 (bOf t) (rOf t R) (lOf (hOf t) j) := by
    intro u R j
    obtain ⟨i0, i1, i2⟩ := idx8 t
    funext a
    fin_cases a <;> refine Fin.ext ?_
    · show win0_8.index t 0 * 1 + 1 * u.val = t.val / 8
      omega
    · show win0_8.index t 1 * 4096 + 1 * R.val = t.val % 2 * 4096 + R.val
      omega
    · show win0_8.index t 2 * 128 + 1 * j.val = t.val / 2 % 4 * 128 + j.val
      omega
  by_cases h0 : t.val % 2 = 0
  · have hn : n0 t = 0 := by show 64 * (t.val % 2) = 0; omega
    have key := tile m c hz t (k0_pay2 : FVec Ideal S128x64 .f32) (fun j d => by rw [hn]; exact (zero_state j d).trans rfl)
    rw [Value.flushed8_A m c t h0, out_A]
    funext y
    obtain ⟨u, R, j, rfl⟩ : ∃ (u : Fin 1) (R : Fin 4096) (j : Fin 128), y = ix3 u R j := ⟨y 0, y 1, y 2, by funext a; fin_cases a <;> rfl⟩
    obtain rfl : u = 0 := Subsingleton.elim _ _
    rw [View.read_apply, emb]
    exact key R j
  · have key := tile m c hz t _ (start m c hz t h0)
    rw [Value.flushed8_B m c t h0, out_B]
    funext y
    obtain ⟨u, R, j, rfl⟩ : ∃ (u : Fin 1) (R : Fin 4096) (j : Fin 128), y = ix3 u R j := ⟨y 0, y 1, y 2, by funext a; fin_cases a <;> rfl⟩
    obtain rfl : u = 0 := Subsingleton.elim _ _
    rw [View.read_apply, emb]
    exact key R j

/-- The result array after the run. -/
theorem final (hz : (args m c).Real) : (dats m 0 c).arrAt 8 cfg0.N = res m c :=
  (dats m 0 c).arrAt_eq_of_cover 8 (res m c) (flushed m c hz) fun i => by
    have h0 : (i 0 : Nat) < 8 := (i 0).isLt
    have h1 : (i 1 : Nat) < 8192 := (i 1).isLt
    have h2 : (i 2 : Nat) < 512 := (i 2).isLt
    have hN : cfg0.N = 64 := N_0
    obtain ⟨t, ht⟩ : ∃ t : Fin cfg0.N, t.val = 8 * (i 0 : Nat) + 2 * ((i 2 : Nat) / 128) + (i 1 : Nat) / 4096 := ⟨⟨_, by omega⟩, rfl⟩
    obtain ⟨i0, i1, i2⟩ := idx8 t
    refine ⟨t, flush0_8 t, ?_⟩
    show i ∈ ((View.whole main_v33).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                omega
    | ⟨1, _⟩ => show win0_8.index t 1 * 4096 ≤ (i 1 : Nat) ∧ (i 1 : Nat) < win0_8.index t 1 * 4096 + 4096
                omega
    | ⟨2, _⟩ => show win0_8.index t 2 * 128 ≤ (i 2 : Nat) ∧ (i 2 : Nat) < win0_8.index t 2 * 128 + 128
                omega

end Cert.KernelIdeal.Final
end
-- ==== Proof.Cumsum.lean ====
/-
  The reference's running sum along a chunk's rows, read at an index.
-/
module

public import proofs.«01_k».proof.Proof.Gen.ReferenceIdeal
public import Idealize.ShloMosaic.Lib.Pointwise
public import Idealize.ShloMosaic.Lib.Tactic

@[expose] public section

set_option maxRecDepth 16384

noncomputable section

namespace Cert.ReferenceIdeal.Pre

open Cert.ReferenceIdeal Cert.ReferenceIdeal.Gen Idealize.ShloMosaic Idealize.ShloMosaic.TcCoe

/-- A left fold of additions is a sum. -/
theorem foldl_sum {α : Type} (f : α → EReal) : ∀ (l : List α) (v : EReal), l.foldl (fun r n => r + f n) v = v + (l.map f).sum
  | [], v => by simp
  | a :: l, v => by rw [List.foldl_cons, foldl_sum f l, List.map_cons, List.sum_cons, add_assoc]

/-- The window over one chunk's rows. -/
abbrev Win : Shape := ⟨5, ![1, 1, 1, 64, 1]⟩

theorem win_sum (g : Win.Idx → EReal) : ∑ y, g y = ∑ k : Fin 64, g (ix5 0 0 0 k 0) := by
  symm
  refine Fintype.sum_bijective (fun k : Fin 64 => (ix5 0 0 0 k 0 : Win.Idx)) ⟨fun a b h => ?_, fun y => ⟨y 3, ?_⟩⟩ _ _ fun _ => rfl
  · exact congrFun h 3
  · funext a
    fin_cases a
    · exact (Subsingleton.elim (α := Fin 1) _ _)
    · exact (Subsingleton.elim (α := Fin 1) _ _)
    · exact (Subsingleton.elim (α := Fin 1) _ _)
    · rfl
    · exact (Subsingleton.elim (α := Fin 1) _ _)

theorem shift_sum (r : Fin 64) (x : Fin 64 → EReal) :
    (∑ k : Fin 64, if h : 63 ≤ r.val + k.val then x ⟨r.val + k.val - 63, by omega⟩ else 0) = ∑ s : Fin 64, if s ≤ r then x s else 0 := by
  have e1 : ∀ k : Fin 64, (if h : 63 ≤ r.val + k.val then x ⟨r.val + k.val - 63, by omega⟩ else 0) =
      if 63 ≤ r.val + k.val then x ⟨(r.val + k.val - 63) % 64, by omega⟩ else 0 := by
    intro k
    by_cases h : 63 ≤ r.val + k.val
    · rw [dif_pos h, if_pos h]
      exact congrArg x (Fin.ext (by show r.val + k.val - 63 = (r.val + k.val - 63) % 64; omega))
    · rw [dif_neg h, if_neg h]
  rw [Finset.sum_congr rfl fun k _ => e1 k, ← Finset.sum_filter, ← Finset.sum_filter]
  refine Finset.sum_bij' (fun k _ => (⟨(r.val + k.val - 63) % 64, by omega⟩ : Fin 64)) (fun s _ => (⟨(s.val + 63 - r.val) % 64, by omega⟩ : Fin 64)) ?_ ?_ ?_ ?_ ?_
  · intro k hk
    have := (Finset.mem_filter.1 hk).2
    refine Finset.mem_filter.2 ⟨Finset.mem_univ _, ?_⟩
    show (r.val + k.val - 63) % 64 ≤ r.val
    omega
  · intro s hs
    have : s.val ≤ r.val := (Finset.mem_filter.1 hs).2
    refine Finset.mem_filter.2 ⟨Finset.mem_univ _, ?_⟩
    show 63 ≤ r.val + (s.val + 63 - r.val) % 64
    omega
  · intro k hk
    have := (Finset.mem_filter.1 hk).2
    refine Fin.ext ?_
    show ((r.val + k.val - 63) % 64 + 63 - r.val) % 64 = k.val
    omega
  · intro s hs
    have : s.val ≤ r.val := (Finset.mem_filter.1 hs).2
    refine Fin.ext ?_
    show (r.val + (s.val + 63 - r.val) % 64 - 63) % 64 = s.val
    omega
  · intro k hk
    rfl

/-- A window sum from zero is a sum over the window. -/
theorem window_sum {s t : Shape} (window strides lo hi : Fin s.rank → Nat) (h : s.ReduceWindows window strides lo hi t) (x : s.Idx → EReal) (j : t.Idx) :
    Ideal.hostReduceWindowAdd window strides lo hi h x 0 j = ∑ y : (⟨s.rank, window⟩ : Shape).Idx,
      if hin : ∀ a, lo a ≤ (j (a.cast h.1.symm)).val * strides a + (y a).val ∧ (j (a.cast h.1.symm)).val * strides a + (y a).val - lo a < s.size a
      then x (fun a => ⟨(j (a.cast h.1.symm)).val * strides a + (y a).val - lo a, (hin a).2⟩) else 0 := by
  unfold Ideal.hostReduceWindowAdd Host.reduceWindow
  rw [← Equiv.sum_comp (⟨s.rank, window⟩ : Shape).rowMajor.symm, Fin.sum_univ_def]
  dsimp only
  rw [foldl_sum, zero_add]
  congr!

/-- The running sum along a chunk's rows. -/
theorem cumsum_at (x : FVec Ideal S8x4x128x64x64 .f32) (v : S_.Idx → EReal) (hv : ∀ i, v i = 0) (b : Fin 8) (h : Fin 4) (n : Fin 128) (r d : Fin 64) :
    Host.reduceWindowAdd (F := Ideal) (φ := .f32) ![1, 1, 1, 64, 1] ![1, 1, 1, 1, 1] ![0, 0, 0, 63, 0] ![0, 0, 0, 0, 0] x v
      reduceWindows_S8x4x128x64x64_S8x4x128x64x64_w1s1p0_0_w1s1p0_0_w1s1p0_0_w64s1p63_0_w1s1p0_0 h_S_ (ix5 b h n r d) =
      ∑ s : Fin 64, if s ≤ r then (x (ix5 b h n s d) : EReal) else 0 := by
  unfold Host.reduceWindowAdd
  rw [Ideal.hostReduceWindowAdd_def, hv, window_sum, win_sum, ← shift_sum r fun s => x (ix5 b h n s d)]
  refine Finset.sum_congr rfl fun k _ => ?_
  by_cases hk : 63 ≤ r.val + k.val
  · rw [dif_pos hk, dif_pos]
    · refine congrArg x (funext fun a => Fin.ext ?_)
      fin_cases a
      · show b.val * 1 + 0 - 0 = b.val; omega
      · show h.val * 1 + 0 - 0 = h.val; omega
      · show n.val * 1 + 0 - 0 = n.val; omega
      · show r.val * 1 + k.val - 63 = r.val + k.val - 63; omega
      · show d.val * 1 + 0 - 0 = d.val; omega
    · intro a
      fin_cases a
      · show 0 ≤ b.val * 1 + 0 ∧ b.val * 1 + 0 - 0 < 8; omega
      · show 0 ≤ h.val * 1 + 0 ∧ h.val * 1 + 0 - 0 < 4; omega
      · show 0 ≤ n.val * 1 + 0 ∧ n.val * 1 + 0 - 0 < 128; omega
      · show 63 ≤ r.val * 1 + k.val ∧ r.val * 1 + k.val - 63 < 64; omega
      · show 0 ≤ d.val * 1 + 0 ∧ d.val * 1 + 0 - 0 < 64; omega
  · rw [dif_neg hk, dif_neg]
    · intro hin
      have := (hin 3).1
      change 63 ≤ r.val * 1 + k.val at this
      omega

end Cert.ReferenceIdeal.Pre
end
-- ==== Proof.RefPre.lean ====
/-
  What the reference's host operations before its loop leave in their buffers, at an index, stretch by stretch and from
  any contents.
-/
module

public import proofs.«01_k».proof.Proof.Gen.ReferenceIdeal.Run
public import proofs.«01_k».proof.Proof.Gate
public import proofs.«01_k».proof.Proof.Cumsum
public import Idealize.ShloMosaic.Lib.Pointwise
public import Idealize.ShloMosaic.Lib.StableHlo.ReadAt
public import Idealize.ShloMosaic.Lib.Pipeline.ValueKit
public import Idealize.ShloMosaic.Lib.Pipeline.ValueKit.Point
public import Idealize.ShloMosaic.Lib.Tactic

@[expose] public section

set_option maxRecDepth 16384

noncomputable section

namespace Cert.ReferenceIdeal.Pre

open Cert.ReferenceIdeal Cert.ReferenceIdeal.Gen Cert.ReferenceIdeal.Value Idealize.ShloMosaic Idealize.ShloMosaic.TcCoe Idealize.SL.Sem
open Idealize.ShloMosaic.StableHlo
open Cert.Gla (qLane kLane vLane gLane mLane ls)

variable (W : Valuation τ sig (Elt Ideal))

/-- Row `r` of chunk `n`. -/
def rw' (n : Fin 128) (r : Fin 64) : Fin 8192 := ⟨n.val * 64 + r.val, by omega⟩

theorem w0_v11 (b : Fin 8) (s : Fin 8192) (g : Fin 256) (M A : Fin 16 → EReal) (B : EReal)
    (hM : ∀ i, W (Proc.devRef .tc main_arg3) (ix3 b s (mLane i)) = M i) (hA : ∀ i, W (Proc.devRef .tc main_arg4) (ix3 0 i g) = A i)
    (hB : W (Proc.devRef .tc main_arg5) (ix2 0 g) = B) :
    after hostOps0 W (Proc.devRef .tc main_v11) (ix3 b s g) = (∑ i : Fin 16, M i * A i) + B := by
  after_reads_at
  rw [hB]
  refine congrArg (fun q : EReal => q + B) (Finset.sum_congr rfl fun i _ => ?_)
  rw [hA, ← hM]
  rfl

theorem w0_v2 (b : Fin 8) (s : Fin 8192) (h : Fin 4) (d : Fin 64) :
    after hostOps0 W (Proc.devRef .tc main_v2) (ix4 b s h d) = W (Proc.devRef .tc main_arg0) (ix3 b s (qLane h d)) := by
  after_reads_at
  rfl

theorem w0_v4 (b : Fin 8) (s : Fin 8192) (h : Fin 4) (d : Fin 64) :
    after hostOps0 W (Proc.devRef .tc main_v4) (ix4 b s h d) = W (Proc.devRef .tc main_arg0) (ix3 b s (kLane h d)) := by
  after_reads_at
  rfl

theorem w1_v12 (i : S8x8192x256.Idx) (z : ℝ) (hz : W (Proc.devRef .tc main_v11) i = (z : EReal)) :
    after hostOps0_1 W (Proc.devRef .tc main_v12) i = (ls z : EReal) := by
  after_reads_at
  rw [hz, if_neg (fun h => h rfl)]
  have h := Cert.Gla.softplus_coe z
  simp only [sub_zero] at h
  exact h

theorem w2_v18 (b : Fin 8) (h : Fin 4) (n : Fin 128) (r d : Fin 64) :
    after hostOps0_2 W (Proc.devRef .tc main_v18) (ix5 b h n r d) = W (Proc.devRef .tc main_v2) (ix4 b (rw' n r) h d) := by
  after_reads_at
  rfl

theorem w2_v22 (b : Fin 8) (h : Fin 4) (n : Fin 128) (r : Fin 64) (d : Fin 128) :
    after hostOps0_2 W (Proc.devRef .tc main_v22) (ix5 b h n r d) = W (Proc.devRef .tc main_arg1) (ix3 b (rw' n r) (vLane h d)) := by
  after_reads_at
  rfl

theorem w2_v24 (b : Fin 8) (h : Fin 4) (n : Fin 128) (r d : Fin 64) :
    after hostOps0_2 W (Proc.devRef .tc main_v24) (ix5 b h n r d) =
      Ideal.div (W (Proc.devRef .tc main_v12) (ix3 b (rw' n r) (gLane h d))) (Ideal.ofBits .f32 0x41800000#32) := by
  after_reads_at
  rfl

theorem w2_v20 (b : Fin 8) (h : Fin 4) (n : Fin 128) (r d : Fin 64) :
    after hostOps0_2 W (Proc.devRef .tc main_v20) (ix5 b h n r d) = W (Proc.devRef .tc main_v4) (ix4 b (rw' n r) h d) := by
  after_reads_at
  rfl

theorem w3_v25 (b : Fin 8) (h : Fin 4) (n : Fin 128) (r d : Fin 64) (L : Fin 64 → EReal)
    (hL : ∀ s, W (Proc.devRef .tc main_v24) (ix5 b h n s d) = L s) :
    after hostOps0_3 W (Proc.devRef .tc main_v25) (ix5 b h n r d) = ∑ s : Fin 64, if s ≤ r then L s else 0 := by
  after_reads_at
  rw [cumsum_at _ _ (fun i => by pointwise)]
  exact Finset.sum_congr rfl fun s _ => by rw [hL]

theorem w4_v26 (b : Fin 8) (h : Fin 4) (n : Fin 128) (d : Fin 64) :
    after hostOps0_4 W (Proc.devRef .tc main_v26) (ix5 b h n 0 d) = W (Proc.devRef .tc main_v25) (ix5 b h n 63 d) := by
  after_reads_at

theorem w4_v30 (b : Fin 8) (h : Fin 4) (n : Fin 128) (r d : Fin 64) (q c : EReal)
    (hq : W (Proc.devRef .tc main_v18) (ix5 b h n r d) = q) (hc : W (Proc.devRef .tc main_v25) (ix5 b h n r d) = c) :
    after hostOps0_4 W (Proc.devRef .tc main_v30) (ix5 b h n r d) = q * Ideal.ofBits .f32 0x3E000000#32 * Ideal.exp c := by
  after_reads_at
  rw [hq, hc]

theorem w4_v33 (b : Fin 8) (h : Fin 4) (n : Fin 128) (r d : Fin 64) (k c : EReal)
    (hk : W (Proc.devRef .tc main_v20) (ix5 b h n r d) = k) (hc : W (Proc.devRef .tc main_v25) (ix5 b h n r d) = c) :
    after hostOps0_4 W (Proc.devRef .tc main_v33) (ix5 b h n r d) = k * Ideal.exp (-c) := by
  after_reads_at
  rw [hk, hc]

theorem w4_v37 (b : Fin 8) (h : Fin 4) (n : Fin 128) (r d : Fin 64) (k c c' : EReal)
    (hk : W (Proc.devRef .tc main_v20) (ix5 b h n r d) = k) (hc : W (Proc.devRef .tc main_v25) (ix5 b h n r d) = c)
    (hc' : W (Proc.devRef .tc main_v25) (ix5 b h n 63 d) = c') :
    after hostOps0_4 W (Proc.devRef .tc main_v37) (ix5 b h n r d) = k * Ideal.exp (c' - c) := by
  after_reads_at
  rw [hk, hc, hc']

theorem w4_v38 (r s : Fin 64) : after hostOps0_4 W (Proc.devRef .tc main_v38) (ix2 r s) = 1#1 := by
  after_reads_at

theorem ge_mask : ∀ r s : Fin 64, Scalar.select (IntOp.cmpi CmpIPredicate.sge (IntOp.addi (BitVec.ofNat 32 r.val) 0#32) (BitVec.ofNat 32 s.val)) (1#1 : BitVec 1) 0#1 =
    if s ≤ r then 1#1 else 0#1 := by decide +kernel

theorem w5_v39 (r s : Fin 64) (h38 : W (Proc.devRef .tc main_v38) (ix2 r s) = 1#1) :
    after hostOps0_5 W (Proc.devRef .tc main_v39) (ix2 r s) = if s ≤ r then 1#1 else 0#1 := by
  after_reads_at
  rw [h38]
  exact ge_mask r s

theorem w6_v40 (b : Fin 8) (h : Fin 4) (n : Fin 128) (r s : Fin 64) (q k : Fin 64 → EReal)
    (hq : ∀ d, W (Proc.devRef .tc main_v30) (ix5 b h n r d) = q d) (hk : ∀ d, W (Proc.devRef .tc main_v33) (ix5 b h n s d) = k d) :
    after hostOps0_6 W (Proc.devRef .tc main_v40) (ix5 b h n r s) = ∑ d : Fin 64, q d * k d := by
  after_reads_at
  exact Finset.sum_congr rfl fun d _ => by rw [hq, hk]

theorem w6_cst : after hostOps0_6 W (Proc.devRef .tc main_cst_1) = constant (F := Ideal) S_ .f32 0x00000000#32 := by
  after_reads_simp

theorem w7_v41 (hc : W (Proc.devRef .tc main_cst_1) = constant (F := Ideal) S_ .f32 0x00000000#32) (b : Fin 8) (h : Fin 4) (n : Fin 128) (r s : Fin 64)
    (a : EReal) (ha : W (Proc.devRef .tc main_v40) (ix5 b h n r s) = a) (hm : W (Proc.devRef .tc main_v39) (ix2 r s) = if s ≤ r then 1#1 else 0#1) :
    after hostOps0_7 W (Proc.devRef .tc main_v41) (ix5 b h n r s) = if s ≤ r then a else 0 := by
  after_reads_at
  rw [hc, ha, hm]
  split
  · rfl
  · exact Ideal.ofBits_zero_f32

theorem w8_v42 (b : Fin 8) (h : Fin 4) (n : Fin 128) (r : Fin 64) (j : Fin 128) (a v : Fin 64 → EReal)
    (ha : ∀ s, W (Proc.devRef .tc main_v41) (ix5 b h n r s) = a s) (hv : ∀ s, W (Proc.devRef .tc main_v22) (ix5 b h n s j) = v s) :
    after hostOps0_8 W (Proc.devRef .tc main_v42) (ix5 b h n r j) = ∑ s : Fin 64, a s * v s := by
  after_reads_at
  exact Finset.sum_congr rfl fun s _ => by rw [ha, hv]

theorem w8_v51_0 (b : Fin 8) (h : Fin 4) (n : Fin 128) (r d : Fin 64) :
    after hostOps0_8 W (Proc.devRef .tc main_v51_0) (ix5 n b h r d) = W (Proc.devRef .tc main_v30) (ix5 b h n r d) := by
  after_reads_at
  simp only [id_eq]
  pointwise

theorem w8_v51_1 (b : Fin 8) (h : Fin 4) (n : Fin 128) (d : Fin 64) (j : Fin 128) (k v : Fin 64 → EReal)
    (hk : ∀ s, W (Proc.devRef .tc main_v37) (ix5 b h n s d) = k s) (hv : ∀ s, W (Proc.devRef .tc main_v22) (ix5 b h n s j) = v s) :
    after hostOps0_8 W (Proc.devRef .tc main_v51_1) (ix5 n b h d j) = ∑ s : Fin 64, k s * v s := by
  after_reads_at
  simp only [id_eq]
  pointwise
  exact Finset.sum_congr rfl fun s _ => by rw [hk, hv]

theorem w8_v51_2 (b : Fin 8) (h : Fin 4) (n : Fin 128) (d : Fin 64) :
    after hostOps0_8 W (Proc.devRef .tc main_v51_2) (ix4 n b h d) = Ideal.exp (W (Proc.devRef .tc main_v26) (ix5 b h n 0 d)) := by
  after_reads_at
  simp only [id_eq]
  pointwise

theorem w8_v51_4 (b : Fin 8) (h : Fin 4) (d : Fin 64) (j : Fin 128) :
    after hostOps0_8 W (Proc.devRef .tc main_v51_4) (ix4 b h d j) = (0 : EReal) := by
  after_reads_at
  simp only [id_eq]
  pointwise

end Cert.ReferenceIdeal.Pre
end
-- ==== Proof.RefEntry.lean ====
/-
  What the reference's buffers hold when its loop starts: the head's queries, decays and products in the reference's form.
-/
module

public import proofs.«01_k».proof.Proof.RefPre

@[expose] public section

set_option maxRecDepth 16384

noncomputable section

namespace Cert.ReferenceIdeal.Pre

open Cert.ReferenceIdeal Cert.ReferenceIdeal.Gen Cert.ReferenceIdeal.Value Idealize.ShloMosaic Idealize.ShloMosaic.TcCoe Idealize.SL.Sem
open Idealize.ShloMosaic.StableHlo Cert.Gla

/-- The launch arrays are the layer's. -/
structure Reads (W : Valuation τ sig (Elt Ideal)) (A : Args) : Prop where
  hQK : ∀ b s l, W (Proc.devRef .tc main_arg0) (ix3 b s l) = A.QK b s l
  hV : ∀ b s l, W (Proc.devRef .tc main_arg1) (ix3 b s l) = A.V b s l
  hZ : ∀ b s l, W (Proc.devRef .tc main_arg2) (ix3 b s l) = A.Z b s l
  hM : ∀ b s l, W (Proc.devRef .tc main_arg3) (ix3 b s l) = A.M b s l
  hW : ∀ i g, W (Proc.devRef .tc main_arg4) (ix3 0 i g) = A.W i g
  hB : ∀ g, W (Proc.devRef .tc main_arg5) (ix2 0 g) = A.B g
  hN : ∀ j, W (Proc.devRef .tc main_arg6) (ix2 0 j) = A.N j

variable (W : Valuation τ sig (Elt Ideal)) (A : Args) (R : Reads W A) (hz : A.Real)

/-- The contents after each stretch before the loop. -/
def S1 := after hostOps0 W
def S2 := after hostOps0_1 (S1 W)
def S3 := after hostOps0_2 (S2 W)
def S4 := after hostOps0_3 (S3 W)
def S5 := after hostOps0_4 (S4 W)
def S6 := after hostOps0_5 (S5 W)
def S7 := after hostOps0_6 (S6 W)
def S8 := after hostOps0_7 (S7 W)
def S9 := after hostOps0_8 (S8 W)

theorem k1 (r : Ref sig .tc) (h : r ∉ hostOps0_W) : S1 W (Proc.devRef .tc r) = W (Proc.devRef .tc r) := after_of_writes_sub hostOps0 _ hostOps0_writes h
theorem k2 (r : Ref sig .tc) (h : r ∉ hostOps0_1_W) : S2 W (Proc.devRef .tc r) = S1 W (Proc.devRef .tc r) := after_of_writes_sub hostOps0_1 _ hostOps0_1_writes h
theorem k3 (r : Ref sig .tc) (h : r ∉ hostOps0_2_W) : S3 W (Proc.devRef .tc r) = S2 W (Proc.devRef .tc r) := after_of_writes_sub hostOps0_2 _ hostOps0_2_writes h
theorem k4 (r : Ref sig .tc) (h : r ∉ hostOps0_3_W) : S4 W (Proc.devRef .tc r) = S3 W (Proc.devRef .tc r) := after_of_writes_sub hostOps0_3 _ hostOps0_3_writes h
theorem k5 (r : Ref sig .tc) (h : r ∉ hostOps0_4_W) : S5 W (Proc.devRef .tc r) = S4 W (Proc.devRef .tc r) := after_of_writes_sub hostOps0_4 _ hostOps0_4_writes h
theorem k6 (r : Ref sig .tc) (h : r ∉ hostOps0_5_W) : S6 W (Proc.devRef .tc r) = S5 W (Proc.devRef .tc r) := after_of_writes_sub hostOps0_5 _ hostOps0_5_writes h
theorem k7 (r : Ref sig .tc) (h : r ∉ hostOps0_6_W) : S7 W (Proc.devRef .tc r) = S6 W (Proc.devRef .tc r) := after_of_writes_sub hostOps0_6 _ hostOps0_6_writes h
theorem k8 (r : Ref sig .tc) (h : r ∉ hostOps0_7_W) : S8 W (Proc.devRef .tc r) = S7 W (Proc.devRef .tc r) := after_of_writes_sub hostOps0_7 _ hostOps0_7_writes h
theorem k9 (r : Ref sig .tc) (h : r ∉ hostOps0_8_W) : S9 W (Proc.devRef .tc r) = S8 W (Proc.devRef .tc r) := after_of_writes_sub hostOps0_8 _ hostOps0_8_writes h

theorem seq_rw (n : Fin 128) (r : Fin 64) : rw' n r = seq n.val r := Fin.ext (by show n.val * 64 + r.val = (n.val * 64 + r.val) % 8192; omega)

include R
section
variable (b : Fin 8) (h : Fin 4) (n : Fin 128)

theorem q18 (r d : Fin 64) : S4 W (Proc.devRef .tc main_v18) (ix5 b h n r d) = (head A b h).q n.val r d := by
  rw [k4 W main_v18 (by decide)]
  refine (w2_v18 _ b h n r d).trans ?_
  rw [k2 W main_v2 (by decide)]
  refine (w0_v2 _ b _ h d).trans ?_
  rw [R.hQK, seq_rw]
  rfl

theorem k20 (r d : Fin 64) : S4 W (Proc.devRef .tc main_v20) (ix5 b h n r d) = (head A b h).k n.val r d := by
  rw [k4 W main_v20 (by decide)]
  refine (w2_v20 _ b h n r d).trans ?_
  rw [k2 W main_v4 (by decide)]
  refine (w0_v4 _ b _ h d).trans ?_
  rw [R.hQK, seq_rw]
  rfl

theorem v22 (r : Fin 64) (j : Fin 128) : S8 W (Proc.devRef .tc main_v22) (ix5 b h n r j) = (head A b h).v n.val r j := by
  rw [k8 W main_v22 (by decide), k7 W main_v22 (by decide), k6 W main_v22 (by decide), k5 W main_v22 (by decide), k4 W main_v22 (by decide)]
  refine (w2_v22 _ b h n r j).trans ?_
  rw [k2 W main_arg1 (by decide), k1 W main_arg1 (by decide), R.hV, seq_rw]
  rfl

include hz

theorem a24 (r d : Fin 64) : S3 W (Proc.devRef .tc main_v24) (ix5 b h n r d) = (lg A b h n.val r d : EReal) := by
  refine (w2_v24 _ b h n r d).trans ?_
  have e := w1_v12 (S1 W) (ix3 b (rw' n r) (gLane h d)) (zz A b (rw' n r) (gLane h d)).toReal
    ((w0_v11 W b (rw' n r) (gLane h d) _ _ _ (fun i => R.hM b _ _) (fun i => R.hW i _) (R.hB _)).trans (hz b _ _))
  rw [show S2 W (Proc.devRef .tc main_v12) (ix3 b (rw' n r) (gLane h d)) = _ from e, div_sixteen, seq_rw]
  rfl

theorem c25 (r d : Fin 64) : S4 W (Proc.devRef .tc main_v25) (ix5 b h n r d) = (cs A b h n.val r d : EReal) := by
  refine (w3_v25 _ b h n r d _ fun s => a24 W A R hz b h n s d).trans ?_
  unfold cs
  refine Eq.trans (b := ∑ s : Fin 64, (((if s ≤ r then lg A b h n.val s d else 0 : ℝ)) : EReal)) (Finset.sum_congr rfl fun s _ => ?_)
    (Cert.KernelIdeal.Block.coe_sum _ _).symm
  split <;> rfl

theorem q30 (r d : Fin 64) : S5 W (Proc.devRef .tc main_v30) (ix5 b h n r d) = qeR (head A b h) n.val r d :=
  (w4_v30 _ b h n r d _ _ (q18 W A R b h n r d) (c25 W A R hz b h n r d)).trans rfl

theorem k33 (r d : Fin 64) : S5 W (Proc.devRef .tc main_v33) (ix5 b h n r d) = ke (head A b h) n.val r d := by
  refine (w4_v33 _ b h n r d _ _ (k20 W A R b h n r d) (c25 W A R hz b h n r d)).trans ?_
  rw [← EReal.coe_neg]
  rfl

theorem k37 (r d : Fin 64) : S5 W (Proc.devRef .tc main_v37) (ix5 b h n r d) = (head A b h).k n.val r d * (head A b h).el n.val r d := by
  refine (w4_v37 _ b h n r d _ _ _ (k20 W A R b h n r d) (c25 W A R hz b h n r d) (c25 W A R hz b h n 63 d)).trans ?_
  rw [← EReal.coe_sub]
  rfl

theorem e26 (d : Fin 64) : S5 W (Proc.devRef .tc main_v26) (ix5 b h n 0 d) = (cs A b h n.val 63 d : EReal) :=
  (w4_v26 _ b h n d).trans (c25 W A R hz b h n 63 d)

omit hz in
omit R in
theorem m39 (r s : Fin 64) : S6 W (Proc.devRef .tc main_v39) (ix2 r s) = if s ≤ r then 1#1 else 0#1 :=
  w5_v39 _ r s (w4_v38 _ r s)

theorem a41 (r s : Fin 64) : S8 W (Proc.devRef .tc main_v41) (ix5 b h n r s) = attR (head A b h) n.val r s := by
  refine w7_v41 (S7 W) (w6_cst _) b h n r s _ (w6_v40 (S6 W) b h n r s _ _ (fun d => ?_) fun d => ?_) ?_
  · rw [k6 W main_v30 (by decide)]; exact q30 W A R hz b h n r d
  · rw [k6 W main_v33 (by decide)]; exact k33 W A R hz b h n s d
  · rw [k7 W main_v39 (by decide)]; exact m39 W r s

theorem o42 (r : Fin 64) (j : Fin 128) : S9 W (Proc.devRef .tc main_v42) (ix5 b h n r j) = ∑ s, attR (head A b h) n.val r s * (head A b h).v n.val s j :=
  w8_v42 (S8 W) b h n r j _ _ (fun s => a41 W A R hz b h n r s) fun s => v22 W A R b h n s j

theorem e51_0 (r d : Fin 64) : S9 W (Proc.devRef .tc main_v51_0) (ix5 n b h r d) = qeR (head A b h) n.val r d := by
  refine (w8_v51_0 (S8 W) b h n r d).trans ?_
  rw [k8 W main_v30 (by decide), k7 W main_v30 (by decide), k6 W main_v30 (by decide)]
  exact q30 W A R hz b h n r d

theorem e51_1 (d : Fin 64) (j : Fin 128) : S9 W (Proc.devRef .tc main_v51_1) (ix5 n b h d j) = kvR (head A b h) n.val d j := by
  refine w8_v51_1 (S8 W) b h n d j _ _ (fun s => ?_) fun s => v22 W A R b h n s j
  rw [k8 W main_v37 (by decide), k7 W main_v37 (by decide), k6 W main_v37 (by decide)]
  exact k37 W A R hz b h n s d

theorem e51_2 (d : Fin 64) : S9 W (Proc.devRef .tc main_v51_2) (ix4 n b h d) = (head A b h).e n.val 63 d := by
  refine (w8_v51_2 (S8 W) b h n d).trans ?_
  rw [k8 W main_v26 (by decide), k7 W main_v26 (by decide), k6 W main_v26 (by decide), e26 W A R hz]
  rfl

end

end Cert.ReferenceIdeal.Pre
end
-- ==== Proof.RefLoop.lean ====
/-
  The reference's loop over the chunks: before trip `k` the state is the reference's state before chunk `k`, and the
  output rows of the chunks before `k` are filled.
-/
module

public import proofs.«01_k».proof.Proof.RefEntry
public import Idealize.ShloMosaic.Lib.DynamicIndex

@[expose] public section

set_option maxRecDepth 16384

noncomputable section

namespace Cert.ReferenceIdeal.Loop

open Cert.ReferenceIdeal Cert.ReferenceIdeal.Gen Cert.ReferenceIdeal.Value Cert.ReferenceIdeal.Pre Idealize.ShloMosaic Idealize.ShloMosaic.TcCoe Idealize.SL.Sem
open Idealize.ShloMosaic.StableHlo Cert.Gla

variable (W : Valuation τ sig (Elt Ideal))

theorem start_toInt : ∀ k : Fin 128, (BitVec.ofNat 32 k.val).toInt = (k.val : Int) := by decide +kernel

/-- A block written where it fits. -/
theorem dynamicUpdateSlice_eq {α : Type} {s u : Shape} (x : s.Idx → α) (upd : u.Idx → α) (start : Fin s.rank → Int) (off : Fin s.rank → Nat)
    (h : s.Slices (fun _ => 0) u) (hoff : s.Slices off u) (hs : ∀ a, start a = (off a : Int)) :
    Host.dynamicUpdateSlice x upd start h = updateSlice x upd off hoff := by
  obtain rfl : (fun a => (min (max (start a) 0) ((s.size a - u.size (a.cast h.1.symm) : Nat) : Int)).toNat) = off :=
    funext fun a => by have := hoff.2 a; rw [hs a]; omega
  rfl

theorem st4 (k : Fin 128) (b : Fin 8) (h : Fin 4) (d : Fin 64) (j : Fin 128) (e s kv : EReal)
    (hc : W (Proc.devRef .tc main_v51_3) = fun _ => BitVec.ofNat 32 k.val)
    (he : W (Proc.devRef .tc main_v51_2) (ix4 k b h d) = e) (hs : W (Proc.devRef .tc main_v51_4) (ix4 b h d j) = s)
    (hk : W (Proc.devRef .tc main_v51_1) (ix5 k b h d j) = kv) :
    step_main_v51_4 W (ix4 b h d j) = e * s + kv := by
  have o4 : S128x8x4x64.Slices (![k.val, 0, 0, 0] : Fin 4 → ℕ) S1x8x4x64 := ⟨rfl, fun a => by fin_cases a <;> first | (show k.val + 1 ≤ 128; omega) | exact Nat.le_refl _⟩
  have o5 : S128x8x4x64x128.Slices (![k.val, 0, 0, 0, 0] : Fin 5 → ℕ) S1x8x4x64x128 := ⟨rfl, fun a => by fin_cases a <;> first | (show k.val + 1 ≤ 128; omega) | exact Nat.le_refl _⟩
  unfold step_main_v51_4
  rw [hc, id_eq, Host.dynamicSlice_eq_extractStridedSlice S1x8x4x64 _ _ _ _ o4 (fun a => by fin_cases a <;> first | exact start_toInt k | rfl),
    Host.dynamicSlice_eq_extractStridedSlice S1x8x4x64x128 _ _ _ _ o5 (fun a => by fin_cases a <;> first | exact start_toInt k | rfl)]
  pointwise
  rw [← he, ← hs, ← hk]

theorem st5 (k : Fin 128) (n : Fin 128) (b : Fin 8) (h : Fin 4) (r : Fin 64) (j : Fin 128) (q s : Fin 64 → EReal) (o : EReal)
    (hc : W (Proc.devRef .tc main_v51_3) = fun _ => BitVec.ofNat 32 k.val)
    (hq : ∀ d, W (Proc.devRef .tc main_v51_0) (ix5 k b h r d) = q d) (hs : ∀ d, W (Proc.devRef .tc main_v51_4) (ix4 b h d j) = s d)
    (ho : W (Proc.devRef .tc main_v51_5) (ix5 n b h r j) = o) :
    step_main_v51_5 W (ix5 n b h r j) = if n = k then ∑ d, q d * s d else o := by
  have o5 : S128x8x4x64x64.Slices (![k.val, 0, 0, 0, 0] : Fin 5 → ℕ) S1x8x4x64x64 := ⟨rfl, fun a => by fin_cases a <;> first | (show k.val + 1 ≤ 128; omega) | exact Nat.le_refl _⟩
  have o6 : S128x8x4x64x128.Slices (![k.val, 0, 0, 0, 0] : Fin 5 → ℕ) S1x8x4x64x128 := ⟨rfl, fun a => by fin_cases a <;> first | (show k.val + 1 ≤ 128; omega) | exact Nat.le_refl _⟩
  unfold step_main_v51_5
  rw [hc, id_eq, Host.dynamicSlice_eq_extractStridedSlice S1x8x4x64x64 _ _ _ _ o5 (fun a => by fin_cases a <;> first | exact start_toInt k | rfl),
    dynamicUpdateSlice_eq _ _ _ _ _ o6 (fun a => by fin_cases a <;> first | exact start_toInt k | rfl)]
  pointwise
  by_cases e : n = k
  · subst e
    rw [dif_pos ⟨Nat.le_refl _, Nat.lt_succ_self _⟩, if_pos rfl]
    exact congrArg (fun f : Fin 64 → EReal => ∑ d, f d) (funext fun d => congrArg₂ (fun x y : EReal => x * y) (hq d) (hs d))
  · rw [dif_neg fun q => e (Fin.ext (Nat.le_antisymm (Nat.lt_succ_iff.1 q.2) q.1)), if_neg e]
    exact ho

variable (A : Args) (R : Reads W A) (hz : A.Real)

/-- The loop's contents before trip `k`. -/
def T (k : ℕ) : Valuation τ sig (Elt Ideal) := STEP^[k] (S9 W)

theorem T_succ (k : ℕ) : T W (k + 1) = STEP (T W k) := Function.iterate_succ_apply' _ _ _

theorem T_0 : ∀ k, T W k (Proc.devRef .tc main_v51_0) = S9 W (Proc.devRef .tc main_v51_0)
  | 0 => rfl
  | k + 1 => by rw [T_succ, STEP_main_v51_0, T_0 k]
theorem T_1 : ∀ k, T W k (Proc.devRef .tc main_v51_1) = S9 W (Proc.devRef .tc main_v51_1)
  | 0 => rfl
  | k + 1 => by rw [T_succ, STEP_main_v51_1, T_1 k]
theorem T_2 : ∀ k, T W k (Proc.devRef .tc main_v51_2) = S9 W (Proc.devRef .tc main_v51_2)
  | 0 => rfl
  | k + 1 => by rw [T_succ, STEP_main_v51_2, T_2 k]

theorem e51_3 : S9 W (Proc.devRef .tc main_v51_3) = fun _ => (0#32 : BitVec 32) := by
  unfold S9
  after_reads_simp
  rfl

theorem T_3 : ∀ k, T W k (Proc.devRef .tc main_v51_3) = fun _ => BitVec.ofNat 32 k
  | 0 => e51_3 W
  | k + 1 => by
    rw [T_succ, STEP_main_v51_3]
    unfold step_main_v51_3
    rw [T_3 k, id_eq]
    funext i
    exact (BitVec.ofNat_add k 1).symm

include R hz

theorem T_4 (b : Fin 8) (h : Fin 4) (d : Fin 64) (j : Fin 128) : ∀ k, k ≤ 128 → T W k (Proc.devRef .tc main_v51_4) (ix4 b h d j) = stR (head A b h) k d j
  | 0, _ => w8_v51_4 (S8 W) b h d j
  | k + 1, hk => by
    rw [T_succ, STEP_main_v51_4]
    refine st4 (T W k) ⟨k, hk⟩ b h d j _ _ _ (T_3 W k) ?_ (T_4 b h d j k (Nat.le_of_succ_le hk)) ?_
    · rw [T_2]; exact e51_2 W A R hz b h ⟨k, hk⟩ d
    · rw [T_1]; exact e51_1 W A R hz b h ⟨k, hk⟩ d j

theorem T_5 (b : Fin 8) (h : Fin 4) (n : Fin 128) (r : Fin 64) (j : Fin 128) : ∀ k, k ≤ 128 → n.val < k →
    T W k (Proc.devRef .tc main_v51_5) (ix5 n b h r j) = ∑ d, qeR (head A b h) n.val r d * stR (head A b h) n.val d j
  | 0, _, hn => absurd hn (Nat.not_lt_zero _)
  | k + 1, hk, hn => by
    rw [T_succ, STEP_main_v51_5]
    refine (st5 (T W k) ⟨k, hk⟩ n b h r j (fun d => qeR (head A b h) k r d) (fun d => stR (head A b h) k d j) _ (T_3 W k) (fun d => by rw [T_0]; exact e51_0 W A R hz b h ⟨k, hk⟩ r d)
      (fun d => T_4 W A R hz b h d j k (Nat.le_of_succ_le hk)) rfl).trans ?_
    by_cases e : n = ⟨k, hk⟩
    · rw [if_pos e, e]
    · rw [if_neg e]
      exact T_5 b h n r j k (Nat.le_of_succ_le hk) (by have : n.val ≠ k := fun q => e (Fin.ext q); omega)

end Cert.ReferenceIdeal.Loop
end
-- ==== Proof.RefPost.lean ====
/-
  What the reference's host operations after its loop leave, at an index and from any contents.
-/
module

public import proofs.«01_k».proof.Proof.RefPre

@[expose] public section

set_option maxRecDepth 16384

noncomputable section

namespace Cert.ReferenceIdeal.Post

open Cert.ReferenceIdeal Cert.ReferenceIdeal.Gen Cert.ReferenceIdeal.Value Idealize.ShloMosaic Idealize.ShloMosaic.TcCoe Idealize.SL.Sem
open Idealize.ShloMosaic.StableHlo Cert.Gla
open Cert.ReferenceIdeal.Pre (rw')

variable (W : Valuation τ sig (Elt Ideal))

theorem w9_v70 (b : Fin 8) (h : Fin 4) (s : Fin 8192) (j : Fin 128) (p q : Fin 128 → EReal) (w : EReal)
    (hp : ∀ x, W (Proc.devRef .tc main_v42) (ix5 b h ⟨s.val / 64, by omega⟩ ⟨s.val % 64, by omega⟩ x) = p x)
    (hq : ∀ x, W (Proc.devRef .tc main_v51_5) (ix5 ⟨s.val / 64, by omega⟩ b h ⟨s.val % 64, by omega⟩ x) = q x)
    (hw : W (Proc.devRef .tc main_arg6) (ix2 0 j) = w) :
    after hostOps0_9 W (Proc.devRef .tc main_v70) (ix3 b s (vLane h j)) =
      (p j + q j) * Ideal.rsqrt (Ideal.div (∑ x, (p x + q x) * (p x + q x)) (Ideal.ofBits .f32 0x43000000#32) + Ideal.ofBits .f32 0x3727C5AC#32) * w := by
  unfold vLane
  after_reads_at
  simp only [hp, hq, hw]

theorem w10_v71 (b : Fin 8) (s : Fin 8192) (l : Fin 512) (z : EReal) (hz : W (Proc.devRef .tc main_arg2) (ix3 b s l) = z) :
    after hostOps0_10 W (Proc.devRef .tc main_v71) (ix3 b s l) = z * Ideal.div 1 (1 + Ideal.exp (0 - z)) := by
  after_reads_at
  rw [hz, zero_sub]

theorem w11_v73 (i : S8x8192x512.Idx) (x y : EReal) (hx : W (Proc.devRef .tc main_v70) i = x) (hy : W (Proc.devRef .tc main_v71) i = y) :
    after hostOps0_11 W (Proc.devRef .tc main_v73) i = x * y := by
  after_reads_at
  rw [hx, hy]

end Cert.ReferenceIdeal.Post
end
-- ==== Proof.RefValue.lean ====
/-
  What the reference's result holds after the run: at every row and lane the layer's result, from the head's attention
  in the reference's form.
-/
module

public import proofs.«01_k».proof.Proof.RefLoop
public import proofs.«01_k».proof.Proof.RefPost

@[expose] public section

set_option maxRecDepth 16384

noncomputable section

namespace Cert.ReferenceIdeal.Final

open Cert.ReferenceIdeal Cert.ReferenceIdeal.Gen Cert.ReferenceIdeal.Value Cert.ReferenceIdeal.Pre Idealize.ShloMosaic Idealize.ShloMosaic.TcCoe Idealize.SL.Sem
open Idealize.ShloMosaic.StableHlo Cert.Gla

variable (m : (ℓ : Loc nD τ sig) → Buf (Elt Ideal) ℓ) (c : Dev nD)

/-- The layer's arrays as the launch holds them. -/
def args : Args where
  QK b s l := m ((c : Thread nD τ).loc main_arg0) (ix3 b s l)
  V b s l := m ((c : Thread nD τ).loc main_arg1) (ix3 b s l)
  Z b s l := m ((c : Thread nD τ).loc main_arg2) (ix3 b s l)
  M b s l := m ((c : Thread nD τ).loc main_arg3) (ix3 b s l)
  W i g := m ((c : Thread nD τ).loc main_arg4) (ix3 0 i g)
  B g := m ((c : Thread nD τ).loc main_arg5) (ix2 0 g)
  N j := m ((c : Thread nD τ).loc main_arg6) (ix2 0 j)

/-- The buffers at the launch. -/
def W0 : Valuation τ sig (Elt Ideal) := fun r => m (c, r)

theorem reads : Reads (W0 m c) (args m c) :=
  ⟨fun _ _ _ => rfl, fun _ _ _ => rfl, fun _ _ _ => rfl, fun _ _ _ => rfl, fun _ _ => rfl, fun _ => rfl, fun _ => rfl⟩

theorem entry_eq : entryContents preI m c = S9 (W0 m c) := rfl

/-- A buffer that no trip writes keeps its contents through the loop. -/
theorem atK_keep (r : Ref sig .tc) (h : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) : ∀ k, atK m k c (Proc.devRef .tc r) = S9 (W0 m c) (Proc.devRef .tc r)
  | 0 => rfl
  | k + 1 => by
    rw [show atK m (k + 1) c = afterL bodyI (after condOps (atK m k c)) from rfl]
    simp only [afterL_cons, afterL_nil]
    rw [after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes h, atK_keep r h h0 h1 h2 h3 h4 h5 k]

/-- The buffers after the loop. -/
def X : Valuation τ sig (Elt Ideal) := after condOps (atK m 128 c)

theorem final_eq : finalContents condOps preI bodyI postI 128 m c = after hostOps0_11 (after hostOps0_10 (after hostOps0_9 (X m c))) := rfl

theorem S9_arg (r : Ref sig .tc) (h1 : r ∉ hostOps0_W) (h2 : r ∉ hostOps0_1_W) (h3 : r ∉ hostOps0_2_W) (h4 : r ∉ hostOps0_3_W) (h5 : r ∉ hostOps0_4_W)
    (h6 : r ∉ hostOps0_5_W) (h7 : r ∉ hostOps0_6_W) (h8 : r ∉ hostOps0_7_W) (h9 : r ∉ hostOps0_8_W) :
    S9 (W0 m c) (Proc.devRef .tc r) = m (c, Proc.devRef .tc r) := by
  rw [k9 _ r h9, k8 _ r h8, k7 _ r h7, k6 _ r h6, k5 _ r h5, k4 _ r h4, k3 _ r h3, k2 _ r h2, k1 _ r h1]
  rfl

theorem X_keep (r : Ref sig .tc) (h : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) : X m c (Proc.devRef .tc r) = S9 (W0 m c) (Proc.devRef .tc r) := by
  unfold X
  rw [after_of_writes_sub condOps _ condOps_writes h, atK_keep m c r h h0 h1 h2 h3 h4 h5]

theorem X_5 : X m c (Proc.devRef .tc main_v51_5) = Loop.T (W0 m c) 128 (Proc.devRef .tc main_v51_5) := by
  unfold X
  rw [after_of_writes_sub condOps _ condOps_writes (by decide), atK_agree m c 128 main_v51_5 (by decide)]
  rfl

/-- The writes after the loop. -/
theorem keep9 (V : Valuation τ sig (Elt Ideal)) : after hostOps0_9 V (Proc.devRef .tc main_arg2) = V (Proc.devRef .tc main_arg2) := by
  after_reads_simp
theorem keep10 (V : Valuation τ sig (Elt Ideal)) : after hostOps0_10 V (Proc.devRef .tc main_v70) = V (Proc.devRef .tc main_v70) := by
  after_reads_simp

theorem value (hz : (args m c).Real) (b : Fin 8) (s : Fin 8192) (h : Fin 4) (j : Fin 128) :
    finalContents condOps preI bodyI postI 128 m c (Proc.devRef .tc main_v73) (ix3 b s (vLane h j)) =
      result (args m c) b h (oR (head (args m c) b h) (s.val / 64) ⟨s.val % 64, by omega⟩) (s.val / 64) ⟨s.val % 64, by omega⟩ j := by
  rw [final_eq]
  refine (Post.w11_v73 _ _ _ _ rfl rfl).trans ?_
  rw [keep10, Post.w9_v70 (X m c) b h s j
      (fun x => ∑ t, attR (head (args m c) b h) (s.val / 64) ⟨s.val % 64, by omega⟩ t * (head (args m c) b h).v (s.val / 64) t x)
      (fun x => ∑ d, qeR (head (args m c) b h) (s.val / 64) ⟨s.val % 64, by omega⟩ d * stR (head (args m c) b h) (s.val / 64) d x)
      ((args m c).N j)
      (fun x => by
        rw [X_keep m c main_v42 (by decide) (by decide) (by decide) (by decide) (by decide) (by decide) (by decide)]
        exact o42 (W0 m c) _ (reads m c) hz b h ⟨s.val / 64, by omega⟩ ⟨s.val % 64, by omega⟩ x)
      (fun x => by
        rw [X_5]
        exact Loop.T_5 (W0 m c) _ (reads m c) hz b h ⟨s.val / 64, by omega⟩ ⟨s.val % 64, by omega⟩ x 128 (Nat.le_refl _) (show s.val / 64 < 128 by omega))
      (by
        rw [X_keep m c main_arg6 (by decide) (by decide) (by decide) (by decide) (by decide) (by decide) (by decide),
          S9_arg m c main_arg6 (by decide) (by decide) (by decide) (by decide) (by decide) (by decide) (by decide) (by decide) (by decide)]
        rfl),
    Post.w10_v71 _ b s (vLane h j) ((args m c).Z b s (vLane h j)) (by
        rw [keep9, X_keep m c main_arg2 (by decide) (by decide) (by decide) (by decide) (by decide) (by decide) (by decide),
          S9_arg m c main_arg2 (by decide) (by decide) (by decide) (by decide) (by decide) (by decide) (by decide) (by decide) (by decide)]
        rfl)]
  have e : seq (s.val / 64) ⟨s.val % 64, by omega⟩ = s := Fin.ext (by show (s.val / 64 * 64 + s.val % 64) % 8192 = s.val; omega)
  unfold result
  rw [e]
  rfl

end Cert.ReferenceIdeal.Final
end
-- ==== Proof.Equation.lean ====
/-
  The two runs end with equal results: the precondition read as real arguments, and the kernel's attention against the
  reference's.
-/
module

public import proofs.«01_k».proof.Defs
public import proofs.«01_k».proof.Proof.KernelValue
public import proofs.«01_k».proof.Proof.RefValue

@[expose] public section

set_option maxRecDepth 16384

noncomputable section

namespace Cert.Pre_gate_finite.Gen

open Idealize.ShloMosaic

/-- The precondition's side conditions. -/
instance facts : Cert.Pre_gate_finite.Facts where
  slices_S8x8192x128_S8x8192x16_0_0_24 := by decide
  bcast_S_S8x8192x16 := by decide
  bcast_S_S1x16x256 := by decide
  bcast_S_S1x256 := by decide

end Cert.Pre_gate_finite.Gen

namespace Cert.ReferenceIdeal.Final

open Cert.ReferenceIdeal Cert.ReferenceIdeal.Gen Cert.ReferenceIdeal.Value Cert.ReferenceIdeal.Pre Idealize.ShloMosaic Idealize.ShloMosaic.TcCoe Idealize.SL.Sem
open Idealize.ShloMosaic.StableHlo Cert.Gla

variable (m : (ℓ : Loc nD τ sig) → Buf (Elt Ideal) ℓ) (c : Dev nD) (ρ : Dev nD → PrngReg)

/-- Argument 0 ends as launched. -/
theorem kept_0 : finalContents condOps preI bodyI postI 128 m c (Proc.devRef .tc main_arg0) = m ((c.tc : Thread nD τ).loc main_arg0) := by
  rw [final_eq]
  have e : ∀ V : Valuation τ sig (Elt Ideal), after hostOps0_11 (after hostOps0_10 (after hostOps0_9 V)) (Proc.devRef .tc main_arg0) = V (Proc.devRef .tc main_arg0) := fun V => by
    after_reads_simp
  rw [e, X_keep m c main_arg0 (by decide) (by decide) (by decide) (by decide) (by decide) (by decide) (by decide),
    S9_arg m c main_arg0 (by decide) (by decide) (by decide) (by decide) (by decide) (by decide) (by decide) (by decide) (by decide)]

/-- Argument 1 ends as launched. -/
theorem kept_1 : finalContents condOps preI bodyI postI 128 m c (Proc.devRef .tc main_arg1) = m ((c.tc : Thread nD τ).loc main_arg1) := by
  rw [final_eq]
  have e : ∀ V : Valuation τ sig (Elt Ideal), after hostOps0_11 (after hostOps0_10 (after hostOps0_9 V)) (Proc.devRef .tc main_arg1) = V (Proc.devRef .tc main_arg1) := fun V => by
    after_reads_simp
  rw [e, X_keep m c main_arg1 (by decide) (by decide) (by decide) (by decide) (by decide) (by decide) (by decide),
    S9_arg m c main_arg1 (by decide) (by decide) (by decide) (by decide) (by decide) (by decide) (by decide) (by decide) (by decide)]

/-- Argument 2 ends as launched. -/
theorem kept_2 : finalContents condOps preI bodyI postI 128 m c (Proc.devRef .tc main_arg2) = m ((c.tc : Thread nD τ).loc main_arg2) := by
  rw [final_eq]
  have e : ∀ V : Valuation τ sig (Elt Ideal), after hostOps0_11 (after hostOps0_10 (after hostOps0_9 V)) (Proc.devRef .tc main_arg2) = V (Proc.devRef .tc main_arg2) := fun V => by
    after_reads_simp
  rw [e, X_keep m c main_arg2 (by decide) (by decide) (by decide) (by decide) (by decide) (by decide) (by decide),
    S9_arg m c main_arg2 (by decide) (by decide) (by decide) (by decide) (by decide) (by decide) (by decide) (by decide) (by decide)]

/-- Argument 3 ends as launched. -/
theorem kept_3 : finalContents condOps preI bodyI postI 128 m c (Proc.devRef .tc main_arg3) = m ((c.tc : Thread nD τ).loc main_arg3) := by
  rw [final_eq]
  have e : ∀ V : Valuation τ sig (Elt Ideal), after hostOps0_11 (after hostOps0_10 (after hostOps0_9 V)) (Proc.devRef .tc main_arg3) = V (Proc.devRef .tc main_arg3) := fun V => by
    after_reads_simp
  rw [e, X_keep m c main_arg3 (by decide) (by decide) (by decide) (by decide) (by decide) (by decide) (by decide),
    S9_arg m c main_arg3 (by decide) (by decide) (by decide) (by decide) (by decide) (by decide) (by decide) (by decide) (by decide)]

/-- Argument 4 ends as launched. -/
theorem kept_4 : finalContents condOps preI bodyI postI 128 m c (Proc.devRef .tc main_arg4) = m ((c.tc : Thread nD τ).loc main_arg4) := by
  rw [final_eq]
  have e : ∀ V : Valuation τ sig (Elt Ideal), after hostOps0_11 (after hostOps0_10 (after hostOps0_9 V)) (Proc.devRef .tc main_arg4) = V (Proc.devRef .tc main_arg4) := fun V => by
    after_reads_simp
  rw [e, X_keep m c main_arg4 (by decide) (by decide) (by decide) (by decide) (by decide) (by decide) (by decide),
    S9_arg m c main_arg4 (by decide) (by decide) (by decide) (by decide) (by decide) (by decide) (by decide) (by decide) (by decide)]

/-- Argument 5 ends as launched. -/
theorem kept_5 : finalContents condOps preI bodyI postI 128 m c (Proc.devRef .tc main_arg5) = m ((c.tc : Thread nD τ).loc main_arg5) := by
  rw [final_eq]
  have e : ∀ V : Valuation τ sig (Elt Ideal), after hostOps0_11 (after hostOps0_10 (after hostOps0_9 V)) (Proc.devRef .tc main_arg5) = V (Proc.devRef .tc main_arg5) := fun V => by
    after_reads_simp
  rw [e, X_keep m c main_arg5 (by decide) (by decide) (by decide) (by decide) (by decide) (by decide) (by decide),
    S9_arg m c main_arg5 (by decide) (by decide) (by decide) (by decide) (by decide) (by decide) (by decide) (by decide) (by decide)]

/-- Argument 6 ends as launched. -/
theorem kept_6 : finalContents condOps preI bodyI postI 128 m c (Proc.devRef .tc main_arg6) = m ((c.tc : Thread nD τ).loc main_arg6) := by
  rw [final_eq]
  have e : ∀ V : Valuation τ sig (Elt Ideal), after hostOps0_11 (after hostOps0_10 (after hostOps0_9 V)) (Proc.devRef .tc main_arg6) = V (Proc.devRef .tc main_arg6) := fun V => by
    after_reads_simp
  rw [e, X_keep m c main_arg6 (by decide) (by decide) (by decide) (by decide) (by decide) (by decide) (by decide),
    S9_arg m c main_arg6 (by decide) (by decide) (by decide) (by decide) (by decide) (by decide) (by decide) (by decide) (by decide)]

/-- The reference's run: the result named, the arguments as launched. -/
theorem run : θ_run (defs (F := Ideal)) (onTc (τ := τ) (main (F := Ideal))) ⟨m, fun _ => 0, ρ⟩ fun r => ∀ c : Dev nD,
    r.2.mem ((c.tc : Thread nD τ).loc main_v73) = finalContents condOps preI bodyI postI 128 m c (Proc.devRef .tc main_v73)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun r h c => ⟨h c main_v73 rfl, (h c main_arg0 rfl).trans (kept_0 m c), (h c main_arg1 rfl).trans (kept_1 m c), (h c main_arg2 rfl).trans (kept_2 m c), (h c main_arg3 rfl).trans (kept_3 m c), (h c main_arg4 rfl).trans (kept_4 m c), (h c main_arg5 rfl).trans (kept_5 m c), (h c main_arg6 rfl).trans (kept_6 m c)⟩) (run_fold m ρ)

end Cert.ReferenceIdeal.Final

namespace Cert.Equation

open Idealize.ShloMosaic Idealize.ShloMosaic.TcCoe Idealize.SL.Sem Cert.Gla

/-- A magnitude below infinity is a real number's. -/
theorem real_of_abs {x : EReal} (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  have h' : max x (-x) < ⊤ := (Ideal.cmp_olt_eq_one _ _).1 h
  rw [max_lt_iff] at h'
  exact ⟨h'.1.ne, fun q => by rw [q] at h'; exact absurd h'.2 (by simp)⟩

open Cert.KernelIdeal in
/-- Under the precondition the gate's arguments are real. -/
theorem real (m : (ℓ : Loc nD τ sig) → Buf (Elt Ideal) ℓ) (h : Cert.Pre_KernelIdeal_gate_finite m) (c : Dev nD) :
    (Cert.KernelIdeal.Final.args m c).Real := by
  obtain ⟨h1, h2, h3⟩ := h c
  refine real_of _ (fun b S i => ?_) (fun i g => ?_) (fun g => ?_)
  · have e := congrFun h1 (ix3 b S i)
    unfold Cert.Pre_gate_finite.fn at e
    pointwise at e
    exact real_of_abs e
  · have e := congrFun h2 (ix3 0 i g)
    unfold Cert.Pre_gate_finite.fn at e
    pointwise at e
    exact real_of_abs e
  · have e := congrFun h3 (ix2 0 g)
    unfold Cert.Pre_gate_finite.fn at e
    pointwise at e
    exact real_of_abs e

/-- The reference's result, in the kernel's form. -/
theorem ref_value (m : (ℓ : Loc Cert.ReferenceIdeal.nD Cert.ReferenceIdeal.τ Cert.ReferenceIdeal.sig) → Buf (Elt Ideal) ℓ) (c : Dev Cert.ReferenceIdeal.nD)
    (hz : (Cert.ReferenceIdeal.Final.args m c).Real) (b : Fin 8) (s : Fin 8192) (h : Fin 4) (j : Fin 128) :
    StableHlo.finalContents Cert.ReferenceIdeal.Value.condOps Cert.ReferenceIdeal.Value.preI Cert.ReferenceIdeal.Value.bodyI Cert.ReferenceIdeal.Value.postI 128 m c
        (Proc.devRef .tc Cert.ReferenceIdeal.main_v73) (ix3 b s (vLane h j)) =
      result (Cert.ReferenceIdeal.Final.args m c) b h (oK (head (Cert.ReferenceIdeal.Final.args m c) b h) (s.val / 64) ⟨s.val % 64, by omega⟩)
        (s.val / 64) ⟨s.val % 64, by omega⟩ j := by
  rw [Cert.ReferenceIdeal.Final.value m c hz b s h j]
  congr 1
  funext x
  exact oR_eq _ (head_decays _ b h) _ _ x

/-- From agreeing arguments under the precondition the two programs end with the same result. -/
theorem algebraic : Cert.algebraic_KernelIdeal_ReferenceIdeal_pre_gate_finite := by
  intro m g m' g' hpre hag
  have ha : ∀ c, Cert.ReferenceIdeal.Final.args m' c = Cert.KernelIdeal.Final.args m c := fun c => by
    obtain ⟨h0, h1, h2, h3, h4, h5, h6⟩ := hag c
    unfold Cert.ReferenceIdeal.Final.args Cert.KernelIdeal.Final.args
    congr 1
    · funext b s l; exact congrFun h0 _
    · funext b s l; exact congrFun h1 _
    · funext b s l; exact congrFun h2 _
    · funext b s l; exact congrFun h3 _
    · funext i g; exact congrFun h4 _
    · funext g; exact congrFun h5 _
    · funext j; exact congrFun h6 _
  refine ⟨fun c => Cert.KernelIdeal.Final.res m c, ?_, ?_⟩
  · exact (θ_run _ _ _).mono (fun r h c => ⟨(h c).1.trans (Cert.KernelIdeal.Final.final m c (real m hpre c)), (h c).2⟩)
      (Cert.KernelIdeal.Value.run_blocks (F := Ideal) m g)
  · refine (θ_run _ _ _).mono (fun r h c => ⟨(h c).1.trans ?_, (h c).2⟩) (Cert.ReferenceIdeal.Final.run m' g')
    funext i
    obtain ⟨b, s, l, rfl⟩ : ∃ (b : Fin 8) (s : Fin 8192) (l : Fin 512), i = ix3 b s l := ⟨i 0, i 1, i 2, by funext a; fin_cases a <;> rfl⟩
    have hl : l = vLane ⟨l.val / 128, by omega⟩ ⟨l.val % 128, by omega⟩ := Fin.ext (by show l.val = l.val / 128 * 128 + l.val % 128; omega)
    have hz : (Cert.ReferenceIdeal.Final.args m' c).Real := by rw [ha c]; exact real m hpre c
    refine (congrArg (fun x => StableHlo.finalContents Cert.ReferenceIdeal.Value.condOps Cert.ReferenceIdeal.Value.preI Cert.ReferenceIdeal.Value.bodyI Cert.ReferenceIdeal.Value.postI 128 m' c
        (Proc.devRef .tc Cert.ReferenceIdeal.main_v73) (ix3 b s x)) hl).trans ((ref_value m' c hz b s _ _).trans ?_)
    rw [ha c]
    rfl

end Cert.Equation
end
-- ==== Proof.OutRow.lean ====
/-
  One row of the output projection over the extended reals: the mixers' outputs through the projection onto the scaled
  input, the gated per-layer embedding added to it, and the layer norm of the sum.
-/
module

public import Idealize.ShloMosaic.Lib.Pointwise

@[expose] public section

noncomputable section

namespace Cert.OutRow

open Idealize.ShloMosaic

/-- A row's inputs and the weights. -/
structure Row where
  hn : Fin 1024 → EReal
  a : Fin 512 → EReal
  z : Fin 512 → EReal
  g : Fin 512 → EReal
  p : Fin 256 → EReal
  wo : Fin 1024 → Fin 1024 → EReal
  wg : Fin 1024 → Fin 1024 → EReal
  bg : Fin 1024 → EReal
  we : Fin 256 → Fin 1024 → EReal
  lg : Fin 1024 → EReal
  lb : Fin 1024 → EReal

/-- The row's mean. -/
def mean (y : Fin 1024 → EReal) : EReal := Ideal.div (∑ k, y k) (Ideal.ofBits .f32 1149239296#32)

/-- The layer norm of a row. -/
def norm (y g b : Fin 1024 → EReal) (j : Fin 1024) : EReal :=
  (y j - mean y) * Ideal.rsqrt (mean (fun k => (y k - mean y) * (y k - mean y)) + Ideal.ofBits .f32 925353388#32) * g j + b j

variable (r : Row)

/-- The residual after the projection. -/
def first (j : Fin 1024) : EReal :=
  r.hn j + (∑ x : Fin 512, r.a x * r.z x * r.wo ⟨x.val, by omega⟩ j + ∑ x : Fin 512, r.g x * r.wo ⟨512 + x.val, by omega⟩ j)

/-- The embedding's gate. -/
def gate (j : Fin 1024) : EReal := Ideal.div 1 (1 + Ideal.exp (-(∑ x, first r x * r.wg x j + r.bg j)))

/-- The residual after the gated embedding. -/
def second (j : Fin 1024) : EReal := first r j + gate r j * ∑ x, r.p x * r.we x j

/-- The row of the result. -/
def out (j : Fin 1024) : EReal := norm (second r) r.lg r.lb j

end Cert.OutRow
end
-- ==== Proof.OutBlock.lean ====
/-
  What one grid point of the output projection computes, at an index: the mixers' outputs through the projection, the
  gated per-layer embedding, and the norm of each row.
-/
module

public import proofs.«01_k».proof.Proof.Gen.Kernel2Ideal.Value
public import proofs.«01_k».proof.Proof.OutRow
public import Idealize.ShloMosaic.Lib.Pointwise
public import Idealize.ShloMosaic.Lib.StableHlo.ReadAt
public import Idealize.ShloMosaic.Lib.Routing.OpsSet
public import Idealize.ShloMosaic.Lib.Routing.OpsPair
public import Idealize.ShloMosaic.Lib.Pipeline.ValueKit
public import Idealize.ShloMosaic.Lib.Pipeline.ValueKit.Point
public import Idealize.ShloMosaic.Lib.Tactic

@[expose] public section

set_option maxRecDepth 16384

noncomputable section

namespace Cert.Kernel2Ideal.Block

open Cert.Kernel2Ideal Cert.Kernel2Ideal.Gen Idealize.ShloMosaic Idealize.ShloMosaic.TcCoe Idealize.SL.Sem

/-- A block's rows before the norm. -/
def rows {F : FTy → Type} [FloatOps F] (v0 : Vec F S1x512x256 .bf16) (v5 v8 : Vec F S1x256x512 .bf16) (v11 : Vec F S1x256x1024 .f32) (v13 v18 : Vec F S1024x1024 .bf16)
    (v21 : Vec F S1x1024 .f32) (v32 : Vec F S1x256x256 .f32) (v35 : Vec F S256x1024 .bf16) : FVec F S256x1024 .f32 :=
  addf (k0_pay2 v0 v5 v8 v11 v13) (mulf (k0_pay3 v0 v5 v8 v11 v13 v18 v21)
    (matmul dot_S256x256_S256x1024_S256x1024_1_0_0_1_n_n none (truncf .bf16 (shapeCast S256x256 v32 shapeCasts_S1x256x256_S256x256) bitsLt_bf16_f32)
      (shapeCast S256x1024 v35 shapeCasts_S256x1024_S256x1024) (constant S256x1024 .f32 0x00000000#32)))

theorem pay4_eq {F : FTy → Type} [FloatOps F] (v0 : Vec F S1x512x256 .bf16) (v5 v8 : Vec F S1x256x512 .bf16) (v11 : Vec F S1x256x1024 .f32) (v13 v18 : Vec F S1024x1024 .bf16)
    (v21 : Vec F S1x1024 .f32) (v32 : Vec F S1x256x256 .f32) (v35 : Vec F S256x1024 .bf16) (v40 v42 : Vec F S1x1024 .f32) :
    k0_pay4 (k0_pay2 v0 v5 v8 v11 v13) (k0_pay3 v0 v5 v8 v11 v13 v18 v21) v32 v35 v40 v42 = k0_pay1 (rows v0 v5 v8 v11 v13 v18 v21 v32 v35) v40 v42 := rfl

theorem pay6_eq {F : FTy → Type} [FloatOps F] (v0 : Vec F S1x512x256 .bf16) (v5 v8 : Vec F S1x256x512 .bf16) (v11 : Vec F S1x256x1024 .f32) (v13 v18 : Vec F S1024x1024 .bf16)
    (v21 : Vec F S1x1024 .f32) (v32 : Vec F S1x256x256 .f32) (v35 : Vec F S256x1024 .bf16) :
    k0_pay6 (k0_pay5 v0) v5 v8 v11 v13 v18 v21 v32 v35 = rows v0 v5 v8 v11 v13 v18 v21 v32 v35 := rfl

variable (v0 : Vec Ideal S1x512x256 .bf16) (v5 v8 : Vec Ideal S1x256x512 .bf16) (v11 : Vec Ideal S1x256x1024 .f32) (v13 v18 : Vec Ideal S1024x1024 .bf16)
    (v21 : Vec Ideal S1x1024 .f32) (v32 : Vec Ideal S1x256x256 .f32) (v35 : Vec Ideal S256x1024 .bf16) (v40 v42 : Vec Ideal S1x1024 .f32)

open Cert.OutRow

/-- Row `R` of the block's inputs. -/
def row (R : Fin 256) : Row where
  hn j := v11 (ix3 0 R j)
  a k := v0 (ix3 0 k R)
  z k := v5 (ix3 0 R k)
  g k := v8 (ix3 0 R k)
  p k := v32 (ix3 0 R k)
  wo i j := v13 (ix2 i j)
  wg i j := v18 (ix2 i j)
  bg j := v21 (ix2 0 j)
  we i j := v35 (ix2 i j)
  lg j := v40 (ix2 0 j)
  lb j := v42 (ix2 0 j)

theorem pay2_apply (R : Fin 256) (j : Fin 1024) : k0_pay2 v0 v5 v8 v11 v13 (ix2 R j) = first (row v0 v5 v8 v11 v13 v18 v21 v32 v35 v40 v42 R) j := by
  pointwise [k0_pay2]
  rfl

theorem pay3_apply (R : Fin 256) (j : Fin 1024) : k0_pay3 v0 v5 v8 v11 v13 v18 v21 (ix2 R j) = gate (row v0 v5 v8 v11 v13 v18 v21 v32 v35 v40 v42 R) j := by
  pointwise [k0_pay3]
  simp only [pay2_apply v0 v5 v8 v11 v13 v18 v21 v32 v35 v40 v42, zero_sub]
  rfl

theorem rows_apply (R : Fin 256) (j : Fin 1024) : rows v0 v5 v8 v11 v13 v18 v21 v32 v35 (ix2 R j) = second (row v0 v5 v8 v11 v13 v18 v21 v32 v35 v40 v42 R) j := by
  pointwise [rows]
  rw [pay2_apply v0 v5 v8 v11 v13 v18 v21 v32 v35 v40 v42, pay3_apply v0 v5 v8 v11 v13 v18 v21 v32 v35 v40 v42]
  rfl

theorem pay1_apply (R : Fin 256) (j : Fin 1024) :
    k0_pay1 (rows v0 v5 v8 v11 v13 v18 v21 v32 v35) v40 v42 (ix3 0 R j) = out (row v0 v5 v8 v11 v13 v18 v21 v32 v35 v40 v42 R) j := by
  have e : (fun k => rows v0 v5 v8 v11 v13 v18 v21 v32 v35 (ix2 R k)) = second (row v0 v5 v8 v11 v13 v18 v21 v32 v35 v40 v42 R) :=
    funext fun k => rows_apply v0 v5 v8 v11 v13 v18 v21 v32 v35 v40 v42 R k
  unfold out
  rw [← e]
  pointwise [k0_pay1]
  rfl

end Cert.Kernel2Ideal.Block
end
-- ==== Proof.OutKernel.lean ====
/-
  The output projection's result after the run: each grid point writes the rows of its tile, in two halves of 256 rows,
  and the tiles cover the array.
-/
module

public import proofs.«01_k».proof.Proof.OutBlock

@[expose] public section

set_option maxRecDepth 16384

noncomputable section

namespace Cert.Kernel2Ideal.Final

open Cert.Kernel2Ideal Cert.Kernel2Ideal.Gen Idealize.ShloMosaic Idealize.ShloMosaic.TcCoe Idealize.SL.Sem
open Cert.OutRow Cert.Kernel2Ideal.Block

variable (m : (ℓ : Loc nD τ sig) → Buf (Elt Ideal) ℓ) (c : Dev nD)

theorem idx0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem idx1 : ∀ t : Fin cfg0.N, win0_1.index t 0 = t.val / 16 ∧ win0_1.index t 1 = 0 ∧ win0_1.index t 2 = t.val % 16 :=
  (by decide +kernel : ∀ t : Fin grid0.N, win0_1.index t 0 = t.val / 16 ∧ win0_1.index t 1 = 0 ∧ win0_1.index t 2 = t.val % 16)
theorem idx2 : ∀ t : Fin cfg0.N, win0_2.index t 0 = t.val / 16 ∧ win0_2.index t 1 = t.val % 16 ∧ win0_2.index t 2 = 0 :=
  (by decide +kernel : ∀ t : Fin grid0.N, win0_2.index t 0 = t.val / 16 ∧ win0_2.index t 1 = t.val % 16 ∧ win0_2.index t 2 = 0)
theorem idx3 : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)
theorem idx4 : ∀ t : Fin cfg0.N, win0_4.index t 0 = t.val / 16 ∧ win0_4.index t 1 = t.val % 16 ∧ win0_4.index t 2 = 0 :=
  (by decide +kernel : ∀ t : Fin grid0.N, win0_4.index t 0 = t.val / 16 ∧ win0_4.index t 1 = t.val % 16 ∧ win0_4.index t 2 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = t.val / 16 ∧ win0_11.index t 1 = t.val % 16 ∧ win0_11.index t 2 = 0 :=
  (by decide +kernel : ∀ t : Fin grid0.N, win0_11.index t 0 = t.val / 16 ∧ win0_11.index t 1 = t.val % 16 ∧ win0_11.index t 2 = 0)
/-- The batch row of a grid point. -/
def bOf (t : Fin cfg0.N) : Fin 8 := ⟨t.val / 16, by have := t.isLt; have : cfg0.N = 128 := N_0; omega⟩
/-- Row `R` of the grid point's tile among the sequence's rows. -/
def rOf (t : Fin cfg0.N) (R : Fin 512) : Fin 8192 := ⟨t.val % 16 * 512 + R.val, by omega⟩

theorem blk0 (t : Fin cfg0.N) (R : Fin 512) (l : Fin 1024) :
    (iblk m c 0 t : Vec Ideal S1x512x1024 .f32) (ix3 0 R l) = m ((c : Thread nD τ).loc main_arg0) (ix3 (bOf t) (rOf t R) l) := by
  blk_point [iblk, V, idx0 t, bOf, rOf]
theorem blk1 (t : Fin cfg0.N) (l : Fin 512) (R : Fin 512) :
    (iblk m c 1 t : Vec Ideal S1x512x512 .bf16) (ix3 0 l R) = m ((c : Thread nD τ).loc main_arg1) (ix3 (bOf t) l (rOf t R)) := by
  blk_point [iblk, V, idx1 t, bOf, rOf]
theorem blk2 (t : Fin cfg0.N) (R : Fin 512) (l : Fin 512) :
    (iblk m c 2 t : Vec Ideal S1x512x512 .bf16) (ix3 0 R l) = m ((c : Thread nD τ).loc main_arg2) (ix3 (bOf t) (rOf t R) l) := by
  blk_point [iblk, V, idx2 t, bOf, rOf]
theorem blk3 (t : Fin cfg0.N) (R : Fin 512) (l : Fin 512) :
    (iblk m c 3 t : Vec Ideal S1x512x512 .bf16) (ix3 0 R l) = m ((c : Thread nD τ).loc main_arg3) (ix3 (bOf t) (rOf t R) l) := by
  blk_point [iblk, V, idx3 t, bOf, rOf]
theorem blk4 (t : Fin cfg0.N) (R : Fin 512) (l : Fin 256) :
    (iblk m c 4 t : Vec Ideal S1x512x256 .f32) (ix3 0 R l) = V m c main_v0 (ix3 (bOf t) (rOf t R) l) := by
  blk_point [iblk, idx4 t, bOf, rOf]
theorem blk5 (t : Fin cfg0.N) (i l : Fin 1024) : (iblk m c 5 t : Vec Ideal S1024x1024 .bf16) (ix2 i l) = V m c main_v2 (ix2 i l) := by
  blk_point [iblk, idx5 t]
theorem blk6 (t : Fin cfg0.N) (i l : Fin 1024) : (iblk m c 6 t : Vec Ideal S1024x1024 .bf16) (ix2 i l) = V m c main_v4 (ix2 i l) := by
  blk_point [iblk, idx6 t]
theorem blk7 (t : Fin cfg0.N) (l : Fin 1024) : (iblk m c 7 t : Vec Ideal S1x1024 .f32) (ix2 0 l) = V m c main_v6 (ix2 0 l) := by
  blk_point [iblk, idx7 t]
theorem blk8 (t : Fin cfg0.N) (i : Fin 256) (l : Fin 1024) : (iblk m c 8 t : Vec Ideal S256x1024 .bf16) (ix2 i l) = V m c main_v8 (ix2 i l) := by
  blk_point [iblk, idx8 t]
theorem blk9 (t : Fin cfg0.N) (l : Fin 1024) : (iblk m c 9 t : Vec Ideal S1x1024 .f32) (ix2 0 l) = V m c main_v10 (ix2 0 l) := by
  blk_point [iblk, idx9 t]
theorem blk10 (t : Fin cfg0.N) (l : Fin 1024) : (iblk m c 10 t : Vec Ideal S1x1024 .f32) (ix2 0 l) = V m c main_v12 (ix2 0 l) := by
  blk_point [iblk, idx10 t]

theorem v0_at (b : Fin 8) (s : Fin 8192) (l : Fin 256) : V m c main_v0 (ix3 b s l) = m ((c : Thread nD τ).loc main_arg4) (ix4 0 b s l) := by
  unfold V
  after_reads_at
theorem v2_at (i l : Fin 1024) : V m c main_v2 (ix2 i l) = m ((c : Thread nD τ).loc main_arg5) (ix3 0 i l) := by
  unfold V
  after_reads_at
theorem v4_at (i l : Fin 1024) : V m c main_v4 (ix2 i l) = m ((c : Thread nD τ).loc main_arg6) (ix3 0 i l) := by
  unfold V
  after_reads_at
theorem v6_at (l : Fin 1024) : V m c main_v6 (ix2 0 l) = m ((c : Thread nD τ).loc main_arg7) (ix2 0 l) := by
  unfold V
  after_reads_at
theorem v8_at (i : Fin 256) (l : Fin 1024) : V m c main_v8 (ix2 i l) = m ((c : Thread nD τ).loc main_arg8) (ix3 0 i l) := by
  unfold V
  after_reads_at
theorem v10_at (l : Fin 1024) : V m c main_v10 (ix2 0 l) = m ((c : Thread nD τ).loc main_arg9) (ix2 0 l) := by
  unfold V
  after_reads_at
theorem v12_at (l : Fin 1024) : V m c main_v12 (ix2 0 l) = m ((c : Thread nD τ).loc main_arg10) (ix2 0 l) := by
  unfold V
  after_reads_at

/-- The row's inputs and the weights, as launched. -/
def rowM (b : Fin 8) (s : Fin 8192) : Row where
  hn j := m ((c : Thread nD τ).loc main_arg0) (ix3 b s j)
  a k := m ((c : Thread nD τ).loc main_arg1) (ix3 b k s)
  z k := m ((c : Thread nD τ).loc main_arg2) (ix3 b s k)
  g k := m ((c : Thread nD τ).loc main_arg3) (ix3 b s k)
  p k := m ((c : Thread nD τ).loc main_arg4) (ix4 0 b s k)
  wo i j := m ((c : Thread nD τ).loc main_arg5) (ix3 0 i j)
  wg i j := m ((c : Thread nD τ).loc main_arg6) (ix3 0 i j)
  bg j := m ((c : Thread nD τ).loc main_arg7) (ix2 0 j)
  we i j := m ((c : Thread nD τ).loc main_arg8) (ix3 0 i j)
  lg j := m ((c : Thread nD τ).loc main_arg9) (ix2 0 j)
  lb j := m ((c : Thread nD τ).loc main_arg10) (ix2 0 j)

/-- The result array. -/
def res : S8x8192x1024.Idx → EReal := fun i => out (rowM m c (i 0) (i 1)) (i 2)

/-- A piece's row is the launched row. -/
theorem row_eq (t : Fin cfg0.N) (R' : Fin 512) (R : Fin 256) (v0 : Vec Ideal S1x512x256 .bf16) (v5 v8 : Vec Ideal S1x256x512 .bf16) (v11 : Vec Ideal S1x256x1024 .f32) (v13 v18 : Vec Ideal S1024x1024 .bf16)
    (v21 : Vec Ideal S1x1024 .f32) (v32 : Vec Ideal S1x256x256 .f32) (v35 : Vec Ideal S256x1024 .bf16) (v40 v42 : Vec Ideal S1x1024 .f32)
    (h0 : ∀ k, v0 (ix3 0 k R) = (iblk m c 1 t : Vec Ideal S1x512x512 .bf16) (ix3 0 k R'))
    (h5 : ∀ k, v5 (ix3 0 R k) = (iblk m c 2 t : Vec Ideal S1x512x512 .bf16) (ix3 0 R' k))
    (h8 : ∀ k, v8 (ix3 0 R k) = (iblk m c 3 t : Vec Ideal S1x512x512 .bf16) (ix3 0 R' k))
    (h11 : ∀ k, v11 (ix3 0 R k) = (iblk m c 0 t : Vec Ideal S1x512x1024 .f32) (ix3 0 R' k))
    (h32 : ∀ k, v32 (ix3 0 R k) = (iblk m c 4 t : Vec Ideal S1x512x256 .f32) (ix3 0 R' k))
    (h13 : v13 = iblk m c 5 t) (h18 : v18 = iblk m c 6 t) (h21 : v21 = iblk m c 7 t) (h35 : v35 = iblk m c 8 t) (h40 : v40 = iblk m c 9 t) (h42 : v42 = iblk m c 10 t) :
    row v0 v5 v8 v11 v13 v18 v21 v32 v35 v40 v42 R = rowM m c (bOf t) (rOf t R') := by
  subst h13 h18 h21 h35 h40 h42
  unfold row rowM
  congr 1
  · funext j; exact (h11 j).trans (blk0 m c t R' j)
  · funext j; exact (h0 j).trans (blk1 m c t j R')
  · funext j; exact (h5 j).trans (blk2 m c t R' j)
  · funext j; exact (h8 j).trans (blk3 m c t R' j)
  · funext j; exact (h32 j).trans ((blk4 m c t R' j).trans (v0_at m c _ _ j))
  · funext i j; exact (blk5 m c t i j).trans (v2_at m c i j)
  · funext i j; exact (blk6 m c t i j).trans (v4_at m c i j)
  · funext j; exact (blk7 m c t j).trans (v6_at m c j)
  · funext i j; exact (blk8 m c t i j).trans (v8_at m c i j)
  · funext j; exact (blk9 m c t j).trans (v10_at m c j)
  · funext j; exact (blk10 m c t j).trans (v12_at m c j)

/-- Offsets at the origin of two axes. -/
theorem hz2 : (![0, 0] : Fin 2 → Nat) = fun _ => 0 := funext fun a => by fin_cases a <;> rfl

/-- Indices of three axes with equal coordinates are equal. -/
theorem e3 {s : Fin 3 → Nat} (x y : (a : Fin 3) → Fin (s a)) (h0 : (x 0).val = (y 0).val) (h1 : (x 1).val = (y 1).val) (h2 : (x 2).val = (y 2).val) : x = y := by
  funext a
  fin_cases a
  · exact Fin.ext h0
  · exact Fin.ext h1
  · exact Fin.ext h2

theorem ld_0 (X : Vec Ideal S1x512x512 .bf16) (k : Fin 512) (R : Fin 256) : (View.ld X r0_0 : (r0_0.shape).Idx → EReal) (ix3 0 k R) = X (ix3 0 k ⟨R.val, by omega⟩) :=
  congrArg X (e3 _ _ (show 0 + 1 * 0 = 0 from rfl) (show 0 + 1 * k.val = k.val by omega) (show 0 + 1 * R.val = R.val by omega))
theorem ld_1 (X : Vec Ideal S1x512x512 .bf16) (k : Fin 512) (R : Fin 256) : (View.ld X r0_1 : (r0_1.shape).Idx → EReal) (ix3 0 R k) = X (ix3 0 ⟨R.val, by omega⟩ k) :=
  congrArg X (e3 _ _ (show 0 + 1 * 0 = 0 from rfl) (show 0 + 1 * R.val = R.val by omega) (show 0 + 1 * k.val = k.val by omega))
theorem ld_2 (X : Vec Ideal S1x512x1024 .f32) (k : Fin 1024) (R : Fin 256) : (View.ld X r0_2 : (r0_2.shape).Idx → EReal) (ix3 0 R k) = X (ix3 0 ⟨R.val, by omega⟩ k) :=
  congrArg X (e3 _ _ (show 0 + 1 * 0 = 0 from rfl) (show 0 + 1 * R.val = R.val by omega) (show 0 + 1 * k.val = k.val by omega))
theorem ld_5 (X : Vec Ideal S1x512x256 .f32) (k : Fin 256) (R : Fin 256) : (View.ld X r0_5 : (r0_5.shape).Idx → EReal) (ix3 0 R k) = X (ix3 0 ⟨R.val, by omega⟩ k) :=
  congrArg X (e3 _ _ (show 0 + 1 * 0 = 0 from rfl) (show 0 + 1 * R.val = R.val by omega) (show 0 + 1 * k.val = k.val by omega))
theorem ld_7 (X : Vec Ideal S1x512x512 .bf16) (k : Fin 512) (R : Fin 256) : (View.ld X r0_7 : (r0_7.shape).Idx → EReal) (ix3 0 k R) = X (ix3 0 k ⟨256 + R.val, by omega⟩) :=
  congrArg X (e3 _ _ (show 0 + 1 * 0 = 0 from rfl) (show 0 + 1 * k.val = k.val by omega) (show 256 + 1 * R.val = 256 + R.val by omega))
theorem ld_8 (X : Vec Ideal S1x512x512 .bf16) (k : Fin 512) (R : Fin 256) : (View.ld X r0_8 : (r0_8.shape).Idx → EReal) (ix3 0 R k) = X (ix3 0 ⟨256 + R.val, by omega⟩ k) :=
  congrArg X (e3 _ _ (show 0 + 1 * 0 = 0 from rfl) (show 256 + 1 * R.val = 256 + R.val by omega) (show 0 + 1 * k.val = k.val by omega))
theorem ld_9 (X : Vec Ideal S1x512x1024 .f32) (k : Fin 1024) (R : Fin 256) : (View.ld X r0_9 : (r0_9.shape).Idx → EReal) (ix3 0 R k) = X (ix3 0 ⟨256 + R.val, by omega⟩ k) :=
  congrArg X (e3 _ _ (show 0 + 1 * 0 = 0 from rfl) (show 256 + 1 * R.val = 256 + R.val by omega) (show 0 + 1 * k.val = k.val by omega))
theorem ld_10 (X : Vec Ideal S1x512x256 .f32) (k : Fin 256) (R : Fin 256) : (View.ld X r0_10 : (r0_10.shape).Idx → EReal) (ix3 0 R k) = X (ix3 0 ⟨256 + R.val, by omega⟩ k) :=
  congrArg X (e3 _ _ (show 0 + 1 * 0 = 0 from rfl) (show 256 + 1 * R.val = 256 + R.val by omega) (show 0 + 1 * k.val = k.val by omega))
theorem ld_3 (X : Vec Ideal S1024x1024 .bf16) : View.ld X r0_3 = X := View.ld_unit_zero (S := S1024x1024) hz2 _ X
theorem ld_4 (X : Vec Ideal S1x1024 .f32) : View.ld X r0_4 = X := View.ld_unit_zero (S := S1x1024) hz2 _ X
theorem ld_6 (X : Vec Ideal S256x1024 .bf16) : View.ld X r0_6 = X := View.ld_unit_zero (S := S256x1024) hz2 _ X

theorem not_hi (R : Fin 256) (j : Fin 1024) : (ix3 0 ⟨R.val, by omega⟩ j : S1x512x1024.Idx) ∉ r0_9.set := fun h => by
  have h1 : 256 ≤ R.val := ((Rect.mem_set_unit.1 h) 1).1
  omega

theorem canon_lo (p q : FVec Ideal S1x256x1024 .f32) (R : Fin 256) (j : Fin 1024) :
    View.canon (Val := Elt Ideal) (e := .f32) [⟨r0_9, p⟩, ⟨r0_2, q⟩] (ix3 0 ⟨R.val, by omega⟩ j : S1x512x1024.Idx) = q (ix3 0 R j) := by
  have he : (ix3 0 ⟨R.val, by omega⟩ j : S1x512x1024.Idx) = r0_2.emb (ix3 (0 : Fin 1) R j : S1x256x1024.Idx) :=
    (e3 _ _ (show 0 + 1 * 0 = 0 from rfl) (show 0 + 1 * R.val = R.val by omega) (show 0 + 1 * j.val = j.val by omega)).symm
  have h1 := View.canon_cons_of_not_mem (Val := Elt Ideal) (e := .f32) ⟨r0_9, p⟩ [⟨r0_2, q⟩] (not_hi R j)
  refine h1.trans ?_
  rw [he]
  exact View.canon_cons_emb (Val := Elt Ideal) (e := .f32) r0_2 q [] (ix3 (0 : Fin 1) R j : S1x256x1024.Idx)

theorem canon_hi (p q : FVec Ideal S1x256x1024 .f32) (R : Fin 256) (j : Fin 1024) :
    View.canon (Val := Elt Ideal) (e := .f32) [⟨r0_9, p⟩, ⟨r0_2, q⟩] (ix3 0 ⟨256 + R.val, by omega⟩ j : S1x512x1024.Idx) = p (ix3 0 R j) := by
  have he : (ix3 0 ⟨256 + R.val, by omega⟩ j : S1x512x1024.Idx) = r0_9.emb (ix3 (0 : Fin 1) R j : S1x256x1024.Idx) :=
    (e3 _ _ (show 0 + 1 * 0 = 0 from rfl) (show 256 + 1 * R.val = 256 + R.val by omega) (show 0 + 1 * j.val = j.val by omega)).symm
  rw [he]
  exact View.canon_cons_emb (Val := Elt Ideal) (e := .f32) r0_9 p [⟨r0_2, q⟩] (ix3 (0 : Fin 1) R j : S1x256x1024.Idx)

theorem out_lo (t : Fin cfg0.N) (R : Fin 256) (j : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 ⟨R.val, by omega⟩ j) =
      out (rowM m c (bOf t) (rOf t ⟨R.val, by omega⟩)) j := by
  unfold out0_11
  rw [pay4_eq, pay6_eq, ld_3, ld_3, ld_4, ld_4, ld_4, ld_6, canon_lo, pay1_apply]
  refine congrArg (fun r => out r j) ?_
  exact row_eq m c t ⟨R.val, by omega⟩ R _ _ _ _ _ _ _ _ _ _ _ (fun k => ld_0 _ k R) (fun k => ld_1 _ k R) (fun k => ld_1 _ k R) (fun k => ld_2 _ k R) (fun k => ld_5 _ k R) rfl rfl rfl rfl rfl rfl

theorem out_hi (t : Fin cfg0.N) (R : Fin 256) (j : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 ⟨256 + R.val, by omega⟩ j) =
      out (rowM m c (bOf t) (rOf t ⟨256 + R.val, by omega⟩)) j := by
  unfold out0_11
  rw [pay4_eq, pay6_eq, ld_3, ld_3, ld_4, ld_4, ld_4, ld_6, canon_hi, pay1_apply]
  refine congrArg (fun r => out r j) ?_
  exact row_eq m c t ⟨256 + R.val, by omega⟩ R _ _ _ _ _ _ _ _ _ _ _ (fun k => ld_7 _ k R) (fun k => ld_8 _ k R) (fun k => ld_8 _ k R) (fun k => ld_9 _ k R) (fun k => ld_10 _ k R) rfl rfl rfl rfl rfl rfl

theorem out_apply (t : Fin cfg0.N) (R : Fin 512) (j : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 R j) =
      out (rowM m c (bOf t) (rOf t R)) j := by
  by_cases hR : R.val < 256
  · exact out_lo m c t ⟨R.val, hR⟩ j
  · have e : (⟨256 + (⟨R.val - 256, by omega⟩ : Fin 256).val, by omega⟩ : Fin 512) = R := Fin.ext (by show 256 + (R.val - 256) = R.val; omega)
    have h := out_hi m c t ⟨R.val - 256, by omega⟩ j
    rw [e] at h
    exact h

/-- What each grid point writes back is the result array's block. -/
theorem flushed (t : Fin cfg0.N) (hf : (cfg0.win 11).flush t = true) :
    (dats m 0 c).flushed 11 t = ((cfg0.win 11).blk t).view.read (Elt Ideal) (res m c) := by
  have emb : ∀ (u : Fin 1) (R : Fin 512) (j : Fin 1024), ((cfg0.win 11).blk t).view.emb (ix3 u R j) = ix3 (bOf t) (rOf t R) j := by
    intro u R j
    obtain ⟨i0, i1, i2⟩ := idx11 t
    funext a
    fin_cases a <;> refine Fin.ext ?_
    · show win0_11.index t 0 * 1 + 1 * u.val = t.val / 16
      omega
    · show win0_11.index t 1 * 512 + 1 * R.val = t.val % 16 * 512 + R.val
      omega
    · show win0_11.index t 2 * 1024 + 1 * j.val = j.val
      omega
  have key := out_apply m c t
  rw [Value.flushed11 m c t]
  funext y
  obtain ⟨u, R, j, rfl⟩ : ∃ (u : Fin 1) (R : Fin 512) (j : Fin 1024), y = ix3 u R j := ⟨y 0, y 1, y 2, by funext a; fin_cases a <;> rfl⟩
  obtain rfl : u = 0 := Subsingleton.elim _ _
  rw [View.read_apply, emb]
  exact key R j

/-- The result array after the run. -/
theorem final : (dats m 0 c).arrAt 11 cfg0.N = res m c :=
  (dats m 0 c).arrAt_eq_of_cover 11 (res m c) (flushed m c) fun i => by
    have h0 : (i 0 : Nat) < 8 := (i 0).isLt
    have h1 : (i 1 : Nat) < 8192 := (i 1).isLt
    have h2 : (i 2 : Nat) < 1024 := (i 2).isLt
    have hN : cfg0.N = 128 := N_0
    obtain ⟨t, ht⟩ : ∃ t : Fin cfg0.N, t.val = 16 * (i 0 : Nat) + (i 1 : Nat) / 512 := ⟨⟨_, by omega⟩, rfl⟩
    obtain ⟨i0, i1, i2⟩ := idx11 t
    refine ⟨t, flush0_11 t, ?_⟩
    show i ∈ ((View.whole main_v13).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1
                omega
    | ⟨1, _⟩ => show win0_11.index t 1 * 512 ≤ (i 1 : Nat) ∧ (i 1 : Nat) < win0_11.index t 1 * 512 + 512
                omega
    | ⟨2, _⟩ => show win0_11.index t 2 * 1024 ≤ (i 2 : Nat) ∧ (i 2 : Nat) < win0_11.index t 2 * 1024 + 1024
                omega

end Cert.Kernel2Ideal.Final
end
-- ==== Proof.OutRef.lean ====
/-
  The reference's output projection at an index.
-/
module

public import proofs.«01_k».proof.Proof.Gen.Reference2Ideal.Run
public import proofs.«01_k».proof.Proof.OutRow
public import Idealize.ShloMosaic.Lib.Pointwise
public import Idealize.ShloMosaic.Lib.StableHlo.ReadAt
public import Idealize.ShloMosaic.Lib.Tactic

@[expose] public section

set_option maxRecDepth 16384

noncomputable section

namespace Cert.Reference2Ideal.Final

open Cert.Reference2Ideal Cert.Reference2Ideal.Gen Cert.Reference2Ideal.Value Idealize.ShloMosaic Idealize.ShloMosaic.TcCoe Idealize.SL.Sem

open Cert.OutRow

variable {F : FTy → Type} [FloatOps F]

/-- The mixers' outputs side by side. -/
def mixV (m : (ℓ : Loc nD τ sig) → Buf (Elt F) ℓ) (c : Dev nD) : FVec F S8x8192x1024 .f32 :=
  concatenate S8x8192x1024 2 [⟨S8x8192x512, (mulf (transpose S8x8192x512 [0, 2, 1] (extf .f32 (m ((c.tc : Thread nD τ).loc main_arg1)) bitsLt_bf16_f32) transposes_S8x512x8192_S8x8192x512_0_2_1) (extf .f32 (m ((c.tc : Thread nD τ).loc main_arg2)) bitsLt_bf16_f32))⟩, ⟨S8x8192x512, (extf .f32 (m ((c.tc : Thread nD τ).loc main_arg3)) bitsLt_bf16_f32)⟩] concatenates_S8x8192x512_S8x8192x512_S8x8192x1024_d2

/-- The residual after the projection. -/
def firstV (m : (ℓ : Loc nD τ sig) → Buf (Elt F) ℓ) (c : Dev nD) : FVec F S8x8192x1024 .f32 :=
  addf (m ((c.tc : Thread nD τ).loc main_arg0)) (Host.dotGeneral dot_S8x8192x1024_S1024x1024_S8x8192x1024_2_0_01_1_n_n none (mixV m c) (shapeCast S1024x1024 (m ((c.tc : Thread nD τ).loc main_arg5)) shapeCasts_S1x1024x1024_S1024x1024))

/-- The embedding's gate. -/
def gateV (m : (ℓ : Loc nD τ sig) → Buf (Elt F) ℓ) (c : Dev nD) (y : FVec F S8x8192x1024 .f32) : FVec F S8x8192x1024 .f32 :=
  Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf (addf (Host.dotGeneral dot_S8x8192x1024_S1024x1024_S8x8192x1024_2_0_01_1_n_n none y (shapeCast S1024x1024 (m ((c.tc : Thread nD τ).loc main_arg6)) shapeCasts_S1x1024x1024_S1024x1024)) (broadcastInDim S8x8192x1024 ![0, 1, 2] bcast_S1x1x1024_S8x8192x1024_0_1_2 (broadcastInDim S1x1x1024 ![2] bcast_S1024_S1x1x1024_2 (shapeCast S1024 (m ((c.tc : Thread nD τ).loc main_arg7)) shapeCasts_S1x1024_S1024)))))))

/-- The residual after the gated embedding. -/
def secondV (m : (ℓ : Loc nD τ sig) → Buf (Elt F) ℓ) (c : Dev nD) (y z : FVec F S8x8192x1024 .f32) : FVec F S8x8192x1024 .f32 :=
  addf y (mulf z (Host.dotGeneral dot_S8x8192x256_S256x1024_S8x8192x1024_2_0_01_1_n_n none (shapeCast S8x8192x256 (m ((c.tc : Thread nD τ).loc main_arg4)) shapeCasts_S1x8x8192x256_S8x8192x256) (shapeCast S256x1024 (m ((c.tc : Thread nD τ).loc main_arg8)) shapeCasts_S1x256x1024_S256x1024)))

/-- A row's mean, kept as an axis of one entry. -/
def meanV (y : FVec F S8x8192x1024 .f32) : FVec F S8x8192x1 .f32 :=
  Host.divf (broadcastInDim S8x8192x1 ![0, 1] bcast_S8x8192_S8x8192x1_0_1 (Host.reduceAdd y (constant S_ .f32 0x00000000#32) reducesTo_S8x8192x1024_S8x8192_d2 h_S_)) (broadcastInDim S8x8192x1 ![] bcast_S_S8x8192x1 (constant S_ .f32 0x44800000#32))

/-- The rows less their mean. -/
def cenV (y : FVec F S8x8192x1024 .f32) : FVec F S8x8192x1024 .f32 :=
  subf y (broadcastInDim S8x8192x1024 ![0, 1, 2] bcast_S8x8192x1_S8x8192x1024_0_1_2 (meanV y))

/-- The layer norm of the rows. -/
def normV (m : (ℓ : Loc nD τ sig) → Buf (Elt F) ℓ) (c : Dev nD) (y : FVec F S8x8192x1024 .f32) : FVec F S8x8192x1024 .f32 :=
  addf (mulf (mulf (cenV y) (broadcastInDim S8x8192x1024 ![0, 1, 2] bcast_S8x8192x1_S8x8192x1024_0_1_2 (Host.rsqrt (addf (meanV (mulf (cenV y) (cenV y))) (broadcastInDim S8x8192x1 ![] bcast_S_S8x8192x1 (constant S_ .f32 0x3727C5AC#32))))))
    (broadcastInDim S8x8192x1024 ![0, 1, 2] bcast_S1x1x1024_S8x8192x1024_0_1_2 (broadcastInDim S1x1x1024 ![2] bcast_S1024_S1x1x1024_2 (shapeCast S1024 (m ((c.tc : Thread nD τ).loc main_arg9)) shapeCasts_S1x1024_S1024))))
    (broadcastInDim S8x8192x1024 ![0, 1, 2] bcast_S1x1x1024_S8x8192x1024_0_1_2 (broadcastInDim S1x1x1024 ![2] bcast_S1024_S1x1x1024_2 (shapeCast S1024 (m ((c.tc : Thread nD τ).loc main_arg10)) shapeCasts_S1x1024_S1024)))

theorem res_eq (m : (ℓ : Loc nD τ sig) → Buf (Elt F) ℓ) (c : Dev nD) :
    res_main_v51 m c = normV m c (secondV m c (firstV m c) (gateV m c (firstV m c))) := rfl

variable (m : (ℓ : Loc nD τ sig) → Buf (Elt Ideal) ℓ) (c : Dev nD)

/-- The row's inputs and the weights, as launched. -/
def row (b : Fin 8) (s : Fin 8192) : Row where
  hn j := m ((c.tc : Thread nD τ).loc main_arg0) (ix3 b s j)
  a k := m ((c.tc : Thread nD τ).loc main_arg1) (ix3 b k s)
  z k := m ((c.tc : Thread nD τ).loc main_arg2) (ix3 b s k)
  g k := m ((c.tc : Thread nD τ).loc main_arg3) (ix3 b s k)
  p k := m ((c.tc : Thread nD τ).loc main_arg4) (ix4 0 b s k)
  wo i j := m ((c.tc : Thread nD τ).loc main_arg5) (ix3 0 i j)
  wg i j := m ((c.tc : Thread nD τ).loc main_arg6) (ix3 0 i j)
  bg j := m ((c.tc : Thread nD τ).loc main_arg7) (ix2 0 j)
  we i j := m ((c.tc : Thread nD τ).loc main_arg8) (ix3 0 i j)
  lg j := m ((c.tc : Thread nD τ).loc main_arg9) (ix2 0 j)
  lb j := m ((c.tc : Thread nD τ).loc main_arg10) (ix2 0 j)

theorem dot_apply (y : FVec Ideal S8x8192x1024 .f32) (w : FVec Ideal S1x1024x1024 .f32) (b : Fin 8) (s : Fin 8192) (j : Fin 1024) :
    Host.dotGeneral dot_S8x8192x1024_S1024x1024_S8x8192x1024_2_0_01_1_n_n none y (shapeCast S1024x1024 w shapeCasts_S1x1024x1024_S1024x1024) (ix3 b s j) =
      ∑ x : Fin 1024, y (ix3 b s x) * w (ix3 0 x j) := by
  pointwise

theorem dotE_apply (y : FVec Ideal S1x8x8192x256 .f32) (w : FVec Ideal S1x256x1024 .f32) (b : Fin 8) (s : Fin 8192) (j : Fin 1024) :
    Host.dotGeneral dot_S8x8192x256_S256x1024_S8x8192x1024_2_0_01_1_n_n none (shapeCast S8x8192x256 y shapeCasts_S1x8x8192x256_S8x8192x256) (shapeCast S256x1024 w shapeCasts_S1x256x1024_S256x1024) (ix3 b s j) =
      ∑ x : Fin 256, y (ix4 0 b s x) * w (ix3 0 x j) := by
  pointwise

theorem mix_apply (o : FVec Ideal S8x512x8192 .bf16) (z g : FVec Ideal S8x8192x512 .bf16) (b : Fin 8) (s : Fin 8192) (j : Fin 1024) :
    concatenate S8x8192x1024 2 [⟨S8x8192x512, (mulf (transpose S8x8192x512 [0, 2, 1] (extf .f32 o bitsLt_bf16_f32) transposes_S8x512x8192_S8x8192x512_0_2_1) (extf .f32 z bitsLt_bf16_f32))⟩, ⟨S8x8192x512, (extf .f32 g bitsLt_bf16_f32)⟩] concatenates_S8x8192x512_S8x8192x512_S8x8192x1024_d2 (ix3 b s j) =
      if h : j.val < 512 then o (ix3 b ⟨j.val, h⟩ s) * z (ix3 b s ⟨j.val, h⟩) else g (ix3 b s ⟨j.val - 512, by omega⟩) := by
  pointwise

theorem mixV_apply (b : Fin 8) (s : Fin 8192) (j : Fin 1024) : mixV m c (ix3 b s j) =
    if h : j.val < 512 then (row m c b s).a ⟨j.val, h⟩ * (row m c b s).z ⟨j.val, h⟩ else (row m c b s).g ⟨j.val - 512, by omega⟩ :=
  mix_apply (m ((c.tc : Thread nD τ).loc main_arg1)) (m ((c.tc : Thread nD τ).loc main_arg2)) (m ((c.tc : Thread nD τ).loc main_arg3)) b s j

/-- A sum over 1024 lanes as the sum over each half. -/
theorem sum_halves (f : Fin 1024 → EReal) : ∑ k, f k = ∑ x : Fin 512, f ⟨x.val, by omega⟩ + ∑ x : Fin 512, f ⟨512 + x.val, by omega⟩ :=
  Fin.sum_univ_add (a := 512) (b := 512) f

theorem firstV_apply (b : Fin 8) (s : Fin 8192) (j : Fin 1024) : firstV m c (ix3 b s j) = first (row m c b s) j := by
  have e : firstV m c (ix3 b s j) = (row m c b s).hn j + ∑ x : Fin 1024, mixV m c (ix3 b s x) * (row m c b s).wo x j :=
    congrArg (fun t : EReal => (row m c b s).hn j + t) (dot_apply (mixV m c) (m ((c.tc : Thread nD τ).loc main_arg5)) b s j)
  rw [e, sum_halves]
  unfold first
  congr 2
  · refine Finset.sum_congr rfl fun x _ => ?_
    rw [mixV_apply, dif_pos (show x.val < 512 by omega)]
  · refine Finset.sum_congr rfl fun x _ => ?_
    rw [mixV_apply, dif_neg (show ¬ 512 + x.val < 512 by omega)]
    have : (⟨512 + x.val - 512, by omega⟩ : Fin 512) = x := Fin.ext (by show 512 + x.val - 512 = x.val; omega)
    rw [this]

theorem gate_apply (z : FVec Ideal S8x8192x1024 .f32) (v : FVec Ideal S1x1024 .f32) (b : Fin 8) (s : Fin 8192) (j : Fin 1024) :
    Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf (addf z (broadcastInDim S8x8192x1024 ![0, 1, 2] bcast_S1x1x1024_S8x8192x1024_0_1_2 (broadcastInDim S1x1x1024 ![2] bcast_S1024_S1x1x1024_2 (shapeCast S1024 v shapeCasts_S1x1024_S1024))))))) (ix3 b s j) =
      Ideal.div 1 (1 + Ideal.exp (-(z (ix3 b s j) + v (ix2 0 j)))) := by
  pointwise

theorem gateV_apply (y : FVec Ideal S8x8192x1024 .f32) (b : Fin 8) (s : Fin 8192) (hy : ∀ j, y (ix3 b s j) = first (row m c b s) j) (j : Fin 1024) :
    gateV m c y (ix3 b s j) = gate (row m c b s) j := by
  refine (gate_apply _ _ b s j).trans ?_
  rw [dot_apply]
  simp only [hy]
  rfl

theorem secondV_apply (y z : FVec Ideal S8x8192x1024 .f32) (b : Fin 8) (s : Fin 8192) (hy : ∀ j, y (ix3 b s j) = first (row m c b s) j)
    (hz : ∀ j, z (ix3 b s j) = gate (row m c b s) j) (j : Fin 1024) : secondV m c y z (ix3 b s j) = second (row m c b s) j := by
  have e : secondV m c y z (ix3 b s j) = y (ix3 b s j) + z (ix3 b s j) * ∑ x : Fin 256, (row m c b s).p x * (row m c b s).we x j :=
    congrArg (fun t : EReal => y (ix3 b s j) + z (ix3 b s j) * t) (dotE_apply (m ((c.tc : Thread nD τ).loc main_arg4)) (m ((c.tc : Thread nD τ).loc main_arg8)) b s j)
  rw [e, hy, hz]
  rfl

theorem meanV_apply (y : FVec Ideal S8x8192x1024 .f32) (b : Fin 8) (s : Fin 8192) (u : Fin 1) : meanV y (ix3 b s u) = mean fun k => y (ix3 b s k) := by
  pointwise [meanV]
  rfl

theorem cenV_apply (y : FVec Ideal S8x8192x1024 .f32) (b : Fin 8) (s : Fin 8192) (j : Fin 1024) : cenV y (ix3 b s j) = y (ix3 b s j) - mean fun k => y (ix3 b s k) := by
  pointwise [cenV]
  rw [meanV_apply]

theorem norm_apply (y q : FVec Ideal S8x8192x1024 .f32) (u v : FVec Ideal S1x1024 .f32) (b : Fin 8) (s : Fin 8192) (j : Fin 1024) :
    addf (mulf (mulf y (broadcastInDim S8x8192x1024 ![0, 1, 2] bcast_S8x8192x1_S8x8192x1024_0_1_2 (Host.rsqrt (addf (meanV q) (broadcastInDim S8x8192x1 ![] bcast_S_S8x8192x1 (constant S_ .f32 0x3727C5AC#32))))))
    (broadcastInDim S8x8192x1024 ![0, 1, 2] bcast_S1x1x1024_S8x8192x1024_0_1_2 (broadcastInDim S1x1x1024 ![2] bcast_S1024_S1x1x1024_2 (shapeCast S1024 u shapeCasts_S1x1024_S1024))))
    (broadcastInDim S8x8192x1024 ![0, 1, 2] bcast_S1x1x1024_S8x8192x1024_0_1_2 (broadcastInDim S1x1x1024 ![2] bcast_S1024_S1x1x1024_2 (shapeCast S1024 v shapeCasts_S1x1024_S1024))) (ix3 b s j) =
    y (ix3 b s j) * Ideal.rsqrt (meanV q (ix3 b s 0) + Ideal.ofBits .f32 925353388#32) * u (ix2 0 j) + v (ix2 0 j) := by
  pointwise

theorem normV_apply (y : FVec Ideal S8x8192x1024 .f32) (b : Fin 8) (s : Fin 8192) (j : Fin 1024) :
    normV m c y (ix3 b s j) = norm (fun k => y (ix3 b s k)) (row m c b s).lg (row m c b s).lb j := by
  have e : (fun k : Fin 1024 => (mulf (cenV y) (cenV y)) (ix3 b s k)) = fun k => (y (ix3 b s k) - mean fun k => y (ix3 b s k)) * (y (ix3 b s k) - mean fun k => y (ix3 b s k)) := by
    funext k
    rw [← cenV_apply]
    rfl
  refine (norm_apply (cenV y) (mulf (cenV y) (cenV y)) _ _ b s j).trans ?_
  rw [meanV_apply, cenV_apply, e]
  rfl

theorem value (b : Fin 8) (s : Fin 8192) (j : Fin 1024) : res_main_v51 m c (ix3 b s j) = out (row m c b s) j := by
  rw [res_eq, normV_apply]
  unfold out
  congr 1
  funext k
  exact secondV_apply m c _ _ b s (firstV_apply m c b s) (gateV_apply m c _ b s (firstV_apply m c b s)) k

end Cert.Reference2Ideal.Final
end
-- ==== Proof.OutEquation.lean ====
/-
  The two output projections end with equal results.
-/
module

public import proofs.«01_k».proof.Defs
public import proofs.«01_k».proof.Proof.OutKernel
public import proofs.«01_k».proof.Proof.OutRef

@[expose] public section

set_option maxRecDepth 16384

noncomputable section

namespace Cert.OutEquation

open Idealize.ShloMosaic Idealize.ShloMosaic.TcCoe Idealize.SL.Sem Cert.OutRow

/-- The reference runs, leaves its arguments as launched and declares no semaphore. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- From agreeing arguments the two programs end with the same result. -/
theorem algebraic : Cert.algebraic_Kernel2Ideal_Reference2Ideal := by
  intro m g m' g' _ hag
  refine ⟨fun c => Cert.Kernel2Ideal.Final.res m c, ?_, ?_⟩
  · exact (θ_run _ _ _).mono (fun r h c => ⟨(h c).1.trans (Cert.Kernel2Ideal.Final.final m c), (h c).2⟩)
      (Cert.Kernel2Ideal.Value.run_blocks (F := Ideal) m g)
  · refine (θ_run _ _ _).mono (fun r h c => ⟨(h c).1.trans ?_, (h c).2⟩) (Cert.Reference2Ideal.Value.run m' g')
    funext i
    obtain ⟨b, s, j, rfl⟩ : ∃ (b : Fin 8) (s : Fin 8192) (j : Fin 1024), i = ix3 b s j := ⟨i 0, i 1, i 2, by funext a; fin_cases a <;> rfl⟩
    refine (Cert.Reference2Ideal.Final.value m' c b s j).trans ?_
    have e : Cert.Reference2Ideal.Final.row m' c b s = Cert.Kernel2Ideal.Final.rowM m c b s := by
      obtain ⟨h0, h1, h2, h3, h4, h5, h6, h7, h8, h9, h10⟩ := hag c
      unfold Cert.Reference2Ideal.Final.row Cert.Kernel2Ideal.Final.rowM
      congr 1
      · funext k; exact congrFun h0 _
      · funext k; exact congrFun h1 _
      · funext k; exact congrFun h2 _
      · funext k; exact congrFun h3 _
      · funext k; exact congrFun h4 _
      · funext i k; exact congrFun h5 _
      · funext i k; exact congrFun h6 _
      · funext k; exact congrFun h7 _
      · funext i k; exact congrFun h8 _
      · funext k; exact congrFun h9 _
      · funext k; exact congrFun h10 _
    rw [e]
    rfl

end Cert.OutEquation
end
-- ==== Proof.InSpec.lean ====
/-
  The input projection's results at an index over the extended reals, from the normed rows and their products with the
  columns of the projection.
-/
module

public import Idealize.ShloMosaic.Lib.Pointwise

@[expose] public section

noncomputable section

namespace Cert.InSpec

open Idealize.ShloMosaic

/-- The logistic function. -/
def sig (x : EReal) : EReal := Ideal.div 1 (1 + Ideal.exp (-x))

variable (u : Fin 3368 → EReal)

/-- A scaled query. -/
def query (j : Fin 512) : EReal := u ⟨j.val, by omega⟩ * Ideal.ofBits .f32 1040187392#32

/-- A group's key beside its value, from the columns at `k` and at `v`. -/
def pair (k v : Nat) (hk : k + 128 ≤ 3368) (hv : v + 128 ≤ 3368) (g : Fin 2) (l : Fin 128) : EReal :=
  if l.val < 64 then u ⟨k + 64 * g.val + l.val % 64, by omega⟩ else u ⟨v + 64 * g.val + l.val % 64, by omega⟩

/-- A selected key beside the place of its block. -/
def place (s : Fin 8192) (g : Fin 2) (l : Fin 128) : EReal :=
  if l.val < 64 then u ⟨768 + 64 * g.val + l.val % 64, by omega⟩ else if s.val / 64 % 64 = l.val - 64 then 1 else 0

/-- A value, then a one, then zeros, from the columns at `v`. -/
def ones (v : Nat) (hv : v + 128 ≤ 3368) (g : Fin 2) (r : Fin 80) : EReal :=
  if r.val < 64 then u ⟨v + 64 * g.val + r.val % 64, by omega⟩ else if r.val = 64 then 1 else 0

/-- The mixer's gate. -/
def silu (j : Fin 512) : EReal := u ⟨1304 + j.val, by omega⟩ * sig (u ⟨1304 + j.val, by omega⟩)

/-- The queries and keys of the linear attention, head by head. -/
def heads (j : Fin 512) : EReal :=
  if j.val % 128 < 64 then u ⟨1816 + 64 * (j.val / 128) + j.val % 64, by omega⟩ else u ⟨2072 + 64 * (j.val / 128) + j.val % 64, by omega⟩

/-- The branch gates, then the low-rank decays, then zeros. -/
def small (j : Fin 128) : EReal :=
  if h : j.val < 24 then u ⟨1280 + j.val, by omega⟩ else if h : j.val < 40 then u ⟨2816 + j.val, by omega⟩ else 0

end Cert.InSpec
end
-- ==== Proof.InWeight.lean ====
/-
  The padded columns of the input projection's weights, from the launched columns, and the launched vectors as rows.
-/
module

public import proofs.«01_k».proof.Proof.InSpec
public import proofs.«01_k».proof.Proof.Gen.Kernel3Ideal.Value
public import Idealize.ShloMosaic.Lib.Pointwise
public import Idealize.ShloMosaic.Lib.StableHlo.ReadAt
public import Idealize.ShloMosaic.Lib.Routing.OpsSet
public import Idealize.ShloMosaic.Lib.Routing.OpsPair
public import Idealize.ShloMosaic.Lib.Pipeline.ValueKit
public import Idealize.ShloMosaic.Lib.Pipeline.ValueKit.Point
public import Idealize.ShloMosaic.Lib.Tactic

@[expose] public section

set_option maxRecDepth 65536
set_option maxHeartbeats 2000000

noncomputable section

namespace Cert.Kernel3Ideal.Final

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- A row of the launched projection. -/
def wt (k : Fin 1024) (j : Fin 3368) : EReal := m ((c : Thread nD τ).loc main_arg3) (ix3 0 k j)

theorem wt_at (k : Fin 1024) (a b : Nat) (ha : a < 3368) (hb : b < 3368) (e : a = b) : (m ((c : Thread nD τ).loc main_arg3) (ix3 0 k ⟨a, ha⟩) : EReal) = wt m c k ⟨b, hb⟩ := by
  subst e
  rfl

theorem v46_at (l : Fin 1024) : V m c main_v46 (ix2 0 l) = m ((c : Thread nD τ).loc main_arg1) (ix1 l) := by
  unfold V
  after_reads_at

theorem v47_at (l : Fin 1024) : V m c main_v47 (ix2 0 l) = m ((c : Thread nD τ).loc main_arg2) (ix1 l) := by
  unfold V
  after_reads_at

theorem p43 (k : Fin 1024) (l : Fin 512) : (StableHlo.upto hostOps0 (fun b => m (c, b)) 46 (Proc.tc.devRef main_v43) (ix2 k l) : EReal) = wt m c k ⟨l.val, by omega⟩ * Ideal.ofBits .f32 1040187392#32 := by
  after_reads_at
  rfl

theorem p17 (k : Fin 1024) (l : Fin 128) : (StableHlo.upto hostOps0 (fun b => m (c, b)) 46 (Proc.tc.devRef main_v17) (ix2 k l) : EReal) = InSpec.pair (wt m c k) 512 640 (by omega) (by omega) 0 l := by
  after_reads_at
  unfold InSpec.pair
  by_cases h : l.val < 64
  · rw [dif_pos h, if_pos h]
    try after_reads_at
    exact wt_at m c k _ _ _ _ (by omega)
  · rw [dif_neg h, if_neg h]
    try after_reads_at
    exact wt_at m c k _ _ _ _ (by omega)

theorem p20 (k : Fin 1024) (l : Fin 128) : (StableHlo.upto hostOps0 (fun b => m (c, b)) 46 (Proc.tc.devRef main_v20) (ix2 k l) : EReal) = InSpec.pair (wt m c k) 512 640 (by omega) (by omega) 1 l := by
  after_reads_at
  unfold InSpec.pair
  by_cases h : l.val < 64
  · rw [dif_pos h, if_pos h]
    try after_reads_at
    exact wt_at m c k _ _ _ _ (by omega)
  · rw [dif_neg h, if_neg h]
    try after_reads_at
    exact wt_at m c k _ _ _ _ (by omega)

theorem p23 (k : Fin 1024) (l : Fin 128) : (StableHlo.upto hostOps0 (fun b => m (c, b)) 46 (Proc.tc.devRef main_v23) (ix2 k l) : EReal) = InSpec.pair (wt m c k) 1024 1152 (by omega) (by omega) 0 l := by
  after_reads_at
  unfold InSpec.pair
  by_cases h : l.val < 64
  · rw [dif_pos h, if_pos h]
    try after_reads_at
    exact wt_at m c k _ _ _ _ (by omega)
  · rw [dif_neg h, if_neg h]
    try after_reads_at
    exact wt_at m c k _ _ _ _ (by omega)

theorem p26 (k : Fin 1024) (l : Fin 128) : (StableHlo.upto hostOps0 (fun b => m (c, b)) 46 (Proc.tc.devRef main_v26) (ix2 k l) : EReal) = InSpec.pair (wt m c k) 1024 1152 (by omega) (by omega) 1 l := by
  after_reads_at
  unfold InSpec.pair
  by_cases h : l.val < 64
  · rw [dif_pos h, if_pos h]
    try after_reads_at
    exact wt_at m c k _ _ _ _ (by omega)
  · rw [dif_neg h, if_neg h]
    try after_reads_at
    exact wt_at m c k _ _ _ _ (by omega)

theorem p4 (k : Fin 1024) (l : Fin 128) : (StableHlo.upto hostOps0 (fun b => m (c, b)) 46 (Proc.tc.devRef main_v4) (ix2 k l) : EReal) = wt m c k ⟨768 + l.val, by omega⟩ := by
  after_reads_at
  rfl

theorem p5 (k : Fin 1024) (l : Fin 128) : (StableHlo.upto hostOps0 (fun b => m (c, b)) 46 (Proc.tc.devRef main_v5) (ix2 k l) : EReal) = wt m c k ⟨896 + l.val, by omega⟩ := by
  after_reads_at
  rfl

theorem p9 (k : Fin 1024) (l : Fin 512) : (StableHlo.upto hostOps0 (fun b => m (c, b)) 46 (Proc.tc.devRef main_v9) (ix2 k l) : EReal) = wt m c k ⟨1304 + l.val, by omega⟩ := by
  after_reads_at
  rfl

theorem p12 (k : Fin 1024) (l : Fin 512) : (StableHlo.upto hostOps0 (fun b => m (c, b)) 46 (Proc.tc.devRef main_v12) (ix2 k l) : EReal) = wt m c k ⟨2328 + l.val, by omega⟩ := by
  after_reads_at
  rfl

theorem p14 (k : Fin 1024) (l : Fin 512) : (StableHlo.upto hostOps0 (fun b => m (c, b)) 46 (Proc.tc.devRef main_v14) (ix2 k l) : EReal) = wt m c k ⟨2856 + l.val, by omega⟩ := by
  after_reads_at
  rfl

theorem p39_0 (k : Fin 1024) (l : Fin 128) : (StableHlo.upto hostOps0 (fun b => m (c, b)) 46 (Proc.tc.devRef main_v39) (ix2 k ⟨l.val, by omega⟩) : EReal) = InSpec.heads (wt m c k) ⟨l.val, by omega⟩ := by
  after_reads_at
  repeat first | rw [dif_pos (by omega)] | rw [dif_neg (by omega)]
  try after_reads_at
  unfold InSpec.heads
  by_cases h : l.val < 64
  · rw [dif_pos (by omega)]
    try after_reads_at
    refine Eq.trans ?_ (if_pos (by first | omega | (dsimp only; omega))).symm
    exact wt_at m c k _ _ _ _ (by first | omega | (dsimp only; omega))
  · rw [dif_neg (by omega)]
    try after_reads_at
    refine Eq.trans ?_ (if_neg (by first | omega | (dsimp only; omega))).symm
    exact wt_at m c k _ _ _ _ (by first | omega | (dsimp only; omega))

theorem p39_1 (k : Fin 1024) (l : Fin 128) : (StableHlo.upto hostOps0 (fun b => m (c, b)) 46 (Proc.tc.devRef main_v39) (ix2 k ⟨128 + l.val, by omega⟩) : EReal) = InSpec.heads (wt m c k) ⟨128 + l.val, by omega⟩ := by
  after_reads_at
  repeat first | rw [dif_pos (by omega)] | rw [dif_neg (by omega)]
  try after_reads_at
  unfold InSpec.heads
  by_cases h : l.val < 64
  · rw [dif_pos (by omega)]
    try after_reads_at
    refine Eq.trans ?_ (if_pos (by first | omega | (dsimp only; omega))).symm
    exact wt_at m c k _ _ _ _ (by first | omega | (dsimp only; omega))
  · rw [dif_neg (by omega)]
    try after_reads_at
    refine Eq.trans ?_ (if_neg (by first | omega | (dsimp only; omega))).symm
    exact wt_at m c k _ _ _ _ (by first | omega | (dsimp only; omega))

theorem p39_2 (k : Fin 1024) (l : Fin 128) : (StableHlo.upto hostOps0 (fun b => m (c, b)) 46 (Proc.tc.devRef main_v39) (ix2 k ⟨256 + l.val, by omega⟩) : EReal) = InSpec.heads (wt m c k) ⟨256 + l.val, by omega⟩ := by
  after_reads_at
  repeat first | rw [dif_pos (by omega)] | rw [dif_neg (by omega)]
  try after_reads_at
  unfold InSpec.heads
  by_cases h : l.val < 64
  · rw [dif_pos (by omega)]
    try after_reads_at
    refine Eq.trans ?_ (if_pos (by first | omega | (dsimp only; omega))).symm
    exact wt_at m c k _ _ _ _ (by first | omega | (dsimp only; omega))
  · rw [dif_neg (by omega)]
    try after_reads_at
    refine Eq.trans ?_ (if_neg (by first | omega | (dsimp only; omega))).symm
    exact wt_at m c k _ _ _ _ (by first | omega | (dsimp only; omega))

theorem p39_3 (k : Fin 1024) (l : Fin 128) : (StableHlo.upto hostOps0 (fun b => m (c, b)) 46 (Proc.tc.devRef main_v39) (ix2 k ⟨384 + l.val, by omega⟩) : EReal) = InSpec.heads (wt m c k) ⟨384 + l.val, by omega⟩ := by
  after_reads_at
  repeat first | rw [dif_pos (by omega)] | rw [dif_neg (by omega)]
  try after_reads_at
  unfold InSpec.heads
  by_cases h : l.val < 64
  · rw [dif_pos (by omega)]
    try after_reads_at
    refine Eq.trans ?_ (if_pos (by first | omega | (dsimp only; omega))).symm
    exact wt_at m c k _ _ _ _ (by first | omega | (dsimp only; omega))
  · rw [dif_neg (by omega)]
    try after_reads_at
    refine Eq.trans ?_ (if_neg (by first | omega | (dsimp only; omega))).symm
    exact wt_at m c k _ _ _ _ (by first | omega | (dsimp only; omega))

theorem p41 (k : Fin 1024) (l : Fin 128) : (StableHlo.upto hostOps0 (fun b => m (c, b)) 46 (Proc.tc.devRef main_v41) (ix2 k l) : EReal) = InSpec.small (wt m c k) l := by
  after_reads_at
  unfold InSpec.small
  by_cases h : l.val < 24
  · rw [dif_pos h, dif_pos h]
    try after_reads_at
    exact wt_at m c k _ _ _ _ (by omega)
  · by_cases h' : l.val < 40
    · rw [dif_neg h, dif_neg h, dif_pos (by omega), dif_pos h']
      try after_reads_at
      exact wt_at m c k _ _ _ _ (by omega)
    · rw [dif_neg h, dif_neg h, dif_neg (by omega), dif_neg h']
      try after_reads_at

theorem w_query (k : Fin 1024) (l : Fin 512) : (V m c main_v45 (ix2 k ⟨0 + l.val, by omega⟩) : EReal) = wt m c k ⟨l.val, by omega⟩ * Ideal.ofBits .f32 1040187392#32 := by
  unfold V
  after_reads_at
  repeat first | rw [dif_pos (by omega)] | rw [dif_neg (by omega)]
  exact p43 m c k l

theorem w_cmp0 (k : Fin 1024) (l : Fin 128) : (V m c main_v45 (ix2 k ⟨512 + l.val, by omega⟩) : EReal) = InSpec.pair (wt m c k) 512 640 (by omega) (by omega) 0 l := by
  unfold V
  after_reads_at
  repeat first | rw [dif_pos (by omega)] | rw [dif_neg (by omega)]
  exact p17 m c k l

theorem w_cmp1 (k : Fin 1024) (l : Fin 128) : (V m c main_v45 (ix2 k ⟨640 + l.val, by omega⟩) : EReal) = InSpec.pair (wt m c k) 512 640 (by omega) (by omega) 1 l := by
  unfold V
  after_reads_at
  repeat first | rw [dif_pos (by omega)] | rw [dif_neg (by omega)]
  exact (congrArg (fun t : Fin 128 => (StableHlo.upto hostOps0 (fun b => m (c, b)) 46 (Proc.tc.devRef main_v20) (ix2 k t) : EReal)) (show (⟨640 + l.val - 512 - 128, by omega⟩ : Fin 128) = l from Fin.ext (show 640 + l.val - 512 - 128 = l.val by omega))).trans (p20 m c k l)

theorem w_win0 (k : Fin 1024) (l : Fin 128) : (V m c main_v45 (ix2 k ⟨1024 + l.val, by omega⟩) : EReal) = InSpec.pair (wt m c k) 1024 1152 (by omega) (by omega) 0 l := by
  unfold V
  after_reads_at
  repeat first | rw [dif_pos (by omega)] | rw [dif_neg (by omega)]
  exact (congrArg (fun t : Fin 128 => (StableHlo.upto hostOps0 (fun b => m (c, b)) 46 (Proc.tc.devRef main_v23) (ix2 k t) : EReal)) (show (⟨1024 + l.val - 512 - 128 - 128 - 128 - 128, by omega⟩ : Fin 128) = l from Fin.ext (show 1024 + l.val - 512 - 128 - 128 - 128 - 128 = l.val by omega))).trans (p23 m c k l)

theorem w_win1 (k : Fin 1024) (l : Fin 128) : (V m c main_v45 (ix2 k ⟨1152 + l.val, by omega⟩) : EReal) = InSpec.pair (wt m c k) 1024 1152 (by omega) (by omega) 1 l := by
  unfold V
  after_reads_at
  repeat first | rw [dif_pos (by omega)] | rw [dif_neg (by omega)]
  exact (congrArg (fun t : Fin 128 => (StableHlo.upto hostOps0 (fun b => m (c, b)) 46 (Proc.tc.devRef main_v26) (ix2 k t) : EReal)) (show (⟨1152 + l.val - 512 - 128 - 128 - 128 - 128 - 128, by omega⟩ : Fin 128) = l from Fin.ext (show 1152 + l.val - 512 - 128 - 128 - 128 - 128 - 128 = l.val by omega))).trans (p26 m c k l)

theorem w_ks (k : Fin 1024) (l : Fin 128) : (V m c main_v45 (ix2 k ⟨768 + l.val, by omega⟩) : EReal) = wt m c k ⟨768 + l.val, by omega⟩ := by
  unfold V
  after_reads_at
  repeat first | rw [dif_pos (by omega)] | rw [dif_neg (by omega)]
  exact (congrArg (fun t : Fin 128 => (StableHlo.upto hostOps0 (fun b => m (c, b)) 46 (Proc.tc.devRef main_v4) (ix2 k t) : EReal)) (show (⟨768 + l.val - 512 - 128 - 128, by omega⟩ : Fin 128) = l from Fin.ext (show 768 + l.val - 512 - 128 - 128 = l.val by omega))).trans (p4 m c k l)

theorem w_vs (k : Fin 1024) (l : Fin 128) : (V m c main_v45 (ix2 k ⟨896 + l.val, by omega⟩) : EReal) = wt m c k ⟨896 + l.val, by omega⟩ := by
  unfold V
  after_reads_at
  repeat first | rw [dif_pos (by omega)] | rw [dif_neg (by omega)]
  exact (congrArg (fun t : Fin 128 => (StableHlo.upto hostOps0 (fun b => m (c, b)) 46 (Proc.tc.devRef main_v5) (ix2 k t) : EReal)) (show (⟨896 + l.val - 512 - 128 - 128 - 128, by omega⟩ : Fin 128) = l from Fin.ext (show 896 + l.val - 512 - 128 - 128 - 128 = l.val by omega))).trans (p5 m c k l)

theorem w_silu (k : Fin 1024) (l : Fin 512) : (V m c main_v45 (ix2 k ⟨1280 + l.val, by omega⟩) : EReal) = wt m c k ⟨1304 + l.val, by omega⟩ := by
  unfold V
  after_reads_at
  repeat first | rw [dif_pos (by omega)] | rw [dif_neg (by omega)]
  exact (congrArg (fun t : Fin 512 => (StableHlo.upto hostOps0 (fun b => m (c, b)) 46 (Proc.tc.devRef main_v9) (ix2 k t) : EReal)) (show (⟨1280 + l.val - 512 - 128 - 128 - 128 - 128 - 128 - 128, by omega⟩ : Fin 512) = l from Fin.ext (show 1280 + l.val - 512 - 128 - 128 - 128 - 128 - 128 - 128 = l.val by omega))).trans (p9 m c k l)

theorem w_vg (k : Fin 1024) (l : Fin 512) : (V m c main_v45 (ix2 k ⟨2304 + l.val, by omega⟩) : EReal) = wt m c k ⟨2328 + l.val, by omega⟩ := by
  unfold V
  after_reads_at
  repeat first | rw [dif_pos (by omega)] | rw [dif_neg (by omega)]
  exact (congrArg (fun t : Fin 512 => (StableHlo.upto hostOps0 (fun b => m (c, b)) 46 (Proc.tc.devRef main_v12) (ix2 k t) : EReal)) (show (⟨2304 + l.val - 512 - 128 - 128 - 128 - 128 - 128 - 128 - 512 - 512, by omega⟩ : Fin 512) = l from Fin.ext (show 2304 + l.val - 512 - 128 - 128 - 128 - 128 - 128 - 128 - 512 - 512 = l.val by omega))).trans (p12 m c k l)

theorem w_zg (k : Fin 1024) (l : Fin 512) : (V m c main_v45 (ix2 k ⟨2816 + l.val, by omega⟩) : EReal) = wt m c k ⟨2856 + l.val, by omega⟩ := by
  unfold V
  after_reads_at
  repeat first | rw [dif_pos (by omega)] | rw [dif_neg (by omega)]
  exact (congrArg (fun t : Fin 512 => (StableHlo.upto hostOps0 (fun b => m (c, b)) 46 (Proc.tc.devRef main_v14) (ix2 k t) : EReal)) (show (⟨2816 + l.val - 512 - 128 - 128 - 128 - 128 - 128 - 128 - 512 - 512 - 512, by omega⟩ : Fin 512) = l from Fin.ext (show 2816 + l.val - 512 - 128 - 128 - 128 - 128 - 128 - 128 - 512 - 512 - 512 = l.val by omega))).trans (p14 m c k l)

theorem w_heads0 (k : Fin 1024) (l : Fin 128) : (V m c main_v45 (ix2 k ⟨1792 + l.val, by omega⟩) : EReal) = InSpec.heads (wt m c k) ⟨l.val, by omega⟩ := by
  unfold V
  after_reads_at
  repeat first | rw [dif_pos (by omega)] | rw [dif_neg (by omega)]
  exact (congrArg (fun t : Fin 512 => (StableHlo.upto hostOps0 (fun b => m (c, b)) 46 (Proc.tc.devRef main_v39) (ix2 k t) : EReal)) (show (⟨1792 + l.val - 512 - 128 - 128 - 128 - 128 - 128 - 128 - 512, by omega⟩ : Fin 512) = ⟨l.val, by omega⟩ from Fin.ext (show 1792 + l.val - 512 - 128 - 128 - 128 - 128 - 128 - 128 - 512 = l.val by omega))).trans (p39_0 m c k l)

theorem w_heads1 (k : Fin 1024) (l : Fin 128) : (V m c main_v45 (ix2 k ⟨1920 + l.val, by omega⟩) : EReal) = InSpec.heads (wt m c k) ⟨128 + l.val, by omega⟩ := by
  unfold V
  after_reads_at
  repeat first | rw [dif_pos (by omega)] | rw [dif_neg (by omega)]
  exact (congrArg (fun t : Fin 512 => (StableHlo.upto hostOps0 (fun b => m (c, b)) 46 (Proc.tc.devRef main_v39) (ix2 k t) : EReal)) (show (⟨1920 + l.val - 512 - 128 - 128 - 128 - 128 - 128 - 128 - 512, by omega⟩ : Fin 512) = ⟨128 + l.val, by omega⟩ from Fin.ext (show 1920 + l.val - 512 - 128 - 128 - 128 - 128 - 128 - 128 - 512 = 128 + l.val by omega))).trans (p39_1 m c k l)

theorem w_heads2 (k : Fin 1024) (l : Fin 128) : (V m c main_v45 (ix2 k ⟨2048 + l.val, by omega⟩) : EReal) = InSpec.heads (wt m c k) ⟨256 + l.val, by omega⟩ := by
  unfold V
  after_reads_at
  repeat first | rw [dif_pos (by omega)] | rw [dif_neg (by omega)]
  exact (congrArg (fun t : Fin 512 => (StableHlo.upto hostOps0 (fun b => m (c, b)) 46 (Proc.tc.devRef main_v39) (ix2 k t) : EReal)) (show (⟨2048 + l.val - 512 - 128 - 128 - 128 - 128 - 128 - 128 - 512, by omega⟩ : Fin 512) = ⟨256 + l.val, by omega⟩ from Fin.ext (show 2048 + l.val - 512 - 128 - 128 - 128 - 128 - 128 - 128 - 512 = 256 + l.val by omega))).trans (p39_2 m c k l)

theorem w_heads3 (k : Fin 1024) (l : Fin 128) : (V m c main_v45 (ix2 k ⟨2176 + l.val, by omega⟩) : EReal) = InSpec.heads (wt m c k) ⟨384 + l.val, by omega⟩ := by
  unfold V
  after_reads_at
  repeat first | rw [dif_pos (by omega)] | rw [dif_neg (by omega)]
  exact (congrArg (fun t : Fin 512 => (StableHlo.upto hostOps0 (fun b => m (c, b)) 46 (Proc.tc.devRef main_v39) (ix2 k t) : EReal)) (show (⟨2176 + l.val - 512 - 128 - 128 - 128 - 128 - 128 - 128 - 512, by omega⟩ : Fin 512) = ⟨384 + l.val, by omega⟩ from Fin.ext (show 2176 + l.val - 512 - 128 - 128 - 128 - 128 - 128 - 128 - 512 = 384 + l.val by omega))).trans (p39_3 m c k l)

theorem w_small (k : Fin 1024) (l : Fin 128) : (V m c main_v45 (ix2 k ⟨3328 + l.val, by omega⟩) : EReal) = InSpec.small (wt m c k) l := by
  unfold V
  after_reads_at
  repeat first | rw [dif_pos (by omega)] | rw [dif_neg (by omega)]
  exact (congrArg (fun t : Fin 128 => (StableHlo.upto hostOps0 (fun b => m (c, b)) 46 (Proc.tc.devRef main_v41) (ix2 k t) : EReal)) (show (⟨3328 + l.val - 512 - 128 - 128 - 128 - 128 - 128 - 128 - 512 - 512 - 512 - 512, by omega⟩ : Fin 128) = l from Fin.ext (show 3328 + l.val - 512 - 128 - 128 - 128 - 128 - 128 - 128 - 512 - 512 - 512 - 512 = l.val by omega))).trans (p41 m c k l)

end Cert.Kernel3Ideal.Final
end
-- ==== Proof.InPay.lean ====
/-
  The values one grid point of the input projection stores, at an index.
-/
module

public import proofs.«01_k».proof.Proof.Gen.Kernel3Ideal.Value
public import proofs.«01_k».proof.Proof.OutRow
public import proofs.«01_k».proof.Proof.InSpec
public import Idealize.ShloMosaic.Lib.Pointwise
public import Idealize.ShloMosaic.Lib.StableHlo.ReadAt
public import Idealize.ShloMosaic.Lib.Routing.OpsSet
public import Idealize.ShloMosaic.Lib.Routing.OpsPair
public import Idealize.ShloMosaic.Lib.Pipeline.ValueKit
public import Idealize.ShloMosaic.Lib.Pipeline.ValueKit.Point
public import Idealize.ShloMosaic.Lib.Tactic

@[expose] public section

set_option maxRecDepth 65536

noncomputable section

namespace Cert.Kernel3Ideal.Block

open Cert.Kernel3Ideal Cert.Kernel3Ideal.Gen Idealize.ShloMosaic Idealize.ShloMosaic.TcCoe Idealize.SL.Sem

variable (H : FVec Ideal S512x1024 .bf16) (v2 : Vec Ideal S1024x256 .bf16) (v5 : Vec Ideal S1024x512 .bf16) (v1 : Vec Ideal S1024x128 .bf16)

theorem pay6_apply (v0 : Vec Ideal S1x512x1024 .f32) (v2 v4 : Vec Ideal S1x1024 .f32) (R : Fin 512) (j : Fin 1024) :
    k0_pay6 v0 v2 v4 (ix3 0 R j) = Ideal.ofBits .f32 1066940400#32 * k0_pay5 v0 v2 v4 (ix2 R j) := by
  pointwise [k0_pay6]

theorem pay5_apply (v0 : Vec Ideal S1x512x1024 .f32) (v2 v4 : Vec Ideal S1x1024 .f32) (R : Fin 512) (j : Fin 1024) :
    k0_pay5 v0 v2 v4 (ix2 R j) = OutRow.norm (fun k => v0 (ix3 0 R k)) (fun k => v2 (ix2 0 k)) (fun k => v4 (ix2 0 k)) j := by
  pointwise [k0_pay5]
  rfl

theorem pay9_apply (v0 : Vec Ideal S1x512x1024 .f32) (v2 v4 : Vec Ideal S1x1024 .f32) (R : Fin 512) (j : Fin 512) :
    k0_pay9 (k0_pay8 v0 v2 v4 v5) (ix3 0 j R) = ∑ k : Fin 1024, k0_pay7 v0 v2 v4 (ix2 R k) * v5 (ix2 k j) := by
  pointwise [k0_pay9, k0_pay8]

theorem pay10_apply (R : Fin 512) (j : Fin 256) : k0_pay10 H v2 (ix2 R j) = ∑ k : Fin 1024, H (ix2 R k) * v2 (ix2 k j) := by
  pointwise [k0_pay10]

theorem pay11_apply (R : Fin 512) (j : Fin 128) : k0_pay11 H v2 (ix2 R j) = k0_pay10 H v2 (ix2 R ⟨j.val, by omega⟩) := by
  pointwise [k0_pay11]

theorem pay31_apply (v : FVec Ideal S512x256 .f32) (R : Fin 512) (j : Fin 128) : k0_pay31 v (ix2 R j) = v (ix2 R ⟨128 + j.val, by omega⟩) := by
  pointwise [k0_pay31]

theorem pay58_apply (R : Fin 512) (j : Fin 256) : k0_pay58 H v2 (ix2 R j) = ∑ k : Fin 1024, H (ix2 R k) * v2 (ix2 k j) := by
  pointwise [k0_pay58]

theorem pay66_apply (R : Fin 512) (j : Fin 256) : k0_pay66 H v2 (ix2 R j) = ∑ k : Fin 1024, H (ix2 R k) * v2 (ix2 k j) := by
  pointwise [k0_pay66]

theorem pay51_apply (R : Fin 512) (j : Fin 128) : k0_pay51 (ix2 R j) = if j.val < 64 then 1#1 else 0#1 := by
  pointwise [k0_pay51]
  exact (by decide +kernel : ∀ j : Fin 128, IntOp.cmpi .slt (BitVec.ofNat 32 j.val) 64#32 = if j.val < 64 then 1#1 else 0#1) j

theorem pay57_apply (R : Fin 512) (j : Fin 128) : k0_pay57 (F := Ideal) (iota Kind.tc S512x128 32 [1] iota_S512x128_d1_w32) (ix2 R j) = if j.val = 64 then 1 else 0 := by
  pointwise [k0_pay57]
  rw [(by decide +kernel : ∀ j : Fin 128, IntOp.cmpi .eq (BitVec.ofNat 32 j.val) 64#32 = if j.val = 64 then 1#1 else 0#1) j]
  by_cases h : j.val = 64
  · rw [if_pos h, if_pos h]; rfl
  · rw [if_neg h, if_neg h]; rfl

/-- The kernel's block number of a row: the row over 64, then modulo 64, both rounded down. -/
def blockWord (x : BitVec 32) : BitVec 32 :=
  have d : BitVec 32 := IntOp.divsi .vector x 64#32
  have s : BitVec 32 := IntOp.subi (BitVec.setWidth 32 (IntOp.cmpi .sgt x 0#32)) (BitVec.setWidth 32 (IntOp.cmpi .slt x 0#32))
  have u : BitVec 32 := Scalar.subi (Scalar.extui (Scalar.cmpi .sgt 64#32 0#32)) (Scalar.extui (Scalar.cmpi .slt 64#32 0#32))
  have q : BitVec 32 := Scalar.select (IntOp.andi (IntOp.cmpi .ne s u) (IntOp.cmpi .ne (IntOp.remsi .vector x 64#32) 0#32)) (IntOp.subi d 1#32) d
  have n : BitVec 32 := Scalar.select (Scalar.cmpi .eq 64#32 0#32) 1#32 64#32
  have r : BitVec 32 := IntOp.remsi .vector q n
  Scalar.select (IntOp.andi (IntOp.xori (IntOp.cmpi .slt r 0#32) (Scalar.cmpi .slt n 0#32)) (IntOp.cmpi .ne r 0#32)) (IntOp.addi r n) r

theorem blockWord_eq : ∀ n : Fin 8192, blockWord (BitVec.ofNat 32 n.val) = BitVec.ofNat 32 (n.val / 64 % 64) := by decide +kernel

theorem rowWord (t : Fin 16) (R : Fin 512) : IntOp.addi (Scalar.muli (BitVec.ofNat 32 t.val) 512#32) (BitVec.ofNat 32 R.val) = BitVec.ofNat 32 (t.val * 512 + R.val) := by
  apply BitVec.eq_of_toNat_eq
  show ((BitVec.ofNat 32 t.val * 512#32) + BitVec.ofNat 32 R.val).toNat = _
  have := t.isLt
  have := R.isLt
  simp only [BitVec.toNat_add, BitVec.toNat_mul, BitVec.toNat_ofNat]
  omega

theorem laneWord : ∀ (q : Fin 64) (j : Fin 64), IntOp.cmpi .eq (IntOp.subi (BitVec.ofNat 32 (64 + j.val)) 64#32) (BitVec.ofNat 32 q.val) = if q.val = j.val then 1#1 else 0#1 := by decide +kernel

theorem pay53_apply (t : Fin 16) (R : Fin 512) (j : Fin 128) (hj : 64 ≤ j.val) :
    k0_pay53 (iota Kind.tc S512x128 32 [1] iota_S512x128_d1_w32) (k0_pay52 (BitVec.ofNat 32 t.val)) 64#32 (ix2 R j) = if (t.val * 512 + R.val) / 64 % 64 = j.val - 64 then 1#1 else 0#1 := by
  have e : k0_pay53 (iota Kind.tc S512x128 32 [1] iota_S512x128_d1_w32) (k0_pay52 (BitVec.ofNat 32 t.val)) 64#32 (ix2 R j) =
      IntOp.cmpi .eq (IntOp.subi (BitVec.ofNat 32 j.val) 64#32) (blockWord (IntOp.addi (Scalar.muli (BitVec.ofNat 32 t.val) 512#32) (BitVec.ofNat 32 R.val))) := by
    pointwise [k0_pay53, k0_pay52]
    rfl
  have hb := blockWord_eq ⟨t.val * 512 + R.val, by omega⟩
  have hl := laneWord ⟨(t.val * 512 + R.val) / 64 % 64, by omega⟩ ⟨j.val - 64, by omega⟩
  rw [e, rowWord]
  refine (congrArg (IntOp.cmpi .eq (IntOp.subi (BitVec.ofNat 32 j.val) 64#32)) hb).trans ?_
  rw [show 64 + (⟨j.val - 64, by omega⟩ : Fin 64).val = j.val by show 64 + (j.val - 64) = j.val; omega] at hl
  exact hl

theorem pay61_apply (a b : IVec S512x128 1) (p q : FVec Ideal S512x128 .f32) (R : Fin 512) (j : Fin 128) :
    k0_pay61 H a b p q v2 (ix4 0 0 R j) = Scalar.select (a (ix2 R j)) (k0_pay58 H v2 (ix2 R ⟨j.val, by omega⟩)) (Scalar.select (b (ix2 R j)) (p (ix2 R j)) (q (ix2 R j))) := by
  pointwise [k0_pay61, k0_pay59, k0_pay56]

theorem pay62_apply (a b : IVec S512x128 1) (p q : FVec Ideal S512x128 .f32) (R : Fin 512) (j : Fin 128) :
    k0_pay62 H a b p q v2 (ix4 0 0 R j) = Scalar.select (a (ix2 R j)) (k0_pay58 H v2 (ix2 R ⟨(j.val + 128 - 64) % 128, by omega⟩)) (Scalar.select (b (ix2 R j)) (p (ix2 R j)) (q (ix2 R j))) := by
  pointwise [k0_pay62, k0_pay59, k0_pay56]

theorem pay63_apply (a : IVec S512x128 1) (i : IVec S512x128 32) (R : Fin 512) (j : Fin 80) :
    k0_pay63 H i a v2 (ix4 0 0 j R) = Scalar.select (a (ix2 R ⟨j.val, by omega⟩)) (k0_pay58 H v2 (ix2 R ⟨128 + j.val, by omega⟩)) (k0_pay57 (F := Ideal) i (ix2 R ⟨j.val, by omega⟩)) := by
  pointwise [k0_pay63, k0_pay60]

theorem pay64_apply (a : IVec S512x128 1) (i : IVec S512x128 32) (R : Fin 512) (j : Fin 80) :
    k0_pay65 (k0_pay64 H i a v2) (ix4 0 0 j R) = Scalar.select (a (ix2 R ⟨j.val, by omega⟩)) (k0_pay58 H v2 (ix2 R ⟨128 + (j.val + 128 - 64) % 128, by omega⟩)) (k0_pay57 (F := Ideal) i (ix2 R ⟨j.val, by omega⟩)) := by
  pointwise [k0_pay65, k0_pay64, k0_pay60]

theorem pay68_apply (R : Fin 512) (j : Fin 128) : k0_pay68 H v2 (ix4 0 0 R j) = k0_pay66 H v2 (ix2 R ⟨j.val, by omega⟩) := by
  pointwise [k0_pay68, k0_pay67]

theorem pay71_apply (R : Fin 512) (j : Fin 128) : k0_pay71 H v2 (ix4 0 0 R j) = k0_pay66 H v2 (ix2 R ⟨128 + j.val, by omega⟩) := by
  pointwise [k0_pay71, k0_pay70]

theorem pay69_apply (a : IVec S512x128 1) (p : FVec Ideal S512x128 .f32) (R : Fin 512) (j : Fin 80) :
    k0_pay69 H a p v2 (ix4 0 0 j R) = Scalar.select (a (ix2 R ⟨j.val, by omega⟩)) (k0_pay66 H v2 (ix2 R ⟨(j.val + 128 - 64) % 128, by omega⟩)) (p (ix2 R ⟨j.val, by omega⟩)) := by
  pointwise [k0_pay69, k0_pay67]

theorem pay72_apply (a : IVec S512x128 1) (p : FVec Ideal S512x128 .f32) (R : Fin 512) (j : Fin 80) :
    k0_pay72 H a p v2 (ix4 0 0 j R) = Scalar.select (a (ix2 R ⟨j.val, by omega⟩)) (k0_pay66 H v2 (ix2 R ⟨128 + (j.val + 128 - 64) % 128, by omega⟩)) (p (ix2 R ⟨j.val, by omega⟩)) := by
  pointwise [k0_pay72, k0_pay70]

theorem pay76_apply (R : Fin 512) (j : Fin 512) : k0_pay76 H v5 (ix2 R j) = ∑ k : Fin 1024, H (ix2 R k) * v5 (ix2 k j) := by
  pointwise [k0_pay76]

theorem pay74_apply (R : Fin 512) (j : Fin 512) : k0_pay74 H v5 (ix3 0 R j) = ∑ k : Fin 1024, H (ix2 R k) * v5 (ix2 k j) := by
  pointwise [k0_pay74]

theorem pay75_apply (R : Fin 512) (j : Fin 512) : k0_pay75 H v5 (ix3 0 R j) = ∑ k : Fin 1024, H (ix2 R k) * v5 (ix2 k j) := by
  pointwise [k0_pay75]

theorem pay1_apply (v : FVec Ideal S512x512 .f32) (R : Fin 512) (j : Fin 512) : k0_pay1 v (ix3 0 R j) = v (ix2 R j) := by
  pointwise [k0_pay1]

theorem pay73_apply (R : Fin 512) (j : Fin 512) : k0_pay73 H v5 (ix3 0 R j) = k0_pay76 H v5 (ix2 R j) * InSpec.sig (k0_pay76 H v5 (ix2 R j)) := by
  pointwise [k0_pay73, k0_pay76]
  rw [zero_sub]
  rfl

theorem pay2_apply (R : Fin 512) (j : Fin 128) : k0_pay2 H v1 (ix2 R j) = ∑ k : Fin 1024, H (ix2 R k) * v1 (ix2 k j) := by
  pointwise [k0_pay2]

theorem pay3_apply (R : Fin 512) (j : Fin 128) : k0_pay3 H v1 (ix3 0 R j) = k0_pay2 H v1 (ix2 R j) := by
  pointwise [k0_pay3]

theorem pay4_apply (R : Fin 512) (j : Fin 32) : k0_pay4 H v1 (ix3 0 j R) = InSpec.sig (k0_pay2 H v1 (ix2 R ⟨j.val, by omega⟩)) := by
  pointwise [k0_pay4]
  rw [zero_sub]
  rfl

theorem pay12_apply (v : Vec Ideal S32x128 .f32) (n : Fin 32) (j : Fin 128) : k0_pay12 v (ix4 0 0 n j) = v (ix2 n j) := by
  pointwise [k0_pay12]

end Cert.Kernel3Ideal.Block
end
-- ==== Proof.InTile.lean ====
/-
  The values one grid point of the input projection stores, from the normed rows through the window's columns.
-/
module

public import proofs.«01_k».proof.Proof.Gen.Kernel3Ideal.Value
public import proofs.«01_k».proof.Proof.OutRow
public import proofs.«01_k».proof.Proof.InSpec
public import Idealize.ShloMosaic.Lib.Pointwise
public import Idealize.ShloMosaic.Lib.StableHlo.ReadAt
public import Idealize.ShloMosaic.Lib.Routing.OpsSet
public import Idealize.ShloMosaic.Lib.Routing.OpsPair
public import Idealize.ShloMosaic.Lib.Pipeline.ValueKit
public import Idealize.ShloMosaic.Lib.Pipeline.ValueKit.Point
public import Idealize.ShloMosaic.Lib.Tactic
public import proofs.«01_k».proof.Proof.InPay

@[expose] public section

set_option maxRecDepth 65536

noncomputable section

namespace Cert.Kernel3Ideal.Block

open Cert.Kernel3Ideal Cert.Kernel3Ideal.Gen Idealize.ShloMosaic Idealize.ShloMosaic.TcCoe Idealize.SL.Sem

/-- Row `R` of the tile through the columns of the window. -/
def pad (H : FVec Ideal S512x1024 .bf16) (W : Vec Ideal S1024x3456 .bf16) (R : Fin 512) (c : Fin 3456) : EReal := ∑ k : Fin 1024, H (ix2 R k) * W (ix2 k c)

variable (H : FVec Ideal S512x1024 .bf16) (W : Vec Ideal S1024x3456 .bf16)

/-- A slice of the window's columns, at an index. -/
theorem ldW (off n : Nat) (inb) (k : Fin 1024) (j : Fin n) (h : off + j.val < 3456) :
    (View.ld (Val := Elt Ideal) (e' := .bf16) W (Rect.unit (s := S1024x3456) ![0, off] ![1024, n] inb) : (⟨2, ![1024, n]⟩ : Shape).Idx → EReal) (ix2 k j) = W (ix2 k ⟨off + j.val, h⟩) := by
  refine congrArg W (funext fun a => ?_)
  fin_cases a
  · exact Fin.ext (show 0 + 1 * k.val = k.val by omega)
  · exact Fin.ext (show off + 1 * j.val = off + j.val by omega)

theorem sumW (off n : Nat) (inb) (R : Fin 512) (j : Fin n) (h : off + j.val < 3456) :
    (∑ k : Fin 1024, H (ix2 R k) * (View.ld (Val := Elt Ideal) (e' := .bf16) W (Rect.unit (s := S1024x3456) ![0, off] ![1024, n] inb) : (⟨2, ![1024, n]⟩ : Shape).Idx → EReal) (ix2 k j)) = pad H W R ⟨off + j.val, h⟩ :=
  Finset.sum_congr rfl fun k _ => congrArg (fun t : EReal => H (ix2 R k) * t) (ldW W off n inb k j h)

/-- Columns with equal places are equal. -/
theorem pad_at (R : Fin 512) (a b : Nat) (ha : a < 3456) (hb : b < 3456) (e : a = b) : pad H W R ⟨a, ha⟩ = pad H W R ⟨b, hb⟩ := by
  subst e
  rfl

theorem select_one {α : Type} (x y : α) : Scalar.select (1#1) x y = x := rfl
theorem select_zero {α : Type} (x y : α) : Scalar.select (0#1) x y = y := rfl

/-- A value in the first 64 rows, then a one, then zeros. -/
def onesAt (v : EReal) (r : Nat) : EReal := if r < 64 then v else if r = 64 then 1 else 0

theorem t_query (v0 : Vec Ideal S1x512x1024 .f32) (v2 v4 : Vec Ideal S1x1024 .f32) (R : Fin 512) (j : Fin 512) :
    k0_pay9 (k0_pay8 v0 v2 v4 (View.ld (Val := Elt Ideal) (e' := .bf16) W (Rect.unit (s := S1024x3456) ![0, 0] ![1024, 512] inb_S1024x3456_S1024x512_0_0))) (ix3 0 j R) = pad (k0_pay7 v0 v2 v4) W R ⟨j.val, by omega⟩ := by
  refine (pay9_apply _ v0 v2 v4 R j).trans ((sumW _ W 0 512 _ R j (by omega)).trans ?_)
  exact pad_at _ W R _ _ _ _ (by omega)

theorem t_10 (R : Fin 512) (j : Fin 256) :
    k0_pay10 H (View.ld (Val := Elt Ideal) (e' := .bf16) W (Rect.unit (s := S1024x3456) ![0, 512] ![1024, 256] inb_S1024x3456_S1024x256_0_512)) (ix2 R j) = pad H W R ⟨512 + j.val, by omega⟩ := by
  exact (pay10_apply H _ R j).trans (sumW H W 512 256 _ R j (by omega))

theorem t_11 (R : Fin 512) (j : Fin 128) :
    k0_pay11 H (View.ld (Val := Elt Ideal) (e' := .bf16) W (Rect.unit (s := S1024x3456) ![0, 512] ![1024, 256] inb_S1024x3456_S1024x256_0_512)) (ix2 R j) = pad H W R ⟨512 + j.val, by omega⟩ := by
  exact (pay11_apply H _ R j).trans (t_10 H W R ⟨j.val, by omega⟩)

theorem t_31 (R : Fin 512) (j : Fin 128) :
    k0_pay31 (k0_pay10 H (View.ld (Val := Elt Ideal) (e' := .bf16) W (Rect.unit (s := S1024x3456) ![0, 512] ![1024, 256] inb_S1024x3456_S1024x256_0_512))) (ix2 R j) = pad H W R ⟨640 + j.val, by omega⟩ := by
  refine (pay31_apply _ R j).trans ((t_10 H W R ⟨128 + j.val, by omega⟩).trans ?_)
  exact pad_at H W R _ _ _ _ (by show 512 + (128 + j.val) = 640 + j.val; omega)

theorem t_58 (R : Fin 512) (j : Fin 256) :
    k0_pay58 H (View.ld (Val := Elt Ideal) (e' := .bf16) W (Rect.unit (s := S1024x3456) ![0, 768] ![1024, 256] inb_S1024x3456_S1024x256_0_768)) (ix2 R j) = pad H W R ⟨768 + j.val, by omega⟩ := by
  exact (pay58_apply H _ R j).trans (sumW H W 768 256 _ R j (by omega))

theorem t_66 (R : Fin 512) (j : Fin 256) :
    k0_pay66 H (View.ld (Val := Elt Ideal) (e' := .bf16) W (Rect.unit (s := S1024x3456) ![0, 1024] ![1024, 256] inb_S1024x3456_S1024x256_0_1024)) (ix2 R j) = pad H W R ⟨1024 + j.val, by omega⟩ := by
  exact (pay66_apply H _ R j).trans (sumW H W 1024 256 _ R j (by omega))

/-- A selected key beside the place of its block. -/
def placeAt (R : Fin 512) (n : Nat) (g : Fin 2) (l : Fin 128) : EReal :=
  if l.val < 64 then pad H W R ⟨768 + 64 * g.val + l.val % 64, by omega⟩ else if n / 64 % 64 = l.val - 64 then 1 else 0

theorem one_at (i : S512x128.Idx) : k0_pay54 (F := Ideal) i = 1 := by
  rw [show i = ix2 (i 0) (i 1) from funext fun a => by fin_cases a <;> rfl]
  pointwise [k0_pay54]

theorem zero_at (i : S512x128.Idx) : k0_pay55 (F := Ideal) i = 0 := by
  rw [show i = ix2 (i 0) (i 1) from funext fun a => by fin_cases a <;> rfl]
  pointwise [k0_pay55]

theorem t_place0 (t : Fin 16) (R : Fin 512) (j : Fin 128) :
    k0_pay61 H k0_pay51 (k0_pay53 (iota Kind.tc S512x128 32 [1] iota_S512x128_d1_w32) (k0_pay52 (BitVec.ofNat 32 t.val)) 64#32) k0_pay54 k0_pay55 (View.ld (Val := Elt Ideal) (e' := .bf16) W (Rect.unit (s := S1024x3456) ![0, 768] ![1024, 256] inb_S1024x3456_S1024x256_0_768)) (ix4 0 0 R j) = placeAt H W R (t.val * 512 + R.val) 0 j := by
  refine (pay61_apply H _ _ _ _ _ R j).trans ?_
  unfold placeAt
  rw [pay51_apply, t_58, one_at, zero_at]
  by_cases h : j.val < 64
  · rw [if_pos h, if_pos h, select_one]
    exact pad_at H W R _ _ _ _ (by show 768 + j.val = 768 + 64 * 0 + j.val % 64; omega)
  · rw [if_neg h, if_neg h, select_zero, pay53_apply t R j (by omega)]
    by_cases e : (t.val * 512 + R.val) / 64 % 64 = j.val - 64
    · rw [if_pos e, if_pos e, select_one]
    · rw [if_neg e, if_neg e, select_zero]

theorem t_place1 (t : Fin 16) (R : Fin 512) (j : Fin 128) :
    k0_pay62 H k0_pay51 (k0_pay53 (iota Kind.tc S512x128 32 [1] iota_S512x128_d1_w32) (k0_pay52 (BitVec.ofNat 32 t.val)) 64#32) k0_pay54 k0_pay55 (View.ld (Val := Elt Ideal) (e' := .bf16) W (Rect.unit (s := S1024x3456) ![0, 768] ![1024, 256] inb_S1024x3456_S1024x256_0_768)) (ix4 0 0 R j) = placeAt H W R (t.val * 512 + R.val) 1 j := by
  refine (pay62_apply H _ _ _ _ _ R j).trans ?_
  unfold placeAt
  rw [pay51_apply, t_58, one_at, zero_at]
  by_cases h : j.val < 64
  · rw [if_pos h, if_pos h, select_one]
    exact pad_at H W R _ _ _ _ (by show 768 + (j.val + 128 - 64) % 128 = 768 + 64 * 1 + j.val % 64; omega)
  · rw [if_neg h, if_neg h, select_zero, pay53_apply t R j (by omega)]
    by_cases e : (t.val * 512 + R.val) / 64 % 64 = j.val - 64
    · rw [if_pos e, if_pos e, select_one]
    · rw [if_neg e, if_neg e, select_zero]

theorem t_vals0 (R : Fin 512) (j : Fin 80) :
    k0_pay63 H (iota Kind.tc S512x128 32 [1] iota_S512x128_d1_w32) k0_pay51 (View.ld (Val := Elt Ideal) (e' := .bf16) W (Rect.unit (s := S1024x3456) ![0, 768] ![1024, 256] inb_S1024x3456_S1024x256_0_768)) (ix4 0 0 j R) = onesAt (pad H W R ⟨896 + j.val % 64, by omega⟩) j.val := by
  refine (pay63_apply H _ _ _ R j).trans ?_
  unfold onesAt
  rw [pay51_apply, t_58, pay57_apply]
  by_cases h : j.val < 64
  · rw [if_pos h, if_pos h, select_one]
    exact pad_at H W R _ _ _ _ (by show 768 + (128 + j.val) = 896 + j.val % 64; omega)
  · rw [if_neg h, if_neg h, select_zero]

theorem t_vals1 (R : Fin 512) (j : Fin 80) :
    k0_pay65 (k0_pay64 H (iota Kind.tc S512x128 32 [1] iota_S512x128_d1_w32) k0_pay51 (View.ld (Val := Elt Ideal) (e' := .bf16) W (Rect.unit (s := S1024x3456) ![0, 768] ![1024, 256] inb_S1024x3456_S1024x256_0_768))) (ix4 0 0 j R) = onesAt (pad H W R ⟨960 + j.val % 64, by omega⟩) j.val := by
  refine (pay64_apply H _ _ _ R j).trans ?_
  unfold onesAt
  rw [pay51_apply, t_58, pay57_apply]
  by_cases h : j.val < 64
  · rw [if_pos h, if_pos h, select_one]
    exact pad_at H W R _ _ _ _ (by show 768 + (128 + (j.val + 128 - 64) % 128) = 960 + j.val % 64; omega)
  · rw [if_neg h, if_neg h, select_zero]

theorem t_vwin0 (R : Fin 512) (j : Fin 80) :
    k0_pay69 H k0_pay51 (k0_pay57 (iota Kind.tc S512x128 32 [1] iota_S512x128_d1_w32)) (View.ld (Val := Elt Ideal) (e' := .bf16) W (Rect.unit (s := S1024x3456) ![0, 1024] ![1024, 256] inb_S1024x3456_S1024x256_0_1024)) (ix4 0 0 j R) = onesAt (pad H W R ⟨1088 + j.val % 64, by omega⟩) j.val := by
  refine (pay69_apply H _ _ _ R j).trans ?_
  unfold onesAt
  rw [pay51_apply, t_66, pay57_apply]
  by_cases h : j.val < 64
  · rw [if_pos h, if_pos h, select_one]
    exact pad_at H W R _ _ _ _ (by show 1024 + ((j.val + 128 - 64) % 128) = 1088 + j.val % 64; omega)
  · rw [if_neg h, if_neg h, select_zero]

theorem t_vwin1 (R : Fin 512) (j : Fin 80) :
    k0_pay72 H k0_pay51 (k0_pay57 (iota Kind.tc S512x128 32 [1] iota_S512x128_d1_w32)) (View.ld (Val := Elt Ideal) (e' := .bf16) W (Rect.unit (s := S1024x3456) ![0, 1024] ![1024, 256] inb_S1024x3456_S1024x256_0_1024)) (ix4 0 0 j R) = onesAt (pad H W R ⟨1216 + j.val % 64, by omega⟩) j.val := by
  refine (pay72_apply H _ _ _ R j).trans ?_
  unfold onesAt
  rw [pay51_apply, t_66, pay57_apply]
  by_cases h : j.val < 64
  · rw [if_pos h, if_pos h, select_one]
    exact pad_at H W R _ _ _ _ (by show 1024 + (128 + (j.val + 128 - 64) % 128) = 1216 + j.val % 64; omega)
  · rw [if_neg h, if_neg h, select_zero]

theorem t_pair0 (R : Fin 512) (j : Fin 128) :
    k0_pay68 H (View.ld (Val := Elt Ideal) (e' := .bf16) W (Rect.unit (s := S1024x3456) ![0, 1024] ![1024, 256] inb_S1024x3456_S1024x256_0_1024)) (ix4 0 0 R j) = pad H W R ⟨1024 + j.val, by omega⟩ := by
  exact (pay68_apply H _ R j).trans (t_66 H W R ⟨j.val, by omega⟩)

theorem t_pair1 (R : Fin 512) (j : Fin 128) :
    k0_pay71 H (View.ld (Val := Elt Ideal) (e' := .bf16) W (Rect.unit (s := S1024x3456) ![0, 1024] ![1024, 256] inb_S1024x3456_S1024x256_0_1024)) (ix4 0 0 R j) = pad H W R ⟨1152 + j.val, by omega⟩ := by
  refine (pay71_apply H _ R j).trans ((t_66 H W R ⟨128 + j.val, by omega⟩).trans ?_)
  exact pad_at H W R _ _ _ _ (by show 1024 + (128 + j.val) = 1152 + j.val; omega)

theorem t_76 (o : Nat) (ho : o + 512 ≤ 3456) (inb) (R : Fin 512) (j : Fin 512) :
    k0_pay76 H (View.ld (Val := Elt Ideal) (e' := .bf16) W (Rect.unit (s := S1024x3456) ![0, o] ![1024, 512] inb)) (ix2 R j) = pad H W R ⟨o + j.val, by omega⟩ := by
  exact (pay76_apply H _ R j).trans (sumW H W o 512 _ R j (by omega))

theorem t_silu (R : Fin 512) (j : Fin 512) :
    k0_pay73 H (View.ld (Val := Elt Ideal) (e' := .bf16) W (Rect.unit (s := S1024x3456) ![0, 1280] ![1024, 512] inb_S1024x3456_S1024x512_0_1280)) (ix3 0 R j) = pad H W R ⟨1280 + j.val, by omega⟩ * InSpec.sig (pad H W R ⟨1280 + j.val, by omega⟩) := by
  refine (pay73_apply H _ R j).trans ?_
  rw [t_76 H W 1280 (by omega)]

theorem t_heads (R : Fin 512) (j : Fin 512) :
    k0_pay74 H (View.ld (Val := Elt Ideal) (e' := .bf16) W (Rect.unit (s := S1024x3456) ![0, 1792] ![1024, 512] inb_S1024x3456_S1024x512_0_1792)) (ix3 0 R j) = pad H W R ⟨1792 + j.val, by omega⟩ := by
  exact (pay74_apply H _ R j).trans (sumW H W 1792 512 _ R j (by omega))

theorem t_vg (R : Fin 512) (j : Fin 512) :
    k0_pay75 H (View.ld (Val := Elt Ideal) (e' := .bf16) W (Rect.unit (s := S1024x3456) ![0, 2304] ![1024, 512] inb_S1024x3456_S1024x512_0_2304)) (ix3 0 R j) = pad H W R ⟨2304 + j.val, by omega⟩ := by
  exact (pay75_apply H _ R j).trans (sumW H W 2304 512 _ R j (by omega))

theorem t_zg (R : Fin 512) (j : Fin 512) :
    k0_pay1 (k0_pay76 H (View.ld (Val := Elt Ideal) (e' := .bf16) W (Rect.unit (s := S1024x3456) ![0, 2816] ![1024, 512] inb_S1024x3456_S1024x512_0_2816))) (ix3 0 R j) = pad H W R ⟨2816 + j.val, by omega⟩ := by
  exact (pay1_apply _ R j).trans (t_76 H W 2816 (by omega) _ R j)

theorem t_2 (R : Fin 512) (j : Fin 128) :
    k0_pay2 H (View.ld (Val := Elt Ideal) (e' := .bf16) W (Rect.unit (s := S1024x3456) ![0, 3328] ![1024, 128] inb_S1024x3456_S1024x128_0_3328)) (ix2 R j) = pad H W R ⟨3328 + j.val, by omega⟩ := by
  exact (pay2_apply H _ R j).trans (sumW H W 3328 128 _ R j (by omega))

theorem t_small (R : Fin 512) (j : Fin 128) :
    k0_pay3 H (View.ld (Val := Elt Ideal) (e' := .bf16) W (Rect.unit (s := S1024x3456) ![0, 3328] ![1024, 128] inb_S1024x3456_S1024x128_0_3328)) (ix3 0 R j) = pad H W R ⟨3328 + j.val, by omega⟩ := by
  exact (pay3_apply H _ R j).trans (t_2 H W R j)

theorem t_gates (R : Fin 512) (j : Fin 32) :
    k0_pay4 H (View.ld (Val := Elt Ideal) (e' := .bf16) W (Rect.unit (s := S1024x3456) ![0, 3328] ![1024, 128] inb_S1024x3456_S1024x128_0_3328)) (ix3 0 j R) = InSpec.sig (pad H W R ⟨3328 + j.val, by omega⟩) := by
  exact (pay4_apply H _ R j).trans (congrArg InSpec.sig (t_2 H W R ⟨j.val, by omega⟩))

end Cert.Kernel3Ideal.Block
end
-- ==== Proof.InRows.lean ====
/-
  One tile's products with the padded columns, from the launched rows: every range of padded columns gives the launched
  projection's columns in the order the results list them.
-/
module

public import proofs.«01_k».proof.Proof.InWeight
public import proofs.«01_k».proof.Proof.InTile
public import proofs.«01_k».proof.Proof.Gla

@[expose] public section

set_option maxRecDepth 65536

noncomputable section

namespace Cert.Kernel3Ideal.Final

open Cert.Kernel3Ideal Cert.Kernel3Ideal.Gen Idealize.ShloMosaic Idealize.ShloMosaic.TcCoe Idealize.SL.Sem
open Cert.Kernel3Ideal.Block

variable (m : (ℓ : Loc nD τ sig) → Buf (Elt Ideal) ℓ) (c : Dev nD)

/-- A launched row, normed. -/
def rows (b : Fin 8) (s : Fin 8192) (k : Fin 1024) : EReal :=
  OutRow.norm (fun k => m ((c : Thread nD τ).loc main_arg0) (ix3 b s k)) (fun k => m ((c : Thread nD τ).loc main_arg1) (ix1 k)) (fun k => m ((c : Thread nD τ).loc main_arg2) (ix1 k)) k

/-- A row's product with a column of the launched projection. -/
def prj (h : Fin 1024 → EReal) (j : Fin 3368) : EReal := ∑ k : Fin 1024, h k * wt m c k j

/-- A launched row's product with a column of the launched projection. -/
def cols (b : Fin 8) (s : Fin 8192) (j : Fin 3368) : EReal := prj m c (rows m c b s) j

/-- A row's product with a padded column. -/
def psum (h : Fin 1024 → EReal) (n : Fin 3456) : EReal := ∑ k : Fin 1024, h k * (V m c main_v45 (ix2 k n) : EReal)

variable (h : Fin 1024 → EReal)

theorem psum_of (n : Fin 3456) (f : Fin 1024 → EReal) (e : ∀ k, (V m c main_v45 (ix2 k n) : EReal) = f k) : psum m c h n = ∑ k : Fin 1024, h k * f k :=
  Finset.sum_congr rfl fun k _ => congrArg (fun t : EReal => h k * t) (e k)

theorem sum_pair (k v : Nat) (hk : k + 128 ≤ 3368) (hv : v + 128 ≤ 3368) (g : Fin 2) (l : Fin 128) :
    ∑ i : Fin 1024, h i * InSpec.pair (wt m c i) k v hk hv g l = InSpec.pair (prj m c h) k v hk hv g l := by
  unfold InSpec.pair
  split <;> rfl

theorem sum_heads (j : Fin 512) : ∑ i : Fin 1024, h i * InSpec.heads (wt m c i) j = InSpec.heads (prj m c h) j := by
  unfold InSpec.heads
  split <;> rfl

theorem sum_small (j : Fin 128) : ∑ i : Fin 1024, h i * InSpec.small (wt m c i) j = InSpec.small (prj m c h) j := by
  unfold InSpec.small
  split
  · rfl
  · split
    · rfl
    · exact Finset.sum_eq_zero fun i _ => mul_zero (h i)

/-- The scale is one eighth. -/
theorem scale_eq : Ideal.ofBits .f32 1040187392#32 = ((1 / 8 : ℝ) : EReal) := by
  simp [Ideal.ofBits, Ideal.ieee, -EReal.coe_mul]
  norm_num

theorem sum_query (j : Fin 512) : ∑ i : Fin 1024, h i * (wt m c i ⟨j.val, by omega⟩ * Ideal.ofBits .f32 1040187392#32) = InSpec.query (prj m c h) j := by
  unfold InSpec.query prj
  rw [mul_comm, Gla.mul_sum_real _ _ (by rw [scale_eq]; exact EReal.coe_nonneg.2 (by norm_num)) (by rw [scale_eq]; exact EReal.coe_ne_top _)]
  exact Finset.sum_congr rfl fun i _ => by ac_rfl

theorem s_query (l : Fin 512) : psum m c h ⟨0 + l.val, by omega⟩ = InSpec.query (prj m c h) l :=
  (psum_of m c h _ _ fun k => w_query m c k l).trans (sum_query m c h l)

theorem s_cmp0 (l : Fin 128) : psum m c h ⟨512 + l.val, by omega⟩ = InSpec.pair (prj m c h) 512 640 (by omega) (by omega) 0 l :=
  (psum_of m c h _ _ fun k => w_cmp0 m c k l).trans (sum_pair m c h _ _ _ _ _ _)

theorem s_cmp1 (l : Fin 128) : psum m c h ⟨640 + l.val, by omega⟩ = InSpec.pair (prj m c h) 512 640 (by omega) (by omega) 1 l :=
  (psum_of m c h _ _ fun k => w_cmp1 m c k l).trans (sum_pair m c h _ _ _ _ _ _)

theorem s_win0 (l : Fin 128) : psum m c h ⟨1024 + l.val, by omega⟩ = InSpec.pair (prj m c h) 1024 1152 (by omega) (by omega) 0 l :=
  (psum_of m c h _ _ fun k => w_win0 m c k l).trans (sum_pair m c h _ _ _ _ _ _)

theorem s_win1 (l : Fin 128) : psum m c h ⟨1152 + l.val, by omega⟩ = InSpec.pair (prj m c h) 1024 1152 (by omega) (by omega) 1 l :=
  (psum_of m c h _ _ fun k => w_win1 m c k l).trans (sum_pair m c h _ _ _ _ _ _)

theorem s_ks (l : Fin 128) : psum m c h ⟨768 + l.val, by omega⟩ = prj m c h ⟨768 + l.val, by omega⟩ :=
  (psum_of m c h _ _ fun k => w_ks m c k l).trans rfl

theorem s_vs (l : Fin 128) : psum m c h ⟨896 + l.val, by omega⟩ = prj m c h ⟨896 + l.val, by omega⟩ :=
  (psum_of m c h _ _ fun k => w_vs m c k l).trans rfl

theorem s_silu (l : Fin 512) : psum m c h ⟨1280 + l.val, by omega⟩ = prj m c h ⟨1304 + l.val, by omega⟩ :=
  (psum_of m c h _ _ fun k => w_silu m c k l).trans rfl

theorem s_vg (l : Fin 512) : psum m c h ⟨2304 + l.val, by omega⟩ = prj m c h ⟨2328 + l.val, by omega⟩ :=
  (psum_of m c h _ _ fun k => w_vg m c k l).trans rfl

theorem s_zg (l : Fin 512) : psum m c h ⟨2816 + l.val, by omega⟩ = prj m c h ⟨2856 + l.val, by omega⟩ :=
  (psum_of m c h _ _ fun k => w_zg m c k l).trans rfl

theorem s_heads0 (l : Fin 128) : psum m c h ⟨1792 + l.val, by omega⟩ = InSpec.heads (prj m c h) ⟨l.val, by omega⟩ :=
  (psum_of m c h _ _ fun k => w_heads0 m c k l).trans (sum_heads m c h _)

theorem s_heads1 (l : Fin 128) : psum m c h ⟨1920 + l.val, by omega⟩ = InSpec.heads (prj m c h) ⟨128 + l.val, by omega⟩ :=
  (psum_of m c h _ _ fun k => w_heads1 m c k l).trans (sum_heads m c h _)

theorem s_heads2 (l : Fin 128) : psum m c h ⟨2048 + l.val, by omega⟩ = InSpec.heads (prj m c h) ⟨256 + l.val, by omega⟩ :=
  (psum_of m c h _ _ fun k => w_heads2 m c k l).trans (sum_heads m c h _)

theorem s_heads3 (l : Fin 128) : psum m c h ⟨2176 + l.val, by omega⟩ = InSpec.heads (prj m c h) ⟨384 + l.val, by omega⟩ :=
  (psum_of m c h _ _ fun k => w_heads3 m c k l).trans (sum_heads m c h _)

theorem s_small (l : Fin 128) : psum m c h ⟨3328 + l.val, by omega⟩ = InSpec.small (prj m c h) l :=
  (psum_of m c h _ _ fun k => w_small m c k l).trans (sum_small m c h l)

theorem at_eq (a b : Nat) (ha : a < 3456) (hb : b < 3456) (e : a = b) : psum m c h ⟨a, ha⟩ = psum m c h ⟨b, hb⟩ := by
  subst e
  rfl

theorem prj_eq (a b : Nat) (ha : a < 3368) (hb : b < 3368) (e : a = b) : prj m c h ⟨a, ha⟩ = prj m c h ⟨b, hb⟩ := by
  subst e
  rfl

theorem s_heads (j : Fin 512) : psum m c h ⟨1792 + j.val, by omega⟩ = InSpec.heads (prj m c h) j := by
  have hj := j.isLt
  by_cases h1 : j.val < 128
  · exact s_heads0 m c h ⟨j.val, h1⟩
  by_cases h2 : j.val < 256
  · exact (at_eq m c h _ _ _ _ (show 1792 + j.val = 1920 + (j.val - 128) by omega)).trans ((s_heads1 m c h ⟨j.val - 128, by omega⟩).trans (congrArg (InSpec.heads (prj m c h)) (Fin.ext (show 128 + (j.val - 128) = j.val by omega))))
  by_cases h3 : j.val < 384
  · exact (at_eq m c h _ _ _ _ (show 1792 + j.val = 2048 + (j.val - 256) by omega)).trans ((s_heads2 m c h ⟨j.val - 256, by omega⟩).trans (congrArg (InSpec.heads (prj m c h)) (Fin.ext (show 256 + (j.val - 256) = j.val by omega))))
  · exact (at_eq m c h _ _ _ _ (show 1792 + j.val = 2176 + (j.val - 384) by omega)).trans ((s_heads3 m c h ⟨j.val - 384, by omega⟩).trans (congrArg (InSpec.heads (prj m c h)) (Fin.ext (show 384 + (j.val - 384) = j.val by omega))))

/-- Two groups' columns, one after the other. -/
theorem s_cmp (g : Fin 2) (l : Fin 128) : psum m c h ⟨512 + 128 * g.val + l.val, by omega⟩ = InSpec.pair (prj m c h) 512 640 (by omega) (by omega) g l := by
  fin_cases g
  · exact s_cmp0 m c h l
  · exact s_cmp1 m c h l

theorem s_win (g : Fin 2) (l : Fin 128) : psum m c h ⟨1024 + 128 * g.val + l.val, by omega⟩ = InSpec.pair (prj m c h) 1024 1152 (by omega) (by omega) g l := by
  fin_cases g
  · exact s_win0 m c h l
  · exact s_win1 m c h l

theorem s_val (g : Fin 2) (r : Fin 80) : onesAt (psum m c h ⟨896 + 64 * g.val + r.val % 64, by omega⟩) r.val = InSpec.ones (prj m c h) 896 (by omega) g r := by
  unfold onesAt InSpec.ones
  by_cases hr : r.val < 64
  · rw [if_pos hr, if_pos hr]
    refine (at_eq m c h _ _ _ _ (show 896 + 64 * g.val + r.val % 64 = 896 + (64 * g.val + r.val % 64) by omega)).trans ((s_vs m c h ⟨64 * g.val + r.val % 64, by omega⟩).trans ?_)
    exact prj_eq m c h _ _ _ _ (show 896 + (64 * g.val + r.val % 64) = 896 + 64 * g.val + r.val % 64 by omega)
  · rw [if_neg hr, if_neg hr]

theorem s_vwin (g : Fin 2) (r : Fin 80) : onesAt (psum m c h ⟨1088 + 128 * g.val + r.val % 64, by omega⟩) r.val = InSpec.ones (prj m c h) 1152 (by omega) g r := by
  unfold onesAt InSpec.ones
  by_cases hr : r.val < 64
  · rw [if_pos hr, if_pos hr]
    refine (at_eq m c h _ _ _ _ (show 1088 + 128 * g.val + r.val % 64 = 1024 + 128 * g.val + (64 + r.val % 64) by omega)).trans ((s_win m c h g ⟨64 + r.val % 64, by omega⟩).trans ?_)
    unfold InSpec.pair
    rw [if_neg (by show ¬ 64 + r.val % 64 < 64; omega)]
    exact prj_eq m c h _ _ _ _ (show 1152 + 64 * g.val + (64 + r.val % 64) % 64 = 1152 + 64 * g.val + r.val % 64 by omega)
  · rw [if_neg hr, if_neg hr]

theorem s_place (s : Fin 8192) (n : Nat) (e : n = s.val) (g : Fin 2) (l : Fin 128) :
    (if l.val < 64 then psum m c h ⟨768 + 64 * g.val + l.val % 64, by omega⟩ else if n / 64 % 64 = l.val - 64 then 1 else 0) = InSpec.place (prj m c h) s g l := by
  subst e
  unfold InSpec.place
  by_cases hr : l.val < 64
  · rw [if_pos hr, if_pos hr]
    refine (at_eq m c h _ _ _ _ (show 768 + 64 * g.val + l.val % 64 = 768 + (64 * g.val + l.val % 64) by omega)).trans ((s_ks m c h ⟨64 * g.val + l.val % 64, by omega⟩).trans ?_)
    exact prj_eq m c h _ _ _ _ (show 768 + (64 * g.val + l.val % 64) = 768 + 64 * g.val + l.val % 64 by omega)
  · rw [if_neg hr, if_neg hr]

theorem s_query' (j : Fin 512) : psum m c h ⟨j.val, by omega⟩ = InSpec.query (prj m c h) j :=
  (at_eq m c h _ _ _ _ (show j.val = 0 + j.val by omega)).trans (s_query m c h j)

end Cert.Kernel3Ideal.Final
end
-- ==== Proof.InOutA.lean ====
/-
  What one grid point of the input projection leaves in each output's block.
-/
module

public import proofs.«01_k».proof.Proof.Gen.Kernel3Ideal.Value
public import proofs.«01_k».proof.Proof.OutRow
public import proofs.«01_k».proof.Proof.InSpec
public import Idealize.ShloMosaic.Lib.Pointwise
public import Idealize.ShloMosaic.Lib.StableHlo.ReadAt
public import Idealize.ShloMosaic.Lib.Routing.OpsSet
public import Idealize.ShloMosaic.Lib.Routing.OpsPair
public import Idealize.ShloMosaic.Lib.Pipeline.ValueKit
public import Idealize.ShloMosaic.Lib.Pipeline.ValueKit.Point
public import Idealize.ShloMosaic.Lib.Tactic
public import proofs.«01_k».proof.Proof.InTile

@[expose] public section

set_option maxRecDepth 65536

noncomputable section

namespace Cert.Kernel3Ideal.Block

open Cert.Kernel3Ideal Cert.Kernel3Ideal.Gen Idealize.ShloMosaic Idealize.ShloMosaic.TcCoe Idealize.SL.Sem

/-- Offsets at the origin of two axes. -/
theorem hz2 : (![0, 0] : Fin 2 → Nat) = fun _ => 0 := funext fun a => by fin_cases a <;> rfl
/-- Offsets at the origin of three axes. -/
theorem hz3 : (![0, 0, 0] : Fin 3 → Nat) = fun _ => 0 := funext fun a => by fin_cases a <;> rfl
/-- Offsets at the origin of four axes. -/
theorem hz4 : (![0, 0, 0, 0] : Fin 4 → Nat) = fun _ => 0 := funext fun a => by fin_cases a <;> rfl

theorem out4_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (R : Fin 512) (j : Fin 1024) :
    out0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix3 0 R j) = Ideal.ofBits .f32 1066940400#32 * k0_pay5 x0 x1 x2 (ix2 R j) := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  unfold kernelRun0_A
  dsimp only
  sl_unfold_words
  rw [View.canon_unit_zero (S := S1x512x1024) hz3]
  simp only [View.readAt_eq_ld, harg2.read_unread, harg3.read_unread, harg4.read_unread, harg5.read_unread, View.ld_unit_zero (S := S1x512x1024) hz3, View.ld_unit_zero (S := S1x1024) hz2]
  exact pay6_apply x0 x1 x2 R j

theorem out5_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (R : Fin 512) (j : Fin 512) :
    out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix3 0 j R) = pad (k0_pay7 x0 x1 x2) x3 R ⟨j.val, by omega⟩ := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  unfold kernelRun0_A
  dsimp only
  sl_unfold_words
  rw [View.canon_unit_zero (S := S1x512x512) hz3]
  simp only [View.readAt_eq_ld, harg2.read_unread, harg3.read_unread, harg4.read_unread, harg5.read_unread, View.ld_unit_zero (S := S1x512x1024) hz3, View.ld_unit_zero (S := S1x1024) hz2]
  exact t_query x3 x0 x1 x2 R j

theorem out11_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (R : Fin 512) (j : Fin 512) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix3 0 R j) = pad (k0_pay7 x0 x1 x2) x3 R ⟨1280 + j.val, by omega⟩ * InSpec.sig (pad (k0_pay7 x0 x1 x2) x3 R ⟨1280 + j.val, by omega⟩) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  unfold kernelRun0_A
  dsimp only
  sl_unfold_words
  rw [View.canon_unit_zero (S := S1x512x512) hz3]
  simp only [View.readAt_eq_ld, harg2.read_unread, harg3.read_unread, harg4.read_unread, harg5.read_unread, View.ld_unit_zero (S := S1x512x1024) hz3, View.ld_unit_zero (S := S1x1024) hz2]
  exact t_silu (k0_pay7 x0 x1 x2) x3 R j

theorem out12_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (R : Fin 512) (j : Fin 512) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix3 0 R j) = pad (k0_pay7 x0 x1 x2) x3 R ⟨1792 + j.val, by omega⟩ := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  unfold kernelRun0_A
  dsimp only
  sl_unfold_words
  rw [View.canon_unit_zero (S := S1x512x512) hz3]
  simp only [View.readAt_eq_ld, harg2.read_unread, harg3.read_unread, harg4.read_unread, harg5.read_unread, View.ld_unit_zero (S := S1x512x1024) hz3, View.ld_unit_zero (S := S1x1024) hz2]
  exact t_heads (k0_pay7 x0 x1 x2) x3 R j

theorem out13_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (R : Fin 512) (j : Fin 512) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix3 0 R j) = pad (k0_pay7 x0 x1 x2) x3 R ⟨2304 + j.val, by omega⟩ := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  unfold kernelRun0_A
  dsimp only
  sl_unfold_words
  rw [View.canon_unit_zero (S := S1x512x512) hz3]
  simp only [View.readAt_eq_ld, harg2.read_unread, harg3.read_unread, harg4.read_unread, harg5.read_unread, View.ld_unit_zero (S := S1x512x1024) hz3, View.ld_unit_zero (S := S1x1024) hz2]
  exact t_vg (k0_pay7 x0 x1 x2) x3 R j

theorem out14_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (R : Fin 512) (j : Fin 512) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix3 0 R j) = pad (k0_pay7 x0 x1 x2) x3 R ⟨2816 + j.val, by omega⟩ := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  unfold kernelRun0_A
  dsimp only
  sl_unfold_words
  rw [View.canon_unit_zero (S := S1x512x512) hz3]
  simp only [View.readAt_eq_ld, harg2.read_unread, harg3.read_unread, harg4.read_unread, harg5.read_unread, View.ld_unit_zero (S := S1x512x1024) hz3, View.ld_unit_zero (S := S1x1024) hz2]
  exact t_zg (k0_pay7 x0 x1 x2) x3 R j

theorem out15_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (R : Fin 512) (j : Fin 128) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix3 0 R j) = pad (k0_pay7 x0 x1 x2) x3 R ⟨3328 + j.val, by omega⟩ := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  unfold kernelRun0_A
  dsimp only
  sl_unfold_words
  rw [View.canon_unit_zero (S := S1x512x128) hz3]
  simp only [View.readAt_eq_ld, harg2.read_unread, harg3.read_unread, harg4.read_unread, harg5.read_unread, View.ld_unit_zero (S := S1x512x1024) hz3, View.ld_unit_zero (S := S1x1024) hz2]
  exact t_small (k0_pay7 x0 x1 x2) x3 R j

theorem out16_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (R : Fin 512) (j : Fin 32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix3 0 j R) = InSpec.sig (pad (k0_pay7 x0 x1 x2) x3 R ⟨3328 + j.val, by omega⟩) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  unfold kernelRun0_A
  dsimp only
  sl_unfold_words
  rw [View.canon_unit_zero (S := S1x32x512) hz3]
  simp only [View.readAt_eq_ld, harg2.read_unread, harg3.read_unread, harg4.read_unread, harg5.read_unread, View.ld_unit_zero (S := S1x512x1024) hz3, View.ld_unit_zero (S := S1x1024) hz2]
  exact t_gates (k0_pay7 x0 x1 x2) x3 R j

end Cert.Kernel3Ideal.Block
end
-- ==== Proof.InOutB.lean ====
/-
  What one grid point of the input projection leaves in each output's block.
-/
module

public import proofs.«01_k».proof.Proof.Gen.Kernel3Ideal.Value
public import proofs.«01_k».proof.Proof.OutRow
public import proofs.«01_k».proof.Proof.InSpec
public import Idealize.ShloMosaic.Lib.Pointwise
public import Idealize.ShloMosaic.Lib.StableHlo.ReadAt
public import Idealize.ShloMosaic.Lib.Routing.OpsSet
public import Idealize.ShloMosaic.Lib.Routing.OpsPair
public import Idealize.ShloMosaic.Lib.Pipeline.ValueKit
public import Idealize.ShloMosaic.Lib.Pipeline.ValueKit.Point
public import Idealize.ShloMosaic.Lib.Tactic
public import proofs.«01_k».proof.Proof.InTile
public import proofs.«01_k».proof.Proof.InOutA

@[expose] public section

set_option maxRecDepth 65536

noncomputable section

namespace Cert.Kernel3Ideal.Block

open Cert.Kernel3Ideal Cert.Kernel3Ideal.Gen Idealize.ShloMosaic Idealize.ShloMosaic.TcCoe Idealize.SL.Sem

/-- The block's entry, from the rows. -/
def valsAt (H : FVec Ideal S512x1024 .bf16) (W : Vec Ideal S1024x3456 .bf16) (y : S1x2x80x512.Idx) : EReal :=
  onesAt (pad H W (y 3) ⟨896 + 64 * (y 1).val + (y 2).val % 64, by have h1 : (y 1).val < 2 := (y 1).isLt; omega⟩) (y 2).val

theorem valsAt_ix (H : FVec Ideal S512x1024 .bf16) (W : Vec Ideal S1024x3456 .bf16) (g : Fin 2) (j : Fin 80) (R : Fin 512) :
    valsAt H W (ix4 0 g j R) = onesAt (pad H W R ⟨896 + 64 * g.val + j.val % 64, by omega⟩) j.val := rfl

/-- The block's entry, from the rows. -/
def vwinAt (H : FVec Ideal S512x1024 .bf16) (W : Vec Ideal S1024x3456 .bf16) (y : S1x2x80x512.Idx) : EReal :=
  onesAt (pad H W (y 3) ⟨1088 + 128 * (y 1).val + (y 2).val % 64, by have h1 : (y 1).val < 2 := (y 1).isLt; omega⟩) (y 2).val

theorem vwinAt_ix (H : FVec Ideal S512x1024 .bf16) (W : Vec Ideal S1024x3456 .bf16) (g : Fin 2) (j : Fin 80) (R : Fin 512) :
    vwinAt H W (ix4 0 g j R) = onesAt (pad H W R ⟨1088 + 128 * g.val + j.val % 64, by omega⟩) j.val := rfl

/-- The block's entry, from the rows. -/
def pairAt (H : FVec Ideal S512x1024 .bf16) (W : Vec Ideal S1024x3456 .bf16) (y : S1x2x512x128.Idx) : EReal :=
  pad H W (y 2) ⟨1024 + 128 * (y 1).val + (y 3).val, by have h1 : (y 1).val < 2 := (y 1).isLt; have h3 : (y 3).val < 128 := (y 3).isLt; omega⟩

theorem pairAt_ix (H : FVec Ideal S512x1024 .bf16) (W : Vec Ideal S1024x3456 .bf16) (g : Fin 2) (R : Fin 512) (j : Fin 128) :
    pairAt H W (ix4 0 g R j) = pad H W R ⟨1024 + 128 * g.val + j.val, by omega⟩ := rfl

/-- The row in the tile's place of the sequence. -/
theorem emb7 (g : Nat) (hg : g < 2) (inb) (R : Fin 512) (j : Fin 128) :
    (Rect.unit (s := S1x2x512x128) ![0, g, 0, 0] ![1, 1, 512, 128] inb).emb (ix4 0 0 R j : S1x1x512x128.Idx) = (ix4 0 ⟨g, hg⟩ R j : S1x2x512x128.Idx) := by
  funext a
  fin_cases a
  · exact Fin.ext (show 0 + 1 * 0 = 0 from rfl)
  · exact Fin.ext (show g + 1 * 0 = g by omega)
  · exact Fin.ext (show 0 + 1 * R.val = R.val by omega)
  · exact Fin.ext (show 0 + 1 * j.val = j.val by omega)

theorem emb8 (g : Nat) (hg : g < 2) (inb) (R : Fin 512) (j : Fin 80) :
    (Rect.unit (s := S1x2x80x512) ![0, g, 0, 0] ![1, 1, 80, 512] inb).emb (ix4 0 0 j R : S1x1x80x512.Idx) = (ix4 0 ⟨g, hg⟩ j R : S1x2x80x512.Idx) := by
  funext a
  fin_cases a
  · exact Fin.ext (show 0 + 1 * 0 = 0 from rfl)
  · exact Fin.ext (show g + 1 * 0 = g by omega)
  · exact Fin.ext (show 0 + 1 * j.val = j.val by omega)
  · exact Fin.ext (show 0 + 1 * R.val = R.val by omega)

theorem out7_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (R : Fin 512) (g : Fin 2) (j : Fin 128) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix4 0 g R j) = placeAt (k0_pay7 x0 x1 x2) x3 R ((i 1).val * 512 + R.val) g j := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  refine View.canon_apply_of_pieces (Val := Elt Ideal) (e := .bf16) (fun y => placeAt (k0_pay7 x0 x1 x2) x3 (y 2) ((i 1).val * 512 + (y 2).val) (y 1) (y 3)) _ ?_ (ix4 0 g R j) (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix4 0 g R j))
  unfold kernelRun0_A
  dsimp only
  sl_unfold_words
  simp only [View.readAt_eq_ld, harg2.read_unread, harg3.read_unread, harg4.read_unread, harg5.read_unread, View.ld_unit_zero (S := S1x512x1024) hz3, View.ld_unit_zero (S := S1x1024) hz2]
  simp only [List.forall_mem_cons, List.not_mem_nil, false_implies, implies_true, and_true]
  refine ⟨fun x => ?_, fun x => ?_⟩
  · obtain ⟨p, q, rfl⟩ : ∃ p q, x = (ix4 0 0 p q : S1x1x512x128.Idx) := ⟨x 2, x 3, by funext a; fin_cases a <;> first | rfl | exact Subsingleton.elim (α := Fin 1) _ _⟩
    exact (t_place1 (k0_pay7 x0 x1 x2) x3 (i 1) p q).trans (congrArg (fun y : S1x2x512x128.Idx => (placeAt (k0_pay7 x0 x1 x2) x3 (y 2) ((i 1).val * 512 + (y 2).val) (y 1) (y 3) : EReal)) (emb7 1 (by omega) _ p q).symm)
  · obtain ⟨p, q, rfl⟩ : ∃ p q, x = (ix4 0 0 p q : S1x1x512x128.Idx) := ⟨x 2, x 3, by funext a; fin_cases a <;> first | rfl | exact Subsingleton.elim (α := Fin 1) _ _⟩
    exact (t_place0 (k0_pay7 x0 x1 x2) x3 (i 1) p q).trans (congrArg (fun y : S1x2x512x128.Idx => (placeAt (k0_pay7 x0 x1 x2) x3 (y 2) ((i 1).val * 512 + (y 2).val) (y 1) (y 3) : EReal)) (emb7 0 (by omega) _ p q).symm)

theorem out8_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (y : S1x2x80x512.Idx) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 y = valsAt (k0_pay7 x0 x1 x2) x3 y := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  refine View.canon_apply_of_pieces (Val := Elt Ideal) (e := .bf16) (valsAt (k0_pay7 x0 x1 x2) x3) _ ?_ y (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 y)
  unfold kernelRun0_A
  dsimp only
  sl_unfold_words
  simp only [View.readAt_eq_ld, harg2.read_unread, harg3.read_unread, harg4.read_unread, harg5.read_unread, View.ld_unit_zero (S := S1x512x1024) hz3, View.ld_unit_zero (S := S1x1024) hz2]
  simp only [List.forall_mem_cons, List.not_mem_nil, false_implies, implies_true, and_true]
  refine ⟨fun x => ?_, fun x => ?_⟩
  · obtain ⟨p, q, rfl⟩ : ∃ p q, x = (ix4 0 0 p q : S1x1x80x512.Idx) := ⟨x 2, x 3, by funext a; fin_cases a <;> first | rfl | exact Subsingleton.elim (α := Fin 1) _ _⟩
    exact (t_vals1 (k0_pay7 x0 x1 x2) x3 q p).trans (((valsAt_ix (k0_pay7 x0 x1 x2) x3 1 p q).symm).trans (congrArg (valsAt (k0_pay7 x0 x1 x2) x3) (emb8 1 (by omega) _ q p).symm))
  · obtain ⟨p, q, rfl⟩ : ∃ p q, x = (ix4 0 0 p q : S1x1x80x512.Idx) := ⟨x 2, x 3, by funext a; fin_cases a <;> first | rfl | exact Subsingleton.elim (α := Fin 1) _ _⟩
    exact (t_vals0 (k0_pay7 x0 x1 x2) x3 q p).trans (((valsAt_ix (k0_pay7 x0 x1 x2) x3 0 p q).symm).trans (congrArg (valsAt (k0_pay7 x0 x1 x2) x3) (emb8 0 (by omega) _ q p).symm))

theorem out9_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (y : S1x2x512x128.Idx) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 y = pairAt (k0_pay7 x0 x1 x2) x3 y := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  refine View.canon_apply_of_pieces (Val := Elt Ideal) (e := .bf16) (pairAt (k0_pay7 x0 x1 x2) x3) _ ?_ y (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 y)
  unfold kernelRun0_A
  dsimp only
  sl_unfold_words
  simp only [View.readAt_eq_ld, harg2.read_unread, harg3.read_unread, harg4.read_unread, harg5.read_unread, View.ld_unit_zero (S := S1x512x1024) hz3, View.ld_unit_zero (S := S1x1024) hz2]
  simp only [List.forall_mem_cons, List.not_mem_nil, false_implies, implies_true, and_true]
  refine ⟨fun x => ?_, fun x => ?_⟩
  · obtain ⟨p, q, rfl⟩ : ∃ p q, x = (ix4 0 0 p q : S1x1x512x128.Idx) := ⟨x 2, x 3, by funext a; fin_cases a <;> first | rfl | exact Subsingleton.elim (α := Fin 1) _ _⟩
    exact (t_pair1 (k0_pay7 x0 x1 x2) x3 p q).trans (((pairAt_ix (k0_pay7 x0 x1 x2) x3 1 p q).symm).trans (congrArg (pairAt (k0_pay7 x0 x1 x2) x3) (emb7 1 (by omega) _ p q).symm))
  · obtain ⟨p, q, rfl⟩ : ∃ p q, x = (ix4 0 0 p q : S1x1x512x128.Idx) := ⟨x 2, x 3, by funext a; fin_cases a <;> first | rfl | exact Subsingleton.elim (α := Fin 1) _ _⟩
    exact (t_pair0 (k0_pay7 x0 x1 x2) x3 p q).trans (((pairAt_ix (k0_pay7 x0 x1 x2) x3 0 p q).symm).trans (congrArg (pairAt (k0_pay7 x0 x1 x2) x3) (emb7 0 (by omega) _ p q).symm))

theorem out10_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (y : S1x2x80x512.Idx) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 y = vwinAt (k0_pay7 x0 x1 x2) x3 y := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  refine View.canon_apply_of_pieces (Val := Elt Ideal) (e := .bf16) (vwinAt (k0_pay7 x0 x1 x2) x3) _ ?_ y (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 y)
  unfold kernelRun0_A
  dsimp only
  sl_unfold_words
  simp only [View.readAt_eq_ld, harg2.read_unread, harg3.read_unread, harg4.read_unread, harg5.read_unread, View.ld_unit_zero (S := S1x512x1024) hz3, View.ld_unit_zero (S := S1x1024) hz2]
  simp only [List.forall_mem_cons, List.not_mem_nil, false_implies, implies_true, and_true]
  refine ⟨fun x => ?_, fun x => ?_⟩
  · obtain ⟨p, q, rfl⟩ : ∃ p q, x = (ix4 0 0 p q : S1x1x80x512.Idx) := ⟨x 2, x 3, by funext a; fin_cases a <;> first | rfl | exact Subsingleton.elim (α := Fin 1) _ _⟩
    exact (t_vwin1 (k0_pay7 x0 x1 x2) x3 q p).trans (((vwinAt_ix (k0_pay7 x0 x1 x2) x3 1 p q).symm).trans (congrArg (vwinAt (k0_pay7 x0 x1 x2) x3) (emb8 1 (by omega) _ q p).symm))
  · obtain ⟨p, q, rfl⟩ : ∃ p q, x = (ix4 0 0 p q : S1x1x80x512.Idx) := ⟨x 2, x 3, by funext a; fin_cases a <;> first | rfl | exact Subsingleton.elim (α := Fin 1) _ _⟩
    exact (t_vwin0 (k0_pay7 x0 x1 x2) x3 q p).trans (((vwinAt_ix (k0_pay7 x0 x1 x2) x3 0 p q).symm).trans (congrArg (vwinAt (k0_pay7 x0 x1 x2) x3) (emb8 0 (by omega) _ q p).symm))

end Cert.Kernel3Ideal.Block
end
-- ==== Proof.InOutC.lean ====
/-
  What one grid point of the input projection leaves in each output's block.
-/
module

public import proofs.«01_k».proof.Proof.Gen.Kernel3Ideal.Value
public import proofs.«01_k».proof.Proof.OutRow
public import proofs.«01_k».proof.Proof.InSpec
public import Idealize.ShloMosaic.Lib.Pointwise
public import Idealize.ShloMosaic.Lib.StableHlo.ReadAt
public import Idealize.ShloMosaic.Lib.Routing.OpsSet
public import Idealize.ShloMosaic.Lib.Routing.OpsPair
public import Idealize.ShloMosaic.Lib.Pipeline.ValueKit
public import Idealize.ShloMosaic.Lib.Pipeline.ValueKit.Point
public import Idealize.ShloMosaic.Lib.Tactic
public import proofs.«01_k».proof.Proof.InTile
public import proofs.«01_k».proof.Proof.InOutA

@[expose] public section

set_option maxRecDepth 65536

noncomputable section

namespace Cert.Kernel3Ideal.Block

open Cert.Kernel3Ideal Cert.Kernel3Ideal.Gen Idealize.ShloMosaic Idealize.ShloMosaic.TcCoe Idealize.SL.Sem

/-- A chunk's part stored from the slab: sixteen rows apart, at the chunk's lanes. -/
theorem piece (P : FVec Ideal S512x128 .f32) (L : List (View.Piece (Elt Ideal) S512x128 .f32)) (v : View sig .tc .vmem S512x128 .f32) (o : Nat) (ho : o < 16) (g : Fin 2) (inb inb' inb'')
    (Q : S1x2x32x2048.Idx → EReal)
    (hQ : ∀ (n : Fin 32) (l : Fin 128), P (ix2 ⟨16 * n.val + o, by omega⟩ l) = Q (ix4 0 g n ⟨128 * o + l.val, by omega⟩)) (x : S1x1x32x128.Idx) :
    k0_pay12 (v.readCov (⟨Rect.unit (s := S512x128) ![0, 0] ![512, 128] inb, P⟩ :: L) ({ off := ![o, 0], size := ![32, 128], stride := ![16, 1], inb := inb' } : LoadRect S512x128)) x =
      Q ((Rect.unit (s := S1x2x32x2048) ![0, g.val, 0, 128 * o] ![1, 1, 32, 128] inb'').emb x) := by
  obtain ⟨n, l, rfl⟩ : ∃ n l, x = (ix4 0 0 n l : S1x1x32x128.Idx) := ⟨x 2, x 3, by funext a; fin_cases a <;> first | rfl | exact Subsingleton.elim (α := Fin 1) _ _⟩
  refine (pay12_apply _ n l).trans ?_
  rw [View.readCov_eq_canon', View.canon_cons_unit_zero (S := S512x128) hz2]
  have e1 : ({ off := ![o, 0], size := ![32, 128], stride := ![16, 1], inb := inb' } : LoadRect S512x128).idx (ix2 n l : (⟨2, ![32, 128]⟩ : Shape).Idx) = (ix2 ⟨16 * n.val + o, by omega⟩ l : S512x128.Idx) := by
    funext a
    fin_cases a
    · exact Fin.ext (show o + 16 * n.val = 16 * n.val + o by omega)
    · exact Fin.ext (show 0 + 1 * l.val = l.val by omega)
  have e2 : (Rect.unit (s := S1x2x32x2048) ![0, g.val, 0, 128 * o] ![1, 1, 32, 128] inb'').emb (ix4 0 0 n l : S1x1x32x128.Idx) = (ix4 0 g n ⟨128 * o + l.val, by omega⟩ : S1x2x32x2048.Idx) := by
    funext a
    fin_cases a
    · exact Fin.ext (show 0 + 1 * 0 = 0 from rfl)
    · exact Fin.ext (show g.val + 1 * 0 = g.val by omega)
    · exact Fin.ext (show 0 + 1 * n.val = n.val by omega)
    · exact Fin.ext (show 128 * o + 1 * l.val = 128 * o + l.val by omega)
  exact (congrArg P e1).trans ((hQ n l).trans (congrArg Q e2.symm))

/-- The chunk array's entry, from the rows. -/
def chunkAt (H : FVec Ideal S512x1024 .bf16) (W : Vec Ideal S1024x3456 .bf16) (y : S1x2x32x2048.Idx) : EReal :=
  pad H W ⟨16 * (y 2).val + (y 3).val / 128, by have h2 : (y 2).val < 32 := (y 2).isLt; have h3 : (y 3).val < 2048 := (y 3).isLt; omega⟩ ⟨512 + 128 * (y 1).val + (y 3).val % 128, by have h1 : (y 1).val < 2 := (y 1).isLt; omega⟩

theorem chunkAt_eq (H : FVec Ideal S512x1024 .bf16) (W : Vec Ideal S1024x3456 .bf16) (g : Fin 2) (o : Nat) (ho : o < 16) (n : Fin 32) (l : Fin 128) (c : Nat) (hc : c + 128 ≤ 3456) (e : c = 512 + 128 * g.val) :
    pad H W ⟨16 * n.val + o, by omega⟩ ⟨c + l.val, by omega⟩ = chunkAt H W (ix4 0 g n ⟨128 * o + l.val, by omega⟩) := by
  unfold chunkAt
  have e1 : (⟨16 * n.val + o, by omega⟩ : Fin 512) = ⟨16 * n.val + (128 * o + l.val) / 128, by omega⟩ := Fin.ext (by show 16 * n.val + o = 16 * n.val + (128 * o + l.val) / 128; omega)
  have e2 : (⟨c + l.val, by omega⟩ : Fin 3456) = ⟨512 + 128 * g.val + (128 * o + l.val) % 128, by omega⟩ := Fin.ext (by show c + l.val = 512 + 128 * g.val + (128 * o + l.val) % 128; omega)
  rw [e1, e2]
  rfl

theorem out6_apply (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x512x1024 .f32) (harg6 : arg6.IsWhole) (arg7 : Memref sig .tc .vmem S1x512x512 .bf16) (harg7 : arg7.IsWhole) (arg8 : Memref sig .tc .vmem S1x2x32x2048 .bf16) (harg8 : arg8.IsWhole) (arg9 : Memref sig .tc .vmem S1x2x512x128 .bf16) (harg9 : arg9.IsWhole) (arg10 : Memref sig .tc .vmem S1x2x80x512 .bf16) (harg10 : arg10.IsWhole) (arg11 : Memref sig .tc .vmem S1x2x512x128 .bf16) (harg11 : arg11.IsWhole) (arg12 : Memref sig .tc .vmem S1x2x80x512 .bf16) (harg12 : arg12.IsWhole) (arg13 : Memref sig .tc .vmem S1x512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x128 .f32) (harg17 : arg17.IsWhole) (arg18 : Memref sig .tc .vmem S1x32x512 .f32) (harg18 : arg18.IsWhole) (arg19 : Memref sig .tc .vmem S512x128 .f32) (harg19 : arg19.IsWhole)
    (x0 : Vec Ideal S1x512x1024 .f32) (x1 : Vec Ideal S1x1024 .f32) (x2 : Vec Ideal S1x1024 .f32) (x3 : Vec Ideal S1024x3456 .bf16) (y : S1x2x32x2048.Idx) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 y = chunkAt (k0_pay7 x0 x1 x2) x3 y := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3)]
  refine View.canon_apply_of_pieces (Val := Elt Ideal) (e := .bf16) (chunkAt (k0_pay7 x0 x1 x2) x3) _ ?_ y (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 y)
  unfold kernelRun0_A
  dsimp only
  sl_unfold_words
  simp only [View.readAt_eq_ld, harg2.read_unread, harg3.read_unread, harg4.read_unread, harg5.read_unread, View.ld_unit_zero (S := S1x512x1024) hz3, View.ld_unit_zero (S := S1x1024) hz2]
  simp only [List.forall_mem_cons, List.not_mem_nil, false_implies, implies_true, and_true]
  exact ⟨piece _ _ _ 15 (by omega) 1 _ _ _ (chunkAt (k0_pay7 x0 x1 x2) x3) (fun n l => (t_31 (k0_pay7 x0 x1 x2) x3 _ l).trans (chunkAt_eq (k0_pay7 x0 x1 x2) x3 1 15 (by omega) n l 640 (by omega) rfl)),
    piece _ _ _ 14 (by omega) 1 _ _ _ (chunkAt (k0_pay7 x0 x1 x2) x3) (fun n l => (t_31 (k0_pay7 x0 x1 x2) x3 _ l).trans (chunkAt_eq (k0_pay7 x0 x1 x2) x3 1 14 (by omega) n l 640 (by omega) rfl)),
    piece _ _ _ 13 (by omega) 1 _ _ _ (chunkAt (k0_pay7 x0 x1 x2) x3) (fun n l => (t_31 (k0_pay7 x0 x1 x2) x3 _ l).trans (chunkAt_eq (k0_pay7 x0 x1 x2) x3 1 13 (by omega) n l 640 (by omega) rfl)),
    piece _ _ _ 12 (by omega) 1 _ _ _ (chunkAt (k0_pay7 x0 x1 x2) x3) (fun n l => (t_31 (k0_pay7 x0 x1 x2) x3 _ l).trans (chunkAt_eq (k0_pay7 x0 x1 x2) x3 1 12 (by omega) n l 640 (by omega) rfl)),
    piece _ _ _ 11 (by omega) 1 _ _ _ (chunkAt (k0_pay7 x0 x1 x2) x3) (fun n l => (t_31 (k0_pay7 x0 x1 x2) x3 _ l).trans (chunkAt_eq (k0_pay7 x0 x1 x2) x3 1 11 (by omega) n l 640 (by omega) rfl)),
    piece _ _ _ 10 (by omega) 1 _ _ _ (chunkAt (k0_pay7 x0 x1 x2) x3) (fun n l => (t_31 (k0_pay7 x0 x1 x2) x3 _ l).trans (chunkAt_eq (k0_pay7 x0 x1 x2) x3 1 10 (by omega) n l 640 (by omega) rfl)),
    piece _ _ _ 9 (by omega) 1 _ _ _ (chunkAt (k0_pay7 x0 x1 x2) x3) (fun n l => (t_31 (k0_pay7 x0 x1 x2) x3 _ l).trans (chunkAt_eq (k0_pay7 x0 x1 x2) x3 1 9 (by omega) n l 640 (by omega) rfl)),
    piece _ _ _ 8 (by omega) 1 _ _ _ (chunkAt (k0_pay7 x0 x1 x2) x3) (fun n l => (t_31 (k0_pay7 x0 x1 x2) x3 _ l).trans (chunkAt_eq (k0_pay7 x0 x1 x2) x3 1 8 (by omega) n l 640 (by omega) rfl)),
    piece _ _ _ 7 (by omega) 1 _ _ _ (chunkAt (k0_pay7 x0 x1 x2) x3) (fun n l => (t_31 (k0_pay7 x0 x1 x2) x3 _ l).trans (chunkAt_eq (k0_pay7 x0 x1 x2) x3 1 7 (by omega) n l 640 (by omega) rfl)),
    piece _ _ _ 6 (by omega) 1 _ _ _ (chunkAt (k0_pay7 x0 x1 x2) x3) (fun n l => (t_31 (k0_pay7 x0 x1 x2) x3 _ l).trans (chunkAt_eq (k0_pay7 x0 x1 x2) x3 1 6 (by omega) n l 640 (by omega) rfl)),
    piece _ _ _ 5 (by omega) 1 _ _ _ (chunkAt (k0_pay7 x0 x1 x2) x3) (fun n l => (t_31 (k0_pay7 x0 x1 x2) x3 _ l).trans (chunkAt_eq (k0_pay7 x0 x1 x2) x3 1 5 (by omega) n l 640 (by omega) rfl)),
    piece _ _ _ 4 (by omega) 1 _ _ _ (chunkAt (k0_pay7 x0 x1 x2) x3) (fun n l => (t_31 (k0_pay7 x0 x1 x2) x3 _ l).trans (chunkAt_eq (k0_pay7 x0 x1 x2) x3 1 4 (by omega) n l 640 (by omega) rfl)),
    piece _ _ _ 3 (by omega) 1 _ _ _ (chunkAt (k0_pay7 x0 x1 x2) x3) (fun n l => (t_31 (k0_pay7 x0 x1 x2) x3 _ l).trans (chunkAt_eq (k0_pay7 x0 x1 x2) x3 1 3 (by omega) n l 640 (by omega) rfl)),
    piece _ _ _ 2 (by omega) 1 _ _ _ (chunkAt (k0_pay7 x0 x1 x2) x3) (fun n l => (t_31 (k0_pay7 x0 x1 x2) x3 _ l).trans (chunkAt_eq (k0_pay7 x0 x1 x2) x3 1 2 (by omega) n l 640 (by omega) rfl)),
    piece _ _ _ 1 (by omega) 1 _ _ _ (chunkAt (k0_pay7 x0 x1 x2) x3) (fun n l => (t_31 (k0_pay7 x0 x1 x2) x3 _ l).trans (chunkAt_eq (k0_pay7 x0 x1 x2) x3 1 1 (by omega) n l 640 (by omega) rfl)),
    piece _ _ _ 0 (by omega) 1 _ _ _ (chunkAt (k0_pay7 x0 x1 x2) x3) (fun n l => (t_31 (k0_pay7 x0 x1 x2) x3 _ l).trans (chunkAt_eq (k0_pay7 x0 x1 x2) x3 1 0 (by omega) n l 640 (by omega) rfl)),
    piece _ _ _ 15 (by omega) 0 _ _ _ (chunkAt (k0_pay7 x0 x1 x2) x3) (fun n l => (t_11 (k0_pay7 x0 x1 x2) x3 _ l).trans (chunkAt_eq (k0_pay7 x0 x1 x2) x3 0 15 (by omega) n l 512 (by omega) rfl)),
    piece _ _ _ 14 (by omega) 0 _ _ _ (chunkAt (k0_pay7 x0 x1 x2) x3) (fun n l => (t_11 (k0_pay7 x0 x1 x2) x3 _ l).trans (chunkAt_eq (k0_pay7 x0 x1 x2) x3 0 14 (by omega) n l 512 (by omega) rfl)),
    piece _ _ _ 13 (by omega) 0 _ _ _ (chunkAt (k0_pay7 x0 x1 x2) x3) (fun n l => (t_11 (k0_pay7 x0 x1 x2) x3 _ l).trans (chunkAt_eq (k0_pay7 x0 x1 x2) x3 0 13 (by omega) n l 512 (by omega) rfl)),
    piece _ _ _ 12 (by omega) 0 _ _ _ (chunkAt (k0_pay7 x0 x1 x2) x3) (fun n l => (t_11 (k0_pay7 x0 x1 x2) x3 _ l).trans (chunkAt_eq (k0_pay7 x0 x1 x2) x3 0 12 (by omega) n l 512 (by omega) rfl)),
    piece _ _ _ 11 (by omega) 0 _ _ _ (chunkAt (k0_pay7 x0 x1 x2) x3) (fun n l => (t_11 (k0_pay7 x0 x1 x2) x3 _ l).trans (chunkAt_eq (k0_pay7 x0 x1 x2) x3 0 11 (by omega) n l 512 (by omega) rfl)),
    piece _ _ _ 10 (by omega) 0 _ _ _ (chunkAt (k0_pay7 x0 x1 x2) x3) (fun n l => (t_11 (k0_pay7 x0 x1 x2) x3 _ l).trans (chunkAt_eq (k0_pay7 x0 x1 x2) x3 0 10 (by omega) n l 512 (by omega) rfl)),
    piece _ _ _ 9 (by omega) 0 _ _ _ (chunkAt (k0_pay7 x0 x1 x2) x3) (fun n l => (t_11 (k0_pay7 x0 x1 x2) x3 _ l).trans (chunkAt_eq (k0_pay7 x0 x1 x2) x3 0 9 (by omega) n l 512 (by omega) rfl)),
    piece _ _ _ 8 (by omega) 0 _ _ _ (chunkAt (k0_pay7 x0 x1 x2) x3) (fun n l => (t_11 (k0_pay7 x0 x1 x2) x3 _ l).trans (chunkAt_eq (k0_pay7 x0 x1 x2) x3 0 8 (by omega) n l 512 (by omega) rfl)),
    piece _ _ _ 7 (by omega) 0 _ _ _ (chunkAt (k0_pay7 x0 x1 x2) x3) (fun n l => (t_11 (k0_pay7 x0 x1 x2) x3 _ l).trans (chunkAt_eq (k0_pay7 x0 x1 x2) x3 0 7 (by omega) n l 512 (by omega) rfl)),
    piece _ _ _ 6 (by omega) 0 _ _ _ (chunkAt (k0_pay7 x0 x1 x2) x3) (fun n l => (t_11 (k0_pay7 x0 x1 x2) x3 _ l).trans (chunkAt_eq (k0_pay7 x0 x1 x2) x3 0 6 (by omega) n l 512 (by omega) rfl)),
    piece _ _ _ 5 (by omega) 0 _ _ _ (chunkAt (k0_pay7 x0 x1 x2) x3) (fun n l => (t_11 (k0_pay7 x0 x1 x2) x3 _ l).trans (chunkAt_eq (k0_pay7 x0 x1 x2) x3 0 5 (by omega) n l 512 (by omega) rfl)),
    piece _ _ _ 4 (by omega) 0 _ _ _ (chunkAt (k0_pay7 x0 x1 x2) x3) (fun n l => (t_11 (k0_pay7 x0 x1 x2) x3 _ l).trans (chunkAt_eq (k0_pay7 x0 x1 x2) x3 0 4 (by omega) n l 512 (by omega) rfl)),
    piece _ _ _ 3 (by omega) 0 _ _ _ (chunkAt (k0_pay7 x0 x1 x2) x3) (fun n l => (t_11 (k0_pay7 x0 x1 x2) x3 _ l).trans (chunkAt_eq (k0_pay7 x0 x1 x2) x3 0 3 (by omega) n l 512 (by omega) rfl)),
    piece _ _ _ 2 (by omega) 0 _ _ _ (chunkAt (k0_pay7 x0 x1 x2) x3) (fun n l => (t_11 (k0_pay7 x0 x1 x2) x3 _ l).trans (chunkAt_eq (k0_pay7 x0 x1 x2) x3 0 2 (by omega) n l 512 (by omega) rfl)),
    piece _ _ _ 1 (by omega) 0 _ _ _ (chunkAt (k0_pay7 x0 x1 x2) x3) (fun n l => (t_11 (k0_pay7 x0 x1 x2) x3 _ l).trans (chunkAt_eq (k0_pay7 x0 x1 x2) x3 0 1 (by omega) n l 512 (by omega) rfl)),
    piece _ _ _ 0 (by omega) 0 _ _ _ (chunkAt (k0_pay7 x0 x1 x2) x3) (fun n l => (t_11 (k0_pay7 x0 x1 x2) x3 _ l).trans (chunkAt_eq (k0_pay7 x0 x1 x2) x3 0 0 (by omega) n l 512 (by omega) rfl))⟩

end Cert.Kernel3Ideal.Block
end
-- ==== Proof.InPoint.lean ====
/-
  A grid point's tile of the input projection, in the launched arguments.
-/
module

public import proofs.«01_k».proof.Proof.InRows
public import proofs.«01_k».proof.Proof.InOutA
public import proofs.«01_k».proof.Proof.InOutB
public import proofs.«01_k».proof.Proof.InOutC

@[expose] public section

set_option maxRecDepth 65536

noncomputable section

namespace Cert.Kernel3Ideal.Final

open Cert.Kernel3Ideal Cert.Kernel3Ideal.Gen Idealize.ShloMosaic Idealize.ShloMosaic.TcCoe Idealize.SL.Sem
open Cert.Kernel3Ideal.Block

variable (m : (ℓ : Loc nD τ sig) → Buf (Elt Ideal) ℓ) (c : Dev nD)

theorem idx0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 16 ∧ win0_4.index t 1 = t.val % 16 ∧ win0_4.index t 2 = 0 :=
  (by decide +kernel : ∀ t : Fin grid0.N, win0_4.index t 0 = t.val / 16 ∧ win0_4.index t 1 = t.val % 16 ∧ win0_4.index t 2 = 0)
theorem idx5 : ∀ t : Fin cfg0.N, win0_5.index t 0 = t.val / 16 ∧ win0_5.index t 1 = 0 ∧ win0_5.index t 2 = t.val % 16 :=
  (by decide +kernel : ∀ t : Fin grid0.N, win0_5.index t 0 = t.val / 16 ∧ win0_5.index t 1 = 0 ∧ win0_5.index t 2 = t.val % 16)
theorem idx6 : ∀ t : Fin cfg0.N, win0_6.index t 0 = t.val / 16 ∧ win0_6.index t 1 = 0 ∧ win0_6.index t 2 = t.val % 16 ∧ win0_6.index t 3 = 0 :=
  (by decide +kernel : ∀ t : Fin grid0.N, win0_6.index t 0 = t.val / 16 ∧ win0_6.index t 1 = 0 ∧ win0_6.index t 2 = t.val % 16 ∧ win0_6.index t 3 = 0)
theorem idx7 : ∀ t : Fin cfg0.N, win0_7.index t 0 = t.val / 16 ∧ win0_7.index t 1 = 0 ∧ win0_7.index t 2 = t.val % 16 ∧ win0_7.index t 3 = 0 :=
  (by decide +kernel : ∀ t : Fin grid0.N, win0_7.index t 0 = t.val / 16 ∧ win0_7.index t 1 = 0 ∧ win0_7.index t 2 = t.val % 16 ∧ win0_7.index t 3 = 0)
theorem idx8 : ∀ t : Fin cfg0.N, win0_8.index t 0 = t.val / 16 ∧ win0_8.index t 1 = 0 ∧ win0_8.index t 2 = 0 ∧ win0_8.index t 3 = t.val % 16 :=
  (by decide +kernel : ∀ t : Fin grid0.N, win0_8.index t 0 = t.val / 16 ∧ win0_8.index t 1 = 0 ∧ win0_8.index t 2 = 0 ∧ win0_8.index t 3 = t.val % 16)
theorem idx9 : ∀ t : Fin cfg0.N, win0_9.index t 0 = t.val / 16 ∧ win0_9.index t 1 = 0 ∧ win0_9.index t 2 = t.val % 16 ∧ win0_9.index t 3 = 0 :=
  (by decide +kernel : ∀ t : Fin grid0.N, win0_9.index t 0 = t.val / 16 ∧ win0_9.index t 1 = 0 ∧ win0_9.index t 2 = t.val % 16 ∧ win0_9.index t 3 = 0)
theorem idx10 : ∀ t : Fin cfg0.N, win0_10.index t 0 = t.val / 16 ∧ win0_10.index t 1 = 0 ∧ win0_10.index t 2 = 0 ∧ win0_10.index t 3 = t.val % 16 :=
  (by decide +kernel : ∀ t : Fin grid0.N, win0_10.index t 0 = t.val / 16 ∧ win0_10.index t 1 = 0 ∧ win0_10.index t 2 = 0 ∧ win0_10.index t 3 = t.val % 16)
theorem idx11 : ∀ t : Fin cfg0.N, win0_11.index t 0 = t.val / 16 ∧ win0_11.index t 1 = t.val % 16 ∧ win0_11.index t 2 = 0 :=
  (by decide +kernel : ∀ t : Fin grid0.N, win0_11.index t 0 = t.val / 16 ∧ win0_11.index t 1 = t.val % 16 ∧ win0_11.index t 2 = 0)
theorem idx12 : ∀ t : Fin cfg0.N, win0_12.index t 0 = t.val / 16 ∧ win0_12.index t 1 = t.val % 16 ∧ win0_12.index t 2 = 0 :=
  (by decide +kernel : ∀ t : Fin grid0.N, win0_12.index t 0 = t.val / 16 ∧ win0_12.index t 1 = t.val % 16 ∧ win0_12.index t 2 = 0)
theorem idx13 : ∀ t : Fin cfg0.N, win0_13.index t 0 = t.val / 16 ∧ win0_13.index t 1 = t.val % 16 ∧ win0_13.index t 2 = 0 :=
  (by decide +kernel : ∀ t : Fin grid0.N, win0_13.index t 0 = t.val / 16 ∧ win0_13.index t 1 = t.val % 16 ∧ win0_13.index t 2 = 0)
theorem idx14 : ∀ t : Fin cfg0.N, win0_14.index t 0 = t.val / 16 ∧ win0_14.index t 1 = t.val % 16 ∧ win0_14.index t 2 = 0 :=
  (by decide +kernel : ∀ t : Fin grid0.N, win0_14.index t 0 = t.val / 16 ∧ win0_14.index t 1 = t.val % 16 ∧ win0_14.index t 2 = 0)
theorem idx15 : ∀ t : Fin cfg0.N, win0_15.index t 0 = t.val / 16 ∧ win0_15.index t 1 = t.val % 16 ∧ win0_15.index t 2 = 0 :=
  (by decide +kernel : ∀ t : Fin grid0.N, win0_15.index t 0 = t.val / 16 ∧ win0_15.index t 1 = t.val % 16 ∧ win0_15.index t 2 = 0)
theorem idx16 : ∀ t : Fin cfg0.N, win0_16.index t 0 = t.val / 16 ∧ win0_16.index t 1 = 0 ∧ win0_16.index t 2 = t.val % 16 :=
  (by decide +kernel : ∀ t : Fin grid0.N, win0_16.index t 0 = t.val / 16 ∧ win0_16.index t 1 = 0 ∧ win0_16.index t 2 = t.val % 16)
theorem crd1 : ∀ t : Fin cfg0.N, (grid0.coords t 1).val = t.val % 16 :=
  (by decide +kernel : ∀ t : Fin grid0.N, (grid0.coords t 1).val = t.val % 16)

/-- The batch row of a grid point. -/
def bOf (t : Fin cfg0.N) : Fin 8 := ⟨t.val / 16, by have := t.isLt; have : cfg0.N = 128 := N_0; omega⟩
/-- Row `R` of the grid point's tile among the sequence's rows. -/
def rOf (t : Fin cfg0.N) (R : Fin 512) : Fin 8192 := ⟨t.val % 16 * 512 + R.val, by omega⟩

theorem blk0 (t : Fin cfg0.N) (R : Fin 512) (l : Fin 1024) :
    (iblk m c 0 t : Vec Ideal S1x512x1024 .f32) (ix3 0 R l) = m ((c : Thread nD τ).loc main_arg0) (ix3 (bOf t) (rOf t R) l) := by
  blk_point [iblk, V, idx0 t, bOf, rOf]
theorem blk1 (t : Fin cfg0.N) (l : Fin 1024) : (iblk m c 1 t : Vec Ideal S1x1024 .f32) (ix2 0 l) = V m c main_v46 (ix2 0 l) := by
  blk_point [iblk, idx1 t]
theorem blk2 (t : Fin cfg0.N) (l : Fin 1024) : (iblk m c 2 t : Vec Ideal S1x1024 .f32) (ix2 0 l) = V m c main_v47 (ix2 0 l) := by
  blk_point [iblk, idx2 t]
theorem blk3 (t : Fin cfg0.N) (k : Fin 1024) (n : Fin 3456) : (iblk m c 3 t : Vec Ideal S1024x3456 .bf16) (ix2 k n) = V m c main_v45 (ix2 k n) := by
  blk_point [iblk, idx3 t]

theorem pay7_apply (v0 : Vec Ideal S1x512x1024 .f32) (v2 v4 : Vec Ideal S1x1024 .f32) (R : Fin 512) (k : Fin 1024) : k0_pay7 v0 v2 v4 (ix2 R k) = k0_pay5 v0 v2 v4 (ix2 R k) := by
  pointwise [k0_pay7]

theorem norm_tile (t : Fin cfg0.N) (R : Fin 512) (k : Fin 1024) : k0_pay5 (iblk m c 0 t) (iblk m c 1 t) (iblk m c 2 t) (ix2 R k) = rows m c (bOf t) (rOf t R) k := by
  refine (pay5_apply _ _ _ R k).trans ?_
  unfold rows
  congr 1
  · funext j; exact blk0 m c t R j
  · funext j; exact (blk1 m c t j).trans (v46_at m c j)
  · funext j; exact (blk2 m c t j).trans (v47_at m c j)

theorem pad_tile (t : Fin cfg0.N) (R : Fin 512) (n : Fin 3456) :
    Block.pad (k0_pay7 (iblk m c 0 t) (iblk m c 1 t) (iblk m c 2 t)) (iblk m c 3 t) R n = psum m c (rows m c (bOf t) (rOf t R)) n := by
  unfold Block.pad psum
  refine Finset.sum_congr rfl fun k _ => ?_
  rw [pay7_apply, norm_tile, blk3]

/-- The hidden rows, at an index. -/
def f4 (b : Fin 8) (s : Fin 8192) (j : Fin 1024) : EReal := Ideal.ofBits .f32 1066940400#32 * rows m c b s j

/-- The queries, at an index. -/
def f5 (b : Fin 8) (j : Fin 512) (s : Fin 8192) : EReal := InSpec.query (cols m c b s) j

/-- The chunks, at an index. -/
def f6 (b : Fin 8) (g : Fin 2) (n : Fin 512) (l : Fin 2048) : EReal := InSpec.pair (cols m c b ⟨16 * n.val + l.val / 128, by omega⟩) 512 640 (by omega) (by omega) g ⟨l.val % 128, by omega⟩

/-- The selected keys beside the places of their blocks, at an index. -/
def f7 (b : Fin 8) (g : Fin 2) (s : Fin 8192) (j : Fin 128) : EReal := InSpec.place (cols m c b s) s g j

/-- The selected values, at an index. -/
def f8 (b : Fin 8) (g : Fin 2) (j : Fin 80) (s : Fin 8192) : EReal := InSpec.ones (cols m c b s) 896 (by omega) g j

/-- The window keys beside values, at an index. -/
def f9 (b : Fin 8) (g : Fin 2) (s : Fin 8192) (j : Fin 128) : EReal := InSpec.pair (cols m c b s) 1024 1152 (by omega) (by omega) g j

/-- The window values, at an index. -/
def f10 (b : Fin 8) (g : Fin 2) (j : Fin 80) (s : Fin 8192) : EReal := InSpec.ones (cols m c b s) 1152 (by omega) g j

/-- The mixer's gates, at an index. -/
def f11 (b : Fin 8) (s : Fin 8192) (j : Fin 512) : EReal := InSpec.silu (cols m c b s) j

/-- The linear attention's queries and keys, at an index. -/
def f12 (b : Fin 8) (s : Fin 8192) (j : Fin 512) : EReal := InSpec.heads (cols m c b s) j

/-- The linear attention's values, at an index. -/
def f13 (b : Fin 8) (s : Fin 8192) (j : Fin 512) : EReal := cols m c b s ⟨2328 + j.val, by omega⟩

/-- The linear attention's gates, at an index. -/
def f14 (b : Fin 8) (s : Fin 8192) (j : Fin 512) : EReal := cols m c b s ⟨2856 + j.val, by omega⟩

/-- The branch gates and decays, at an index. -/
def f15 (b : Fin 8) (s : Fin 8192) (j : Fin 128) : EReal := InSpec.small (cols m c b s) j

/-- The squashed branch gates, at an index. -/
def f16 (b : Fin 8) (j : Fin 32) (s : Fin 8192) : EReal := InSpec.sig (InSpec.small (cols m c b s) ⟨j.val, by omega⟩)

theorem t4 (t : Fin cfg0.N) (R : Fin 512) (j : Fin 1024) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix3 0 R j) = f4 m c (bOf t) (rOf t R) j :=
  (out4_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) R j).trans (congrArg (fun x : EReal => Ideal.ofBits .f32 1066940400#32 * x) (norm_tile m c t R j))

theorem t5 (t : Fin cfg0.N) (R : Fin 512) (j : Fin 512) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix3 0 j R) = f5 m c (bOf t) j (rOf t R) :=
  (out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) R j).trans ((pad_tile m c t R _).trans (s_query' m c _ j))

theorem t6 (t : Fin cfg0.N) (g : Fin 2) (n : Fin 32) (l : Fin 2048) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix4 0 g n l) = f6 m c (bOf t) g ⟨t.val % 16 * 32 + n.val, by omega⟩ l := by
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix4 0 g n l)).trans ?_
  have e : rOf t ⟨16 * n.val + l.val / 128, by omega⟩ = (⟨16 * (t.val % 16 * 32 + n.val) + l.val / 128, by omega⟩ : Fin 8192) :=
    Fin.ext (show t.val % 16 * 512 + (16 * n.val + l.val / 128) = 16 * (t.val % 16 * 32 + n.val) + l.val / 128 by omega)
  refine (pad_tile m c t ⟨16 * n.val + l.val / 128, by omega⟩ ⟨512 + 128 * g.val + l.val % 128, by omega⟩).trans ?_
  rw [e]
  exact s_cmp m c _ g ⟨l.val % 128, by omega⟩

theorem t7 (t : Fin cfg0.N) (R : Fin 512) (g : Fin 2) (j : Fin 128) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix4 0 g R j) = f7 m c (bOf t) g (rOf t R) j := by
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) R g j).trans ?_
  unfold placeAt
  rw [pad_tile]
  exact s_place m c _ (rOf t R) _ (by rw [crd1]; rfl) g j

theorem t8 (t : Fin cfg0.N) (R : Fin 512) (g : Fin 2) (j : Fin 80) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix4 0 g j R) = f8 m c (bOf t) g j (rOf t R) :=
  (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix4 0 g j R)).trans ((valsAt_ix (k0_pay7 (iblk m c 0 t) (iblk m c 1 t) (iblk m c 2 t)) (iblk m c 3 t) g j R).trans ((congrArg (fun x : EReal => onesAt x j.val) (pad_tile m c t R _)).trans (s_val m c _ g j)))

theorem t9 (t : Fin cfg0.N) (R : Fin 512) (g : Fin 2) (j : Fin 128) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix4 0 g R j) = f9 m c (bOf t) g (rOf t R) j :=
  (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix4 0 g R j)).trans ((pairAt_ix (k0_pay7 (iblk m c 0 t) (iblk m c 1 t) (iblk m c 2 t)) (iblk m c 3 t) g R j).trans ((pad_tile m c t R _).trans (s_win m c _ g j)))

theorem t10 (t : Fin cfg0.N) (R : Fin 512) (g : Fin 2) (j : Fin 80) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix4 0 g j R) = f10 m c (bOf t) g j (rOf t R) :=
  (out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix4 0 g j R)).trans ((vwinAt_ix (k0_pay7 (iblk m c 0 t) (iblk m c 1 t) (iblk m c 2 t)) (iblk m c 3 t) g j R).trans ((congrArg (fun x : EReal => onesAt x j.val) (pad_tile m c t R _)).trans (s_vwin m c _ g j)))

theorem t11 (t : Fin cfg0.N) (R : Fin 512) (j : Fin 512) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix3 0 R j) = f11 m c (bOf t) (rOf t R) j :=
  (out11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) R j).trans (congrArg (fun x : EReal => x * InSpec.sig x) ((pad_tile m c t R _).trans (s_silu m c _ j)))

theorem t12 (t : Fin cfg0.N) (R : Fin 512) (j : Fin 512) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix3 0 R j) = f12 m c (bOf t) (rOf t R) j :=
  (out12_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) R j).trans ((pad_tile m c t R _).trans (s_heads m c _ j))

theorem t13 (t : Fin cfg0.N) (R : Fin 512) (j : Fin 512) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix3 0 R j) = f13 m c (bOf t) (rOf t R) j :=
  (out13_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) R j).trans ((pad_tile m c t R _).trans (s_vg m c _ j))

theorem t14 (t : Fin cfg0.N) (R : Fin 512) (j : Fin 512) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix3 0 R j) = f14 m c (bOf t) (rOf t R) j :=
  (out14_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) R j).trans ((pad_tile m c t R _).trans (s_zg m c _ j))

theorem t15 (t : Fin cfg0.N) (R : Fin 512) (j : Fin 128) :
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix3 0 R j) = f15 m c (bOf t) (rOf t R) j :=
  (out15_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) R j).trans ((pad_tile m c t R _).trans (s_small m c _ j))

theorem t16 (t : Fin cfg0.N) (R : Fin 512) (j : Fin 32) :
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (ix3 0 j R) = f16 m c (bOf t) j (rOf t R) :=
  (out16_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) R j).trans (congrArg (fun x : EReal => InSpec.sig x) ((pad_tile m c t R _).trans (s_small m c _ ⟨j.val, by omega⟩)))

end Cert.Kernel3Ideal.Final
end
-- ==== Proof.InKernel.lean ====
/-
  The input projection's thirteen results after the run: each grid point writes its tile of each, and the tiles cover the arrays.
-/
module

public import proofs.«01_k».proof.Proof.InPoint

@[expose] public section

set_option maxRecDepth 65536

noncomputable section

namespace Cert.Kernel3Ideal.Final

open Cert.Kernel3Ideal Cert.Kernel3Ideal.Gen Idealize.ShloMosaic Idealize.ShloMosaic.TcCoe Idealize.SL.Sem
open Cert.Kernel3Ideal.Block

variable (m : (ℓ : Loc nD τ sig) → Buf (Elt Ideal) ℓ) (c : Dev nD)

/-- The array of the hidden rows. -/
def res4 : S8x8192x1024.Idx → EReal := fun i => f4 m c (i 0) (i 1) (i 2)

theorem flushed4 (t : Fin cfg0.N) (hf : (cfg0.win 4).flush t = true) :
    (dats m 0 c).flushed 4 t = ((cfg0.win 4).blk t).view.read (Elt Ideal) (res4 m c) := by
  have emb : ∀ (u : Fin 1) (R : Fin 512) (j : Fin 1024), ((cfg0.win 4).blk t).view.emb (ix3 u R j) = ix3 (bOf t) (rOf t R) j := by
    intro u R j
    obtain ⟨i0, i1, i2⟩ := idx4 t
    funext a
    fin_cases a <;> refine Fin.ext ?_
    · show win0_4.index t 0 * 1 + 1 * u.val = t.val / 16
      omega
    · show win0_4.index t 1 * 512 + 1 * R.val = t.val % 16 * 512 + R.val
      omega
    · show win0_4.index t 2 * 1024 + 1 * j.val = j.val
      omega
  have key := t4 m c t
  rw [Value.flushed4_A m c t]
  funext y
  obtain ⟨u, R, j, rfl⟩ : ∃ (u : Fin 1) (R : Fin 512) (j : Fin 1024), y = ix3 u R j := ⟨y 0, y 1, y 2, by funext a; fin_cases a <;> rfl⟩
  obtain rfl : u = 0 := Subsingleton.elim _ _
  rw [View.read_apply, emb]
  exact key R j

theorem final4 : (dats m 0 c).arrAt 4 cfg0.N = res4 m c :=
  (dats m 0 c).arrAt_eq_of_cover 4 (res4 m c) (flushed4 m c) fun i => by
    have h0 : (i 0 : Nat) < 8 := (i 0).isLt
    have h1 : (i 1 : Nat) < 8192 := (i 1).isLt
    have h2 : (i 2 : Nat) < 1024 := (i 2).isLt
    have hN : cfg0.N = 128 := N_0
    obtain ⟨t, ht⟩ : ∃ t : Fin cfg0.N, t.val = 16 * (i 0 : Nat) + (i 1 : Nat) / 512 := ⟨⟨_, by omega⟩, rfl⟩
    obtain ⟨i0, i1, i2⟩ := idx4 t
    refine ⟨t, flush0_4 t, ?_⟩
    show i ∈ ((View.whole main_v48_0).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                omega
    | ⟨1, _⟩ => show win0_4.index t 1 * 512 ≤ (i 1 : Nat) ∧ (i 1 : Nat) < win0_4.index t 1 * 512 + 512
                omega
    | ⟨2, _⟩ => show win0_4.index t 2 * 1024 ≤ (i 2 : Nat) ∧ (i 2 : Nat) < win0_4.index t 2 * 1024 + 1024
                omega

/-- The array of the queries. -/
def res5 : S8x512x8192.Idx → EReal := fun i => f5 m c (i 0) (i 1) (i 2)

theorem flushed5 (t : Fin cfg0.N) (hf : (cfg0.win 5).flush t = true) :
    (dats m 0 c).flushed 5 t = ((cfg0.win 5).blk t).view.read (Elt Ideal) (res5 m c) := by
  have emb : ∀ (u : Fin 1) (j : Fin 512) (R : Fin 512), ((cfg0.win 5).blk t).view.emb (ix3 u j R) = ix3 (bOf t) j (rOf t R) := by
    intro u j R
    obtain ⟨i0, i1, i2⟩ := idx5 t
    funext a
    fin_cases a <;> refine Fin.ext ?_
    · show win0_5.index t 0 * 1 + 1 * u.val = t.val / 16
      omega
    · show win0_5.index t 1 * 512 + 1 * j.val = j.val
      omega
    · show win0_5.index t 2 * 512 + 1 * R.val = t.val % 16 * 512 + R.val
      omega
  have key := t5 m c t
  rw [Value.flushed5_A m c t]
  funext y
  obtain ⟨u, j, R, rfl⟩ : ∃ (u : Fin 1) (j : Fin 512) (R : Fin 512), y = ix3 u j R := ⟨y 0, y 1, y 2, by funext a; fin_cases a <;> rfl⟩
  obtain rfl : u = 0 := Subsingleton.elim _ _
  rw [View.read_apply, emb]
  exact key R j

theorem final5 : (dats m 0 c).arrAt 5 cfg0.N = res5 m c :=
  (dats m 0 c).arrAt_eq_of_cover 5 (res5 m c) (flushed5 m c) fun i => by
    have h0 : (i 0 : Nat) < 8 := (i 0).isLt
    have h1 : (i 1 : Nat) < 512 := (i 1).isLt
    have h2 : (i 2 : Nat) < 8192 := (i 2).isLt
    have hN : cfg0.N = 128 := N_0
    obtain ⟨t, ht⟩ : ∃ t : Fin cfg0.N, t.val = 16 * (i 0 : Nat) + (i 2 : Nat) / 512 := ⟨⟨_, by omega⟩, rfl⟩
    obtain ⟨i0, i1, i2⟩ := idx5 t
    refine ⟨t, flush0_5 t, ?_⟩
    show i ∈ ((View.whole main_v48_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                omega
    | ⟨1, _⟩ => show win0_5.index t 1 * 512 ≤ (i 1 : Nat) ∧ (i 1 : Nat) < win0_5.index t 1 * 512 + 512
                omega
    | ⟨2, _⟩ => show win0_5.index t 2 * 512 ≤ (i 2 : Nat) ∧ (i 2 : Nat) < win0_5.index t 2 * 512 + 512
                omega

/-- The array of the chunks. -/
def res6 : S8x2x512x2048.Idx → EReal := fun i => f6 m c (i 0) (i 1) (i 2) (i 3)

theorem flushed6 (t : Fin cfg0.N) (hf : (cfg0.win 6).flush t = true) :
    (dats m 0 c).flushed 6 t = ((cfg0.win 6).blk t).view.read (Elt Ideal) (res6 m c) := by
  have emb : ∀ (u : Fin 1) (g : Fin 2) (n : Fin 32) (l : Fin 2048), ((cfg0.win 6).blk t).view.emb (ix4 u g n l) = ix4 (bOf t) g ⟨t.val % 16 * 32 + n.val, by omega⟩ l := by
    intro u g n l
    obtain ⟨i0, i1, i2, i3⟩ := idx6 t
    funext a
    fin_cases a <;> refine Fin.ext ?_
    · show win0_6.index t 0 * 1 + 1 * u.val = t.val / 16
      omega
    · show win0_6.index t 1 * 2 + 1 * g.val = g.val
      omega
    · show win0_6.index t 2 * 32 + 1 * n.val = t.val % 16 * 32 + n.val
      omega
    · show win0_6.index t 3 * 2048 + 1 * l.val = l.val
      omega
  have key := t6 m c t
  rw [Value.flushed6_A m c t]
  funext y
  obtain ⟨u, g, n, l, rfl⟩ : ∃ (u : Fin 1) (g : Fin 2) (n : Fin 32) (l : Fin 2048), y = ix4 u g n l := ⟨y 0, y 1, y 2, y 3, by funext a; fin_cases a <;> rfl⟩
  obtain rfl : u = 0 := Subsingleton.elim _ _
  rw [View.read_apply, emb]
  exact key g n l

theorem final6 : (dats m 0 c).arrAt 6 cfg0.N = res6 m c :=
  (dats m 0 c).arrAt_eq_of_cover 6 (res6 m c) (flushed6 m c) fun i => by
    have h0 : (i 0 : Nat) < 8 := (i 0).isLt
    have h1 : (i 1 : Nat) < 2 := (i 1).isLt
    have h2 : (i 2 : Nat) < 512 := (i 2).isLt
    have h3 : (i 3 : Nat) < 2048 := (i 3).isLt
    have hN : cfg0.N = 128 := N_0
    obtain ⟨t, ht⟩ : ∃ t : Fin cfg0.N, t.val = 16 * (i 0 : Nat) + (i 2 : Nat) / 32 := ⟨⟨_, by omega⟩, rfl⟩
    obtain ⟨i0, i1, i2, i3⟩ := idx6 t
    refine ⟨t, flush0_6 t, ?_⟩
    show i ∈ ((View.whole main_v48_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                omega
    | ⟨1, _⟩ => show win0_6.index t 1 * 2 ≤ (i 1 : Nat) ∧ (i 1 : Nat) < win0_6.index t 1 * 2 + 2
                omega
    | ⟨2, _⟩ => show win0_6.index t 2 * 32 ≤ (i 2 : Nat) ∧ (i 2 : Nat) < win0_6.index t 2 * 32 + 32
                omega
    | ⟨3, _⟩ => show win0_6.index t 3 * 2048 ≤ (i 3 : Nat) ∧ (i 3 : Nat) < win0_6.index t 3 * 2048 + 2048
                omega

/-- The array of the selected keys beside the places of their blocks. -/
def res7 : S8x2x8192x128.Idx → EReal := fun i => f7 m c (i 0) (i 1) (i 2) (i 3)

theorem flushed7 (t : Fin cfg0.N) (hf : (cfg0.win 7).flush t = true) :
    (dats m 0 c).flushed 7 t = ((cfg0.win 7).blk t).view.read (Elt Ideal) (res7 m c) := by
  have emb : ∀ (u : Fin 1) (g : Fin 2) (R : Fin 512) (j : Fin 128), ((cfg0.win 7).blk t).view.emb (ix4 u g R j) = ix4 (bOf t) g (rOf t R) j := by
    intro u g R j
    obtain ⟨i0, i1, i2, i3⟩ := idx7 t
    funext a
    fin_cases a <;> refine Fin.ext ?_
    · show win0_7.index t 0 * 1 + 1 * u.val = t.val / 16
      omega
    · show win0_7.index t 1 * 2 + 1 * g.val = g.val
      omega
    · show win0_7.index t 2 * 512 + 1 * R.val = t.val % 16 * 512 + R.val
      omega
    · show win0_7.index t 3 * 128 + 1 * j.val = j.val
      omega
  have key := t7 m c t
  rw [Value.flushed7_A m c t]
  funext y
  obtain ⟨u, g, R, j, rfl⟩ : ∃ (u : Fin 1) (g : Fin 2) (R : Fin 512) (j : Fin 128), y = ix4 u g R j := ⟨y 0, y 1, y 2, y 3, by funext a; fin_cases a <;> rfl⟩
  obtain rfl : u = 0 := Subsingleton.elim _ _
  rw [View.read_apply, emb]
  exact key R g j

theorem final7 : (dats m 0 c).arrAt 7 cfg0.N = res7 m c :=
  (dats m 0 c).arrAt_eq_of_cover 7 (res7 m c) (flushed7 m c) fun i => by
    have h0 : (i 0 : Nat) < 8 := (i 0).isLt
    have h1 : (i 1 : Nat) < 2 := (i 1).isLt
    have h2 : (i 2 : Nat) < 8192 := (i 2).isLt
    have h3 : (i 3 : Nat) < 128 := (i 3).isLt
    have hN : cfg0.N = 128 := N_0
    obtain ⟨t, ht⟩ : ∃ t : Fin cfg0.N, t.val = 16 * (i 0 : Nat) + (i 2 : Nat) / 512 := ⟨⟨_, by omega⟩, rfl⟩
    obtain ⟨i0, i1, i2, i3⟩ := idx7 t
    refine ⟨t, flush0_7 t, ?_⟩
    show i ∈ ((View.whole main_v48_3).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                omega
    | ⟨1, _⟩ => show win0_7.index t 1 * 2 ≤ (i 1 : Nat) ∧ (i 1 : Nat) < win0_7.index t 1 * 2 + 2
                omega
    | ⟨2, _⟩ => show win0_7.index t 2 * 512 ≤ (i 2 : Nat) ∧ (i 2 : Nat) < win0_7.index t 2 * 512 + 512
                omega
    | ⟨3, _⟩ => show win0_7.index t 3 * 128 ≤ (i 3 : Nat) ∧ (i 3 : Nat) < win0_7.index t 3 * 128 + 128
                omega

/-- The array of the selected values. -/
def res8 : S8x2x80x8192.Idx → EReal := fun i => f8 m c (i 0) (i 1) (i 2) (i 3)

theorem flushed8 (t : Fin cfg0.N) (hf : (cfg0.win 8).flush t = true) :
    (dats m 0 c).flushed 8 t = ((cfg0.win 8).blk t).view.read (Elt Ideal) (res8 m c) := by
  have emb : ∀ (u : Fin 1) (g : Fin 2) (j : Fin 80) (R : Fin 512), ((cfg0.win 8).blk t).view.emb (ix4 u g j R) = ix4 (bOf t) g j (rOf t R) := by
    intro u g j R
    obtain ⟨i0, i1, i2, i3⟩ := idx8 t
    funext a
    fin_cases a <;> refine Fin.ext ?_
    · show win0_8.index t 0 * 1 + 1 * u.val = t.val / 16
      omega
    · show win0_8.index t 1 * 2 + 1 * g.val = g.val
      omega
    · show win0_8.index t 2 * 80 + 1 * j.val = j.val
      omega
    · show win0_8.index t 3 * 512 + 1 * R.val = t.val % 16 * 512 + R.val
      omega
  have key := t8 m c t
  rw [Value.flushed8_A m c t]
  funext y
  obtain ⟨u, g, j, R, rfl⟩ : ∃ (u : Fin 1) (g : Fin 2) (j : Fin 80) (R : Fin 512), y = ix4 u g j R := ⟨y 0, y 1, y 2, y 3, by funext a; fin_cases a <;> rfl⟩
  obtain rfl : u = 0 := Subsingleton.elim _ _
  rw [View.read_apply, emb]
  exact key R g j

theorem final8 : (dats m 0 c).arrAt 8 cfg0.N = res8 m c :=
  (dats m 0 c).arrAt_eq_of_cover 8 (res8 m c) (flushed8 m c) fun i => by
    have h0 : (i 0 : Nat) < 8 := (i 0).isLt
    have h1 : (i 1 : Nat) < 2 := (i 1).isLt
    have h2 : (i 2 : Nat) < 80 := (i 2).isLt
    have h3 : (i 3 : Nat) < 8192 := (i 3).isLt
    have hN : cfg0.N = 128 := N_0
    obtain ⟨t, ht⟩ : ∃ t : Fin cfg0.N, t.val = 16 * (i 0 : Nat) + (i 3 : Nat) / 512 := ⟨⟨_, by omega⟩, rfl⟩
    obtain ⟨i0, i1, i2, i3⟩ := idx8 t
    refine ⟨t, flush0_8 t, ?_⟩
    show i ∈ ((View.whole main_v48_4).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                omega
    | ⟨1, _⟩ => show win0_8.index t 1 * 2 ≤ (i 1 : Nat) ∧ (i 1 : Nat) < win0_8.index t 1 * 2 + 2
                omega
    | ⟨2, _⟩ => show win0_8.index t 2 * 80 ≤ (i 2 : Nat) ∧ (i 2 : Nat) < win0_8.index t 2 * 80 + 80
                omega
    | ⟨3, _⟩ => show win0_8.index t 3 * 512 ≤ (i 3 : Nat) ∧ (i 3 : Nat) < win0_8.index t 3 * 512 + 512
                omega

/-- The array of the window keys beside values. -/
def res9 : S8x2x8192x128.Idx → EReal := fun i => f9 m c (i 0) (i 1) (i 2) (i 3)

theorem flushed9 (t : Fin cfg0.N) (hf : (cfg0.win 9).flush t = true) :
    (dats m 0 c).flushed 9 t = ((cfg0.win 9).blk t).view.read (Elt Ideal) (res9 m c) := by
  have emb : ∀ (u : Fin 1) (g : Fin 2) (R : Fin 512) (j : Fin 128), ((cfg0.win 9).blk t).view.emb (ix4 u g R j) = ix4 (bOf t) g (rOf t R) j := by
    intro u g R j
    obtain ⟨i0, i1, i2, i3⟩ := idx9 t
    funext a
    fin_cases a <;> refine Fin.ext ?_
    · show win0_9.index t 0 * 1 + 1 * u.val = t.val / 16
      omega
    · show win0_9.index t 1 * 2 + 1 * g.val = g.val
      omega
    · show win0_9.index t 2 * 512 + 1 * R.val = t.val % 16 * 512 + R.val
      omega
    · show win0_9.index t 3 * 128 + 1 * j.val = j.val
      omega
  have key := t9 m c t
  rw [Value.flushed9_A m c t]
  funext y
  obtain ⟨u, g, R, j, rfl⟩ : ∃ (u : Fin 1) (g : Fin 2) (R : Fin 512) (j : Fin 128), y = ix4 u g R j := ⟨y 0, y 1, y 2, y 3, by funext a; fin_cases a <;> rfl⟩
  obtain rfl : u = 0 := Subsingleton.elim _ _
  rw [View.read_apply, emb]
  exact key R g j

theorem final9 : (dats m 0 c).arrAt 9 cfg0.N = res9 m c :=
  (dats m 0 c).arrAt_eq_of_cover 9 (res9 m c) (flushed9 m c) fun i => by
    have h0 : (i 0 : Nat) < 8 := (i 0).isLt
    have h1 : (i 1 : Nat) < 2 := (i 1).isLt
    have h2 : (i 2 : Nat) < 8192 := (i 2).isLt
    have h3 : (i 3 : Nat) < 128 := (i 3).isLt
    have hN : cfg0.N = 128 := N_0
    obtain ⟨t, ht⟩ : ∃ t : Fin cfg0.N, t.val = 16 * (i 0 : Nat) + (i 2 : Nat) / 512 := ⟨⟨_, by omega⟩, rfl⟩
    obtain ⟨i0, i1, i2, i3⟩ := idx9 t
    refine ⟨t, flush0_9 t, ?_⟩
    show i ∈ ((View.whole main_v48_5).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                omega
    | ⟨1, _⟩ => show win0_9.index t 1 * 2 ≤ (i 1 : Nat) ∧ (i 1 : Nat) < win0_9.index t 1 * 2 + 2
                omega
    | ⟨2, _⟩ => show win0_9.index t 2 * 512 ≤ (i 2 : Nat) ∧ (i 2 : Nat) < win0_9.index t 2 * 512 + 512
                omega
    | ⟨3, _⟩ => show win0_9.index t 3 * 128 ≤ (i 3 : Nat) ∧ (i 3 : Nat) < win0_9.index t 3 * 128 + 128
                omega

/-- The array of the window values. -/
def res10 : S8x2x80x8192.Idx → EReal := fun i => f10 m c (i 0) (i 1) (i 2) (i 3)

theorem flushed10 (t : Fin cfg0.N) (hf : (cfg0.win 10).flush t = true) :
    (dats m 0 c).flushed 10 t = ((cfg0.win 10).blk t).view.read (Elt Ideal) (res10 m c) := by
  have emb : ∀ (u : Fin 1) (g : Fin 2) (j : Fin 80) (R : Fin 512), ((cfg0.win 10).blk t).view.emb (ix4 u g j R) = ix4 (bOf t) g j (rOf t R) := by
    intro u g j R
    obtain ⟨i0, i1, i2, i3⟩ := idx10 t
    funext a
    fin_cases a <;> refine Fin.ext ?_
    · show win0_10.index t 0 * 1 + 1 * u.val = t.val / 16
      omega
    · show win0_10.index t 1 * 2 + 1 * g.val = g.val
      omega
    · show win0_10.index t 2 * 80 + 1 * j.val = j.val
      omega
    · show win0_10.index t 3 * 512 + 1 * R.val = t.val % 16 * 512 + R.val
      omega
  have key := t10 m c t
  rw [Value.flushed10_A m c t]
  funext y
  obtain ⟨u, g, j, R, rfl⟩ : ∃ (u : Fin 1) (g : Fin 2) (j : Fin 80) (R : Fin 512), y = ix4 u g j R := ⟨y 0, y 1, y 2, y 3, by funext a; fin_cases a <;> rfl⟩
  obtain rfl : u = 0 := Subsingleton.elim _ _
  rw [View.read_apply, emb]
  exact key R g j

theorem final10 : (dats m 0 c).arrAt 10 cfg0.N = res10 m c :=
  (dats m 0 c).arrAt_eq_of_cover 10 (res10 m c) (flushed10 m c) fun i => by
    have h0 : (i 0 : Nat) < 8 := (i 0).isLt
    have h1 : (i 1 : Nat) < 2 := (i 1).isLt
    have h2 : (i 2 : Nat) < 80 := (i 2).isLt
    have h3 : (i 3 : Nat) < 8192 := (i 3).isLt
    have hN : cfg0.N = 128 := N_0
    obtain ⟨t, ht⟩ : ∃ t : Fin cfg0.N, t.val = 16 * (i 0 : Nat) + (i 3 : Nat) / 512 := ⟨⟨_, by omega⟩, rfl⟩
    obtain ⟨i0, i1, i2, i3⟩ := idx10 t
    refine ⟨t, flush0_10 t, ?_⟩
    show i ∈ ((View.whole main_v48_6).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1
                omega
    | ⟨1, _⟩ => show win0_10.index t 1 * 2 ≤ (i 1 : Nat) ∧ (i 1 : Nat) < win0_10.index t 1 * 2 + 2
                omega
    | ⟨2, _⟩ => show win0_10.index t 2 * 80 ≤ (i 2 : Nat) ∧ (i 2 : Nat) < win0_10.index t 2 * 80 + 80
                omega
    | ⟨3, _⟩ => show win0_10.index t 3 * 512 ≤ (i 3 : Nat) ∧ (i 3 : Nat) < win0_10.index t 3 * 512 + 512
                omega

/-- The array of the mixer's gates. -/
def res11 : S8x8192x512.Idx → EReal := fun i => f11 m c (i 0) (i 1) (i 2)

theorem flushed11 (t : Fin cfg0.N) (hf : (cfg0.win 11).flush t = true) :
    (dats m 0 c).flushed 11 t = ((cfg0.win 11).blk t).view.read (Elt Ideal) (res11 m c) := by
  have emb : ∀ (u : Fin 1) (R : Fin 512) (j : Fin 512), ((cfg0.win 11).blk t).view.emb (ix3 u R j) = ix3 (bOf t) (rOf t R) j := by
    intro u R j
    obtain ⟨i0, i1, i2⟩ := idx11 t
    funext a
    fin_cases a <;> refine Fin.ext ?_
    · show win0_11.index t 0 * 1 + 1 * u.val = t.val / 16
      omega
    · show win0_11.index t 1 * 512 + 1 * R.val = t.val % 16 * 512 + R.val
      omega
    · show win0_11.index t 2 * 512 + 1 * j.val = j.val
      omega
  have key := t11 m c t
  rw [Value.flushed11_A m c t]
  funext y
  obtain ⟨u, R, j, rfl⟩ : ∃ (u : Fin 1) (R : Fin 512) (j : Fin 512), y = ix3 u R j := ⟨y 0, y 1, y 2, by funext a; fin_cases a <;> rfl⟩
  obtain rfl : u = 0 := Subsingleton.elim _ _
  rw [View.read_apply, emb]
  exact key R j

theorem final11 : (dats m 0 c).arrAt 11 cfg0.N = res11 m c :=
  (dats m 0 c).arrAt_eq_of_cover 11 (res11 m c) (flushed11 m c) fun i => by
    have h0 : (i 0 : Nat) < 8 := (i 0).isLt
    have h1 : (i 1 : Nat) < 8192 := (i 1).isLt
    have h2 : (i 2 : Nat) < 512 := (i 2).isLt
    have hN : cfg0.N = 128 := N_0
    obtain ⟨t, ht⟩ : ∃ t : Fin cfg0.N, t.val = 16 * (i 0 : Nat) + (i 1 : Nat) / 512 := ⟨⟨_, by omega⟩, rfl⟩
    obtain ⟨i0, i1, i2⟩ := idx11 t
    refine ⟨t, flush0_11 t, ?_⟩
    show i ∈ ((View.whole main_v48_7).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1
                omega
    | ⟨1, _⟩ => show win0_11.index t 1 * 512 ≤ (i 1 : Nat) ∧ (i 1 : Nat) < win0_11.index t 1 * 512 + 512
                omega
    | ⟨2, _⟩ => show win0_11.index t 2 * 512 ≤ (i 2 : Nat) ∧ (i 2 : Nat) < win0_11.index t 2 * 512 + 512
                omega

/-- The array of the linear attention's queries and keys. -/
def res12 : S8x8192x512.Idx → EReal := fun i => f12 m c (i 0) (i 1) (i 2)

theorem flushed12 (t : Fin cfg0.N) (hf : (cfg0.win 12).flush t = true) :
    (dats m 0 c).flushed 12 t = ((cfg0.win 12).blk t).view.read (Elt Ideal) (res12 m c) := by
  have emb : ∀ (u : Fin 1) (R : Fin 512) (j : Fin 512), ((cfg0.win 12).blk t).view.emb (ix3 u R j) = ix3 (bOf t) (rOf t R) j := by
    intro u R j
    obtain ⟨i0, i1, i2⟩ := idx12 t
    funext a
    fin_cases a <;> refine Fin.ext ?_
    · show win0_12.index t 0 * 1 + 1 * u.val = t.val / 16
      omega
    · show win0_12.index t 1 * 512 + 1 * R.val = t.val % 16 * 512 + R.val
      omega
    · show win0_12.index t 2 * 512 + 1 * j.val = j.val
      omega
  have key := t12 m c t
  rw [Value.flushed12_A m c t]
  funext y
  obtain ⟨u, R, j, rfl⟩ : ∃ (u : Fin 1) (R : Fin 512) (j : Fin 512), y = ix3 u R j := ⟨y 0, y 1, y 2, by funext a; fin_cases a <;> rfl⟩
  obtain rfl : u = 0 := Subsingleton.elim _ _
  rw [View.read_apply, emb]
  exact key R j

theorem final12 : (dats m 0 c).arrAt 12 cfg0.N = res12 m c :=
  (dats m 0 c).arrAt_eq_of_cover 12 (res12 m c) (flushed12 m c) fun i => by
    have h0 : (i 0 : Nat) < 8 := (i 0).isLt
    have h1 : (i 1 : Nat) < 8192 := (i 1).isLt
    have h2 : (i 2 : Nat) < 512 := (i 2).isLt
    have hN : cfg0.N = 128 := N_0
    obtain ⟨t, ht⟩ : ∃ t : Fin cfg0.N, t.val = 16 * (i 0 : Nat) + (i 1 : Nat) / 512 := ⟨⟨_, by omega⟩, rfl⟩
    obtain ⟨i0, i1, i2⟩ := idx12 t
    refine ⟨t, flush0_12 t, ?_⟩
    show i ∈ ((View.whole main_v48_8).slice (win0_12.rect t)).set
    rw [View.set_slice_whole, Rect.mem_set_unit]
    intro a
    match a with
    | ⟨0, _⟩ => show win0_12.index t 0 * 1 ≤ (i 0 : Nat) ∧ (i 0 : Nat) < win0_12.index t 0 * 1 + 1
                omega
    | ⟨1, _⟩ => show win0_12.index t 1 * 512 ≤ (i 1 : Nat) ∧ (i 1 : Nat) < win0_12.index t 1 * 512 + 512
                omega
    | ⟨2, _⟩ => show win0_12.index t 2 * 512 ≤ (i 2 : Nat) ∧ (i 2 : Nat) < win0_12.index t 2 * 512 + 512
                omega

/-- The array of the linear attention's values. -/
def res13 : S8x8192x512.Idx → EReal := fun i => f13 m c (i 0) (i 1) (i 2)

theorem flushed13 (t : Fin cfg0.N) (hf : (cfg0.win 13).flush t = true) :
    (dats m 0 c).flushed 13 t = ((cfg0.win 13).blk t).view.read (Elt Ideal) (res13 m c) := by
  have emb : ∀ (u : Fin 1) (R : Fin 512) (j : Fin 512), ((cfg0.win 13).blk t).view.emb (ix3 u R j) = ix3 (bOf t) (rOf t R) j := by
    intro u R j
    obtain ⟨i0, i1, i2⟩ := idx13 t
    funext a
    fin_cases a <;> refine Fin.ext ?_
    · show win0_13.index t 0 * 1 + 1 * u.val = t.val / 16
      omega
    · show win0_13.index t 1 * 512 + 1 * R.val = t.val % 16 * 512 + R.val
      omega
    · show win0_13.index t 2 * 512 + 1 * j.val = j.val
      omega
  have key := t13 m c t
  rw [Value.flushed13_A m c t]
  funext y
  obtain ⟨u, R, j, rfl⟩ : ∃ (u : Fin 1) (R : Fin 512) (j : Fin 512), y = ix3 u R j := ⟨y 0, y 1, y 2, by funext a; fin_cases a <;> rfl⟩
  obtain rfl : u = 0 := Subsingleton.elim _ _
  rw [View.read_apply, emb]
  exact key R j

theorem final13 : (dats m 0 c).arrAt 13 cfg0.N = res13 m c :=
  (dats m 0 c).arrAt_eq_of_cover 13 (res13 m c) (flushed13 m c) fun i => by
    have h0 : (i 0 : Nat) < 8 := (i 0).isLt
    have h1 : (i 1 : Nat) < 8192 := (i 1).isLt
    have h2 : (i 2 : Nat) < 512 := (i 2).isLt
    have hN : cfg0.N = 128 := N_0
    obtain ⟨t, ht⟩ : ∃ t : Fin cfg0.N, t.val = 16 * (i 0 : Nat) + (i 1 : Nat) / 512 := ⟨⟨_, by omega⟩, rfl⟩
    obtain ⟨i0, i1, i2⟩ := idx13 t
    refine ⟨t, flush0_13 t, ?_⟩
    show i ∈ ((View.whole main_v48_9).slice (win0_13.rect t)).set
    rw [View.set_slice_whole, Rect.mem_set_unit]
    intro a
    match a with
    | ⟨0, _⟩ => show win0_13.index t 0 * 1 ≤ (i 0 : Nat) ∧ (i 0 : Nat) < win0_13.index t 0 * 1 + 1
                omega
    | ⟨1, _⟩ => show win0_13.index t 1 * 512 ≤ (i 1 : Nat) ∧ (i 1 : Nat) < win0_13.index t 1 * 512 + 512
                omega
    | ⟨2, _⟩ => show win0_13.index t 2 * 512 ≤ (i 2 : Nat) ∧ (i 2 : Nat) < win0_13.index t 2 * 512 + 512
                omega

/-- The array of the linear attention's gates. -/
def res14 : S8x8192x512.Idx → EReal := fun i => f14 m c (i 0) (i 1) (i 2)

theorem flushed14 (t : Fin cfg0.N) (hf : (cfg0.win 14).flush t = true) :
    (dats m 0 c).flushed 14 t = ((cfg0.win 14).blk t).view.read (Elt Ideal) (res14 m c) := by
  have emb : ∀ (u : Fin 1) (R : Fin 512) (j : Fin 512), ((cfg0.win 14).blk t).view.emb (ix3 u R j) = ix3 (bOf t) (rOf t R) j := by
    intro u R j
    obtain ⟨i0, i1, i2⟩ := idx14 t
    funext a
    fin_cases a <;> refine Fin.ext ?_
    · show win0_14.index t 0 * 1 + 1 * u.val = t.val / 16
      omega
    · show win0_14.index t 1 * 512 + 1 * R.val = t.val % 16 * 512 + R.val
      omega
    · show win0_14.index t 2 * 512 + 1 * j.val = j.val
      omega
  have key := t14 m c t
  rw [Value.flushed14_A m c t]
  funext y
  obtain ⟨u, R, j, rfl⟩ : ∃ (u : Fin 1) (R : Fin 512) (j : Fin 512), y = ix3 u R j := ⟨y 0, y 1, y 2, by funext a; fin_cases a <;> rfl⟩
  obtain rfl : u = 0 := Subsingleton.elim _ _
  rw [View.read_apply, emb]
  exact key R j

theorem final14 : (dats m 0 c).arrAt 14 cfg0.N = res14 m c :=
  (dats m 0 c).arrAt_eq_of_cover 14 (res14 m c) (flushed14 m c) fun i => by
    have h0 : (i 0 : Nat) < 8 := (i 0).isLt
    have h1 : (i 1 : Nat) < 8192 := (i 1).isLt
    have h2 : (i 2 : Nat) < 512 := (i 2).isLt
    have hN : cfg0.N = 128 := N_0
    obtain ⟨t, ht⟩ : ∃ t : Fin cfg0.N, t.val = 16 * (i 0 : Nat) + (i 1 : Nat) / 512 := ⟨⟨_, by omega⟩, rfl⟩
    obtain ⟨i0, i1, i2⟩ := idx14 t
    refine ⟨t, flush0_14 t, ?_⟩
    show i ∈ ((View.whole main_v48_10).slice (win0_14.rect t)).set
    rw [View.set_slice_whole, Rect.mem_set_unit]
    intro a
    match a with
    | ⟨0, _⟩ => show win0_14.index t 0 * 1 ≤ (i 0 : Nat) ∧ (i 0 : Nat) < win0_14.index t 0 * 1 + 1
                omega
    | ⟨1, _⟩ => show win0_14.index t 1 * 512 ≤ (i 1 : Nat) ∧ (i 1 : Nat) < win0_14.index t 1 * 512 + 512
                omega
    | ⟨2, _⟩ => show win0_14.index t 2 * 512 ≤ (i 2 : Nat) ∧ (i 2 : Nat) < win0_14.index t 2 * 512 + 512
                omega

/-- The array of the branch gates and decays. -/
def res15 : S8x8192x128.Idx → EReal := fun i => f15 m c (i 0) (i 1) (i 2)

theorem flushed15 (t : Fin cfg0.N) (hf : (cfg0.win 15).flush t = true) :
    (dats m 0 c).flushed 15 t = ((cfg0.win 15).blk t).view.read (Elt Ideal) (res15 m c) := by
  have emb : ∀ (u : Fin 1) (R : Fin 512) (j : Fin 128), ((cfg0.win 15).blk t).view.emb (ix3 u R j) = ix3 (bOf t) (rOf t R) j := by
    intro u R j
    obtain ⟨i0, i1, i2⟩ := idx15 t
    funext a
    fin_cases a <;> refine Fin.ext ?_
    · show win0_15.index t 0 * 1 + 1 * u.val = t.val / 16
      omega
    · show win0_15.index t 1 * 512 + 1 * R.val = t.val % 16 * 512 + R.val
      omega
    · show win0_15.index t 2 * 128 + 1 * j.val = j.val
      omega
  have key := t15 m c t
  rw [Value.flushed15_A m c t]
  funext y
  obtain ⟨u, R, j, rfl⟩ : ∃ (u : Fin 1) (R : Fin 512) (j : Fin 128), y = ix3 u R j := ⟨y 0, y 1, y 2, by funext a; fin_cases a <;> rfl⟩
  obtain rfl : u = 0 := Subsingleton.elim _ _
  rw [View.read_apply, emb]
  exact key R j

theorem final15 : (dats m 0 c).arrAt 15 cfg0.N = res15 m c :=
  (dats m 0 c).arrAt_eq_of_cover 15 (res15 m c) (flushed15 m c) fun i => by
    have h0 : (i 0 : Nat) < 8 := (i 0).isLt
    have h1 : (i 1 : Nat) < 8192 := (i 1).isLt
    have h2 : (i 2 : Nat) < 128 := (i 2).isLt
    have hN : cfg0.N = 128 := N_0
    obtain ⟨t, ht⟩ : ∃ t : Fin cfg0.N, t.val = 16 * (i 0 : Nat) + (i 1 : Nat) / 512 := ⟨⟨_, by omega⟩, rfl⟩
    obtain ⟨i0, i1, i2⟩ := idx15 t
    refine ⟨t, flush0_15 t, ?_⟩
    show i ∈ ((View.whole main_v48_11).slice (win0_15.rect t)).set
    rw [View.set_slice_whole, Rect.mem_set_unit]
    intro a
    match a with
    | ⟨0, _⟩ => show win0_15.index t 0 * 1 ≤ (i 0 : Nat) ∧ (i 0 : Nat) < win0_15.index t 0 * 1 + 1
                omega
    | ⟨1, _⟩ => show win0_15.index t 1 * 512 ≤ (i 1 : Nat) ∧ (i 1 : Nat) < win0_15.index t 1 * 512 + 512
                omega
    | ⟨2, _⟩ => show win0_15.index t 2 * 128 ≤ (i 2 : Nat) ∧ (i 2 : Nat) < win0_15.index t 2 * 128 + 128
                omega

/-- The array of the squashed branch gates. -/
def res16 : S8x32x8192.Idx → EReal := fun i => f16 m c (i 0) (i 1) (i 2)

theorem flushed16 (t : Fin cfg0.N) (hf : (cfg0.win 16).flush t = true) :
    (dats m 0 c).flushed 16 t = ((cfg0.win 16).blk t).view.read (Elt Ideal) (res16 m c) := by
  have emb : ∀ (u : Fin 1) (j : Fin 32) (R : Fin 512), ((cfg0.win 16).blk t).view.emb (ix3 u j R) = ix3 (bOf t) j (rOf t R) := by
    intro u j R
    obtain ⟨i0, i1, i2⟩ := idx16 t
    funext a
    fin_cases a <;> refine Fin.ext ?_
    · show win0_16.index t 0 * 1 + 1 * u.val = t.val / 16
      omega
    · show win0_16.index t 1 * 32 + 1 * j.val = j.val
      omega
    · show win0_16.index t 2 * 512 + 1 * R.val = t.val % 16 * 512 + R.val
      omega
  have key := t16 m c t
  rw [Value.flushed16_A m c t]
  funext y
  obtain ⟨u, j, R, rfl⟩ : ∃ (u : Fin 1) (j : Fin 32) (R : Fin 512), y = ix3 u j R := ⟨y 0, y 1, y 2, by funext a; fin_cases a <;> rfl⟩
  obtain rfl : u = 0 := Subsingleton.elim _ _
  rw [View.read_apply, emb]
  exact key R j

theorem final16 : (dats m 0 c).arrAt 16 cfg0.N = res16 m c :=
  (dats m 0 c).arrAt_eq_of_cover 16 (res16 m c) (flushed16 m c) fun i => by
    have h0 : (i 0 : Nat) < 8 := (i 0).isLt
    have h1 : (i 1 : Nat) < 32 := (i 1).isLt
    have h2 : (i 2 : Nat) < 8192 := (i 2).isLt
    have hN : cfg0.N = 128 := N_0
    obtain ⟨t, ht⟩ : ∃ t : Fin cfg0.N, t.val = 16 * (i 0 : Nat) + (i 2 : Nat) / 512 := ⟨⟨_, by omega⟩, rfl⟩
    obtain ⟨i0, i1, i2⟩ := idx16 t
    refine ⟨t, flush0_16 t, ?_⟩
    show i ∈ ((View.whole main_v48_12).slice (win0_16.rect t)).set
    rw [View.set_slice_whole, Rect.mem_set_unit]
    intro a
    match a with
    | ⟨0, _⟩ => show win0_16.index t 0 * 1 ≤ (i 0 : Nat) ∧ (i 0 : Nat) < win0_16.index t 0 * 1 + 1
                omega
    | ⟨1, _⟩ => show win0_16.index t 1 * 32 ≤ (i 1 : Nat) ∧ (i 1 : Nat) < win0_16.index t 1 * 32 + 32
                omega
    | ⟨2, _⟩ => show win0_16.index t 2 * 512 ≤ (i 2 : Nat) ∧ (i 2 : Nat) < win0_16.index t 2 * 512 + 512
                omega

end Cert.Kernel3Ideal.Final
end
-- ==== Proof.InRef.lean ====
/-
  The reference's input projection at an index.
-/
module

public import proofs.«01_k».proof.Proof.Gen.Reference3Ideal.Run
public import proofs.«01_k».proof.Proof.OutRow
public import proofs.«01_k».proof.Proof.InSpec
public import Idealize.ShloMosaic.Lib.Pointwise
public import Idealize.ShloMosaic.Lib.StableHlo.ReadAt
public import Idealize.ShloMosaic.Lib.Tactic

@[expose] public section

set_option maxRecDepth 16384

noncomputable section

namespace Cert.Reference3Ideal.Final

open Cert.Reference3Ideal Cert.Reference3Ideal.Gen Cert.Reference3Ideal.Value Idealize.ShloMosaic Idealize.ShloMosaic.TcCoe Idealize.SL.Sem

open Cert Cert.OutRow

/-- A row's mean, kept as an axis of one entry. -/
def meanV (y : FVec Ideal S8x8192x1024 .f32) : FVec Ideal S8x8192x1 .f32 :=
  Host.divf (broadcastInDim S8x8192x1 ![0, 1] bcast_S8x8192_S8x8192x1_0_1 (Host.reduceAdd y (constant (F := Ideal) S_ .f32 0x00000000#32) reducesTo_S8x8192x1024_S8x8192_d2 h_S_)) (broadcastInDim S8x8192x1 ![] bcast_S_S8x8192x1 (constant (F := Ideal) S_ .f32 0x44800000#32))

/-- The rows less their mean. -/
def cenV (y : FVec Ideal S8x8192x1024 .f32) : FVec Ideal S8x8192x1024 .f32 :=
  subf y (broadcastInDim S8x8192x1024 ![0, 1, 2] bcast_S8x8192x1_S8x8192x1024_0_1_2 (meanV y))

/-- The layer norm of the rows. -/
def normV (x : FVec Ideal S8x8192x1024 .f32) (g l : FVec Ideal S1024 .f32) : FVec Ideal S8x8192x1024 .f32 :=
  addf (mulf (mulf (cenV x) (broadcastInDim S8x8192x1024 ![0, 1, 2] bcast_S8x8192x1_S8x8192x1024_0_1_2 (Host.rsqrt (addf (meanV (mulf (cenV x) (cenV x))) (broadcastInDim S8x8192x1 ![] bcast_S_S8x8192x1 (constant (F := Ideal) S_ .f32 0x3727C5AC#32))))))
    (broadcastInDim S8x8192x1024 ![0, 1, 2] bcast_S1x1x1024_S8x8192x1024_0_1_2 (broadcastInDim S1x1x1024 ![2] bcast_S1024_S1x1x1024_2 g)))
    (broadcastInDim S8x8192x1024 ![0, 1, 2] bcast_S1x1x1024_S8x8192x1024_0_1_2 (broadcastInDim S1x1x1024 ![2] bcast_S1024_S1x1x1024_2 l))

theorem meanV_apply (y : FVec Ideal S8x8192x1024 .f32) (b : Fin 8) (s : Fin 8192) (u : Fin 1) : meanV y (ix3 b s u) = mean fun k => y (ix3 b s k) := by
  pointwise [meanV]
  rfl

theorem cenV_apply (y : FVec Ideal S8x8192x1024 .f32) (b : Fin 8) (s : Fin 8192) (j : Fin 1024) : cenV y (ix3 b s j) = y (ix3 b s j) - mean fun k => y (ix3 b s k) := by
  pointwise [cenV]
  rw [meanV_apply]

theorem normV_apply (x : FVec Ideal S8x8192x1024 .f32) (g l : FVec Ideal S1024 .f32) (b : Fin 8) (s : Fin 8192) (j : Fin 1024) :
    normV x g l (ix3 b s j) = OutRow.norm (fun k => x (ix3 b s k)) (fun k => g (ix1 k)) (fun k => l (ix1 k)) j := by
  pointwise [normV]
  rw [meanV_apply, cenV_apply]
  unfold OutRow.norm
  simp only [show ∀ k, mulf (cenV x) (cenV x) (ix3 b s k) = cenV x (ix3 b s k) * cenV x (ix3 b s k) from fun k => rfl, cenV_apply]

/-- The rows through the projection. -/
def projV (h : FVec Ideal S8x8192x1024 .f32) (w : FVec Ideal S1x1024x3368 .f32) : FVec Ideal S8x8192x3368 .f32 :=
  Host.dotGeneral dot_S8x8192x1024_S1024x3368_S8x8192x3368_2_0_01_1_n_n none h (shapeCast S1024x3368 w shapeCasts_S1x1024x3368_S1024x3368)

theorem projV_apply (h : FVec Ideal S8x8192x1024 .f32) (w : FVec Ideal S1x1024x3368 .f32) (b : Fin 8) (s : Fin 8192) (c : Fin 3368) :
    projV h w (ix3 b s c) = ∑ k : Fin 1024, h (ix3 b s k) * w (ix3 0 k c) := by
  pointwise [projV]

/-- The array of the scaled hidden rows. -/
def hiddenV (h : FVec Ideal S8x8192x1024 .f32) : FVec Ideal S8x8192x1024 .f32 :=
  mulf (broadcastInDim S8x8192x1024 ![] bcast_S_S8x8192x1024 (constant (F := Ideal) S_ .f32 0x3F9837F0#32)) h

theorem hiddenV_apply (h : FVec Ideal S8x8192x1024 .f32) (b : Fin 8) (s : Fin 8192) (j : Fin 1024) : hiddenV h (ix3 b s j) = Ideal.ofBits .f32 1066940400#32 * h (ix3 b s j) := by
  pointwise [hiddenV]

/-- The array of the scaled queries. -/
def queryV (y : FVec Ideal S8x8192x3368 .f32) : FVec Ideal S8x512x8192 .bf16 :=
  truncf .bf16 (transpose S8x512x8192 [0, 2, 1] (mulf (extractStridedSlice S8x8192x512 ![0, 0, 0] y slices_S8x8192x3368_S8x8192x512_0_0_0) (broadcastInDim S8x8192x512 ![] bcast_S_S8x8192x512 (constant (F := Ideal) S_ .f32 0x3E000000#32))) transposes_S8x8192x512_S8x512x8192_0_2_1) bitsLt_bf16_f32

theorem queryV_apply (y : FVec Ideal S8x8192x3368 .f32) (b : Fin 8) (j : Fin 512) (s : Fin 8192) : queryV y (ix3 b j s) = InSpec.query (fun c => y (ix3 b s c)) j := by
  pointwise [queryV]
  rfl

/-- The array of the keys and values to compress. -/
def catV (y : FVec Ideal S8x8192x3368 .f32) : FVec Ideal S8x2x8192x128 .bf16 :=
  truncf .bf16 (concatenate S8x2x8192x128 3 [⟨S8x2x8192x64, (transpose S8x2x8192x64 [0, 2, 1, 3] (shapeCast S8x8192x2x64 (extractStridedSlice S8x8192x128 ![0, 0, 512] y slices_S8x8192x3368_S8x8192x128_0_0_512) shapeCasts_S8x8192x128_S8x8192x2x64) transposes_S8x8192x2x64_S8x2x8192x64_0_2_1_3)⟩, ⟨S8x2x8192x64, (transpose S8x2x8192x64 [0, 2, 1, 3] (shapeCast S8x8192x2x64 (extractStridedSlice S8x8192x128 ![0, 0, 640] y slices_S8x8192x3368_S8x8192x128_0_0_640) shapeCasts_S8x8192x128_S8x8192x2x64) transposes_S8x8192x2x64_S8x2x8192x64_0_2_1_3)⟩] concatenates_S8x2x8192x64_S8x2x8192x64_S8x2x8192x128_d3) bitsLt_bf16_f32

theorem catV_apply (y : FVec Ideal S8x8192x3368 .f32) (b : Fin 8) (g : Fin 2) (s : Fin 8192) (l : Fin 128) : catV y (ix4 b g s l) = InSpec.pair (fun c => y (ix3 b s c)) 512 640 (by omega) (by omega) g l := by
  pointwise [catV]
  unfold InSpec.pair
  split
  · exact congrArg (fun c => y (ix3 b s c)) (Fin.ext (by show 512 + (g.val * 64 + l.val) = 512 + 64 * g.val + l.val % 64; omega))
  · exact congrArg (fun c => y (ix3 b s c)) (Fin.ext (by show 640 + (g.val * 64 + (l.val - 64)) = 640 + 64 * g.val + l.val % 64; omega))

/-- Sixteen tokens to a chunk. -/
def castV (z : FVec Ideal S8x2x8192x128 .f32) : FVec Ideal S8x2x512x2048 .bf16 :=
  truncf .bf16 (shapeCast S8x2x512x2048 z shapeCasts_S8x2x8192x128_S8x2x512x2048) bitsLt_bf16_f32

theorem castV_apply (z : FVec Ideal S8x2x8192x128 .f32) (b : Fin 8) (g : Fin 2) (n : Fin 512) (l : Fin 2048) :
    castV z (ix4 b g n l) = z (ix4 b g ⟨16 * n.val + l.val / 128, by omega⟩ ⟨l.val % 128, by omega⟩) := by
  pointwise [castV]
  exact congrArg (fun t => z (ix4 b g t _)) (Fin.ext (by show n.val * 16 + l.val / 128 = 16 * n.val + l.val / 128; omega))

/-- The array of the chunks to compress. -/
def chunkV (y : FVec Ideal S8x8192x3368 .f32) : FVec Ideal S8x2x512x2048 .bf16 :=
  truncf .bf16 (shapeCast S8x2x512x2048 (concatenate S8x2x8192x128 3 [⟨S8x2x8192x64, (transpose S8x2x8192x64 [0, 2, 1, 3] (shapeCast S8x8192x2x64 (extractStridedSlice S8x8192x128 ![0, 0, 512] y slices_S8x8192x3368_S8x8192x128_0_0_512) shapeCasts_S8x8192x128_S8x8192x2x64) transposes_S8x8192x2x64_S8x2x8192x64_0_2_1_3)⟩, ⟨S8x2x8192x64, (transpose S8x2x8192x64 [0, 2, 1, 3] (shapeCast S8x8192x2x64 (extractStridedSlice S8x8192x128 ![0, 0, 640] y slices_S8x8192x3368_S8x8192x128_0_0_640) shapeCasts_S8x8192x128_S8x8192x2x64) transposes_S8x8192x2x64_S8x2x8192x64_0_2_1_3)⟩] concatenates_S8x2x8192x64_S8x2x8192x64_S8x2x8192x128_d3) shapeCasts_S8x2x8192x128_S8x2x512x2048) bitsLt_bf16_f32

theorem chunkV_apply (y : FVec Ideal S8x8192x3368 .f32) (b : Fin 8) (g : Fin 2) (n : Fin 512) (l : Fin 2048) : chunkV y (ix4 b g n l) = InSpec.pair (fun c => y (ix3 b ⟨16 * n.val + l.val / 128, by omega⟩ c)) 512 640 (by omega) (by omega) g ⟨l.val % 128, by omega⟩ :=
  (castV_apply _ b g n l).trans (catV_apply y b g _ _)

/-- A comparison of two places, as a number. -/
theorem oneHot (a b : Nat) (ha : a < 64) (hb : b < 64) :
    FloatOps.uitofp (F := Ideal) .f32 (IntOp.cmpi .eq (IntOp.addi (BitVec.ofNat 32 a) 0#32) (BitVec.ofNat 32 b)) = if a = b then 1 else 0 := by
  by_cases h : a = b
  · subst h
    rw [if_pos rfl, show IntOp.addi (BitVec.ofNat 32 a) 0#32 = BitVec.ofNat 32 a from BitVec.add_zero _, show IntOp.cmpi .eq (BitVec.ofNat 32 a) (BitVec.ofNat 32 a) = 1#1 by simp [IntOp.cmpi]]
    show (((1 : Nat) : ℝ) : EReal) = 1
    norm_num
  · have hne : ¬ BitVec.ofNat 32 a = BitVec.ofNat 32 b := by
      intro e
      have := congrArg BitVec.toNat e
      simp only [BitVec.toNat_ofNat] at this
      omega
    rw [if_neg h, show IntOp.addi (BitVec.ofNat 32 a) 0#32 = BitVec.ofNat 32 a from BitVec.add_zero _, show IntOp.cmpi .eq (BitVec.ofNat 32 a) (BitVec.ofNat 32 b) = 0#1 by show BitVec.ofBool (BitVec.ofNat 32 a == BitVec.ofNat 32 b) = 0#1; rw [beq_false_of_ne hne]; rfl]
    show (((0 : Nat) : ℝ) : EReal) = 0
    norm_num

/-- The array of the selected keys. -/
def placeV (y : FVec Ideal S8x8192x3368 .f32) : FVec Ideal S8x2x8192x128 .bf16 :=
  truncf .bf16 (concatenate S8x2x8192x128 3 [⟨S8x2x8192x64, (transpose S8x2x8192x64 [0, 2, 1, 3] (shapeCast S8x8192x2x64 (extractStridedSlice S8x8192x128 ![0, 0, 768] y slices_S8x8192x3368_S8x8192x128_0_0_768) shapeCasts_S8x8192x128_S8x8192x2x64) transposes_S8x8192x2x64_S8x2x8192x64_0_2_1_3)⟩, ⟨S8x2x8192x64, (broadcastInDim S8x2x8192x64 ![2, 3] bcast_S8192x64_S8x2x8192x64_2_3 (shapeCast S8192x64 (broadcastInDim S2x64x64x64 ![1, 2, 3] bcast_S64x1x64_S2x64x64x64_1_2_3 (broadcastInDim S64x1x64 ![0, 2] bcast_S64x64_S64x1x64_0_2 (uitofp .f32 (cmpi .eq (addi (iotaInDim S64x64 32 0) (broadcastInDim S64x64 ![] bcast_S_S64x64 (constantI S_ 32 0#32))) (iotaInDim S64x64 32 1))))) shapeCasts_S2x64x64x64_S8192x64))⟩] concatenates_S8x2x8192x64_S8x2x8192x64_S8x2x8192x128_d3) bitsLt_bf16_f32

theorem placeV_apply (y : FVec Ideal S8x8192x3368 .f32) (b : Fin 8) (g : Fin 2) (s : Fin 8192) (l : Fin 128) : placeV y (ix4 b g s l) = InSpec.place (fun c => y (ix3 b s c)) s g l := by
  pointwise [placeV]
  unfold InSpec.place
  split
  · exact congrArg (fun c => y (ix3 b s c)) (Fin.ext (by show 768 + (g.val * 64 + l.val) = 768 + 64 * g.val + l.val % 64; omega))
  · exact oneHot _ _ (by omega) (by omega)

/-- The array of the selected values. -/
def valsV (y : FVec Ideal S8x8192x3368 .f32) : FVec Ideal S8x2x80x8192 .bf16 :=
  truncf .bf16 (transpose S8x2x80x8192 [0, 1, 3, 2] ((concatenate S8x2x8192x80 3 [⟨S8x2x8192x64, ((transpose S8x2x8192x64 [0, 2, 1, 3] (shapeCast S8x8192x2x64 (extractStridedSlice S8x8192x128 ![0, 0, 896] y slices_S8x8192x3368_S8x8192x128_0_0_896) shapeCasts_S8x8192x128_S8x8192x2x64) transposes_S8x8192x2x64_S8x2x8192x64_0_2_1_3) : (⟨S8x2x8192x64, .f32⟩ : BufTy).Contents (Elt Ideal))⟩, ⟨S8x2x8192x1, ((broadcastInDim S8x2x8192x1 ![] bcast_S_S8x2x8192x1 (constant (F := Ideal) S_ .f32 0x3F800000#32)) : (⟨S8x2x8192x1, .f32⟩ : BufTy).Contents (Elt Ideal))⟩, ⟨S8x2x8192x15, ((broadcastInDim S8x2x8192x15 ![] bcast_S_S8x2x8192x15 (constant (F := Ideal) S_ .f32 0x00000000#32)) : (⟨S8x2x8192x15, .f32⟩ : BufTy).Contents (Elt Ideal))⟩] concatenates_S8x2x8192x64_S8x2x8192x1_S8x2x8192x15_S8x2x8192x80_d3 : (⟨S8x2x8192x80, .f32⟩ : BufTy).Contents (Elt Ideal))) transposes_S8x2x8192x80_S8x2x80x8192_0_1_3_2) bitsLt_bf16_f32

theorem valsV_apply (y : FVec Ideal S8x8192x3368 .f32) (b : Fin 8) (g : Fin 2) (r : Fin 80) (s : Fin 8192) : valsV y (ix4 b g r s) = InSpec.ones (fun c => y (ix3 b s c)) 896 (by omega) g r := by
  pointwise [valsV]
  unfold InSpec.ones
  split
  · exact congrArg (fun c => y (ix3 b s c)) (Fin.ext (by show 896 + (g.val * 64 + r.val) = 896 + 64 * g.val + r.val % 64; omega))
  · by_cases h : r.val = 64
    · rw [dif_pos (by omega), if_pos h]
    · rw [dif_neg (by omega), if_neg h]

/-- The array of the window's keys and values. -/
def pairV (y : FVec Ideal S8x8192x3368 .f32) : FVec Ideal S8x2x8192x128 .bf16 :=
  truncf .bf16 (concatenate S8x2x8192x128 3 [⟨S8x2x8192x64, (transpose S8x2x8192x64 [0, 2, 1, 3] (shapeCast S8x8192x2x64 (extractStridedSlice S8x8192x128 ![0, 0, 1024] y slices_S8x8192x3368_S8x8192x128_0_0_1024) shapeCasts_S8x8192x128_S8x8192x2x64) transposes_S8x8192x2x64_S8x2x8192x64_0_2_1_3)⟩, ⟨S8x2x8192x64, (transpose S8x2x8192x64 [0, 2, 1, 3] (shapeCast S8x8192x2x64 (extractStridedSlice S8x8192x128 ![0, 0, 1152] y slices_S8x8192x3368_S8x8192x128_0_0_1152) shapeCasts_S8x8192x128_S8x8192x2x64) transposes_S8x8192x2x64_S8x2x8192x64_0_2_1_3)⟩] concatenates_S8x2x8192x64_S8x2x8192x64_S8x2x8192x128_d3) bitsLt_bf16_f32

theorem pairV_apply (y : FVec Ideal S8x8192x3368 .f32) (b : Fin 8) (g : Fin 2) (s : Fin 8192) (l : Fin 128) : pairV y (ix4 b g s l) = InSpec.pair (fun c => y (ix3 b s c)) 1024 1152 (by omega) (by omega) g l := by
  pointwise [pairV]
  unfold InSpec.pair
  split
  · exact congrArg (fun c => y (ix3 b s c)) (Fin.ext (by show 1024 + (g.val * 64 + l.val) = 1024 + 64 * g.val + l.val % 64; omega))
  · exact congrArg (fun c => y (ix3 b s c)) (Fin.ext (by show 1152 + (g.val * 64 + (l.val - 64)) = 1152 + 64 * g.val + l.val % 64; omega))

/-- The array of the window's values. -/
def vwinV (y : FVec Ideal S8x8192x3368 .f32) : FVec Ideal S8x2x80x8192 .bf16 :=
  truncf .bf16 (transpose S8x2x80x8192 [0, 1, 3, 2] ((concatenate S8x2x8192x80 3 [⟨S8x2x8192x64, ((transpose S8x2x8192x64 [0, 2, 1, 3] (shapeCast S8x8192x2x64 (extractStridedSlice S8x8192x128 ![0, 0, 1152] y slices_S8x8192x3368_S8x8192x128_0_0_1152) shapeCasts_S8x8192x128_S8x8192x2x64) transposes_S8x8192x2x64_S8x2x8192x64_0_2_1_3) : (⟨S8x2x8192x64, .f32⟩ : BufTy).Contents (Elt Ideal))⟩, ⟨S8x2x8192x1, ((broadcastInDim S8x2x8192x1 ![] bcast_S_S8x2x8192x1 (constant (F := Ideal) S_ .f32 0x3F800000#32)) : (⟨S8x2x8192x1, .f32⟩ : BufTy).Contents (Elt Ideal))⟩, ⟨S8x2x8192x15, ((broadcastInDim S8x2x8192x15 ![] bcast_S_S8x2x8192x15 (constant (F := Ideal) S_ .f32 0x00000000#32)) : (⟨S8x2x8192x15, .f32⟩ : BufTy).Contents (Elt Ideal))⟩] concatenates_S8x2x8192x64_S8x2x8192x1_S8x2x8192x15_S8x2x8192x80_d3 : (⟨S8x2x8192x80, .f32⟩ : BufTy).Contents (Elt Ideal))) transposes_S8x2x8192x80_S8x2x80x8192_0_1_3_2) bitsLt_bf16_f32

theorem vwinV_apply (y : FVec Ideal S8x8192x3368 .f32) (b : Fin 8) (g : Fin 2) (r : Fin 80) (s : Fin 8192) : vwinV y (ix4 b g r s) = InSpec.ones (fun c => y (ix3 b s c)) 1152 (by omega) g r := by
  pointwise [vwinV]
  unfold InSpec.ones
  split
  · exact congrArg (fun c => y (ix3 b s c)) (Fin.ext (by show 1152 + (g.val * 64 + r.val) = 1152 + 64 * g.val + r.val % 64; omega))
  · by_cases h : r.val = 64
    · rw [dif_pos (by omega), if_pos h]
    · rw [dif_neg (by omega), if_neg h]

/-- The array of the mixer's gate. -/
def siluV (y : FVec Ideal S8x8192x3368 .f32) : FVec Ideal S8x8192x512 .bf16 :=
  truncf .bf16 (mulf (extractStridedSlice S8x8192x512 ![0, 0, 1304] y slices_S8x8192x3368_S8x8192x512_0_0_1304) (Host.divf (broadcastInDim S8x8192x512 ![] bcast_S_S8x8192x512 (constant (F := Ideal) S_ .f32 0x3F800000#32)) (addf (broadcastInDim S8x8192x512 ![] bcast_S_S8x8192x512 (constant (F := Ideal) S_ .f32 0x3F800000#32)) (Host.exp (Host.negf (extractStridedSlice S8x8192x512 ![0, 0, 1304] y slices_S8x8192x3368_S8x8192x512_0_0_1304)))))) bitsLt_bf16_f32

theorem siluV_apply (y : FVec Ideal S8x8192x3368 .f32) (b : Fin 8) (s : Fin 8192) (j : Fin 512) : siluV y (ix3 b s j) = InSpec.silu (fun c => y (ix3 b s c)) j := by
  pointwise [siluV]
  rfl

/-- The array of the linear attention's queries and keys. -/
def headsV (y : FVec Ideal S8x8192x3368 .f32) : FVec Ideal S8x8192x512 .f32 :=
  shapeCast S8x8192x512 (concatenate S8x8192x4x128 3 [⟨S8x8192x4x64, (shapeCast S8x8192x4x64 (extractStridedSlice S8x8192x256 ![0, 0, 1816] y slices_S8x8192x3368_S8x8192x256_0_0_1816) shapeCasts_S8x8192x256_S8x8192x4x64)⟩, ⟨S8x8192x4x64, (shapeCast S8x8192x4x64 (extractStridedSlice S8x8192x256 ![0, 0, 2072] y slices_S8x8192x3368_S8x8192x256_0_0_2072) shapeCasts_S8x8192x256_S8x8192x4x64)⟩] concatenates_S8x8192x4x64_S8x8192x4x64_S8x8192x4x128_d3) shapeCasts_S8x8192x4x128_S8x8192x512

theorem headsV_apply (y : FVec Ideal S8x8192x3368 .f32) (b : Fin 8) (s : Fin 8192) (j : Fin 512) : headsV y (ix3 b s j) = InSpec.heads (fun c => y (ix3 b s c)) j := by
  pointwise [headsV]
  unfold InSpec.heads
  split
  · exact congrArg (fun c => y (ix3 b s c)) (Fin.ext (by show 1816 + (j.val / 128 * 64 + j.val % 128) = 1816 + 64 * (j.val / 128) + j.val % 64; omega))
  · exact congrArg (fun c => y (ix3 b s c)) (Fin.ext (by show 2072 + (j.val / 128 * 64 + (j.val % 128 - 64)) = 2072 + 64 * (j.val / 128) + j.val % 64; omega))

/-- The array of the linear attention's values. -/
def vgV (y : FVec Ideal S8x8192x3368 .f32) : FVec Ideal S8x8192x512 .f32 :=
  extractStridedSlice S8x8192x512 ![0, 0, 2328] y slices_S8x8192x3368_S8x8192x512_0_0_2328

theorem vgV_apply (y : FVec Ideal S8x8192x3368 .f32) (b : Fin 8) (s : Fin 8192) (j : Fin 512) : vgV y (ix3 b s j) = y (ix3 b s ⟨2328 + j.val, by omega⟩) := by
  pointwise [vgV]

/-- The array of the linear attention's gate. -/
def zgV (y : FVec Ideal S8x8192x3368 .f32) : FVec Ideal S8x8192x512 .f32 :=
  extractStridedSlice S8x8192x512 ![0, 0, 2856] y slices_S8x8192x3368_S8x8192x512_0_0_2856

theorem zgV_apply (y : FVec Ideal S8x8192x3368 .f32) (b : Fin 8) (s : Fin 8192) (j : Fin 512) : zgV y (ix3 b s j) = y (ix3 b s ⟨2856 + j.val, by omega⟩) := by
  pointwise [zgV]

/-- The array of the small columns. -/
def smallV (y : FVec Ideal S8x8192x3368 .f32) : FVec Ideal S8x8192x128 .f32 :=
  (concatenate S8x8192x128 2 [⟨S8x8192x24, ((extractStridedSlice S8x8192x24 ![0, 0, 1280] y slices_S8x8192x3368_S8x8192x24_0_0_1280) : (⟨S8x8192x24, .f32⟩ : BufTy).Contents (Elt Ideal))⟩, ⟨S8x8192x16, ((extractStridedSlice S8x8192x16 ![0, 0, 2840] y slices_S8x8192x3368_S8x8192x16_0_0_2840) : (⟨S8x8192x16, .f32⟩ : BufTy).Contents (Elt Ideal))⟩, ⟨S8x8192x88, ((broadcastInDim S8x8192x88 ![] bcast_S_S8x8192x88 (constant (F := Ideal) S_ .f32 0x00000000#32)) : (⟨S8x8192x88, .f32⟩ : BufTy).Contents (Elt Ideal))⟩] concatenates_S8x8192x24_S8x8192x16_S8x8192x88_S8x8192x128_d2 : (⟨S8x8192x128, .f32⟩ : BufTy).Contents (Elt Ideal))

theorem smallV_apply (y : FVec Ideal S8x8192x3368 .f32) (b : Fin 8) (s : Fin 8192) (j : Fin 128) : smallV y (ix3 b s j) = InSpec.small (fun c => y (ix3 b s c)) j := by
  pointwise [smallV]
  unfold InSpec.small
  split
  · rfl
  · rename_i h
    by_cases h' : j.val < 40
    · rw [dif_pos (by omega), dif_pos h']
      exact congrArg (fun c => y (ix3 b s c)) (Fin.ext (by show 2840 + (j.val - 24) = 2816 + j.val; omega))
    · rw [dif_neg (by omega), dif_neg h']

/-- The array of the branch gates. -/
def gatesV (y : FVec Ideal S8x8192x3368 .f32) : FVec Ideal S8x32x8192 .f32 :=
  transpose S8x32x8192 [0, 2, 1] (Host.divf (broadcastInDim S8x8192x32 ![] bcast_S_S8x8192x32 (constant (F := Ideal) S_ .f32 0x3F800000#32)) (addf (broadcastInDim S8x8192x32 ![] bcast_S_S8x8192x32 (constant (F := Ideal) S_ .f32 0x3F800000#32)) (Host.exp (Host.negf (extractStridedSlice S8x8192x32 ![0, 0, 0] ((concatenate S8x8192x128 2 [⟨S8x8192x24, ((extractStridedSlice S8x8192x24 ![0, 0, 1280] y slices_S8x8192x3368_S8x8192x24_0_0_1280) : (⟨S8x8192x24, .f32⟩ : BufTy).Contents (Elt Ideal))⟩, ⟨S8x8192x16, ((extractStridedSlice S8x8192x16 ![0, 0, 2840] y slices_S8x8192x3368_S8x8192x16_0_0_2840) : (⟨S8x8192x16, .f32⟩ : BufTy).Contents (Elt Ideal))⟩, ⟨S8x8192x88, ((broadcastInDim S8x8192x88 ![] bcast_S_S8x8192x88 (constant (F := Ideal) S_ .f32 0x00000000#32)) : (⟨S8x8192x88, .f32⟩ : BufTy).Contents (Elt Ideal))⟩] concatenates_S8x8192x24_S8x8192x16_S8x8192x88_S8x8192x128_d2 : (⟨S8x8192x128, .f32⟩ : BufTy).Contents (Elt Ideal))) slices_S8x8192x128_S8x8192x32_0_0_0))))) transposes_S8x8192x32_S8x32x8192_0_2_1

theorem gatesV_apply (y : FVec Ideal S8x8192x3368 .f32) (b : Fin 8) (r : Fin 32) (s : Fin 8192) : gatesV y (ix3 b r s) = InSpec.sig (InSpec.small (fun c => y (ix3 b s c)) ⟨r.val, by omega⟩) := by
  pointwise [gatesV]
  unfold InSpec.sig InSpec.small
  refine congrArg (fun t : EReal => Ideal.div 1 (1 + Ideal.exp (-t))) ?_
  split
  · rfl
  · rename_i h
    have hr := r.isLt
    rw [dif_pos (by omega), dif_pos (by show r.val < 40; omega)]
    exact congrArg (fun c => y (ix3 b s c)) (Fin.ext (by show 2840 + (r.val - 24) = 2816 + r.val; omega))

variable (m : (ℓ : Loc nD τ sig) → Buf (Elt Ideal) ℓ) (c : Dev nD)

/-- The normed rows, from the arguments. -/
def rowsV : FVec Ideal S8x8192x1024 .f32 := normV (m ((c.tc : Thread nD τ).loc main_arg0)) (m ((c.tc : Thread nD τ).loc main_arg1)) (m ((c.tc : Thread nD τ).loc main_arg2))

/-- The projected rows, from the arguments. -/
def colsV : FVec Ideal S8x8192x3368 .f32 := projV (rowsV m c) (m ((c.tc : Thread nD τ).loc main_arg3))

theorem v75_eq : res_main_v75 m c = chunkV (colsV m c) := rfl
theorem v81_eq : res_main_v81 m c = pairV (colsV m c) := rfl
theorem v86_eq : res_main_v86 m c = siluV (colsV m c) := rfl
theorem v90_eq : res_main_v90 m c = headsV (colsV m c) := rfl
theorem v68_eq : res_main_v68 m c = smallV (colsV m c) := rfl
theorem v98_eq : res_main_v98 m c = gatesV (colsV m c) := rfl

/-- The run's results by name. -/
theorem run_named (ρ : Dev nD → PrngReg) :
    θ_run defs (onTc (τ := τ) (main (F := Ideal))) ⟨m, fun _ => 0, ρ⟩ fun r => ∀ c : Dev nD,
      r.2.mem ((c.tc : Thread nD τ).loc main_v70) = hiddenV (rowsV m c)
      ∧ r.2.mem ((c.tc : Thread nD τ).loc main_v74) = queryV (colsV m c)
      ∧ r.2.mem ((c.tc : Thread nD τ).loc main_v75) = chunkV (colsV m c)
      ∧ r.2.mem ((c.tc : Thread nD τ).loc main_v76) = placeV (colsV m c)
      ∧ r.2.mem ((c.tc : Thread nD τ).loc main_v79) = valsV (colsV m c)
      ∧ r.2.mem ((c.tc : Thread nD τ).loc main_v81) = pairV (colsV m c)
      ∧ r.2.mem ((c.tc : Thread nD τ).loc main_v84) = vwinV (colsV m c)
      ∧ r.2.mem ((c.tc : Thread nD τ).loc main_v86) = siluV (colsV m c)
      ∧ r.2.mem ((c.tc : Thread nD τ).loc main_v90) = headsV (colsV m c)
      ∧ r.2.mem ((c.tc : Thread nD τ).loc main_v37) = vgV (colsV m c)
      ∧ r.2.mem ((c.tc : Thread nD τ).loc main_v39) = zgV (colsV m c)
      ∧ r.2.mem ((c.tc : Thread nD τ).loc main_v68) = smallV (colsV m c)
      ∧ r.2.mem ((c.tc : Thread nD τ).loc main_v98) = gatesV (colsV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h3, h4, h5, h6, h7, h8, h9, h10, h11, h12, ha⟩ := h c
    exact ⟨h0.trans rfl, h1.trans rfl, h2.trans (v75_eq m c), h3.trans rfl, h4.trans rfl, h5.trans (v81_eq m c), h6.trans rfl, h7.trans (v86_eq m c), h8.trans (v90_eq m c), h9.trans rfl, h10.trans rfl, h11.trans (v68_eq m c), h12.trans (v98_eq m c), ha⟩) (run m ρ)

end Cert.Reference3Ideal.Final
end
-- ==== Proof.InEquation.lean ====
/-
  The two input projections end with equal results.
-/
module

public import proofs.«01_k».proof.Defs
public import proofs.«01_k».proof.Proof.InKernel
public import proofs.«01_k».proof.Proof.InRef

@[expose] public section

set_option maxRecDepth 16384
set_option maxHeartbeats 2000000

noncomputable section

namespace Cert.InEquation

open Idealize.ShloMosaic Idealize.ShloMosaic.TcCoe Idealize.SL.Sem

/-- The reference runs, leaves its arguments as launched and declares no semaphore. -/
theorem frame_ri : Cert.quiescent_Reference3Ideal := fun m ρ _ =>
  (θ_run Cert.Reference3Ideal.defs _ _).mono (fun r h => ⟨fun c => (h c).2.2.2.2.2.2.2.2.2.2.2.2.2, sem_eq_zero_of_no_sems (by decide) r.2⟩)
    (Cert.Reference3Ideal.Final.run_named m ρ)

/-- The two programs' normed rows are equal. -/
theorem rows_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (b : Fin 8) (s : Fin 8192) (k : Fin 1024) : Cert.Reference3Ideal.Final.rowsV m' c (ix3 b s k) = Cert.Kernel3Ideal.Final.rows m c b s k := by
  unfold Cert.Reference3Ideal.Final.rowsV Cert.Kernel3Ideal.Final.rows
  refine (Cert.Reference3Ideal.Final.normV_apply _ _ _ b s k).trans ?_
  congr 1
  · funext j; exact congrFun h0 _
  · funext j; exact congrFun h1 _
  · funext j; exact congrFun h2 _

/-- The two programs' projected rows are equal. -/
theorem cols_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (b : Fin 8) (s : Fin 8192) : (fun j => Cert.Reference3Ideal.Final.colsV m' c (ix3 b s j) : Fin 3368 → EReal) = Cert.Kernel3Ideal.Final.cols m c b s := by
  funext j
  refine (Cert.Reference3Ideal.Final.projV_apply _ _ b s j).trans ?_
  unfold Cert.Kernel3Ideal.Final.cols Cert.Kernel3Ideal.Final.prj Cert.Kernel3Ideal.Final.wt
  refine Finset.sum_congr rfl fun k _ => ?_
  rw [rows_eq m m' c h0 h1 h2 b s k]
  exact congrArg (fun t : EReal => Cert.Kernel3Ideal.Final.rows m c b s k * t) (congrFun h3 _)

theorem eq4 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) :
    Cert.Reference3Ideal.Final.hiddenV (Cert.Reference3Ideal.Final.rowsV m' c) = Cert.Kernel3Ideal.Final.res4 m c := by
  funext i
  obtain ⟨b, s, j, rfl⟩ : ∃ (b : Fin 8) (s : Fin 8192) (j : Fin 1024), i = ix3 b s j := ⟨i 0, i 1, i 2, by funext a; fin_cases a <;> rfl⟩
  refine (Cert.Reference3Ideal.Final.hiddenV_apply _ b s j).trans ?_
  show _ = Cert.Kernel3Ideal.Final.f4 m c b s j
  unfold Cert.Kernel3Ideal.Final.f4
  rw [rows_eq m m' c h0 h1 h2 b s j]

theorem eq5 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.queryV (Cert.Reference3Ideal.Final.colsV m' c) = Cert.Kernel3Ideal.Final.res5 m c := by
  funext i
  obtain ⟨b, j, s, rfl⟩ : ∃ (b : Fin 8) (j : Fin 512) (s : Fin 8192), i = ix3 b j s := ⟨i 0, i 1, i 2, by funext a; fin_cases a <;> rfl⟩
  refine (Cert.Reference3Ideal.Final.queryV_apply _ b j s).trans ?_
  show _ = Cert.Kernel3Ideal.Final.f5 m c b j s
  unfold Cert.Kernel3Ideal.Final.f5
  rw [cols_eq m m' c h0 h1 h2 h3 b s]

theorem eq6 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.chunkV (Cert.Reference3Ideal.Final.colsV m' c) = Cert.Kernel3Ideal.Final.res6 m c := by
  funext i
  obtain ⟨b, g, n, l, rfl⟩ : ∃ (b : Fin 8) (g : Fin 2) (n : Fin 512) (l : Fin 2048), i = ix4 b g n l := ⟨i 0, i 1, i 2, i 3, by funext a; fin_cases a <;> rfl⟩
  refine (Cert.Reference3Ideal.Final.chunkV_apply _ b g n l).trans ?_
  show _ = Cert.Kernel3Ideal.Final.f6 m c b g n l
  unfold Cert.Kernel3Ideal.Final.f6
  rw [cols_eq m m' c h0 h1 h2 h3 b _]

theorem eq7 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.placeV (Cert.Reference3Ideal.Final.colsV m' c) = Cert.Kernel3Ideal.Final.res7 m c := by
  funext i
  obtain ⟨b, g, s, j, rfl⟩ : ∃ (b : Fin 8) (g : Fin 2) (s : Fin 8192) (j : Fin 128), i = ix4 b g s j := ⟨i 0, i 1, i 2, i 3, by funext a; fin_cases a <;> rfl⟩
  refine (Cert.Reference3Ideal.Final.placeV_apply _ b g s j).trans ?_
  show _ = Cert.Kernel3Ideal.Final.f7 m c b g s j
  unfold Cert.Kernel3Ideal.Final.f7
  rw [cols_eq m m' c h0 h1 h2 h3 b s]

theorem eq8 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.valsV (Cert.Reference3Ideal.Final.colsV m' c) = Cert.Kernel3Ideal.Final.res8 m c := by
  funext i
  obtain ⟨b, g, j, s, rfl⟩ : ∃ (b : Fin 8) (g : Fin 2) (j : Fin 80) (s : Fin 8192), i = ix4 b g j s := ⟨i 0, i 1, i 2, i 3, by funext a; fin_cases a <;> rfl⟩
  refine (Cert.Reference3Ideal.Final.valsV_apply _ b g j s).trans ?_
  show _ = Cert.Kernel3Ideal.Final.f8 m c b g j s
  unfold Cert.Kernel3Ideal.Final.f8
  rw [cols_eq m m' c h0 h1 h2 h3 b s]

theorem eq9 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.pairV (Cert.Reference3Ideal.Final.colsV m' c) = Cert.Kernel3Ideal.Final.res9 m c := by
  funext i
  obtain ⟨b, g, s, j, rfl⟩ : ∃ (b : Fin 8) (g : Fin 2) (s : Fin 8192) (j : Fin 128), i = ix4 b g s j := ⟨i 0, i 1, i 2, i 3, by funext a; fin_cases a <;> rfl⟩
  refine (Cert.Reference3Ideal.Final.pairV_apply _ b g s j).trans ?_
  show _ = Cert.Kernel3Ideal.Final.f9 m c b g s j
  unfold Cert.Kernel3Ideal.Final.f9
  rw [cols_eq m m' c h0 h1 h2 h3 b s]

theorem eq10 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.vwinV (Cert.Reference3Ideal.Final.colsV m' c) = Cert.Kernel3Ideal.Final.res10 m c := by
  funext i
  obtain ⟨b, g, j, s, rfl⟩ : ∃ (b : Fin 8) (g : Fin 2) (j : Fin 80) (s : Fin 8192), i = ix4 b g j s := ⟨i 0, i 1, i 2, i 3, by funext a; fin_cases a <;> rfl⟩
  refine (Cert.Reference3Ideal.Final.vwinV_apply _ b g j s).trans ?_
  show _ = Cert.Kernel3Ideal.Final.f10 m c b g j s
  unfold Cert.Kernel3Ideal.Final.f10
  rw [cols_eq m m' c h0 h1 h2 h3 b s]

theorem eq11 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.siluV (Cert.Reference3Ideal.Final.colsV m' c) = Cert.Kernel3Ideal.Final.res11 m c := by
  funext i
  obtain ⟨b, s, j, rfl⟩ : ∃ (b : Fin 8) (s : Fin 8192) (j : Fin 512), i = ix3 b s j := ⟨i 0, i 1, i 2, by funext a; fin_cases a <;> rfl⟩
  refine (Cert.Reference3Ideal.Final.siluV_apply _ b s j).trans ?_
  show _ = Cert.Kernel3Ideal.Final.f11 m c b s j
  unfold Cert.Kernel3Ideal.Final.f11
  rw [cols_eq m m' c h0 h1 h2 h3 b s]

theorem eq12 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.headsV (Cert.Reference3Ideal.Final.colsV m' c) = Cert.Kernel3Ideal.Final.res12 m c := by
  funext i
  obtain ⟨b, s, j, rfl⟩ : ∃ (b : Fin 8) (s : Fin 8192) (j : Fin 512), i = ix3 b s j := ⟨i 0, i 1, i 2, by funext a; fin_cases a <;> rfl⟩
  refine (Cert.Reference3Ideal.Final.headsV_apply _ b s j).trans ?_
  show _ = Cert.Kernel3Ideal.Final.f12 m c b s j
  unfold Cert.Kernel3Ideal.Final.f12
  rw [cols_eq m m' c h0 h1 h2 h3 b s]

theorem eq13 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.vgV (Cert.Reference3Ideal.Final.colsV m' c) = Cert.Kernel3Ideal.Final.res13 m c := by
  funext i
  obtain ⟨b, s, j, rfl⟩ : ∃ (b : Fin 8) (s : Fin 8192) (j : Fin 512), i = ix3 b s j := ⟨i 0, i 1, i 2, by funext a; fin_cases a <;> rfl⟩
  refine (Cert.Reference3Ideal.Final.vgV_apply _ b s j).trans ?_
  show _ = Cert.Kernel3Ideal.Final.f13 m c b s j
  unfold Cert.Kernel3Ideal.Final.f13
  exact congrFun (cols_eq m m' c h0 h1 h2 h3 b s) _

theorem eq14 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.zgV (Cert.Reference3Ideal.Final.colsV m' c) = Cert.Kernel3Ideal.Final.res14 m c := by
  funext i
  obtain ⟨b, s, j, rfl⟩ : ∃ (b : Fin 8) (s : Fin 8192) (j : Fin 512), i = ix3 b s j := ⟨i 0, i 1, i 2, by funext a; fin_cases a <;> rfl⟩
  refine (Cert.Reference3Ideal.Final.zgV_apply _ b s j).trans ?_
  show _ = Cert.Kernel3Ideal.Final.f14 m c b s j
  unfold Cert.Kernel3Ideal.Final.f14
  exact congrFun (cols_eq m m' c h0 h1 h2 h3 b s) _

theorem eq15 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.smallV (Cert.Reference3Ideal.Final.colsV m' c) = Cert.Kernel3Ideal.Final.res15 m c := by
  funext i
  obtain ⟨b, s, j, rfl⟩ : ∃ (b : Fin 8) (s : Fin 8192) (j : Fin 128), i = ix3 b s j := ⟨i 0, i 1, i 2, by funext a; fin_cases a <;> rfl⟩
  refine (Cert.Reference3Ideal.Final.smallV_apply _ b s j).trans ?_
  show _ = Cert.Kernel3Ideal.Final.f15 m c b s j
  unfold Cert.Kernel3Ideal.Final.f15
  rw [cols_eq m m' c h0 h1 h2 h3 b s]

theorem eq16 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Final.gatesV (Cert.Reference3Ideal.Final.colsV m' c) = Cert.Kernel3Ideal.Final.res16 m c := by
  funext i
  obtain ⟨b, j, s, rfl⟩ : ∃ (b : Fin 8) (j : Fin 32) (s : Fin 8192), i = ix3 b j s := ⟨i 0, i 1, i 2, by funext a; fin_cases a <;> rfl⟩
  refine (Cert.Reference3Ideal.Final.gatesV_apply _ b j s).trans ?_
  show _ = Cert.Kernel3Ideal.Final.f16 m c b j s
  unfold Cert.Kernel3Ideal.Final.f16
  rw [cols_eq m m' c h0 h1 h2 h3 b s]

/-- From agreeing arguments the two programs end with the same thirteen results. -/
theorem algebraic : Cert.algebraic_Kernel3Ideal_Reference3Ideal := by
  intro m g m' g' _ hag
  refine ⟨fun c => Cert.Kernel3Ideal.Final.res4 m c, fun c => Cert.Kernel3Ideal.Final.res5 m c, fun c => Cert.Kernel3Ideal.Final.res6 m c, fun c => Cert.Kernel3Ideal.Final.res7 m c, fun c => Cert.Kernel3Ideal.Final.res8 m c, fun c => Cert.Kernel3Ideal.Final.res9 m c, fun c => Cert.Kernel3Ideal.Final.res10 m c, fun c => Cert.Kernel3Ideal.Final.res11 m c, fun c => Cert.Kernel3Ideal.Final.res12 m c, fun c => Cert.Kernel3Ideal.Final.res13 m c, fun c => Cert.Kernel3Ideal.Final.res14 m c, fun c => Cert.Kernel3Ideal.Final.res15 m c, fun c => Cert.Kernel3Ideal.Final.res16 m c, ?_, ?_⟩
  · refine (θ_run _ _ _).mono (fun r h c => ?_) (Cert.Kernel3Ideal.Value.run_blocks (F := Ideal) m g)
    obtain ⟨h0, h1, h2, h3, h4, h5, h6, h7, h8, h9, h10, h11, h12, ha⟩ := h c
    exact ⟨h0.trans (Cert.Kernel3Ideal.Final.final4 m c), h1.trans (Cert.Kernel3Ideal.Final.final5 m c), h2.trans (Cert.Kernel3Ideal.Final.final6 m c), h3.trans (Cert.Kernel3Ideal.Final.final7 m c), h4.trans (Cert.Kernel3Ideal.Final.final8 m c), h5.trans (Cert.Kernel3Ideal.Final.final9 m c), h6.trans (Cert.Kernel3Ideal.Final.final10 m c), h7.trans (Cert.Kernel3Ideal.Final.final11 m c), h8.trans (Cert.Kernel3Ideal.Final.final12 m c), h9.trans (Cert.Kernel3Ideal.Final.final13 m c), h10.trans (Cert.Kernel3Ideal.Final.final14 m c), h11.trans (Cert.Kernel3Ideal.Final.final15 m c), h12.trans (Cert.Kernel3Ideal.Final.final16 m c), ha⟩
  · refine (θ_run _ _ _).mono (fun r h c => ?_) (Cert.Reference3Ideal.Final.run_named m' g')
    obtain ⟨h0, h1, h2, h3, h4, h5, h6, h7, h8, h9, h10, h11, h12, ha⟩ := h c
    obtain ⟨a0, a1, a2, a3⟩ := hag c
    refine ⟨?_, ?_, ?_, ?_, ?_, ?_, ?_, ?_, ?_, ?_, ?_, ?_, ?_, ha⟩
    · exact h0.trans (eq4 m m' c a0 a1 a2)
    · exact h1.trans (eq5 m m' c a0 a1 a2 a3)
    · exact h2.trans (eq6 m m' c a0 a1 a2 a3)
    · exact h3.trans (eq7 m m' c a0 a1 a2 a3)
    · exact h4.trans (eq8 m m' c a0 a1 a2 a3)
    · exact h5.trans (eq9 m m' c a0 a1 a2 a3)
    · exact h6.trans (eq10 m m' c a0 a1 a2 a3)
    · exact h7.trans (eq11 m m' c a0 a1 a2 a3)
    · exact h8.trans (eq12 m m' c a0 a1 a2 a3)
    · exact h9.trans (eq13 m m' c a0 a1 a2 a3)
    · exact h10.trans (eq14 m m' c a0 a1 a2 a3)
    · exact h11.trans (eq15 m m' c a0 a1 a2 a3)
    · exact h12.trans (eq16 m m' c a0 a1 a2 a3)

end Cert.InEquation
end
-- ==== Proof.CmpSpec.lean ====
/-
  The compression of blocks of 32 tokens over the extended reals: a block's 2048 numbers plus their positions through two
  products with a gelu between them; and the same first product as the sum of two halves, whose weights stand among zeros,
  with the positions' product apart.
-/
module

public import Idealize.ShloMosaic.Lib.Pointwise

@[expose] public section

noncomputable section

namespace Cert.CmpSpec

open Idealize.ShloMosaic

/-- The gelu by its hyperbolic tangent. -/
def gelu (z : EReal) : EReal :=
  z * (Ideal.ofBits .f32 1056964608#32 * (1 + Ideal.tanh (Ideal.ofBits .f32 1061962282#32 * (z + Ideal.ofBits .f32 1027024659#32 * (z * z * z)))))

/-- A block's numbers, the positions and the weights. -/
structure Blk where
  x : Fin 2048 → EReal
  p : Fin 2048 → EReal
  w : Fin 2048 → Fin 256 → EReal
  b : Fin 256 → EReal
  v : Fin 256 → Fin 64 → EReal

variable (k : Blk)

/-- The hidden numbers before the gelu. -/
def pre (h : Fin 256) : EReal := ∑ i, (k.x i + k.p i) * k.w i h + k.b h

/-- The compressed token. -/
def out (j : Fin 64) : EReal := ∑ h, gelu (pre k h) * k.v h j

/-- Number `i` of a half block among the 128 lanes of each token, those of the first or of the last 64 lanes. -/
def lane (o : Nat) (ho : o = 0 ∨ o = 64) (i : Fin 1024) : Fin 2048 := ⟨i.val / 64 * 128 + o + i.val % 64, by omega⟩

/-- A sum over all lanes of what is zero outside one half of each token's lanes. -/
theorem sum_lane (o : Nat) (ho : o = 0 ∨ o = 64) (g : Fin 2048 → EReal) (hz : ∀ l : Fin 2048, ¬ (o ≤ l.val % 128 ∧ l.val % 128 < o + 64) → g l = 0) :
    ∑ l, g l = ∑ i, g (lane o ho i) := by
  symm
  refine Finset.sum_of_injOn (lane o ho) ?_ (fun _ _ => Finset.mem_coe.2 (Finset.mem_univ _)) ?_ (fun _ _ => rfl)
  · intro a _ b _ h
    have h' : a.val / 64 * 128 + o + a.val % 64 = b.val / 64 * 128 + o + b.val % 64 := congrArg Fin.val h
    exact Fin.ext (by omega)
  · intro l _ hl
    refine hz l fun hh => hl ?_
    refine ⟨⟨l.val / 128 * 64 + (l.val % 128 - o), by have := l.isLt; omega⟩, Finset.mem_coe.2 (Finset.mem_univ _), Fin.ext ?_⟩
    show (l.val / 128 * 64 + (l.val % 128 - o)) / 64 * 128 + o + (l.val / 128 * 64 + (l.val % 128 - o)) % 64 = l.val
    have := l.isLt
    omega

/-- A real weight distributes over a number and a real position. -/
theorem add_mul_real (x p w : EReal) (hp : p ≠ ⊤ ∧ p ≠ ⊥) (hw : w ≠ ⊤ ∧ w ≠ ⊥) : (x + p) * w = x * w + p * w := by
  lift p to ℝ using hp
  lift w to ℝ using hw
  induction x with
  | coe x => rw [← EReal.coe_add, ← EReal.coe_mul, ← EReal.coe_mul, ← EReal.coe_mul, ← EReal.coe_add, add_mul]
  | top =>
    rw [EReal.top_add_coe]
    rcases lt_trichotomy w 0 with h | h | h
    · rw [EReal.top_mul_coe_of_neg h, ← EReal.coe_mul, EReal.bot_add]
    · subst h; simp
    · rw [EReal.top_mul_coe_of_pos h, ← EReal.coe_mul, EReal.top_add_coe]
  | bot =>
    rw [EReal.bot_add]
    rcases lt_trichotomy w 0 with h | h | h
    · rw [EReal.bot_mul_coe_of_neg h, ← EReal.coe_mul, EReal.top_add_coe]
    · subst h; simp
    · rw [EReal.bot_mul_coe_of_pos h, ← EReal.coe_mul, EReal.bot_add]

/-- The first product as the padded weights give it: this chunk's tokens, the next chunk's tokens, and the positions. -/
theorem pre_of_lanes (o : Nat) (ho : o = 0 ∨ o = 64) (X Y P Q U W : Fin 2048 → EReal) (h : Fin 256)
    (hU : ∀ l : Fin 2048, ¬ (o ≤ l.val % 128 ∧ l.val % 128 < o + 64) → U l = 0) (hW : ∀ l : Fin 2048, ¬ (o ≤ l.val % 128 ∧ l.val % 128 < o + 64) → W l = 0)
    (hx : ∀ i : Fin 1024, k.x ⟨i.val, by omega⟩ = X (lane o ho i)) (hy : ∀ i : Fin 1024, k.x ⟨1024 + i.val, by omega⟩ = Y (lane o ho i))
    (hp : ∀ i : Fin 1024, k.p ⟨i.val, by omega⟩ = P (lane o ho i)) (hq : ∀ i : Fin 1024, k.p ⟨1024 + i.val, by omega⟩ = Q (lane o ho i))
    (hu : ∀ i : Fin 1024, k.w ⟨i.val, by omega⟩ h = U (lane o ho i)) (hw : ∀ i : Fin 1024, k.w ⟨1024 + i.val, by omega⟩ h = W (lane o ho i))
    (rp : ∀ i, k.p i ≠ ⊤ ∧ k.p i ≠ ⊥) (rw' : ∀ i, k.w i h ≠ ⊤ ∧ k.w i h ≠ ⊥) :
    ∑ l, X l * U l + ∑ l, Y l * W l + (∑ l, P l * U l + ∑ l, Q l * W l) + k.b h = pre k h := by
  have z : ∀ (A B : Fin 2048 → EReal), (∀ l : Fin 2048, ¬ (o ≤ l.val % 128 ∧ l.val % 128 < o + 64) → B l = 0) →
      ∑ l, A l * B l = ∑ i, A (lane o ho i) * B (lane o ho i) := fun A B hB =>
    sum_lane o ho (fun l => A l * B l) fun l hl => by rw [hB l hl, mul_zero]
  rw [z X U hU, z Y W hW, z P U hU, z Q W hW]
  unfold pre
  have s : ∑ i, (k.x i + k.p i) * k.w i h =
      ∑ i : Fin 1024, (k.x ⟨i.val, by omega⟩ + k.p ⟨i.val, by omega⟩) * k.w ⟨i.val, by omega⟩ h +
        ∑ i : Fin 1024, (k.x ⟨1024 + i.val, by omega⟩ + k.p ⟨1024 + i.val, by omega⟩) * k.w ⟨1024 + i.val, by omega⟩ h :=
    Fin.sum_univ_add (a := 1024) (b := 1024) fun i => (k.x i + k.p i) * k.w i h
  rw [s]
  have d : ∀ i, (k.x i + k.p i) * k.w i h = k.x i * k.w i h + k.p i * k.w i h := fun i => add_mul_real _ _ _ (rp i) (rw' i)
  simp only [d, Finset.sum_add_distrib]
  simp only [hx, hy, hp, hq, hu, hw]
  rw [add_add_add_comm]

/-- A sum over 512 hidden numbers of which the last half has no weight. -/
theorem sum_low (g v : Fin 512 → EReal) (hv : ∀ h : Fin 256, v ⟨256 + h.val, by omega⟩ = 0) :
    ∑ h, g h * v h = ∑ h : Fin 256, g ⟨h.val, by omega⟩ * v ⟨h.val, by omega⟩ := by
  have s : ∑ h, g h * v h = ∑ h : Fin 256, g ⟨h.val, by omega⟩ * v ⟨h.val, by omega⟩ + ∑ h : Fin 256, g ⟨256 + h.val, by omega⟩ * v ⟨256 + h.val, by omega⟩ :=
    Fin.sum_univ_add (a := 256) (b := 256) fun h => g h * v h
  rw [s, Finset.sum_eq_zero (s := Finset.univ) (f := fun h : Fin 256 => g ⟨256 + h.val, by omega⟩ * v ⟨256 + h.val, by omega⟩) fun h _ => by rw [hv h, mul_zero], add_zero]

/-- A sum over 512 hidden numbers of which the first half has no weight. -/
theorem sum_high (g v : Fin 512 → EReal) (hv : ∀ h : Fin 256, v ⟨h.val, by omega⟩ = 0) :
    ∑ h, g h * v h = ∑ h : Fin 256, g ⟨256 + h.val, by omega⟩ * v ⟨256 + h.val, by omega⟩ := by
  have s : ∑ h, g h * v h = ∑ h : Fin 256, g ⟨h.val, by omega⟩ * v ⟨h.val, by omega⟩ + ∑ h : Fin 256, g ⟨256 + h.val, by omega⟩ * v ⟨256 + h.val, by omega⟩ :=
    Fin.sum_univ_add (a := 256) (b := 256) fun h => g h * v h
  rw [s, Finset.sum_eq_zero (s := Finset.univ) (f := fun h : Fin 256 => g ⟨h.val, by omega⟩ * v ⟨h.val, by omega⟩) fun h _ => by rw [hv h, mul_zero], zero_add]

end Cert.CmpSpec
end
-- ==== Proof.CmpBlock.lean ====
/-
  What one grid point of the compression computes, at an index.
-/
module

public import proofs.«01_k».proof.Proof.Gen.Kernel4Ideal.Value
public import proofs.«01_k».proof.Proof.CmpSpec
public import Idealize.ShloMosaic.Lib.Pointwise
public import Idealize.ShloMosaic.Lib.StableHlo.ReadAt
public import Idealize.ShloMosaic.Lib.Routing.OpsSet
public import Idealize.ShloMosaic.Lib.Routing.OpsPair
public import Idealize.ShloMosaic.Lib.Pipeline.ValueKit
public import Idealize.ShloMosaic.Lib.Pipeline.ValueKit.Point
public import Idealize.ShloMosaic.Lib.Tactic

@[expose] public section

set_option maxRecDepth 16384

noncomputable section

namespace Cert.Kernel4Ideal.Block

open Cert.Kernel4Ideal Cert.Kernel4Ideal.Gen Idealize.ShloMosaic Idealize.ShloMosaic.TcCoe Idealize.SL.Sem
open Cert.CmpSpec

variable (v0 : Vec Ideal S1x1x512x2048 .bf16) (v2 v5 v10 v15 : Vec Ideal S2048x512 .bf16) (v8 v13 : Vec Ideal S8x2048 .bf16) (v24 : Vec Ideal S1x512 .f32) (v42 : Vec Ideal S512x128 .bf16)

/-- The chunk after a chunk, the first after the last. -/
def next (n : Fin 512) : Fin 512 := ⟨(n.val + 1) % 512, by omega⟩

theorem pay4_apply (n C : Fin 512) : k0_pay4 v0 v2 v5 v8 v10 v13 v15 v24 (ix2 n C) =
    ∑ l : Fin 2048, v0 (ix4 0 0 n l) * v2 (ix2 l C) + ∑ l : Fin 2048, v0 (ix4 0 0 (next n) l) * v5 (ix2 l C) +
      (∑ l : Fin 2048, v8 (ix2 0 l) * v10 (ix2 l C) + ∑ l : Fin 2048, v13 (ix2 0 l) * v15 (ix2 l C)) + v24 (ix2 0 C) := by
  have e : next n = ⟨(n.val + 512 - 511) % 512, by omega⟩ := Fin.ext (by show (n.val + 1) % 512 = (n.val + 512 - 511) % 512; omega)
  rw [e]
  pointwise [k0_pay4]

theorem pay2_apply (y z : FVec Ideal S512x512 .f32) (n : Fin 512) (J : Fin 128) : k0_pay2 y z (Scalar.ofBits .f32 0x3F4C422A#32) v42 (ix4 0 0 n J) =
    ∑ h : Fin 512, y (ix2 n h) * (Ideal.ofBits .f32 1056964608#32 * (1 + Ideal.tanh (Ideal.ofBits .f32 1061962282#32 * z (ix2 n h)))) * v42 (ix2 h J) := by
  pointwise [k0_pay2, k0_pay1]

theorem pay3_apply (y z : FVec Ideal S512x512 .f32) (n : Fin 512) (J : Fin 128) : k0_pay3 y z (Scalar.ofBits .f32 0x3F4C422A#32) v42 (ix4 0 0 J n) =
    ∑ h : Fin 512, y (ix2 n h) * (Ideal.ofBits .f32 1056964608#32 * (1 + Ideal.tanh (Ideal.ofBits .f32 1061962282#32 * z (ix2 n h)))) * v42 (ix2 h J) := by
  pointwise [k0_pay3, k0_pay1]

theorem pay5_apply (n C : Fin 512) : k0_pay5 v0 v2 v5 v8 v10 v13 v15 v24 (ix2 n C) =
    k0_pay4 v0 v2 v5 v8 v10 v13 v15 v24 (ix2 n C) + Ideal.ofBits .f32 1027024659#32 *
      (k0_pay4 v0 v2 v5 v8 v10 v13 v15 v24 (ix2 n C) * k0_pay4 v0 v2 v5 v8 v10 v13 v15 v24 (ix2 n C) * k0_pay4 v0 v2 v5 v8 v10 v13 v15 v24 (ix2 n C)) := by
  pointwise [k0_pay5]

end Cert.Kernel4Ideal.Block
end
-- ==== Proof.CmpWeight.lean ====
/-
  The compression's padded weights, biases and positions as the launched program lays them out.
-/
module

public import proofs.«01_k».proof.Proof.CmpBlock

@[expose] public section

set_option maxRecDepth 65536
set_option maxHeartbeats 2000000

noncomputable section

namespace Cert.Kernel4Ideal.Final

open Cert.Kernel4Ideal Cert.Kernel4Ideal.Gen Idealize.ShloMosaic Idealize.ShloMosaic.TcCoe Idealize.SL.Sem
open Cert.CmpSpec

variable (m : (ℓ : Loc nD τ sig) → Buf (Elt Ideal) ℓ) (c : Dev nD)

/-- The positions, weights and biases as launched. -/
def pos (i : Fin 32) (d : Fin 64) : EReal := m ((c : Thread nD τ).loc main_arg1) (ix3 0 i d)
def wk1 (i : Fin 2048) (h : Fin 256) : EReal := m ((c : Thread nD τ).loc main_arg2) (ix3 0 i h)
def bk1 (h : Fin 256) : EReal := m ((c : Thread nD τ).loc main_arg3) (ix2 0 h)
def wk2 (h : Fin 256) (j : Fin 64) : EReal := m ((c : Thread nD τ).loc main_arg4) (ix3 0 h j)
def wv1 (i : Fin 2048) (h : Fin 256) : EReal := m ((c : Thread nD τ).loc main_arg5) (ix3 0 i h)
def bv1 (h : Fin 256) : EReal := m ((c : Thread nD τ).loc main_arg6) (ix2 0 h)
def wv2 (h : Fin 256) (j : Fin 64) : EReal := m ((c : Thread nD τ).loc main_arg7) (ix3 0 h j)

theorem pos_at (a b : Fin 32) (d e : Fin 64) (h : a.val = b.val) (h' : d.val = e.val) : pos m c a d = pos m c b e := by
  rw [Fin.ext h, Fin.ext h']
theorem wk1_at (a b : Fin 2048) (d e : Fin 256) (h : a.val = b.val) (h' : d.val = e.val) : wk1 m c a d = wk1 m c b e := by
  rw [Fin.ext h, Fin.ext h']
theorem wv1_at (a b : Fin 2048) (d e : Fin 256) (h : a.val = b.val) (h' : d.val = e.val) : wv1 m c a d = wv1 m c b e := by
  rw [Fin.ext h, Fin.ext h']
theorem wv2_at (a b : Fin 256) (d e : Fin 64) (h : a.val = b.val) (h' : d.val = e.val) : wv2 m c a d = wv2 m c b e := by
  rw [Fin.ext h, Fin.ext h']

theorem p15 (a : Fin 16) (d : Fin 64) : (StableHlo.upto hostOps0 (fun b => m (c, b)) 18 (Proc.tc.devRef main_v15) (ix2 a d) : EReal) = pos m c ⟨a.val, by omega⟩ d := by
  after_reads_at
  rfl

theorem p20 (a : Fin 16) (d : Fin 64) : (StableHlo.upto hostOps0 (fun b => m (c, b)) 23 (Proc.tc.devRef main_v20) (ix2 a d) : EReal) = pos m c ⟨16 + a.val, by omega⟩ d := by
  after_reads_at
  rfl

theorem p28 (a : Fin 16) (d : Fin 64) (C : Fin 512) : (StableHlo.upto hostOps0 (fun b => m (c, b)) 33 (Proc.tc.devRef main_v28) (ix3 a d C) : EReal) = if h : C.val < 256 then wk1 m c ⟨(a.val * 64 + d.val), by omega⟩ ⟨C.val, h⟩ else 0 := by
  after_reads_at
  rfl

theorem p30 (a : Fin 16) (d : Fin 64) (C : Fin 512) : (StableHlo.upto hostOps0 (fun b => m (c, b)) 33 (Proc.tc.devRef main_v30) (ix3 a d C) : EReal) = if h : C.val < 256 then 0 else wv1 m c ⟨(a.val * 64 + d.val), by omega⟩ ⟨C.val - 256, by omega⟩ := by
  after_reads_at
  rfl

theorem p37 (a : Fin 16) (d : Fin 64) (C : Fin 512) : (StableHlo.upto hostOps0 (fun b => m (c, b)) 42 (Proc.tc.devRef main_v37) (ix3 a d C) : EReal) = if h : C.val < 256 then wk1 m c ⟨1024 + (a.val * 64 + d.val), by omega⟩ ⟨C.val, h⟩ else 0 := by
  after_reads_at
  rfl

theorem p39 (a : Fin 16) (d : Fin 64) (C : Fin 512) : (StableHlo.upto hostOps0 (fun b => m (c, b)) 42 (Proc.tc.devRef main_v39) (ix3 a d C) : EReal) = if h : C.val < 256 then 0 else wv1 m c ⟨1024 + (a.val * 64 + d.val), by omega⟩ ⟨C.val - 256, by omega⟩ := by
  after_reads_at
  rfl

theorem p9 (a : Fin 256) (d : Fin 128) : (StableHlo.upto hostOps0 (fun b => m (c, b)) 13 (Proc.tc.devRef main_v9) (ix2 a d) : EReal) = if h : d.val < 64 then wk2 m c a ⟨d.val, h⟩ else 0 := by
  after_reads_at
  rfl

theorem p10 (a : Fin 256) (d : Fin 128) : (StableHlo.upto hostOps0 (fun b => m (c, b)) 13 (Proc.tc.devRef main_v10) (ix2 a d) : EReal) = if h : d.val < 64 then 0 else wv2 m c a ⟨d.val - 64, by omega⟩ := by
  after_reads_at
  rfl

theorem p2 (a : Fin 256) : (StableHlo.upto hostOps0 (fun b => m (c, b)) 15 (Proc.tc.devRef main_v2) (ix1 a) : EReal) = bk1 m c a := by
  after_reads_at
  rfl

theorem p5 (a : Fin 256) : (StableHlo.upto hostOps0 (fun b => m (c, b)) 15 (Proc.tc.devRef main_v5) (ix1 a) : EReal) = bv1 m c a := by
  after_reads_at
  rfl

theorem v19_at (l : Fin 2048) : (V m c main_v19 (ix2 0 l) : EReal) = pos m c ⟨l.val / 128, by omega⟩ ⟨l.val % 64, by omega⟩ := by
  unfold V
  after_reads_at
  by_cases h : l.val % 128 < 64
  · rw [dif_pos h]
    exact (p15 m c _ _).trans (pos_at m c _ _ _ _ rfl (show l.val % 128 = l.val % 64 by omega))
  · rw [dif_neg h]
    exact (p15 m c _ _).trans (pos_at m c _ _ _ _ rfl (show l.val % 128 - 64 = l.val % 64 by omega))

theorem v24_at (l : Fin 2048) : (V m c main_v24 (ix2 0 l) : EReal) = pos m c ⟨16 + l.val / 128, by omega⟩ ⟨l.val % 64, by omega⟩ := by
  unfold V
  after_reads_at
  by_cases h : l.val % 128 < 64
  · rw [dif_pos h]
    exact (p20 m c _ _).trans (pos_at m c _ _ _ _ rfl (show l.val % 128 = l.val % 64 by omega))
  · rw [dif_neg h]
    exact (p20 m c _ _).trans (pos_at m c _ _ _ _ rfl (show l.val % 128 - 64 = l.val % 64 by omega))

theorem v33_lo (l : Fin 2048) (h : Fin 256) : (V m c main_v33 (ix2 l ⟨h.val, by omega⟩) : EReal) = if l.val % 128 < 64 then wk1 m c ⟨(l.val / 128 * 64 + l.val % 64), by omega⟩ h else 0 := by
  unfold V
  after_reads_at
  by_cases q : l.val % 128 < 64
  · rw [dif_pos q, if_pos q]
    refine (p28 m c _ _ _).trans ?_
    rw [dif_pos (show h.val < 256 from h.isLt)]
    exact wk1_at m c _ _ _ _ (show (l.val / 128 * 64 + l.val % 128) = (l.val / 128 * 64 + l.val % 64) by omega) rfl
  · rw [dif_neg q, if_neg q]
    refine (p30 m c _ _ _).trans ?_
    rw [dif_pos (show h.val < 256 from h.isLt)]

theorem v33_hi (l : Fin 2048) (h : Fin 256) : (V m c main_v33 (ix2 l ⟨256 + h.val, by omega⟩) : EReal) = if l.val % 128 < 64 then 0 else wv1 m c ⟨(l.val / 128 * 64 + l.val % 64), by omega⟩ h := by
  unfold V
  after_reads_at
  by_cases q : l.val % 128 < 64
  · rw [dif_pos q, if_pos q]
    refine (p28 m c _ _ _).trans ?_
    rw [dif_neg (show ¬ 256 + h.val < 256 by omega)]
  · rw [dif_neg q, if_neg q]
    refine (p30 m c _ _ _).trans ?_
    rw [dif_neg (show ¬ 256 + h.val < 256 by omega)]
    exact wv1_at m c _ _ _ _ (show (l.val / 128 * 64 + (l.val % 128 - 64)) = (l.val / 128 * 64 + l.val % 64) by omega) (show 256 + h.val - 256 = h.val by omega)

theorem v42_lo (l : Fin 2048) (h : Fin 256) : (V m c main_v42 (ix2 l ⟨h.val, by omega⟩) : EReal) = if l.val % 128 < 64 then wk1 m c ⟨1024 + (l.val / 128 * 64 + l.val % 64), by omega⟩ h else 0 := by
  unfold V
  after_reads_at
  by_cases q : l.val % 128 < 64
  · rw [dif_pos q, if_pos q]
    refine (p37 m c _ _ _).trans ?_
    rw [dif_pos (show h.val < 256 from h.isLt)]
    exact wk1_at m c _ _ _ _ (show 1024 + (l.val / 128 * 64 + l.val % 128) = 1024 + (l.val / 128 * 64 + l.val % 64) by omega) rfl
  · rw [dif_neg q, if_neg q]
    refine (p39 m c _ _ _).trans ?_
    rw [dif_pos (show h.val < 256 from h.isLt)]

theorem v42_hi (l : Fin 2048) (h : Fin 256) : (V m c main_v42 (ix2 l ⟨256 + h.val, by omega⟩) : EReal) = if l.val % 128 < 64 then 0 else wv1 m c ⟨1024 + (l.val / 128 * 64 + l.val % 64), by omega⟩ h := by
  unfold V
  after_reads_at
  by_cases q : l.val % 128 < 64
  · rw [dif_pos q, if_pos q]
    refine (p37 m c _ _ _).trans ?_
    rw [dif_neg (show ¬ 256 + h.val < 256 by omega)]
  · rw [dif_neg q, if_neg q]
    refine (p39 m c _ _ _).trans ?_
    rw [dif_neg (show ¬ 256 + h.val < 256 by omega)]
    exact wv1_at m c _ _ _ _ (show 1024 + (l.val / 128 * 64 + (l.val % 128 - 64)) = 1024 + (l.val / 128 * 64 + l.val % 64) by omega) (show 256 + h.val - 256 = h.val by omega)

theorem v14_lo (h : Fin 256) : (V m c main_v14 (ix2 0 ⟨h.val, by omega⟩) : EReal) = bk1 m c h := by
  unfold V
  after_reads_at
  exact p2 m c h

theorem v14_hi (h : Fin 256) : (V m c main_v14 (ix2 0 ⟨256 + h.val, by omega⟩) : EReal) = bv1 m c h := by
  unfold V
  after_reads_at
  exact p5 m c h

theorem v12_lo (h : Fin 256) (J : Fin 128) : (V m c main_v12 (ix2 ⟨h.val, by omega⟩ J) : EReal) = if q : J.val < 64 then wk2 m c h ⟨J.val, q⟩ else 0 := by
  unfold V
  after_reads_at
  exact p9 m c h J

theorem v12_hi (h : Fin 256) (J : Fin 128) : (V m c main_v12 (ix2 ⟨256 + h.val, by omega⟩ J) : EReal) = if q : J.val < 64 then 0 else wv2 m c h ⟨J.val - 64, by omega⟩ := by
  unfold V
  after_reads_at
  exact p10 m c h J

end Cert.Kernel4Ideal.Final
end
-- ==== Proof.CmpKernel.lean ====
/-
  The compression's results after the run: each grid point writes the compressed tokens of one batch row and one group, as
  rows and as columns, and the blocks cover the arrays.
-/
module

public import proofs.«01_k».proof.Proof.CmpWeight

@[expose] public section

set_option maxRecDepth 16384
set_option maxHeartbeats 1000000

noncomputable section

namespace Cert.Kernel4Ideal.Final

open Cert.Kernel4Ideal Cert.Kernel4Ideal.Gen Idealize.ShloMosaic Idealize.ShloMosaic.TcCoe Idealize.SL.Sem
open Cert.CmpSpec Cert.Kernel4Ideal.Block

variable (m : (ℓ : Loc nD τ sig) → Buf (Elt Ideal) ℓ) (c : Dev nD)

theorem idx0 : ∀ t : Fin cfg0.N, win0_0.index t 0 = t.val / 2 ∧ win0_0.index t 1 = t.val % 2 ∧ win0_0.index t 2 = 0 ∧ win0_0.index t 3 = 0 :=
  (by decide +kernel : ∀ t : Fin grid0.N, win0_0.index t 0 = t.val / 2 ∧ win0_0.index t 1 = t.val % 2 ∧ win0_0.index t 2 = 0 ∧ win0_0.index t 3 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val / 2 ∧ win0_7.index t 1 = t.val % 2 ∧ win0_7.index t 2 = 0 ∧ win0_7.index t 3 = 0 :=
  (by decide +kernel : ∀ t : Fin grid0.N, win0_7.index t 0 = t.val / 2 ∧ win0_7.index t 1 = t.val % 2 ∧ win0_7.index t 2 = 0 ∧ win0_7.index t 3 = 0)
theorem idx8 : ∀ t : Fin cfg0.N, win0_8.index t 0 = t.val / 2 ∧ win0_8.index t 1 = t.val % 2 ∧ win0_8.index t 2 = 0 ∧ win0_8.index t 3 = 0 :=
  (by decide +kernel : ∀ t : Fin grid0.N, win0_8.index t 0 = t.val / 2 ∧ win0_8.index t 1 = t.val % 2 ∧ win0_8.index t 2 = 0 ∧ win0_8.index t 3 = 0)

/-- The batch row and the group of a grid point. -/
def bOf (t : Fin cfg0.N) : Fin 8 := ⟨t.val / 2, by have := t.isLt; have : cfg0.N = 16 := N_0; omega⟩
def gOf (t : Fin cfg0.N) : Fin 2 := ⟨t.val % 2, by omega⟩

theorem blk0 (t : Fin cfg0.N) (n : Fin 512) (l : Fin 2048) :
    (iblk m c 0 t : Vec Ideal S1x1x512x2048 .bf16) (ix4 0 0 n l) = m ((c : Thread nD τ).loc main_arg0) (ix4 (bOf t) (gOf t) n l) := by
  blk_point [iblk, V, idx0 t, bOf, gOf]
theorem blk1 (t : Fin cfg0.N) (i : Fin 8) (l : Fin 2048) : (iblk m c 1 t : Vec Ideal S8x2048 .bf16) (ix2 i l) = V m c main_v19 (ix2 i l) := by
  blk_point [iblk, idx1 t]
theorem blk2 (t : Fin cfg0.N) (i : Fin 8) (l : Fin 2048) : (iblk m c 2 t : Vec Ideal S8x2048 .bf16) (ix2 i l) = V m c main_v24 (ix2 i l) := by
  blk_point [iblk, idx2 t]
theorem blk3 (t : Fin cfg0.N) (i : Fin 2048) (l : Fin 512) : (iblk m c 3 t : Vec Ideal S2048x512 .bf16) (ix2 i l) = V m c main_v33 (ix2 i l) := by
  blk_point [iblk, idx3 t]
theorem blk4 (t : Fin cfg0.N) (i : Fin 2048) (l : Fin 512) : (iblk m c 4 t : Vec Ideal S2048x512 .bf16) (ix2 i l) = V m c main_v42 (ix2 i l) := by
  blk_point [iblk, idx4 t]
theorem blk5 (t : Fin cfg0.N) (i : Fin 1) (l : Fin 512) : (iblk m c 5 t : Vec Ideal S1x512 .f32) (ix2 i l) = V m c main_v14 (ix2 i l) := by
  blk_point [iblk, idx5 t]
theorem blk6 (t : Fin cfg0.N) (i : Fin 512) (l : Fin 128) : (iblk m c 6 t : Vec Ideal S512x128 .bf16) (ix2 i l) = V m c main_v12 (ix2 i l) := by
  blk_point [iblk, idx6 t]

/-- The numbers of a block of 32 tokens, its keys (`o` zero) or its values (`o` sixty-four). -/
def tok (o : Nat) (ho : o = 0 ∨ o = 64) (b : Fin 8) (g : Fin 2) (n : Fin 512) (i : Fin 2048) : EReal :=
  m ((c : Thread nD τ).loc main_arg0) (ix4 b g (if i.val < 1024 then n else next n) (lane o ho ⟨i.val % 1024, by omega⟩))

/-- A block's keys and a block's values. -/
def keys (b : Fin 8) (g : Fin 2) (n : Fin 512) : Blk where
  x := tok m c 0 (Or.inl rfl) b g n
  p i := pos m c ⟨i.val / 64, by omega⟩ ⟨i.val % 64, by omega⟩
  w := wk1 m c
  b := bk1 m c
  v := wk2 m c
def vals (b : Fin 8) (g : Fin 2) (n : Fin 512) : Blk where
  x := tok m c 64 (Or.inr rfl) b g n
  p i := pos m c ⟨i.val / 64, by omega⟩ ⟨i.val % 64, by omega⟩
  w := wv1 m c
  b := bv1 m c
  v := wv2 m c

/-- Lane `J` of a block's compressed keys and values. -/
def col (b : Fin 8) (g : Fin 2) (n : Fin 512) (J : Fin 128) : EReal :=
  if h : J.val < 64 then out (keys m c b g n) ⟨J.val, h⟩ else out (vals m c b g n) ⟨J.val - 64, by omega⟩

/-- The two result arrays. -/
def res7 : S8x2x512x128.Idx → EReal := fun i => col m c (i 0) (i 1) (i 2) (i 3)
def res8 : S8x2x128x512.Idx → EReal := fun i => col m c (i 0) (i 1) (i 3) (i 2)

/-- The positions and the first weights are real. -/
structure Real : Prop where
  hp : ∀ i d, pos m c i d ≠ ⊤ ∧ pos m c i d ≠ ⊥
  hk : ∀ i h, wk1 m c i h ≠ ⊤ ∧ wk1 m c i h ≠ ⊥
  hv : ∀ i h, wv1 m c i h ≠ ⊤ ∧ wv1 m c i h ≠ ⊥

/-- The hidden numbers of a grid point. -/
abbrev hid (t : Fin cfg0.N) : FVec Ideal S512x512 .f32 :=
  k0_pay4 (iblk m c 0 t) (iblk m c 3 t) (iblk m c 4 t) (iblk m c 1 t) (iblk m c 3 t) (iblk m c 2 t) (iblk m c 4 t) (iblk m c 5 t)

theorem tok_lo (o : Nat) (ho : o = 0 ∨ o = 64) (b : Fin 8) (g : Fin 2) (n : Fin 512) (i : Fin 1024) :
    tok m c o ho b g n ⟨i.val, by omega⟩ = m ((c : Thread nD τ).loc main_arg0) (ix4 b g n (lane o ho i)) := by
  have e : (⟨i.val % 1024, by omega⟩ : Fin 1024) = i := Fin.ext (by show i.val % 1024 = i.val; omega)
  unfold tok
  rw [if_pos (show i.val < 1024 from i.isLt)]
  show m ((c : Thread nD τ).loc main_arg0) (ix4 b g n (lane o ho ⟨i.val % 1024, by omega⟩)) = _
  rw [e]

theorem tok_hi (o : Nat) (ho : o = 0 ∨ o = 64) (b : Fin 8) (g : Fin 2) (n : Fin 512) (i : Fin 1024) :
    tok m c o ho b g n ⟨1024 + i.val, by omega⟩ = m ((c : Thread nD τ).loc main_arg0) (ix4 b g (next n) (lane o ho i)) := by
  have e : (⟨(1024 + i.val) % 1024, by omega⟩ : Fin 1024) = i := Fin.ext (by show (1024 + i.val) % 1024 = i.val; omega)
  unfold tok
  rw [if_neg (show ¬ 1024 + i.val < 1024 by omega)]
  show m ((c : Thread nD τ).loc main_arg0) (ix4 b g (next n) (lane o ho ⟨(1024 + i.val) % 1024, by omega⟩)) = _
  rw [e]

theorem lane_val (o : Nat) (ho : o = 0 ∨ o = 64) (i : Fin 1024) : (lane o ho i).val = i.val / 64 * 128 + o + i.val % 64 := rfl

theorem hid_keys (hz : Real m c) (t : Fin cfg0.N) (n : Fin 512) (h : Fin 256) : hid m c t (ix2 n ⟨h.val, by omega⟩) = pre (keys m c (bOf t) (gOf t) n) h := by
  refine (pay4_apply _ _ _ _ _ _ _ _ n ⟨h.val, by omega⟩).trans ?_
  have hb : (iblk m c 5 t : Vec Ideal S1x512 .f32) (ix2 0 ⟨h.val, by omega⟩) = (keys m c (bOf t) (gOf t) n).b h := (blk5 m c t 0 _).trans (v14_lo m c h)
  rw [hb]
  refine pre_of_lanes (keys m c (bOf t) (gOf t) n) 0 (Or.inl rfl) (fun l => (iblk m c 0 t : Vec Ideal S1x1x512x2048 .bf16) (ix4 0 0 n l)) (fun l => (iblk m c 0 t : Vec Ideal S1x1x512x2048 .bf16) (ix4 0 0 (next n) l))
    (fun l => (iblk m c 1 t : Vec Ideal S8x2048 .bf16) (ix2 0 l)) (fun l => (iblk m c 2 t : Vec Ideal S8x2048 .bf16) (ix2 0 l))
    (fun l => (iblk m c 3 t : Vec Ideal S2048x512 .bf16) (ix2 l ⟨h.val, by omega⟩)) (fun l => (iblk m c 4 t : Vec Ideal S2048x512 .bf16) (ix2 l ⟨h.val, by omega⟩)) h ?_ ?_ ?_ ?_ ?_ ?_ ?_ ?_ ?_ ?_
  · intro l hl
    refine (blk3 m c t l _).trans ((v33_lo m c l h).trans ?_)
    rw [if_neg (show ¬ l.val % 128 < 64 by omega)]
  · intro l hl
    refine (blk4 m c t l _).trans ((v42_lo m c l h).trans ?_)
    rw [if_neg (show ¬ l.val % 128 < 64 by omega)]
  · intro i
    exact (tok_lo m c 0 (Or.inl rfl) _ _ n i).trans (blk0 m c t n _).symm
  · intro i
    exact (tok_hi m c 0 (Or.inl rfl) _ _ n i).trans (blk0 m c t (next n) _).symm
  · intro i
    refine Eq.trans ?_ ((blk1 m c t 0 _).trans (v19_at m c _)).symm
    exact pos_at m c _ _ _ _ (show i.val / 64 = (i.val / 64 * 128 + 0 + i.val % 64) / 128 by omega) (show i.val % 64 = (i.val / 64 * 128 + 0 + i.val % 64) % 64 by omega)
  · intro i
    refine Eq.trans ?_ ((blk2 m c t 0 _).trans (v24_at m c _)).symm
    exact pos_at m c _ _ _ _ (show (1024 + i.val) / 64 = 16 + (i.val / 64 * 128 + 0 + i.val % 64) / 128 by omega) (show (1024 + i.val) % 64 = (i.val / 64 * 128 + 0 + i.val % 64) % 64 by omega)
  · intro i
    refine Eq.trans ?_ ((blk3 m c t _ _).trans (v33_lo m c _ h)).symm
    rw [if_pos (show (lane 0 (Or.inl rfl) i).val % 128 < 64 by rw [lane_val]; omega)]
    exact wk1_at m c _ _ _ _ (show i.val = (i.val / 64 * 128 + 0 + i.val % 64) / 128 * 64 + (i.val / 64 * 128 + 0 + i.val % 64) % 64 by omega) rfl
  · intro i
    refine Eq.trans ?_ ((blk4 m c t _ _).trans (v42_lo m c _ h)).symm
    rw [if_pos (show (lane 0 (Or.inl rfl) i).val % 128 < 64 by rw [lane_val]; omega)]
    exact wk1_at m c _ _ _ _ (show 1024 + i.val = 1024 + ((i.val / 64 * 128 + 0 + i.val % 64) / 128 * 64 + (i.val / 64 * 128 + 0 + i.val % 64) % 64) by omega) rfl
  · intro i
    exact hz.hp _ _
  · intro i
    exact hz.hk _ _

theorem hid_vals (hz : Real m c) (t : Fin cfg0.N) (n : Fin 512) (h : Fin 256) : hid m c t (ix2 n ⟨256 + h.val, by omega⟩) = pre (vals m c (bOf t) (gOf t) n) h := by
  refine (pay4_apply _ _ _ _ _ _ _ _ n ⟨256 + h.val, by omega⟩).trans ?_
  have hb : (iblk m c 5 t : Vec Ideal S1x512 .f32) (ix2 0 ⟨256 + h.val, by omega⟩) = (vals m c (bOf t) (gOf t) n).b h := (blk5 m c t 0 _).trans (v14_hi m c h)
  rw [hb]
  refine pre_of_lanes (vals m c (bOf t) (gOf t) n) 64 (Or.inr rfl) (fun l => (iblk m c 0 t : Vec Ideal S1x1x512x2048 .bf16) (ix4 0 0 n l)) (fun l => (iblk m c 0 t : Vec Ideal S1x1x512x2048 .bf16) (ix4 0 0 (next n) l))
    (fun l => (iblk m c 1 t : Vec Ideal S8x2048 .bf16) (ix2 0 l)) (fun l => (iblk m c 2 t : Vec Ideal S8x2048 .bf16) (ix2 0 l))
    (fun l => (iblk m c 3 t : Vec Ideal S2048x512 .bf16) (ix2 l ⟨256 + h.val, by omega⟩)) (fun l => (iblk m c 4 t : Vec Ideal S2048x512 .bf16) (ix2 l ⟨256 + h.val, by omega⟩)) h ?_ ?_ ?_ ?_ ?_ ?_ ?_ ?_ ?_ ?_
  · intro l hl
    refine (blk3 m c t l _).trans ((v33_hi m c l h).trans ?_)
    rw [if_pos (show l.val % 128 < 64 by omega)]
  · intro l hl
    refine (blk4 m c t l _).trans ((v42_hi m c l h).trans ?_)
    rw [if_pos (show l.val % 128 < 64 by omega)]
  · intro i
    exact (tok_lo m c 64 (Or.inr rfl) _ _ n i).trans (blk0 m c t n _).symm
  · intro i
    exact (tok_hi m c 64 (Or.inr rfl) _ _ n i).trans (blk0 m c t (next n) _).symm
  · intro i
    refine Eq.trans ?_ ((blk1 m c t 0 _).trans (v19_at m c _)).symm
    exact pos_at m c _ _ _ _ (show i.val / 64 = (i.val / 64 * 128 + 64 + i.val % 64) / 128 by omega) (show i.val % 64 = (i.val / 64 * 128 + 64 + i.val % 64) % 64 by omega)
  · intro i
    refine Eq.trans ?_ ((blk2 m c t 0 _).trans (v24_at m c _)).symm
    exact pos_at m c _ _ _ _ (show (1024 + i.val) / 64 = 16 + (i.val / 64 * 128 + 64 + i.val % 64) / 128 by omega) (show (1024 + i.val) % 64 = (i.val / 64 * 128 + 64 + i.val % 64) % 64 by omega)
  · intro i
    refine Eq.trans ?_ ((blk3 m c t _ _).trans (v33_hi m c _ h)).symm
    rw [if_neg (show ¬ (lane 64 (Or.inr rfl) i).val % 128 < 64 by rw [lane_val]; omega)]
    exact wv1_at m c _ _ _ _ (show i.val = (i.val / 64 * 128 + 64 + i.val % 64) / 128 * 64 + (i.val / 64 * 128 + 64 + i.val % 64) % 64 by omega) rfl
  · intro i
    refine Eq.trans ?_ ((blk4 m c t _ _).trans (v42_hi m c _ h)).symm
    rw [if_neg (show ¬ (lane 64 (Or.inr rfl) i).val % 128 < 64 by rw [lane_val]; omega)]
    exact wv1_at m c _ _ _ _ (show 1024 + i.val = 1024 + ((i.val / 64 * 128 + 64 + i.val % 64) / 128 * 64 + (i.val / 64 * 128 + 64 + i.val % 64) % 64) by omega) rfl
  · intro i
    exact hz.hp _ _
  · intro i
    exact hz.hv _ _

/-- The second product over a grid point's hidden numbers. -/
theorem sum_col (hz : Real m c) (t : Fin cfg0.N) (n : Fin 512) (J : Fin 128) :
    ∑ h : Fin 512, gelu (hid m c t (ix2 n h)) * (iblk m c 6 t : Vec Ideal S512x128 .bf16) (ix2 h J) = col m c (bOf t) (gOf t) n J := by
  unfold col
  by_cases q : J.val < 64
  · rw [dif_pos q]
    refine (sum_low (fun h => gelu (hid m c t (ix2 n h))) (fun h => (iblk m c 6 t : Vec Ideal S512x128 .bf16) (ix2 h J)) fun h => ?_).trans ?_
    · refine (blk6 m c t _ J).trans ((v12_hi m c h J).trans ?_)
      rw [dif_pos q]
    · refine Finset.sum_congr rfl fun h _ => ?_
      refine congrArg₂ (fun x y : EReal => gelu x * y) (hid_keys m c hz t n h) ?_
      refine (blk6 m c t _ J).trans ((v12_lo m c h J).trans ?_)
      rw [dif_pos q]
      rfl
  · rw [dif_neg q]
    refine (sum_high (fun h => gelu (hid m c t (ix2 n h))) (fun h => (iblk m c 6 t : Vec Ideal S512x128 .bf16) (ix2 h J)) fun h => ?_).trans ?_
    · refine (blk6 m c t _ J).trans ((v12_lo m c h J).trans ?_)
      rw [dif_neg q]
    · refine Finset.sum_congr rfl fun h _ => ?_
      refine congrArg₂ (fun x y : EReal => gelu x * y) (hid_vals m c hz t n h) ?_
      refine (blk6 m c t _ J).trans ((v12_hi m c h J).trans ?_)
      rw [dif_neg q]
      rfl

/-- Offsets at the origin. -/
theorem hz2 : (![0, 0] : Fin 2 → Nat) = fun _ => 0 := funext fun a => by fin_cases a <;> rfl
theorem hz4 : (![0, 0, 0, 0] : Fin 4 → Nat) = fun _ => 0 := funext fun a => by fin_cases a <;> rfl

theorem ld_0 (X : Vec Ideal S1x1x512x2048 .bf16) : View.ld X r0_0 = X := View.ld_unit_zero (S := S1x1x512x2048) hz4 _ X
theorem ld_1 (X : Vec Ideal S2048x512 .bf16) : View.ld X r0_1 = X := View.ld_unit_zero (S := S2048x512) hz2 _ X
theorem ld_2 (X : Vec Ideal S8x2048 .bf16) : View.ld X r0_2 = X := View.ld_unit_zero (S := S8x2048) hz2 _ X
theorem ld_3 (X : Vec Ideal S1x512 .f32) : View.ld X r0_3 = X := View.ld_unit_zero (S := S1x512) hz2 _ X
theorem ld_4 (X : Vec Ideal S512x128 .bf16) : View.ld X r0_4 = X := View.ld_unit_zero (S := S512x128) hz2 _ X

theorem pay6_eq (t : Fin cfg0.N) : k0_pay6 (iblk m c 0 t) (iblk m c 1 t) (iblk m c 2 t) (iblk m c 3 t) (iblk m c 4 t) (iblk m c 5 t) (iblk m c 6 t) = hid m c t := by
  unfold k0_pay6
  rw [ld_0, ld_1, ld_1, ld_2, ld_2, ld_3]

theorem pay7_apply (t : Fin cfg0.N) (n C : Fin 512) : k0_pay7 (iblk m c 0 t) (iblk m c 1 t) (iblk m c 2 t) (iblk m c 3 t) (iblk m c 4 t) (iblk m c 5 t) (iblk m c 6 t) (ix2 n C) =
    hid m c t (ix2 n C) + Ideal.ofBits .f32 1027024659#32 * (hid m c t (ix2 n C) * hid m c t (ix2 n C) * hid m c t (ix2 n C)) := by
  unfold k0_pay7
  rw [ld_0, ld_1, ld_1, ld_2, ld_2, ld_3]
  exact pay5_apply _ _ _ _ _ _ _ _ n C

theorem out_7 (hz : Real m c) (t : Fin cfg0.N) (n : Fin 512) (J : Fin 128) :
    out0_7 (iblk m c 0 t) (iblk m c 1 t) (iblk m c 2 t) (iblk m c 3 t) (iblk m c 4 t) (iblk m c 5 t) (iblk m c 6 t) (ix4 0 0 n J) = col m c (bOf t) (gOf t) n J := by
  unfold out0_7
  rw [pay6_eq, ld_4]
  have he : (ix4 0 0 n J : S1x1x512x128.Idx) = r0_5.emb (ix4 (0 : Fin 1) (0 : Fin 1) n J : S1x1x512x128.Idx) := by
    funext a
    fin_cases a <;> refine Fin.ext ?_
    · show 0 = 0 + 1 * 0; omega
    · show 0 = 0 + 1 * 0; omega
    · show n.val = 0 + 1 * n.val; omega
    · show J.val = 0 + 1 * J.val; omega
  rw [he]
  refine (View.canon_cons_emb (Val := Elt Ideal) (e := .bf16) r0_5 _ [] (ix4 (0 : Fin 1) (0 : Fin 1) n J : S1x1x512x128.Idx)).trans ?_
  refine (pay2_apply _ _ _ n J).trans (Eq.trans ?_ (sum_col m c hz t n J))
  refine Finset.sum_congr rfl fun h _ => ?_
  rw [pay7_apply]
  rfl

theorem out_8 (hz : Real m c) (t : Fin cfg0.N) (n : Fin 512) (J : Fin 128) :
    out0_8 (iblk m c 0 t) (iblk m c 1 t) (iblk m c 2 t) (iblk m c 3 t) (iblk m c 4 t) (iblk m c 5 t) (iblk m c 6 t) (ix4 0 0 J n) = col m c (bOf t) (gOf t) n J := by
  unfold out0_8
  rw [pay6_eq, ld_4]
  have he : (ix4 0 0 J n : S1x1x128x512.Idx) = r0_6.emb (ix4 (0 : Fin 1) (0 : Fin 1) J n : S1x1x128x512.Idx) := by
    funext a
    fin_cases a <;> refine Fin.ext ?_
    · show 0 = 0 + 1 * 0; omega
    · show 0 = 0 + 1 * 0; omega
    · show J.val = 0 + 1 * J.val; omega
    · show n.val = 0 + 1 * n.val; omega
  rw [he]
  refine (View.canon_cons_emb (Val := Elt Ideal) (e := .bf16) r0_6 _ [] (ix4 (0 : Fin 1) (0 : Fin 1) J n : S1x1x128x512.Idx)).trans ?_
  refine (pay3_apply _ _ _ n J).trans (Eq.trans ?_ (sum_col m c hz t n J))
  refine Finset.sum_congr rfl fun h _ => ?_
  rw [pay7_apply]
  rfl

/-- What each grid point writes back is result 0's block. -/
theorem flushed7 (hz : Real m c) (t : Fin cfg0.N) (hf : (cfg0.win 7).flush t = true) :
    (dats m 0 c).flushed 7 t = ((cfg0.win 7).blk t).view.read (Elt Ideal) (res7 m c) := by
  have emb : ∀ (u v : Fin 1) (n : Fin 512) (J : Fin 128), ((cfg0.win 7).blk t).view.emb (ix4 u v n J) = ix4 (bOf t) (gOf t) n J := by
    intro u v n J
    obtain ⟨i0, i1, i2, i3⟩ := idx7 t
    funext a
    fin_cases a <;> refine Fin.ext ?_
    · show win0_7.index t 0 * 1 + 1 * u.val = t.val / 2
      omega
    · show win0_7.index t 1 * 1 + 1 * v.val = t.val % 2
      omega
    · show win0_7.index t 2 * 512 + 1 * n.val = n.val
      omega
    · show win0_7.index t 3 * 128 + 1 * J.val = J.val
      omega
  have key := out_7 m c hz t
  rw [Value.flushed7 m c t]
  funext y
  obtain ⟨u, v, n, J, rfl⟩ : ∃ (u v : Fin 1) (n : Fin 512) (J : Fin 128), y = ix4 u v n J := ⟨y 0, y 1, y 2, y 3, by funext a; fin_cases a <;> rfl⟩
  obtain rfl : u = 0 := Subsingleton.elim _ _
  obtain rfl : v = 0 := Subsingleton.elim _ _
  rw [View.read_apply, emb]
  exact key n J

/-- Result 0 after the run. -/
theorem final7 (hz : Real m c) : (dats m 0 c).arrAt 7 cfg0.N = res7 m c :=
  (dats m 0 c).arrAt_eq_of_cover 7 (res7 m c) (flushed7 m c hz) fun i => by
    have h0 : (i 0 : Nat) < 8 := (i 0).isLt
    have h1 : (i 1 : Nat) < 2 := (i 1).isLt
    have h2 : (i 2 : Nat) < 512 := (i 2).isLt
    have h3 : (i 3 : Nat) < 128 := (i 3).isLt
    have hN : cfg0.N = 16 := N_0
    obtain ⟨t, ht⟩ : ∃ t : Fin cfg0.N, t.val = 2 * (i 0 : Nat) + (i 1 : Nat) := ⟨⟨_, by omega⟩, rfl⟩
    obtain ⟨i0, i1, i2, i3⟩ := idx7 t
    refine ⟨t, flush0_7 t, ?_⟩
    show i ∈ ((View.whole main_v43_0).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                omega
    | ⟨1, _⟩ => show win0_7.index t 1 * 1 ≤ (i 1 : Nat) ∧ (i 1 : Nat) < win0_7.index t 1 * 1 + 1
                omega
    | ⟨2, _⟩ => show win0_7.index t 2 * 512 ≤ (i 2 : Nat) ∧ (i 2 : Nat) < win0_7.index t 2 * 512 + 512
                omega
    | ⟨3, _⟩ => show win0_7.index t 3 * 128 ≤ (i 3 : Nat) ∧ (i 3 : Nat) < win0_7.index t 3 * 128 + 128
                omega

/-- What each grid point writes back is result 1's block. -/
theorem flushed8 (hz : Real m c) (t : Fin cfg0.N) (hf : (cfg0.win 8).flush t = true) :
    (dats m 0 c).flushed 8 t = ((cfg0.win 8).blk t).view.read (Elt Ideal) (res8 m c) := by
  have emb : ∀ (u v : Fin 1) (J : Fin 128) (n : Fin 512), ((cfg0.win 8).blk t).view.emb (ix4 u v J n) = ix4 (bOf t) (gOf t) J n := by
    intro u v J n
    obtain ⟨i0, i1, i2, i3⟩ := idx8 t
    funext a
    fin_cases a <;> refine Fin.ext ?_
    · show win0_8.index t 0 * 1 + 1 * u.val = t.val / 2
      omega
    · show win0_8.index t 1 * 1 + 1 * v.val = t.val % 2
      omega
    · show win0_8.index t 2 * 128 + 1 * J.val = J.val
      omega
    · show win0_8.index t 3 * 512 + 1 * n.val = n.val
      omega
  have key := out_8 m c hz t
  rw [Value.flushed8 m c t]
  funext y
  obtain ⟨u, v, J, n, rfl⟩ : ∃ (u v : Fin 1) (J : Fin 128) (n : Fin 512), y = ix4 u v J n := ⟨y 0, y 1, y 2, y 3, by funext a; fin_cases a <;> rfl⟩
  obtain rfl : u = 0 := Subsingleton.elim _ _
  obtain rfl : v = 0 := Subsingleton.elim _ _
  rw [View.read_apply, emb]
  exact key n J

/-- Result 1 after the run. -/
theorem final8 (hz : Real m c) : (dats m 0 c).arrAt 8 cfg0.N = res8 m c :=
  (dats m 0 c).arrAt_eq_of_cover 8 (res8 m c) (flushed8 m c hz) fun i => by
    have h0 : (i 0 : Nat) < 8 := (i 0).isLt
    have h1 : (i 1 : Nat) < 2 := (i 1).isLt
    have h2 : (i 2 : Nat) < 128 := (i 2).isLt
    have h3 : (i 3 : Nat) < 512 := (i 3).isLt
    have hN : cfg0.N = 16 := N_0
    obtain ⟨t, ht⟩ : ∃ t : Fin cfg0.N, t.val = 2 * (i 0 : Nat) + (i 1 : Nat) := ⟨⟨_, by omega⟩, rfl⟩
    obtain ⟨i0, i1, i2, i3⟩ := idx8 t
    refine ⟨t, flush0_8 t, ?_⟩
    show i ∈ ((View.whole main_v43_1).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                omega
    | ⟨1, _⟩ => show win0_8.index t 1 * 1 ≤ (i 1 : Nat) ∧ (i 1 : Nat) < win0_8.index t 1 * 1 + 1
                omega
    | ⟨2, _⟩ => show win0_8.index t 2 * 128 ≤ (i 2 : Nat) ∧ (i 2 : Nat) < win0_8.index t 2 * 128 + 128
                omega
    | ⟨3, _⟩ => show win0_8.index t 3 * 512 ≤ (i 3 : Nat) ∧ (i 3 : Nat) < win0_8.index t 3 * 512 + 512
                omega

end Cert.Kernel4Ideal.Final
end
-- ==== Proof.CmpRef.lean ====
/-
  The reference's compression at an index.
-/
module

public import proofs.«01_k».proof.Proof.Gen.Reference4Ideal.Run
public import proofs.«01_k».proof.Proof.CmpSpec
public import Idealize.ShloMosaic.Lib.Pointwise
public import Idealize.ShloMosaic.Lib.StableHlo.ReadAt
public import Idealize.ShloMosaic.Lib.Tactic

@[expose] public section

set_option maxRecDepth 16384
set_option maxHeartbeats 1000000

noncomputable section

namespace Cert.Reference4Ideal.Final

open Cert.Reference4Ideal Cert.Reference4Ideal.Gen Cert.Reference4Ideal.Value Idealize.ShloMosaic Idealize.ShloMosaic.TcCoe Idealize.SL.Sem

open Cert.CmpSpec

variable {F : FTy → Type} [FloatOps F]

/-- The chunks' keys and the chunks' values. -/
def chunkK (a : FVec F S8x2x512x2048 .bf16) : FVec F S8x2x512x16x64 .f32 :=
  shapeCast S8x2x512x16x64 (extractStridedSlice S8x2x512x16x1x64 ![0, 0, 0, 0, 0, 0] (shapeCast S8x2x512x16x2x64 (extf .f32 a bitsLt_bf16_f32) shapeCasts_S8x2x512x2048_S8x2x512x16x2x64) slices_S8x2x512x16x2x64_S8x2x512x16x1x64_0_0_0_0_0_0) shapeCasts_S8x2x512x16x1x64_S8x2x512x16x64
def chunkV (a : FVec F S8x2x512x2048 .bf16) : FVec F S8x2x512x16x64 .f32 :=
  shapeCast S8x2x512x16x64 (extractStridedSlice S8x2x512x16x1x64 ![0, 0, 0, 0, 1, 0] (shapeCast S8x2x512x16x2x64 (extf .f32 a bitsLt_bf16_f32) shapeCasts_S8x2x512x2048_S8x2x512x16x2x64) slices_S8x2x512x16x2x64_S8x2x512x16x1x64_0_0_0_0_1_0) shapeCasts_S8x2x512x16x1x64_S8x2x512x16x64

/-- The chunks after. -/
def nextV (t : FVec F S8x2x512x16x64 .f32) : FVec F S8x2x512x16x64 .f32 :=
  concatenate S8x2x512x16x64 2 [⟨S8x2x511x16x64, (extractStridedSlice S8x2x511x16x64 ![0, 0, 1, 0, 0] t slices_S8x2x512x16x64_S8x2x511x16x64_0_0_1_0_0)⟩, ⟨S8x2x1x16x64, (extractStridedSlice S8x2x1x16x64 ![0, 0, 0, 0, 0] t slices_S8x2x512x16x64_S8x2x1x16x64_0_0_0_0_0)⟩] concatenates_S8x2x511x16x64_S8x2x1x16x64_S8x2x512x16x64_d2

/-- The blocks of two chunks. -/
def pairV (t u : FVec F S8x2x512x16x64 .f32) : FVec F S8x2x512x32x64 .f32 :=
  concatenate S8x2x512x32x64 3 [⟨S8x2x512x16x64, t⟩, ⟨S8x2x512x16x64, u⟩] concatenates_S8x2x512x16x64_S8x2x512x16x64_S8x2x512x32x64_d3

/-- The blocks' numbers with the positions added. -/
def flatV (t : FVec F S8x2x512x32x64 .f32) (p : FVec F S1x32x64 .f32) : FVec F S8x2x512x2048 .f32 :=
  shapeCast S8x2x512x2048 (addf t (broadcastInDim S8x2x512x32x64 ![0, 1, 2, 3, 4] bcast_S1x1x1x32x64_S8x2x512x32x64_0_1_2_3_4 (broadcastInDim S1x1x1x32x64 ![3, 4] bcast_S32x64_S1x1x1x32x64_3_4 (shapeCast S32x64 p shapeCasts_S1x32x64_S32x64)))) shapeCasts_S8x2x512x32x64_S8x2x512x2048

/-- The hidden numbers before the gelu. -/
def preV (t : FVec F S8x2x512x2048 .f32) (w : FVec F S1x2048x256 .f32) (b : FVec F S1x256 .f32) : FVec F S8x2x512x256 .f32 :=
  addf (Host.dotGeneral dot_S8x2x512x2048_S2048x256_S8x2x512x256_3_0_012_1_n_n none t (shapeCast S2048x256 w shapeCasts_S1x2048x256_S2048x256)) (broadcastInDim S8x2x512x256 ![0, 1, 2, 3] bcast_S1x1x1x256_S8x2x512x256_0_1_2_3 (broadcastInDim S1x1x1x256 ![3] bcast_S256_S1x1x1x256_3 (shapeCast S256 b shapeCasts_S1x256_S256)))

/-- The gelu. -/
def geluV (z : FVec F S8x2x512x256 .f32) : FVec F S8x2x512x256 .f32 :=
  mulf z (mulf (broadcastInDim S8x2x512x256 ![] bcast_S_S8x2x512x256 (constant S_ .f32 0x3F000000#32)) (addf (broadcastInDim S8x2x512x256 ![] bcast_S_S8x2x512x256 (constant S_ .f32 0x3F800000#32)) (Host.tanh (mulf (broadcastInDim S8x2x512x256 ![] bcast_S_S8x2x512x256 (constant S_ .f32 0x3F4C422A#32)) (addf z (mulf (broadcastInDim S8x2x512x256 ![] bcast_S_S8x2x512x256 (constant S_ .f32 0x3D372713#32)) (mulf (mulf z z) z)))))))

/-- The second product. -/
def postV (z : FVec F S8x2x512x256 .f32) (w : FVec F S1x256x64 .f32) : FVec F S8x2x512x64 .f32 :=
  Host.dotGeneral dot_S8x2x512x256_S256x64_S8x2x512x64_3_0_012_1_n_n none z (shapeCast S256x64 w shapeCasts_S1x256x64_S256x64)

/-- One half's compressed tokens. -/
def halfV (t : FVec F S8x2x512x16x64 .f32) (p : FVec F S1x32x64 .f32) (w : FVec F S1x2048x256 .f32) (b : FVec F S1x256 .f32) (v : FVec F S1x256x64 .f32) : FVec F S8x2x512x64 .f32 :=
  postV (geluV (preV (flatV (pairV t (nextV t)) p) w b)) v

/-- Both halves side by side. -/
def bothV (t u : FVec F S8x2x512x64 .f32) : FVec F S8x2x512x128 .f32 :=
  concatenate S8x2x512x128 3 [⟨S8x2x512x64, t⟩, ⟨S8x2x512x64, u⟩] concatenates_S8x2x512x64_S8x2x512x64_S8x2x512x128_d3

/-- The compressed keys and values before their change of format. -/
def resV (m : (ℓ : Loc nD τ sig) → Buf (Elt F) ℓ) (c : Dev nD) : FVec F S8x2x512x128 .f32 :=
  bothV (halfV (chunkK (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)))
    (halfV (chunkV (m ((c.tc : Thread nD τ).loc main_arg0))) (m ((c.tc : Thread nD τ).loc main_arg1)) (m ((c.tc : Thread nD τ).loc main_arg5)) (m ((c.tc : Thread nD τ).loc main_arg6)) (m ((c.tc : Thread nD τ).loc main_arg7)))

theorem res67_eq (m : (ℓ : Loc nD τ sig) → Buf (Elt F) ℓ) (c : Dev nD) : res_main_v67 m c = truncf .bf16 (resV m c) bitsLt_bf16_f32 := rfl
theorem res69_eq (m : (ℓ : Loc nD τ sig) → Buf (Elt F) ℓ) (c : Dev nD) :
    res_main_v69 m c = truncf .bf16 (transpose S8x2x128x512 [0, 1, 3, 2] (resV m c) transposes_S8x2x512x128_S8x2x128x512_0_1_3_2) bitsLt_bf16_f32 := rfl

/-- The chunk after a chunk, the first after the last. -/
def next (n : Fin 512) : Fin 512 := ⟨(n.val + 1) % 512, by omega⟩

theorem chunkK_apply (a : FVec Ideal S8x2x512x2048 .bf16) (b : Fin 8) (g : Fin 2) (n : Fin 512) (r : Fin 16) (d : Fin 64) :
    chunkK a (ix5 b g n r d) = a (ix4 b g n ⟨r.val * 128 + 0 + d.val, by omega⟩) := by
  pointwise [chunkK]
theorem chunkV_apply (a : FVec Ideal S8x2x512x2048 .bf16) (b : Fin 8) (g : Fin 2) (n : Fin 512) (r : Fin 16) (d : Fin 64) :
    chunkV a (ix5 b g n r d) = a (ix4 b g n ⟨r.val * 128 + 64 + d.val, by omega⟩) := by
  pointwise [chunkV]

theorem nextV_apply (t : FVec Ideal S8x2x512x16x64 .f32) (b : Fin 8) (g : Fin 2) (n : Fin 512) (r : Fin 16) (d : Fin 64) :
    nextV t (ix5 b g n r d) = t (ix5 b g (next n) r d) := by
  pointwise [nextV]
  by_cases h : n.val < 511
  · rw [dif_pos h]
    exact congrArg (fun k : Fin 512 => t (ix5 b g k r d)) (Fin.ext (show 1 + n.val = (n.val + 1) % 512 by omega))
  · rw [dif_neg h]
    exact congrArg (fun k : Fin 512 => t (ix5 b g k r d)) (Fin.ext (show n.val - 511 = (n.val + 1) % 512 by omega))

theorem pairV_apply (t u : FVec Ideal S8x2x512x16x64 .f32) (b : Fin 8) (g : Fin 2) (n : Fin 512) (r : Fin 32) (d : Fin 64) :
    pairV t u (ix5 b g n r d) = if h : r.val < 16 then t (ix5 b g n ⟨r.val, h⟩ d) else u (ix5 b g n ⟨r.val - 16, by omega⟩ d) := by
  pointwise [pairV]

theorem flatV_apply (t : FVec Ideal S8x2x512x32x64 .f32) (p : FVec Ideal S1x32x64 .f32) (b : Fin 8) (g : Fin 2) (n : Fin 512) (i : Fin 2048) :
    flatV t p (ix4 b g n i) = t (ix5 b g n ⟨i.val / 64, by omega⟩ ⟨i.val % 64, by omega⟩) + p (ix3 0 ⟨i.val / 64, by omega⟩ ⟨i.val % 64, by omega⟩) := by
  pointwise [flatV]

theorem preV_apply (t : FVec Ideal S8x2x512x2048 .f32) (w : FVec Ideal S1x2048x256 .f32) (b' : FVec Ideal S1x256 .f32) (b : Fin 8) (g : Fin 2) (n : Fin 512) (h : Fin 256) :
    preV t w b' (ix4 b g n h) = ∑ i : Fin 2048, t (ix4 b g n i) * w (ix3 0 i h) + b' (ix2 0 h) := by
  pointwise [preV]

theorem geluV_apply (z : FVec Ideal S8x2x512x256 .f32) (b : Fin 8) (g : Fin 2) (n : Fin 512) (h : Fin 256) :
    geluV z (ix4 b g n h) = gelu (z (ix4 b g n h)) := by
  pointwise [geluV, gelu]

theorem postV_apply (z : FVec Ideal S8x2x512x256 .f32) (w : FVec Ideal S1x256x64 .f32) (b : Fin 8) (g : Fin 2) (n : Fin 512) (j : Fin 64) :
    postV z w (ix4 b g n j) = ∑ h : Fin 256, z (ix4 b g n h) * w (ix3 0 h j) := by
  pointwise [postV]

theorem bothV_apply (t u : FVec Ideal S8x2x512x64 .f32) (b : Fin 8) (g : Fin 2) (n : Fin 512) (J : Fin 128) :
    bothV t u (ix4 b g n J) = if h : J.val < 64 then t (ix4 b g n ⟨J.val, h⟩) else u (ix4 b g n ⟨J.val - 64, by omega⟩) := by
  pointwise [bothV]

variable (m : (ℓ : Loc nD τ sig) → Buf (Elt Ideal) ℓ) (c : Dev nD)

/-- The numbers of a block of 32 tokens, its keys (`o` zero) or its values (`o` sixty-four). -/
def tok (o : Nat) (ho : o = 0 ∨ o = 64) (b : Fin 8) (g : Fin 2) (n : Fin 512) (i : Fin 2048) : EReal :=
  m ((c.tc : Thread nD τ).loc main_arg0) (ix4 b g (if i.val < 1024 then n else next n) (lane o ho ⟨i.val % 1024, by omega⟩))

/-- A block's keys and a block's values. -/
def keys (b : Fin 8) (g : Fin 2) (n : Fin 512) : Blk where
  x := tok m c 0 (Or.inl rfl) b g n
  p i := m ((c.tc : Thread nD τ).loc main_arg1) (ix3 0 ⟨i.val / 64, by omega⟩ ⟨i.val % 64, by omega⟩)
  w i h := m ((c.tc : Thread nD τ).loc main_arg2) (ix3 0 i h)
  b h := m ((c.tc : Thread nD τ).loc main_arg3) (ix2 0 h)
  v h j := m ((c.tc : Thread nD τ).loc main_arg4) (ix3 0 h j)
def vals (b : Fin 8) (g : Fin 2) (n : Fin 512) : Blk where
  x := tok m c 64 (Or.inr rfl) b g n
  p i := m ((c.tc : Thread nD τ).loc main_arg1) (ix3 0 ⟨i.val / 64, by omega⟩ ⟨i.val % 64, by omega⟩)
  w i h := m ((c.tc : Thread nD τ).loc main_arg5) (ix3 0 i h)
  b h := m ((c.tc : Thread nD τ).loc main_arg6) (ix2 0 h)
  v h j := m ((c.tc : Thread nD τ).loc main_arg7) (ix3 0 h j)

/-- Lane `J` of a block's compressed keys and values. -/
def col (b : Fin 8) (g : Fin 2) (n : Fin 512) (J : Fin 128) : EReal :=
  if h : J.val < 64 then out (keys m c b g n) ⟨J.val, h⟩ else out (vals m c b g n) ⟨J.val - 64, by omega⟩

/-- The blocks' numbers from their chunks'. -/
theorem pair_tok (t : FVec Ideal S8x2x512x16x64 .f32) (o : Nat) (ho : o = 0 ∨ o = 64) (b : Fin 8) (g : Fin 2)
    (ht : ∀ (n : Fin 512) (r : Fin 16) (d : Fin 64), t (ix5 b g n r d) = m ((c.tc : Thread nD τ).loc main_arg0) (ix4 b g n ⟨r.val * 128 + o + d.val, by omega⟩))
    (n : Fin 512) (i : Fin 2048) : pairV t (nextV t) (ix5 b g n ⟨i.val / 64, by omega⟩ ⟨i.val % 64, by omega⟩) = tok m c o ho b g n i := by
  have e : ∀ (k : Fin 512) (l l' : Fin 2048), l.val = l'.val → (m ((c.tc : Thread nD τ).loc main_arg0) (ix4 b g k l) : EReal) = m ((c.tc : Thread nD τ).loc main_arg0) (ix4 b g k l') := by
    intro k l l' h
    rw [Fin.ext h]
  rw [pairV_apply]
  unfold tok
  by_cases h : i.val < 1024
  · rw [dif_pos (show i.val / 64 < 16 by omega), if_pos h, ht]
    exact e _ _ _ (show i.val / 64 * 128 + o + i.val % 64 = i.val % 1024 / 64 * 128 + o + i.val % 1024 % 64 by omega)
  · rw [dif_neg (show ¬ i.val / 64 < 16 by omega), if_neg h, nextV_apply, ht]
    exact e _ _ _ (show (i.val / 64 - 16) * 128 + o + i.val % 64 = i.val % 1024 / 64 * 128 + o + i.val % 1024 % 64 by omega)

/-- One half's compressed tokens are the block's. -/
theorem halfV_apply (k : Blk) (t : FVec Ideal S8x2x512x16x64 .f32) (p : FVec Ideal S1x32x64 .f32) (w : FVec Ideal S1x2048x256 .f32) (b' : FVec Ideal S1x256 .f32) (v : FVec Ideal S1x256x64 .f32)
    (b : Fin 8) (g : Fin 2) (n : Fin 512)
    (hx : ∀ i : Fin 2048, pairV t (nextV t) (ix5 b g n ⟨i.val / 64, by omega⟩ ⟨i.val % 64, by omega⟩) = k.x i)
    (hp : ∀ i : Fin 2048, p (ix3 0 ⟨i.val / 64, by omega⟩ ⟨i.val % 64, by omega⟩) = k.p i) (hw : ∀ i h, w (ix3 0 i h) = k.w i h) (hb : ∀ h, b' (ix2 0 h) = k.b h)
    (hv : ∀ h j, v (ix3 0 h j) = k.v h j) (j : Fin 64) : halfV t p w b' v (ix4 b g n j) = out k j := by
  unfold halfV out
  rw [postV_apply]
  refine Finset.sum_congr rfl fun h _ => ?_
  rw [geluV_apply, preV_apply, hv, hb]
  unfold pre
  simp only [flatV_apply, hx, hp, hw]

theorem resV_apply (b : Fin 8) (g : Fin 2) (n : Fin 512) (J : Fin 128) : resV m c (ix4 b g n J) = col m c b g n J := by
  unfold resV col
  rw [bothV_apply]
  by_cases q : J.val < 64
  · rw [dif_pos q, dif_pos q]
    exact halfV_apply (keys m c b g n) _ _ _ _ _ b g n (fun i => pair_tok m c _ 0 (Or.inl rfl) b g (fun n r d => chunkK_apply _ b g n r d) n i) (fun _ => rfl) (fun _ _ => rfl) (fun _ => rfl) (fun _ _ => rfl) _
  · rw [dif_neg q, dif_neg q]
    exact halfV_apply (vals m c b g n) _ _ _ _ _ b g n (fun i => pair_tok m c _ 64 (Or.inr rfl) b g (fun n r d => chunkV_apply _ b g n r d) n i) (fun _ => rfl) (fun _ _ => rfl) (fun _ => rfl) (fun _ _ => rfl) _

theorem value67 (b : Fin 8) (g : Fin 2) (n : Fin 512) (J : Fin 128) : res_main_v67 m c (ix4 b g n J) = col m c b g n J := by
  rw [res67_eq]
  exact resV_apply m c b g n J

theorem transpose_apply (t : FVec Ideal S8x2x512x128 .f32) (b : Fin 8) (g : Fin 2) (n : Fin 512) (J : Fin 128) :
    transpose S8x2x128x512 [0, 1, 3, 2] t transposes_S8x2x512x128_S8x2x128x512_0_1_3_2 (ix4 b g J n) = t (ix4 b g n J) := by
  pointwise

theorem value69 (b : Fin 8) (g : Fin 2) (n : Fin 512) (J : Fin 128) : res_main_v69 m c (ix4 b g J n) = col m c b g n J := by
  rw [res69_eq]
  exact (transpose_apply (resV m c) b g n J).trans (resV_apply m c b g n J)

end Cert.Reference4Ideal.Final
end
-- ==== Proof.CmpEquation.lean ====
/-
  The two compressions end with equal results, of real positions and real first weights.
-/
module

public import proofs.«01_k».proof.Defs
public import proofs.«01_k».proof.Proof.CmpKernel
public import proofs.«01_k».proof.Proof.CmpRef
public import proofs.«01_k».proof.Proof.Equation

@[expose] public section

set_option maxRecDepth 16384

noncomputable section

namespace Cert.Pre_compress_finite.Gen

open Idealize.ShloMosaic

/-- The precondition's side conditions. -/
instance facts : Cert.Pre_compress_finite.Facts where
  bcast_S_S1x32x64 := by decide
  bcast_S_S1x2048x256 := by decide

end Cert.Pre_compress_finite.Gen

namespace Cert.CmpEquation

open Idealize.ShloMosaic Idealize.ShloMosaic.TcCoe Idealize.SL.Sem Cert.CmpSpec

/-- The reference runs, leaves its arguments as launched and declares no semaphore. -/
theorem frame_ri : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

open Cert.Kernel4Ideal in
/-- Under the precondition the positions and the first weights are real. -/
theorem real (m : (ℓ : Loc nD τ sig) → Buf (Elt Ideal) ℓ) (h : Cert.Pre_Kernel4Ideal_compress_finite m) (c : Dev nD) : Cert.Kernel4Ideal.Final.Real m c := by
  obtain ⟨h1, h2, h3⟩ := h c
  refine ⟨fun i d => ?_, fun i g => ?_, fun i g => ?_⟩
  · have e := congrFun h1 (ix3 0 i d)
    unfold Cert.Pre_compress_finite.fn at e
    pointwise at e
    exact Cert.Equation.real_of_abs e
  · have e := congrFun h2 (ix3 0 i g)
    unfold Cert.Pre_compress_finite.fn at e
    pointwise at e
    exact Cert.Equation.real_of_abs e
  · have e := congrFun h3 (ix3 0 i g)
    unfold Cert.Pre_compress_finite.fn at e
    pointwise at e
    exact Cert.Equation.real_of_abs e

/-- From agreeing arguments under the precondition the two programs end with the same results. -/
theorem algebraic : Cert.algebraic_Kernel4Ideal_Reference4Ideal_pre_compress_finite := by
  intro m g m' g' hpre hag
  have hc : ∀ c b gr n J, Cert.Reference4Ideal.Final.col m' c b gr n J = Cert.Kernel4Ideal.Final.col m c b gr n J := fun c b gr n J => by
    obtain ⟨h0, h1, h2, h3, h4, h5, h6, h7⟩ := hag c
    have hk : Cert.Reference4Ideal.Final.keys m' c b gr n = Cert.Kernel4Ideal.Final.keys m c b gr n := by
      unfold Cert.Reference4Ideal.Final.keys Cert.Kernel4Ideal.Final.keys
      congr 1
      · funext i; exact congrFun h0 _
      · funext i; exact congrFun h1 _
      · funext i h; exact congrFun h2 _
      · funext h; exact congrFun h3 _
      · funext h j; exact congrFun h4 _
    have hv : Cert.Reference4Ideal.Final.vals m' c b gr n = Cert.Kernel4Ideal.Final.vals m c b gr n := by
      unfold Cert.Reference4Ideal.Final.vals Cert.Kernel4Ideal.Final.vals
      congr 1
      · funext i; exact congrFun h0 _
      · funext i; exact congrFun h1 _
      · funext i h; exact congrFun h5 _
      · funext h; exact congrFun h6 _
      · funext h j; exact congrFun h7 _
    unfold Cert.Reference4Ideal.Final.col Cert.Kernel4Ideal.Final.col
    rw [hk, hv]
  refine ⟨fun c => Cert.Kernel4Ideal.Final.res7 m c, fun c => Cert.Kernel4Ideal.Final.res8 m c, ?_, ?_⟩
  · exact (θ_run _ _ _).mono (fun r h c => ⟨(h c).1.trans (Cert.Kernel4Ideal.Final.final7 m c (real m hpre c)), (h c).2.1.trans (Cert.Kernel4Ideal.Final.final8 m c (real m hpre c)), (h c).2.2⟩)
      (Cert.Kernel4Ideal.Value.run_blocks (F := Ideal) m g)
  · refine (θ_run _ _ _).mono (fun r h c => ⟨(h c).1.trans ?_, (h c).2.1.trans ?_, (h c).2.2⟩) (Cert.Reference4Ideal.Value.run m' g')
    · funext i
      obtain ⟨b, gr, n, J, rfl⟩ : ∃ (b : Fin 8) (gr : Fin 2) (n : Fin 512) (J : Fin 128), i = ix4 b gr n J := ⟨i 0, i 1, i 2, i 3, by funext a; fin_cases a <;> rfl⟩
      exact (Cert.Reference4Ideal.Final.value67 m' c b gr n J).trans (hc c b gr n J)
    · funext i
      obtain ⟨b, gr, J, n, rfl⟩ : ∃ (b : Fin 8) (gr : Fin 2) (J : Fin 128) (n : Fin 512), i = ix4 b gr J n := ⟨i 0, i 1, i 2, i 3, by funext a; fin_cases a <;> rfl⟩
      exact (Cert.Reference4Ideal.Final.value69 m' c b gr n J).trans (hc c b gr n J)

end Cert.CmpEquation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Equation
public import proofs.«01_k».proof.Proof.OutEquation
public import proofs.«01_k».proof.Proof.InEquation
public import proofs.«01_k».proof.Proof.CmpEquation

@[expose] public section

noncomputable section

namespace Cert.Proof

open Idealize.ShloMosaic Idealize.SL.Sem

/-- The reference runs, leaves its arguments as launched and declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Final.run m ρ)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_gate_finite.Gen.facts, Cert.Pre_compress_finite.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, Cert.OutEquation.frame_ri,
  fun m ρ _ => Cert.Kernel3.Gen.frame m ρ, fun m ρ _ => Cert.Kernel3Ideal.Gen.frame m ρ, Cert.InEquation.frame_ri,
  fun m ρ _ => Cert.Kernel4.Gen.frame m ρ, fun m ρ _ => Cert.Kernel4Ideal.Gen.frame m ρ, fun m ρ _ => Cert.Kernel4Ideal.Gen.frame m ρ,
  Cert.CmpEquation.frame_ri, fun m ρ _ => Cert.CmpEquation.frame_ri m ρ trivial,
  trivial, Cert.Equation.algebraic, trivial, Cert.OutEquation.algebraic,
  trivial, Cert.InEquation.algebraic, trivial, Cert.CmpEquation.algebraic⟩

end Cert.Proof

end
